-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_UpFwReferenceIdeal (m : (ℓ : Loc Cert.UpFwReferenceIdeal.nD Cert.UpFwReferenceIdeal.τ Cert.UpFwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownFw (m : (ℓ : Loc Cert.DownFw.nD Cert.DownFw.τ Cert.DownFw.sig) → Buf (Elt Bits) ℓ) : Prop :=
  True

def Pre_DownFwIdeal (m : (ℓ : Loc Cert.DownFwIdeal.nD Cert.DownFwIdeal.τ Cert.DownFwIdeal.sig) → Buf (Elt Ideal) ℓ) : Prop :=
  True

def Pre_DownFwReferenceIdeal (m : (ℓ : Loc Cert.DownFwReferenceIdeal.nD Cert.DownFwReferenceIdeal.τ Cert.DownFwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_OutFw (m : (ℓ : Loc Cert.OutFw.nD Cert.OutFw.τ Cert.OutFw.sig) → Buf (Elt Bits) ℓ) : Prop :=
  True

def Pre_OutFwIdeal (m : (ℓ : Loc Cert.OutFwIdeal.nD Cert.OutFwIdeal.τ Cert.OutFwIdeal.sig) → Buf (Elt Ideal) ℓ) : Prop :=
  True

def Pre_OutFwReferenceIdeal (m : (ℓ : Loc Cert.OutFwReferenceIdeal.nD Cert.OutFwReferenceIdeal.τ Cert.OutFwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_BranchFw (m : (ℓ : Loc Cert.BranchFw.nD Cert.BranchFw.τ Cert.BranchFw.sig) → Buf (Elt Bits) ℓ) : Prop :=
  True

def Pre_BranchFwIdeal (m : (ℓ : Loc Cert.BranchFwIdeal.nD Cert.BranchFwIdeal.τ Cert.BranchFwIdeal.sig) → Buf (Elt Ideal) ℓ) : Prop :=
  True

def Pre_BranchFwReferenceIdeal (m : (ℓ : Loc Cert.BranchFwReferenceIdeal.nD Cert.BranchFwReferenceIdeal.τ Cert.BranchFwReferenceIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxReferenceIdeal (m : (ℓ : Loc Cert.BranchDxReferenceIdeal.nD Cert.BranchDxReferenceIdeal.τ Cert.BranchDxReferenceIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwReferenceIdeal (m : (ℓ : Loc Cert.BranchDwReferenceIdeal.nD Cert.BranchDwReferenceIdeal.τ Cert.BranchDwReferenceIdeal.sig) → Buf (Elt Ideal) ℓ) : Prop :=
  True

def Pre_MemFw (m : (ℓ : Loc Cert.MemFw.nD Cert.MemFw.τ Cert.MemFw.sig) → Buf (Elt Bits) ℓ) : Prop :=
  True

def Pre_MemFwIdeal (m : (ℓ : Loc Cert.MemFwIdeal.nD Cert.MemFwIdeal.τ Cert.MemFwIdeal.sig) → Buf (Elt Ideal) ℓ) : Prop :=
  True

def Pre_MemFwReferenceIdeal (m : (ℓ : Loc Cert.MemFwReferenceIdeal.nD Cert.MemFwReferenceIdeal.τ Cert.MemFwReferenceIdeal.sig) → Buf (Elt Ideal) ℓ) : Prop :=
  True

def Pre_QueryFw (m : (ℓ : Loc Cert.QueryFw.nD Cert.QueryFw.τ Cert.QueryFw.sig) → Buf (Elt Bits) ℓ) : Prop :=
  True

def Pre_QueryFwIdeal (m : (ℓ : Loc Cert.QueryFwIdeal.nD Cert.QueryFwIdeal.τ Cert.QueryFwIdeal.sig) → Buf (Elt Ideal) ℓ) : Prop :=
  True

def Pre_QueryFwReferenceIdeal (m : (ℓ : Loc Cert.QueryFwReferenceIdeal.nD Cert.QueryFwReferenceIdeal.τ Cert.QueryFwReferenceIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxReferenceIdeal (m : (ℓ : Loc Cert.QueryDxReferenceIdeal.nD Cert.QueryDxReferenceIdeal.τ Cert.QueryDxReferenceIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwReferenceIdeal (m : (ℓ : Loc Cert.QueryDwReferenceIdeal.nD Cert.QueryDwReferenceIdeal.τ Cert.QueryDwReferenceIdeal.sig) → Buf (Elt Ideal) ℓ) : Prop :=
  True

def Pre_BankFw (m : (ℓ : Loc Cert.BankFw.nD Cert.BankFw.τ Cert.BankFw.sig) → Buf (Elt Bits) ℓ) : Prop :=
  True

def Pre_BankFwIdeal (m : (ℓ : Loc Cert.BankFwIdeal.nD Cert.BankFwIdeal.τ Cert.BankFwIdeal.sig) → Buf (Elt Ideal) ℓ) : Prop :=
  True

def Pre_BankFwReferenceIdeal (m : (ℓ : Loc Cert.BankFwReferenceIdeal.nD Cert.BankFwReferenceIdeal.τ Cert.BankFwReferenceIdeal.sig) → Buf (Elt Ideal) ℓ) : Prop :=
  True

def Pre_BankDx (m : (ℓ : Loc Cert.BankDx.nD Cert.BankDx.τ Cert.BankDx.sig) → Buf (Elt Bits) ℓ) : Prop :=
  True

def Pre_BankDxIdeal (m : (ℓ : Loc Cert.BankDxIdeal.nD Cert.BankDxIdeal.τ Cert.BankDxIdeal.sig) → Buf (Elt Ideal) ℓ) : Prop :=
  True

def Pre_BankDxReferenceIdeal (m : (ℓ : Loc Cert.BankDxReferenceIdeal.nD Cert.BankDxReferenceIdeal.τ Cert.BankDxReferenceIdeal.sig) → Buf (Elt Ideal) ℓ) : Prop :=
  True

def Pre_BankDw (m : (ℓ : Loc Cert.BankDw.nD Cert.BankDw.τ Cert.BankDw.sig) → Buf (Elt Bits) ℓ) : Prop :=
  True

def Pre_BankDwIdeal (m : (ℓ : Loc Cert.BankDwIdeal.nD Cert.BankDwIdeal.τ Cert.BankDwIdeal.sig) → Buf (Elt Ideal) ℓ) : Prop :=
  True

def Pre_BankDwReferenceIdeal (m : (ℓ : Loc Cert.BankDwReferenceIdeal.nD Cert.BankDwReferenceIdeal.τ Cert.BankDwReferenceIdeal.sig) → Buf (Elt Ideal) ℓ) : Prop :=
  True

def Pre_GatesFw (m : (ℓ : Loc Cert.GatesFw.nD Cert.GatesFw.τ Cert.GatesFw.sig) → Buf (Elt Bits) ℓ) : Prop :=
  True

def Pre_GatesFwIdeal (m : (ℓ : Loc Cert.GatesFwIdeal.nD Cert.GatesFwIdeal.τ Cert.GatesFwIdeal.sig) → Buf (Elt Ideal) ℓ) : Prop :=
  True

def Pre_GatesFwReferenceIdeal (m : (ℓ : Loc Cert.GatesFwReferenceIdeal.nD Cert.GatesFwReferenceIdeal.τ Cert.GatesFwReferenceIdeal.sig) → Buf (Elt Ideal) ℓ) : Prop :=
  True

def Pre_GatesDx (m : (ℓ : Loc Cert.GatesDx.nD Cert.GatesDx.τ Cert.GatesDx.sig) → Buf (Elt Bits) ℓ) : Prop :=
  True

def Pre_GatesDxIdeal (m : (ℓ : Loc Cert.GatesDxIdeal.nD Cert.GatesDxIdeal.τ Cert.GatesDxIdeal.sig) → Buf (Elt Ideal) ℓ) : Prop :=
  True

def Pre_GatesDxReferenceIdeal (m : (ℓ : Loc Cert.GatesDxReferenceIdeal.nD Cert.GatesDxReferenceIdeal.τ Cert.GatesDxReferenceIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesDwReferenceIdeal (m : (ℓ : Loc Cert.GatesDwReferenceIdeal.nD Cert.GatesDwReferenceIdeal.τ Cert.GatesDwReferenceIdeal.sig) → Buf (Elt Ideal) ℓ) : Prop :=
  True

def Pre_ConvFw (m : (ℓ : Loc Cert.ConvFw.nD Cert.ConvFw.τ Cert.ConvFw.sig) → Buf (Elt Bits) ℓ) : Prop :=
  True

def Pre_ConvFwIdeal (m : (ℓ : Loc Cert.ConvFwIdeal.nD Cert.ConvFwIdeal.τ Cert.ConvFwIdeal.sig) → Buf (Elt Ideal) ℓ) : Prop :=
  True

def Pre_ConvFwReferenceIdeal (m : (ℓ : Loc Cert.ConvFwReferenceIdeal.nD Cert.ConvFwReferenceIdeal.τ Cert.ConvFwReferenceIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxReferenceIdeal (m : (ℓ : Loc Cert.ConvDxReferenceIdeal.nD Cert.ConvDxReferenceIdeal.τ Cert.ConvDxReferenceIdeal.sig) → Buf (Elt Ideal) ℓ) : Prop :=
  True

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwReferenceIdeal (m : (ℓ : Loc Cert.ConvDwReferenceIdeal.nD Cert.ConvDwReferenceIdeal.τ Cert.ConvDwReferenceIdeal.sig) → Buf (Elt Ideal) ℓ) : Prop :=
  True

def Pre_PartFw (m : (ℓ : Loc Cert.PartFw.nD Cert.PartFw.τ Cert.PartFw.sig) → Buf (Elt Bits) ℓ) : Prop :=
  True

def Pre_PartFwIdeal (m : (ℓ : Loc Cert.PartFwIdeal.nD Cert.PartFwIdeal.τ Cert.PartFwIdeal.sig) → Buf (Elt Ideal) ℓ) : Prop :=
  True

def Pre_PartFwReferenceIdeal (m : (ℓ : Loc Cert.PartFwReferenceIdeal.nD Cert.PartFwReferenceIdeal.τ Cert.PartFwReferenceIdeal.sig) → Buf (Elt Ideal) ℓ) : Prop :=
  True

def Pre_PartDx (m : (ℓ : Loc Cert.PartDx.nD Cert.PartDx.τ Cert.PartDx.sig) → Buf (Elt Bits) ℓ) : Prop :=
  True

def Pre_PartDxIdeal (m : (ℓ : Loc Cert.PartDxIdeal.nD Cert.PartDxIdeal.τ Cert.PartDxIdeal.sig) → Buf (Elt Ideal) ℓ) : Prop :=
  True

def Pre_PartDxReferenceIdeal (m : (ℓ : Loc Cert.PartDxReferenceIdeal.nD Cert.PartDxReferenceIdeal.τ Cert.PartDxReferenceIdeal.sig) → Buf (Elt Ideal) ℓ) : Prop :=
  True

def Pre_PartDw (m : (ℓ : Loc Cert.PartDw.nD Cert.PartDw.τ Cert.PartDw.sig) → Buf (Elt Bits) ℓ) : Prop :=
  True

def Pre_PartDwIdeal (m : (ℓ : Loc Cert.PartDwIdeal.nD Cert.PartDwIdeal.τ Cert.PartDwIdeal.sig) → Buf (Elt Ideal) ℓ) : Prop :=
  True

def Pre_PartDwReferenceIdeal (m : (ℓ : Loc Cert.PartDwReferenceIdeal.nD Cert.PartDwReferenceIdeal.τ Cert.PartDwReferenceIdeal.sig) → Buf (Elt Ideal) ℓ) : Prop :=
  True

def Pre_LogitsFw (m : (ℓ : Loc Cert.LogitsFw.nD Cert.LogitsFw.τ Cert.LogitsFw.sig) → Buf (Elt Bits) ℓ) : Prop :=
  True

def Pre_LogitsFwIdeal (m : (ℓ : Loc Cert.LogitsFwIdeal.nD Cert.LogitsFwIdeal.τ Cert.LogitsFwIdeal.sig) → Buf (Elt Ideal) ℓ) : Prop :=
  True

def Pre_LogitsFwReferenceIdeal (m : (ℓ : Loc Cert.LogitsFwReferenceIdeal.nD Cert.LogitsFwReferenceIdeal.τ Cert.LogitsFwReferenceIdeal.sig) → Buf (Elt Ideal) ℓ) : Prop :=
  True

def Pre_LogitsDx (m : (ℓ : Loc Cert.LogitsDx.nD Cert.LogitsDx.τ Cert.LogitsDx.sig) → Buf (Elt Bits) ℓ) : Prop :=
  True

def Pre_LogitsDxIdeal (m : (ℓ : Loc Cert.LogitsDxIdeal.nD Cert.LogitsDxIdeal.τ Cert.LogitsDxIdeal.sig) → Buf (Elt Ideal) ℓ) : Prop :=
  True

def Pre_LogitsDxReferenceIdeal (m : (ℓ : Loc Cert.LogitsDxReferenceIdeal.nD Cert.LogitsDxReferenceIdeal.τ Cert.LogitsDxReferenceIdeal.sig) → Buf (Elt Ideal) ℓ) : Prop :=
  True

def Pre_LogitsDw (m : (ℓ : Loc Cert.LogitsDw.nD Cert.LogitsDw.τ Cert.LogitsDw.sig) → Buf (Elt Bits) ℓ) : Prop :=
  True

def Pre_LogitsDwIdeal (m : (ℓ : Loc Cert.LogitsDwIdeal.nD Cert.LogitsDwIdeal.τ Cert.LogitsDwIdeal.sig) → Buf (Elt Ideal) ℓ) : Prop :=
  True

def Pre_LogitsDwReferenceIdeal (m : (ℓ : Loc Cert.LogitsDwReferenceIdeal.nD Cert.LogitsDwReferenceIdeal.τ Cert.LogitsDwReferenceIdeal.sig) → Buf (Elt Ideal) ℓ) : Prop :=
  True

def Pre_FoxFw (m : (ℓ : Loc Cert.FoxFw.nD Cert.FoxFw.τ Cert.FoxFw.sig) → Buf (Elt Bits) ℓ) : Prop :=
  True

def Pre_FoxFwIdeal (m : (ℓ : Loc Cert.FoxFwIdeal.nD Cert.FoxFwIdeal.τ Cert.FoxFwIdeal.sig) → Buf (Elt Ideal) ℓ) : Prop :=
  True

def Pre_FoxFwIdeal_finite_fwd [hPre_finite_fwd : Cert.Pre_finite_fwd.Facts] (m : (ℓ : Loc Cert.FoxFwIdeal.nD Cert.FoxFwIdeal.τ Cert.FoxFwIdeal.sig) → Buf (Elt Ideal) ℓ) : Prop :=
  ∀ c : Dev Cert.FoxFwIdeal.nD,
    (Cert.Pre_finite_fwd.fn (F := Ideal) (m ((c.tc : Thread Cert.FoxFwIdeal.nD Cert.FoxFwIdeal.τ).loc Cert.FoxFwIdeal.main_arg0)) (m ((c.tc : Thread Cert.FoxFwIdeal.nD Cert.FoxFwIdeal.τ).loc Cert.FoxFwIdeal.main_arg1)) (m ((c.tc : Thread Cert.FoxFwIdeal.nD Cert.FoxFwIdeal.τ).loc Cert.FoxFwIdeal.main_arg2)) (m ((c.tc : Thread Cert.FoxFwIdeal.nD Cert.FoxFwIdeal.τ).loc Cert.FoxFwIdeal.main_arg3))).1 = (fun _ => 1#1)
    ∧ (Cert.Pre_finite_fwd.fn (F := Ideal) (m ((c.tc : Thread Cert.FoxFwIdeal.nD Cert.FoxFwIdeal.τ).loc Cert.FoxFwIdeal.main_arg0)) (m ((c.tc : Thread Cert.FoxFwIdeal.nD Cert.FoxFwIdeal.τ).loc Cert.FoxFwIdeal.main_arg1)) (m ((c.tc : Thread Cert.FoxFwIdeal.nD Cert.FoxFwIdeal.τ).loc Cert.FoxFwIdeal.main_arg2)) (m ((c.tc : Thread Cert.FoxFwIdeal.nD Cert.FoxFwIdeal.τ).loc Cert.FoxFwIdeal.main_arg3))).2.1 = (fun _ => 1#1)
    ∧ (Cert.Pre_finite_fwd.fn (F := Ideal) (m ((c.tc : Thread Cert.FoxFwIdeal.nD Cert.FoxFwIdeal.τ).loc Cert.FoxFwIdeal.main_arg0)) (m ((c.tc : Thread Cert.FoxFwIdeal.nD Cert.FoxFwIdeal.τ).loc Cert.FoxFwIdeal.main_arg1)) (m ((c.tc : Thread Cert.FoxFwIdeal.nD Cert.FoxFwIdeal.τ).loc Cert.FoxFwIdeal.main_arg2)) (m ((c.tc : Thread Cert.FoxFwIdeal.nD Cert.FoxFwIdeal.τ).loc Cert.FoxFwIdeal.main_arg3))).2.2.1 = (fun _ => 1#1)
    ∧ (Cert.Pre_finite_fwd.fn (F := Ideal) (m ((c.tc : Thread Cert.FoxFwIdeal.nD Cert.FoxFwIdeal.τ).loc Cert.FoxFwIdeal.main_arg0)) (m ((c.tc : Thread Cert.FoxFwIdeal.nD Cert.FoxFwIdeal.τ).loc Cert.FoxFwIdeal.main_arg1)) (m ((c.tc : Thread Cert.FoxFwIdeal.nD Cert.FoxFwIdeal.τ).loc Cert.FoxFwIdeal.main_arg2)) (m ((c.tc : Thread Cert.FoxFwIdeal.nD Cert.FoxFwIdeal.τ).loc Cert.FoxFwIdeal.main_arg3))).2.2.2 = (fun _ => 1#1)

def Pre_FoxFwReferenceIdeal (m : (ℓ : Loc Cert.FoxFwReferenceIdeal.nD Cert.FoxFwReferenceIdeal.τ Cert.FoxFwReferenceIdeal.sig) → Buf (Elt Ideal) ℓ) : Prop :=
  True

def Pre_FoxFwReferenceIdeal_finite_fwd [hPre_finite_fwd : Cert.Pre_finite_fwd.Facts] (m : (ℓ : Loc Cert.FoxFwReferenceIdeal.nD Cert.FoxFwReferenceIdeal.τ Cert.FoxFwReferenceIdeal.sig) → Buf (Elt Ideal) ℓ) : Prop :=
  ∀ c : Dev Cert.FoxFwReferenceIdeal.nD,
    (Cert.Pre_finite_fwd.fn (F := Ideal) (m ((c.tc : Thread Cert.FoxFwReferenceIdeal.nD Cert.FoxFwReferenceIdeal.τ).loc Cert.FoxFwReferenceIdeal.main_arg0)) (m ((c.tc : Thread Cert.FoxFwReferenceIdeal.nD Cert.FoxFwReferenceIdeal.τ).loc Cert.FoxFwReferenceIdeal.main_arg1)) (m ((c.tc : Thread Cert.FoxFwReferenceIdeal.nD Cert.FoxFwReferenceIdeal.τ).loc Cert.FoxFwReferenceIdeal.main_arg2)) (m ((c.tc : Thread Cert.FoxFwReferenceIdeal.nD Cert.FoxFwReferenceIdeal.τ).loc Cert.FoxFwReferenceIdeal.main_arg3))).1 = (fun _ => 1#1)
    ∧ (Cert.Pre_finite_fwd.fn (F := Ideal) (m ((c.tc : Thread Cert.FoxFwReferenceIdeal.nD Cert.FoxFwReferenceIdeal.τ).loc Cert.FoxFwReferenceIdeal.main_arg0)) (m ((c.tc : Thread Cert.FoxFwReferenceIdeal.nD Cert.FoxFwReferenceIdeal.τ).loc Cert.FoxFwReferenceIdeal.main_arg1)) (m ((c.tc : Thread Cert.FoxFwReferenceIdeal.nD Cert.FoxFwReferenceIdeal.τ).loc Cert.FoxFwReferenceIdeal.main_arg2)) (m ((c.tc : Thread Cert.FoxFwReferenceIdeal.nD Cert.FoxFwReferenceIdeal.τ).loc Cert.FoxFwReferenceIdeal.main_arg3))).2.1 = (fun _ => 1#1)
    ∧ (Cert.Pre_finite_fwd.fn (F := Ideal) (m ((c.tc : Thread Cert.FoxFwReferenceIdeal.nD Cert.FoxFwReferenceIdeal.τ).loc Cert.FoxFwReferenceIdeal.main_arg0)) (m ((c.tc : Thread Cert.FoxFwReferenceIdeal.nD Cert.FoxFwReferenceIdeal.τ).loc Cert.FoxFwReferenceIdeal.main_arg1)) (m ((c.tc : Thread Cert.FoxFwReferenceIdeal.nD Cert.FoxFwReferenceIdeal.τ).loc Cert.FoxFwReferenceIdeal.main_arg2)) (m ((c.tc : Thread Cert.FoxFwReferenceIdeal.nD Cert.FoxFwReferenceIdeal.τ).loc Cert.FoxFwReferenceIdeal.main_arg3))).2.2.1 = (fun _ => 1#1)
    ∧ (Cert.Pre_finite_fwd.fn (F := Ideal) (m ((c.tc : Thread Cert.FoxFwReferenceIdeal.nD Cert.FoxFwReferenceIdeal.τ).loc Cert.FoxFwReferenceIdeal.main_arg0)) (m ((c.tc : Thread Cert.FoxFwReferenceIdeal.nD Cert.FoxFwReferenceIdeal.τ).loc Cert.FoxFwReferenceIdeal.main_arg1)) (m ((c.tc : Thread Cert.FoxFwReferenceIdeal.nD Cert.FoxFwReferenceIdeal.τ).loc Cert.FoxFwReferenceIdeal.main_arg2)) (m ((c.tc : Thread Cert.FoxFwReferenceIdeal.nD Cert.FoxFwReferenceIdeal.τ).loc Cert.FoxFwReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_UpFwReferenceIdeal [hUpFwReferenceIdeal : Cert.UpFwReferenceIdeal.Facts] : Prop :=
  ∀ (m : (ℓ : Loc Cert.UpFwReferenceIdeal.nD Cert.UpFwReferenceIdeal.τ Cert.UpFwReferenceIdeal.sig) → Buf (Elt Ideal) ℓ) (g : Dev Cert.UpFwReferenceIdeal.nD → PrngReg), Pre_UpFwReferenceIdeal m →
    θ_run (Cert.UpFwReferenceIdeal.defs (F := Ideal)) (onTc (τ := Cert.UpFwReferenceIdeal.τ) (Cert.UpFwReferenceIdeal.main (F := Ideal))) ⟨m, fun _ => 0, g⟩ (fun r => (∀ c : Dev Cert.UpFwReferenceIdeal.nD,
      r.2.mem ((c.tc : Thread Cert.UpFwReferenceIdeal.nD Cert.UpFwReferenceIdeal.τ).loc Cert.UpFwReferenceIdeal.main_arg0) = m ((c.tc : Thread Cert.UpFwReferenceIdeal.nD Cert.UpFwReferenceIdeal.τ).loc Cert.UpFwReferenceIdeal.main_arg0)
      ∧ r.2.mem ((c.tc : Thread Cert.UpFwReferenceIdeal.nD Cert.UpFwReferenceIdeal.τ).loc Cert.UpFwReferenceIdeal.main_arg1) = m ((c.tc : Thread Cert.UpFwReferenceIdeal.nD Cert.UpFwReferenceIdeal.τ).loc Cert.UpFwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownFw [hDownFw : Cert.DownFw.Facts] : Prop :=
  ∀ (m : (ℓ : Loc Cert.DownFw.nD Cert.DownFw.τ Cert.DownFw.sig) → Buf (Elt Bits) ℓ) (g : Dev Cert.DownFw.nD → PrngReg), Pre_DownFw m →
    θ_run (Cert.DownFw.defs (F := Bits)) (onTc (τ := Cert.DownFw.τ) (Cert.DownFw.main (F := Bits))) ⟨m, fun _ => 0, g⟩ (fun r => (∀ c : Dev Cert.DownFw.nD,
      r.2.mem ((c.tc : Thread Cert.DownFw.nD Cert.DownFw.τ).loc Cert.DownFw.main_arg0) = m ((c.tc : Thread Cert.DownFw.nD Cert.DownFw.τ).loc Cert.DownFw.main_arg0)
      ∧ r.2.mem ((c.tc : Thread Cert.DownFw.nD Cert.DownFw.τ).loc Cert.DownFw.main_arg1) = m ((c.tc : Thread Cert.DownFw.nD Cert.DownFw.τ).loc Cert.DownFw.main_arg1)
      ∧ r.2.mem ((c.tc : Thread Cert.DownFw.nD Cert.DownFw.τ).loc Cert.DownFw.main_arg2) = m ((c.tc : Thread Cert.DownFw.nD Cert.DownFw.τ).loc Cert.DownFw.main_arg2))
      ∧ r.2.sem = fun _ => 0)

def quiescent_DownFwIdeal [hDownFwIdeal : Cert.DownFwIdeal.Facts] : Prop :=
  ∀ (m : (ℓ : Loc Cert.DownFwIdeal.nD Cert.DownFwIdeal.τ Cert.DownFwIdeal.sig) → Buf (Elt Ideal) ℓ) (g : Dev Cert.DownFwIdeal.nD → PrngReg), Pre_DownFwIdeal m →
    θ_run (Cert.DownFwIdeal.defs (F := Ideal)) (onTc (τ := Cert.DownFwIdeal.τ) (Cert.DownFwIdeal.main (F := Ideal))) ⟨m, fun _ => 0, g⟩ (fun r => (∀ c : Dev Cert.DownFwIdeal.nD,
      r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
      ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
      ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2))
      ∧ r.2.sem = fun _ => 0)

def quiescent_DownFwReferenceIdeal [hDownFwReferenceIdeal : Cert.DownFwReferenceIdeal.Facts] : Prop :=
  ∀ (m : (ℓ : Loc Cert.DownFwReferenceIdeal.nD Cert.DownFwReferenceIdeal.τ Cert.DownFwReferenceIdeal.sig) → Buf (Elt Ideal) ℓ) (g : Dev Cert.DownFwReferenceIdeal.nD → PrngReg), Pre_DownFwReferenceIdeal m →
    θ_run (Cert.DownFwReferenceIdeal.defs (F := Ideal)) (onTc (τ := Cert.DownFwReferenceIdeal.τ) (Cert.DownFwReferenceIdeal.main (F := Ideal))) ⟨m, fun _ => 0, g⟩ (fun r => (∀ c : Dev Cert.DownFwReferenceIdeal.nD,
      r.2.mem ((c.tc : Thread Cert.DownFwReferenceIdeal.nD Cert.DownFwReferenceIdeal.τ).loc Cert.DownFwReferenceIdeal.main_arg0) = m ((c.tc : Thread Cert.DownFwReferenceIdeal.nD Cert.DownFwReferenceIdeal.τ).loc Cert.DownFwReferenceIdeal.main_arg0)
      ∧ r.2.mem ((c.tc : Thread Cert.DownFwReferenceIdeal.nD Cert.DownFwReferenceIdeal.τ).loc Cert.DownFwReferenceIdeal.main_arg1) = m ((c.tc : Thread Cert.DownFwReferenceIdeal.nD Cert.DownFwReferenceIdeal.τ).loc Cert.DownFwReferenceIdeal.main_arg1)
      ∧ r.2.mem ((c.tc : Thread Cert.DownFwReferenceIdeal.nD Cert.DownFwReferenceIdeal.τ).loc Cert.DownFwReferenceIdeal.main_arg2) = m ((c.tc : Thread Cert.DownFwReferenceIdeal.nD Cert.DownFwReferenceIdeal.τ).loc Cert.DownFwReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_OutFw [hOutFw : Cert.OutFw.Facts] : Prop :=
  ∀ (m : (ℓ : Loc Cert.OutFw.nD Cert.OutFw.τ Cert.OutFw.sig) → Buf (Elt Bits) ℓ) (g : Dev Cert.OutFw.nD → PrngReg), Pre_OutFw m →
    θ_run (Cert.OutFw.defs (F := Bits)) (onTc (τ := Cert.OutFw.τ) (Cert.OutFw.main (F := Bits))) ⟨m, fun _ => 0, g⟩ (fun r => (∀ c : Dev Cert.OutFw.nD,
      r.2.mem ((c.tc : Thread Cert.OutFw.nD Cert.OutFw.τ).loc Cert.OutFw.main_arg0) = m ((c.tc : Thread Cert.OutFw.nD Cert.OutFw.τ).loc Cert.OutFw.main_arg0)
      ∧ r.2.mem ((c.tc : Thread Cert.OutFw.nD Cert.OutFw.τ).loc Cert.OutFw.main_arg1) = m ((c.tc : Thread Cert.OutFw.nD Cert.OutFw.τ).loc Cert.OutFw.main_arg1)
      ∧ r.2.mem ((c.tc : Thread Cert.OutFw.nD Cert.OutFw.τ).loc Cert.OutFw.main_arg2) = m ((c.tc : Thread Cert.OutFw.nD Cert.OutFw.τ).loc Cert.OutFw.main_arg2))
      ∧ r.2.sem = fun _ => 0)

def quiescent_OutFwIdeal [hOutFwIdeal : Cert.OutFwIdeal.Facts] : Prop :=
  ∀ (m : (ℓ : Loc Cert.OutFwIdeal.nD Cert.OutFwIdeal.τ Cert.OutFwIdeal.sig) → Buf (Elt Ideal) ℓ) (g : Dev Cert.OutFwIdeal.nD → PrngReg), Pre_OutFwIdeal m →
    θ_run (Cert.OutFwIdeal.defs (F := Ideal)) (onTc (τ := Cert.OutFwIdeal.τ) (Cert.OutFwIdeal.main (F := Ideal))) ⟨m, fun _ => 0, g⟩ (fun r => (∀ c : Dev Cert.OutFwIdeal.nD,
      r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
      ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
      ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2))
      ∧ r.2.sem = fun _ => 0)

def quiescent_OutFwReferenceIdeal [hOutFwReferenceIdeal : Cert.OutFwReferenceIdeal.Facts] : Prop :=
  ∀ (m : (ℓ : Loc Cert.OutFwReferenceIdeal.nD Cert.OutFwReferenceIdeal.τ Cert.OutFwReferenceIdeal.sig) → Buf (Elt Ideal) ℓ) (g : Dev Cert.OutFwReferenceIdeal.nD → PrngReg), Pre_OutFwReferenceIdeal m →
    θ_run (Cert.OutFwReferenceIdeal.defs (F := Ideal)) (onTc (τ := Cert.OutFwReferenceIdeal.τ) (Cert.OutFwReferenceIdeal.main (F := Ideal))) ⟨m, fun _ => 0, g⟩ (fun r => (∀ c : Dev Cert.OutFwReferenceIdeal.nD,
      r.2.mem ((c.tc : Thread Cert.OutFwReferenceIdeal.nD Cert.OutFwReferenceIdeal.τ).loc Cert.OutFwReferenceIdeal.main_arg0) = m ((c.tc : Thread Cert.OutFwReferenceIdeal.nD Cert.OutFwReferenceIdeal.τ).loc Cert.OutFwReferenceIdeal.main_arg0)
      ∧ r.2.mem ((c.tc : Thread Cert.OutFwReferenceIdeal.nD Cert.OutFwReferenceIdeal.τ).loc Cert.OutFwReferenceIdeal.main_arg1) = m ((c.tc : Thread Cert.OutFwReferenceIdeal.nD Cert.OutFwReferenceIdeal.τ).loc Cert.OutFwReferenceIdeal.main_arg1)
      ∧ r.2.mem ((c.tc : Thread Cert.OutFwReferenceIdeal.nD Cert.OutFwReferenceIdeal.τ).loc Cert.OutFwReferenceIdeal.main_arg2) = m ((c.tc : Thread Cert.OutFwReferenceIdeal.nD Cert.OutFwReferenceIdeal.τ).loc Cert.OutFwReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_BranchFw [hBranchFw : Cert.BranchFw.Facts] : Prop :=
  ∀ (m : (ℓ : Loc Cert.BranchFw.nD Cert.BranchFw.τ Cert.BranchFw.sig) → Buf (Elt Bits) ℓ) (g : Dev Cert.BranchFw.nD → PrngReg), Pre_BranchFw m →
    θ_run (Cert.BranchFw.defs (F := Bits)) (onTc (τ := Cert.BranchFw.τ) (Cert.BranchFw.main (F := Bits))) ⟨m, fun _ => 0, g⟩ (fun r => (∀ c : Dev Cert.BranchFw.nD,
      r.2.mem ((c.tc : Thread Cert.BranchFw.nD Cert.BranchFw.τ).loc Cert.BranchFw.main_arg0) = m ((c.tc : Thread Cert.BranchFw.nD Cert.BranchFw.τ).loc Cert.BranchFw.main_arg0)
      ∧ r.2.mem ((c.tc : Thread Cert.BranchFw.nD Cert.BranchFw.τ).loc Cert.BranchFw.main_arg1) = m ((c.tc : Thread Cert.BranchFw.nD Cert.BranchFw.τ).loc Cert.BranchFw.main_arg1))
      ∧ r.2.sem = fun _ => 0)

def quiescent_BranchFwIdeal [hBranchFwIdeal : Cert.BranchFwIdeal.Facts] : Prop :=
  ∀ (m : (ℓ : Loc Cert.BranchFwIdeal.nD Cert.BranchFwIdeal.τ Cert.BranchFwIdeal.sig) → Buf (Elt Ideal) ℓ) (g : Dev Cert.BranchFwIdeal.nD → PrngReg), Pre_BranchFwIdeal m →
    θ_run (Cert.BranchFwIdeal.defs (F := Ideal)) (onTc (τ := Cert.BranchFwIdeal.τ) (Cert.BranchFwIdeal.main (F := Ideal))) ⟨m, fun _ => 0, g⟩ (fun r => (∀ c : Dev Cert.BranchFwIdeal.nD,
      r.2.mem ((c.tc : Thread Cert.BranchFwIdeal.nD Cert.BranchFwIdeal.τ).loc Cert.BranchFwIdeal.main_arg0) = m ((c.tc : Thread Cert.BranchFwIdeal.nD Cert.BranchFwIdeal.τ).loc Cert.BranchFwIdeal.main_arg0)
      ∧ r.2.mem ((c.tc : Thread Cert.BranchFwIdeal.nD Cert.BranchFwIdeal.τ).loc Cert.BranchFwIdeal.main_arg1) = m ((c.tc : Thread Cert.BranchFwIdeal.nD Cert.BranchFwIdeal.τ).loc Cert.BranchFwIdeal.main_arg1))
      ∧ r.2.sem = fun _ => 0)

def quiescent_BranchFwReferenceIdeal [hBranchFwReferenceIdeal : Cert.BranchFwReferenceIdeal.Facts] : Prop :=
  ∀ (m : (ℓ : Loc Cert.BranchFwReferenceIdeal.nD Cert.BranchFwReferenceIdeal.τ Cert.BranchFwReferenceIdeal.sig) → Buf (Elt Ideal) ℓ) (g : Dev Cert.BranchFwReferenceIdeal.nD → PrngReg), Pre_BranchFwReferenceIdeal m →
    θ_run (Cert.BranchFwReferenceIdeal.defs (F := Ideal)) (onTc (τ := Cert.BranchFwReferenceIdeal.τ) (Cert.BranchFwReferenceIdeal.main (F := Ideal))) ⟨m, fun _ => 0, g⟩ (fun r => (∀ c : Dev Cert.BranchFwReferenceIdeal.nD,
      r.2.mem ((c.tc : Thread Cert.BranchFwReferenceIdeal.nD Cert.BranchFwReferenceIdeal.τ).loc Cert.BranchFwReferenceIdeal.main_arg0) = m ((c.tc : Thread Cert.BranchFwReferenceIdeal.nD Cert.BranchFwReferenceIdeal.τ).loc Cert.BranchFwReferenceIdeal.main_arg0)
      ∧ r.2.mem ((c.tc : Thread Cert.BranchFwReferenceIdeal.nD Cert.BranchFwReferenceIdeal.τ).loc Cert.BranchFwReferenceIdeal.main_arg1) = m ((c.tc : Thread Cert.BranchFwReferenceIdeal.nD Cert.BranchFwReferenceIdeal.τ).loc Cert.BranchFwReferenceIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxReferenceIdeal [hBranchDxReferenceIdeal : Cert.BranchDxReferenceIdeal.Facts] : Prop :=
  ∀ (m : (ℓ : Loc Cert.BranchDxReferenceIdeal.nD Cert.BranchDxReferenceIdeal.τ Cert.BranchDxReferenceIdeal.sig) → Buf (Elt Ideal) ℓ) (g : Dev Cert.BranchDxReferenceIdeal.nD → PrngReg), Pre_BranchDxReferenceIdeal m →
    θ_run (Cert.BranchDxReferenceIdeal.defs (F := Ideal)) (onTc (τ := Cert.BranchDxReferenceIdeal.τ) (Cert.BranchDxReferenceIdeal.main (F := Ideal))) ⟨m, fun _ => 0, g⟩ (fun r => (∀ c : Dev Cert.BranchDxReferenceIdeal.nD,
      r.2.mem ((c.tc : Thread Cert.BranchDxReferenceIdeal.nD Cert.BranchDxReferenceIdeal.τ).loc Cert.BranchDxReferenceIdeal.main_arg0) = m ((c.tc : Thread Cert.BranchDxReferenceIdeal.nD Cert.BranchDxReferenceIdeal.τ).loc Cert.BranchDxReferenceIdeal.main_arg0)
      ∧ r.2.mem ((c.tc : Thread Cert.BranchDxReferenceIdeal.nD Cert.BranchDxReferenceIdeal.τ).loc Cert.BranchDxReferenceIdeal.main_arg1) = m ((c.tc : Thread Cert.BranchDxReferenceIdeal.nD Cert.BranchDxReferenceIdeal.τ).loc Cert.BranchDxReferenceIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwReferenceIdeal [hBranchDwReferenceIdeal : Cert.BranchDwReferenceIdeal.Facts] : Prop :=
  ∀ (m : (ℓ : Loc Cert.BranchDwReferenceIdeal.nD Cert.BranchDwReferenceIdeal.τ Cert.BranchDwReferenceIdeal.sig) → Buf (Elt Ideal) ℓ) (g : Dev Cert.BranchDwReferenceIdeal.nD → PrngReg), Pre_BranchDwReferenceIdeal m →
    θ_run (Cert.BranchDwReferenceIdeal.defs (F := Ideal)) (onTc (τ := Cert.BranchDwReferenceIdeal.τ) (Cert.BranchDwReferenceIdeal.main (F := Ideal))) ⟨m, fun _ => 0, g⟩ (fun r => (∀ c : Dev Cert.BranchDwReferenceIdeal.nD,
      r.2.mem ((c.tc : Thread Cert.BranchDwReferenceIdeal.nD Cert.BranchDwReferenceIdeal.τ).loc Cert.BranchDwReferenceIdeal.main_arg0) = m ((c.tc : Thread Cert.BranchDwReferenceIdeal.nD Cert.BranchDwReferenceIdeal.τ).loc Cert.BranchDwReferenceIdeal.main_arg0)
      ∧ r.2.mem ((c.tc : Thread Cert.BranchDwReferenceIdeal.nD Cert.BranchDwReferenceIdeal.τ).loc Cert.BranchDwReferenceIdeal.main_arg1) = m ((c.tc : Thread Cert.BranchDwReferenceIdeal.nD Cert.BranchDwReferenceIdeal.τ).loc Cert.BranchDwReferenceIdeal.main_arg1))
      ∧ r.2.sem = fun _ => 0)

def quiescent_MemFw [hMemFw : Cert.MemFw.Facts] : Prop :=
  ∀ (m : (ℓ : Loc Cert.MemFw.nD Cert.MemFw.τ Cert.MemFw.sig) → Buf (Elt Bits) ℓ) (g : Dev Cert.MemFw.nD → PrngReg), Pre_MemFw m →
    θ_run (Cert.MemFw.defs (F := Bits)) (onTc (τ := Cert.MemFw.τ) (Cert.MemFw.main (F := Bits))) ⟨m, fun _ => 0, g⟩ (fun r => (∀ c : Dev Cert.MemFw.nD,
      r.2.mem ((c.tc : Thread Cert.MemFw.nD Cert.MemFw.τ).loc Cert.MemFw.main_arg0) = m ((c.tc : Thread Cert.MemFw.nD Cert.MemFw.τ).loc Cert.MemFw.main_arg0)
      ∧ r.2.mem ((c.tc : Thread Cert.MemFw.nD Cert.MemFw.τ).loc Cert.MemFw.main_arg1) = m ((c.tc : Thread Cert.MemFw.nD Cert.MemFw.τ).loc Cert.MemFw.main_arg1)
      ∧ r.2.mem ((c.tc : Thread Cert.MemFw.nD Cert.MemFw.τ).loc Cert.MemFw.main_arg2) = m ((c.tc : Thread Cert.MemFw.nD Cert.MemFw.τ).loc Cert.MemFw.main_arg2))
      ∧ r.2.sem = fun _ => 0)

def quiescent_MemFwIdeal [hMemFwIdeal : Cert.MemFwIdeal.Facts] : Prop :=
  ∀ (m : (ℓ : Loc Cert.MemFwIdeal.nD Cert.MemFwIdeal.τ Cert.MemFwIdeal.sig) → Buf (Elt Ideal) ℓ) (g : Dev Cert.MemFwIdeal.nD → PrngReg), Pre_MemFwIdeal m →
    θ_run (Cert.MemFwIdeal.defs (F := Ideal)) (onTc (τ := Cert.MemFwIdeal.τ) (Cert.MemFwIdeal.main (F := Ideal))) ⟨m, fun _ => 0, g⟩ (fun r => (∀ c : Dev Cert.MemFwIdeal.nD,
      r.2.mem ((c.tc : Thread Cert.MemFwIdeal.nD Cert.MemFwIdeal.τ).loc Cert.MemFwIdeal.main_arg0) = m ((c.tc : Thread Cert.MemFwIdeal.nD Cert.MemFwIdeal.τ).loc Cert.MemFwIdeal.main_arg0)
      ∧ r.2.mem ((c.tc : Thread Cert.MemFwIdeal.nD Cert.MemFwIdeal.τ).loc Cert.MemFwIdeal.main_arg1) = m ((c.tc : Thread Cert.MemFwIdeal.nD Cert.MemFwIdeal.τ).loc Cert.MemFwIdeal.main_arg1)
      ∧ r.2.mem ((c.tc : Thread Cert.MemFwIdeal.nD Cert.MemFwIdeal.τ).loc Cert.MemFwIdeal.main_arg2) = m ((c.tc : Thread Cert.MemFwIdeal.nD Cert.MemFwIdeal.τ).loc Cert.MemFwIdeal.main_arg2))
      ∧ r.2.sem = fun _ => 0)

def quiescent_MemFwReferenceIdeal [hMemFwReferenceIdeal : Cert.MemFwReferenceIdeal.Facts] : Prop :=
  ∀ (m : (ℓ : Loc Cert.MemFwReferenceIdeal.nD Cert.MemFwReferenceIdeal.τ Cert.MemFwReferenceIdeal.sig) → Buf (Elt Ideal) ℓ) (g : Dev Cert.MemFwReferenceIdeal.nD → PrngReg), Pre_MemFwReferenceIdeal m →
    θ_run (Cert.MemFwReferenceIdeal.defs (F := Ideal)) (onTc (τ := Cert.MemFwReferenceIdeal.τ) (Cert.MemFwReferenceIdeal.main (F := Ideal))) ⟨m, fun _ => 0, g⟩ (fun r => (∀ c : Dev Cert.MemFwReferenceIdeal.nD,
      r.2.mem ((c.tc : Thread Cert.MemFwReferenceIdeal.nD Cert.MemFwReferenceIdeal.τ).loc Cert.MemFwReferenceIdeal.main_arg0) = m ((c.tc : Thread Cert.MemFwReferenceIdeal.nD Cert.MemFwReferenceIdeal.τ).loc Cert.MemFwReferenceIdeal.main_arg0)
      ∧ r.2.mem ((c.tc : Thread Cert.MemFwReferenceIdeal.nD Cert.MemFwReferenceIdeal.τ).loc Cert.MemFwReferenceIdeal.main_arg1) = m ((c.tc : Thread Cert.MemFwReferenceIdeal.nD Cert.MemFwReferenceIdeal.τ).loc Cert.MemFwReferenceIdeal.main_arg1)
      ∧ r.2.mem ((c.tc : Thread Cert.MemFwReferenceIdeal.nD Cert.MemFwReferenceIdeal.τ).loc Cert.MemFwReferenceIdeal.main_arg2) = m ((c.tc : Thread Cert.MemFwReferenceIdeal.nD Cert.MemFwReferenceIdeal.τ).loc Cert.MemFwReferenceIdeal.main_arg2))
      ∧ r.2.sem = fun _ => 0)

def quiescent_QueryFw [hQueryFw : Cert.QueryFw.Facts] : Prop :=
  ∀ (m : (ℓ : Loc Cert.QueryFw.nD Cert.QueryFw.τ Cert.QueryFw.sig) → Buf (Elt Bits) ℓ) (g : Dev Cert.QueryFw.nD → PrngReg), Pre_QueryFw m →
    θ_run (Cert.QueryFw.defs (F := Bits)) (onTc (τ := Cert.QueryFw.τ) (Cert.QueryFw.main (F := Bits))) ⟨m, fun _ => 0, g⟩ (fun r => (∀ c : Dev Cert.QueryFw.nD,
      r.2.mem ((c.tc : Thread Cert.QueryFw.nD Cert.QueryFw.τ).loc Cert.QueryFw.main_arg0) = m ((c.tc : Thread Cert.QueryFw.nD Cert.QueryFw.τ).loc Cert.QueryFw.main_arg0)
      ∧ r.2.mem ((c.tc : Thread Cert.QueryFw.nD Cert.QueryFw.τ).loc Cert.QueryFw.main_arg1) = m ((c.tc : Thread Cert.QueryFw.nD Cert.QueryFw.τ).loc Cert.QueryFw.main_arg1))
      ∧ r.2.sem = fun _ => 0)

def quiescent_QueryFwIdeal [hQueryFwIdeal : Cert.QueryFwIdeal.Facts] : Prop :=
  ∀ (m : (ℓ : Loc Cert.QueryFwIdeal.nD Cert.QueryFwIdeal.τ Cert.QueryFwIdeal.sig) → Buf (Elt Ideal) ℓ) (g : Dev Cert.QueryFwIdeal.nD → PrngReg), Pre_QueryFwIdeal m →
    θ_run (Cert.QueryFwIdeal.defs (F := Ideal)) (onTc (τ := Cert.QueryFwIdeal.τ) (Cert.QueryFwIdeal.main (F := Ideal))) ⟨m, fun _ => 0, g⟩ (fun r => (∀ c : Dev Cert.QueryFwIdeal.nD,
      r.2.mem ((c.tc : Thread Cert.QueryFwIdeal.nD Cert.QueryFwIdeal.τ).loc Cert.QueryFwIdeal.main_arg0) = m ((c.tc : Thread Cert.QueryFwIdeal.nD Cert.QueryFwIdeal.τ).loc Cert.QueryFwIdeal.main_arg0)
      ∧ r.2.mem ((c.tc : Thread Cert.QueryFwIdeal.nD Cert.QueryFwIdeal.τ).loc Cert.QueryFwIdeal.main_arg1) = m ((c.tc : Thread Cert.QueryFwIdeal.nD Cert.QueryFwIdeal.τ).loc Cert.QueryFwIdeal.main_arg1))
      ∧ r.2.sem = fun _ => 0)

def quiescent_QueryFwReferenceIdeal [hQueryFwReferenceIdeal : Cert.QueryFwReferenceIdeal.Facts] : Prop :=
  ∀ (m : (ℓ : Loc Cert.QueryFwReferenceIdeal.nD Cert.QueryFwReferenceIdeal.τ Cert.QueryFwReferenceIdeal.sig) → Buf (Elt Ideal) ℓ) (g : Dev Cert.QueryFwReferenceIdeal.nD → PrngReg), Pre_QueryFwReferenceIdeal m →
    θ_run (Cert.QueryFwReferenceIdeal.defs (F := Ideal)) (onTc (τ := Cert.QueryFwReferenceIdeal.τ) (Cert.QueryFwReferenceIdeal.main (F := Ideal))) ⟨m, fun _ => 0, g⟩ (fun r => (∀ c : Dev Cert.QueryFwReferenceIdeal.nD,
      r.2.mem ((c.tc : Thread Cert.QueryFwReferenceIdeal.nD Cert.QueryFwReferenceIdeal.τ).loc Cert.QueryFwReferenceIdeal.main_arg0) = m ((c.tc : Thread Cert.QueryFwReferenceIdeal.nD Cert.QueryFwReferenceIdeal.τ).loc Cert.QueryFwReferenceIdeal.main_arg0)
      ∧ r.2.mem ((c.tc : Thread Cert.QueryFwReferenceIdeal.nD Cert.QueryFwReferenceIdeal.τ).loc Cert.QueryFwReferenceIdeal.main_arg1) = m ((c.tc : Thread Cert.QueryFwReferenceIdeal.nD Cert.QueryFwReferenceIdeal.τ).loc Cert.QueryFwReferenceIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_QueryDxReferenceIdeal [hQueryDxReferenceIdeal : Cert.QueryDxReferenceIdeal.Facts] : Prop :=
  ∀ (m : (ℓ : Loc Cert.QueryDxReferenceIdeal.nD Cert.QueryDxReferenceIdeal.τ Cert.QueryDxReferenceIdeal.sig) → Buf (Elt Ideal) ℓ) (g : Dev Cert.QueryDxReferenceIdeal.nD → PrngReg), Pre_QueryDxReferenceIdeal m →
    θ_run (Cert.QueryDxReferenceIdeal.defs (F := Ideal)) (onTc (τ := Cert.QueryDxReferenceIdeal.τ) (Cert.QueryDxReferenceIdeal.main (F := Ideal))) ⟨m, fun _ => 0, g⟩ (fun r => (∀ c : Dev Cert.QueryDxReferenceIdeal.nD,
      r.2.mem ((c.tc : Thread Cert.QueryDxReferenceIdeal.nD Cert.QueryDxReferenceIdeal.τ).loc Cert.QueryDxReferenceIdeal.main_arg0) = m ((c.tc : Thread Cert.QueryDxReferenceIdeal.nD Cert.QueryDxReferenceIdeal.τ).loc Cert.QueryDxReferenceIdeal.main_arg0)
      ∧ r.2.mem ((c.tc : Thread Cert.QueryDxReferenceIdeal.nD Cert.QueryDxReferenceIdeal.τ).loc Cert.QueryDxReferenceIdeal.main_arg1) = m ((c.tc : Thread Cert.QueryDxReferenceIdeal.nD Cert.QueryDxReferenceIdeal.τ).loc Cert.QueryDxReferenceIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwReferenceIdeal [hQueryDwReferenceIdeal : Cert.QueryDwReferenceIdeal.Facts] : Prop :=
  ∀ (m : (ℓ : Loc Cert.QueryDwReferenceIdeal.nD Cert.QueryDwReferenceIdeal.τ Cert.QueryDwReferenceIdeal.sig) → Buf (Elt Ideal) ℓ) (g : Dev Cert.QueryDwReferenceIdeal.nD → PrngReg), Pre_QueryDwReferenceIdeal m →
    θ_run (Cert.QueryDwReferenceIdeal.defs (F := Ideal)) (onTc (τ := Cert.QueryDwReferenceIdeal.τ) (Cert.QueryDwReferenceIdeal.main (F := Ideal))) ⟨m, fun _ => 0, g⟩ (fun r => (∀ c : Dev Cert.QueryDwReferenceIdeal.nD,
      r.2.mem ((c.tc : Thread Cert.QueryDwReferenceIdeal.nD Cert.QueryDwReferenceIdeal.τ).loc Cert.QueryDwReferenceIdeal.main_arg0) = m ((c.tc : Thread Cert.QueryDwReferenceIdeal.nD Cert.QueryDwReferenceIdeal.τ).loc Cert.QueryDwReferenceIdeal.main_arg0)
      ∧ r.2.mem ((c.tc : Thread Cert.QueryDwReferenceIdeal.nD Cert.QueryDwReferenceIdeal.τ).loc Cert.QueryDwReferenceIdeal.main_arg1) = m ((c.tc : Thread Cert.QueryDwReferenceIdeal.nD Cert.QueryDwReferenceIdeal.τ).loc Cert.QueryDwReferenceIdeal.main_arg1))
      ∧ r.2.sem = fun _ => 0)

def quiescent_BankFw [hBankFw : Cert.BankFw.Facts] : Prop :=
  ∀ (m : (ℓ : Loc Cert.BankFw.nD Cert.BankFw.τ Cert.BankFw.sig) → Buf (Elt Bits) ℓ) (g : Dev Cert.BankFw.nD → PrngReg), Pre_BankFw m →
    θ_run (Cert.BankFw.defs (F := Bits)) (onTc (τ := Cert.BankFw.τ) (Cert.BankFw.main (F := Bits))) ⟨m, fun _ => 0, g⟩ (fun r => (∀ c : Dev Cert.BankFw.nD,
      r.2.mem ((c.tc : Thread Cert.BankFw.nD Cert.BankFw.τ).loc Cert.BankFw.main_arg0) = m ((c.tc : Thread Cert.BankFw.nD Cert.BankFw.τ).loc Cert.BankFw.main_arg0)
      ∧ r.2.mem ((c.tc : Thread Cert.BankFw.nD Cert.BankFw.τ).loc Cert.BankFw.main_arg1) = m ((c.tc : Thread Cert.BankFw.nD Cert.BankFw.τ).loc Cert.BankFw.main_arg1))
      ∧ r.2.sem = fun _ => 0)

def quiescent_BankFwIdeal [hBankFwIdeal : Cert.BankFwIdeal.Facts] : Prop :=
  ∀ (m : (ℓ : Loc Cert.BankFwIdeal.nD Cert.BankFwIdeal.τ Cert.BankFwIdeal.sig) → Buf (Elt Ideal) ℓ) (g : Dev Cert.BankFwIdeal.nD → PrngReg), Pre_BankFwIdeal m →
    θ_run (Cert.BankFwIdeal.defs (F := Ideal)) (onTc (τ := Cert.BankFwIdeal.τ) (Cert.BankFwIdeal.main (F := Ideal))) ⟨m, fun _ => 0, g⟩ (fun r => (∀ c : Dev Cert.BankFwIdeal.nD,
      r.2.mem ((c.tc : Thread Cert.BankFwIdeal.nD Cert.BankFwIdeal.τ).loc Cert.BankFwIdeal.main_arg0) = m ((c.tc : Thread Cert.BankFwIdeal.nD Cert.BankFwIdeal.τ).loc Cert.BankFwIdeal.main_arg0)
      ∧ r.2.mem ((c.tc : Thread Cert.BankFwIdeal.nD Cert.BankFwIdeal.τ).loc Cert.BankFwIdeal.main_arg1) = m ((c.tc : Thread Cert.BankFwIdeal.nD Cert.BankFwIdeal.τ).loc Cert.BankFwIdeal.main_arg1))
      ∧ r.2.sem = fun _ => 0)

def quiescent_BankFwReferenceIdeal [hBankFwReferenceIdeal : Cert.BankFwReferenceIdeal.Facts] : Prop :=
  ∀ (m : (ℓ : Loc Cert.BankFwReferenceIdeal.nD Cert.BankFwReferenceIdeal.τ Cert.BankFwReferenceIdeal.sig) → Buf (Elt Ideal) ℓ) (g : Dev Cert.BankFwReferenceIdeal.nD → PrngReg), Pre_BankFwReferenceIdeal m →
    θ_run (Cert.BankFwReferenceIdeal.defs (F := Ideal)) (onTc (τ := Cert.BankFwReferenceIdeal.τ) (Cert.BankFwReferenceIdeal.main (F := Ideal))) ⟨m, fun _ => 0, g⟩ (fun r => (∀ c : Dev Cert.BankFwReferenceIdeal.nD,
      r.2.mem ((c.tc : Thread Cert.BankFwReferenceIdeal.nD Cert.BankFwReferenceIdeal.τ).loc Cert.BankFwReferenceIdeal.main_arg0) = m ((c.tc : Thread Cert.BankFwReferenceIdeal.nD Cert.BankFwReferenceIdeal.τ).loc Cert.BankFwReferenceIdeal.main_arg0)
      ∧ r.2.mem ((c.tc : Thread Cert.BankFwReferenceIdeal.nD Cert.BankFwReferenceIdeal.τ).loc Cert.BankFwReferenceIdeal.main_arg1) = m ((c.tc : Thread Cert.BankFwReferenceIdeal.nD Cert.BankFwReferenceIdeal.τ).loc Cert.BankFwReferenceIdeal.main_arg1))
      ∧ r.2.sem = fun _ => 0)

def quiescent_BankDx [hBankDx : Cert.BankDx.Facts] : Prop :=
  ∀ (m : (ℓ : Loc Cert.BankDx.nD Cert.BankDx.τ Cert.BankDx.sig) → Buf (Elt Bits) ℓ) (g : Dev Cert.BankDx.nD → PrngReg), Pre_BankDx m →
    θ_run (Cert.BankDx.defs (F := Bits)) (onTc (τ := Cert.BankDx.τ) (Cert.BankDx.main (F := Bits))) ⟨m, fun _ => 0, g⟩ (fun r => (∀ c : Dev Cert.BankDx.nD,
      r.2.mem ((c.tc : Thread Cert.BankDx.nD Cert.BankDx.τ).loc Cert.BankDx.main_arg0) = m ((c.tc : Thread Cert.BankDx.nD Cert.BankDx.τ).loc Cert.BankDx.main_arg0)
      ∧ r.2.mem ((c.tc : Thread Cert.BankDx.nD Cert.BankDx.τ).loc Cert.BankDx.main_arg1) = m ((c.tc : Thread Cert.BankDx.nD Cert.BankDx.τ).loc Cert.BankDx.main_arg1))
      ∧ r.2.sem = fun _ => 0)

def quiescent_BankDxIdeal [hBankDxIdeal : Cert.BankDxIdeal.Facts] : Prop :=
  ∀ (m : (ℓ : Loc Cert.BankDxIdeal.nD Cert.BankDxIdeal.τ Cert.BankDxIdeal.sig) → Buf (Elt Ideal) ℓ) (g : Dev Cert.BankDxIdeal.nD → PrngReg), Pre_BankDxIdeal m →
    θ_run (Cert.BankDxIdeal.defs (F := Ideal)) (onTc (τ := Cert.BankDxIdeal.τ) (Cert.BankDxIdeal.main (F := Ideal))) ⟨m, fun _ => 0, g⟩ (fun r => (∀ c : Dev Cert.BankDxIdeal.nD,
      r.2.mem ((c.tc : Thread Cert.BankDxIdeal.nD Cert.BankDxIdeal.τ).loc Cert.BankDxIdeal.main_arg0) = m ((c.tc : Thread Cert.BankDxIdeal.nD Cert.BankDxIdeal.τ).loc Cert.BankDxIdeal.main_arg0)
      ∧ r.2.mem ((c.tc : Thread Cert.BankDxIdeal.nD Cert.BankDxIdeal.τ).loc Cert.BankDxIdeal.main_arg1) = m ((c.tc : Thread Cert.BankDxIdeal.nD Cert.BankDxIdeal.τ).loc Cert.BankDxIdeal.main_arg1))
      ∧ r.2.sem = fun _ => 0)

def quiescent_BankDxReferenceIdeal [hBankDxReferenceIdeal : Cert.BankDxReferenceIdeal.Facts] : Prop :=
  ∀ (m : (ℓ : Loc Cert.BankDxReferenceIdeal.nD Cert.BankDxReferenceIdeal.τ Cert.BankDxReferenceIdeal.sig) → Buf (Elt Ideal) ℓ) (g : Dev Cert.BankDxReferenceIdeal.nD → PrngReg), Pre_BankDxReferenceIdeal m →
    θ_run (Cert.BankDxReferenceIdeal.defs (F := Ideal)) (onTc (τ := Cert.BankDxReferenceIdeal.τ) (Cert.BankDxReferenceIdeal.main (F := Ideal))) ⟨m, fun _ => 0, g⟩ (fun r => (∀ c : Dev Cert.BankDxReferenceIdeal.nD,
      r.2.mem ((c.tc : Thread Cert.BankDxReferenceIdeal.nD Cert.BankDxReferenceIdeal.τ).loc Cert.BankDxReferenceIdeal.main_arg0) = m ((c.tc : Thread Cert.BankDxReferenceIdeal.nD Cert.BankDxReferenceIdeal.τ).loc Cert.BankDxReferenceIdeal.main_arg0)
      ∧ r.2.mem ((c.tc : Thread Cert.BankDxReferenceIdeal.nD Cert.BankDxReferenceIdeal.τ).loc Cert.BankDxReferenceIdeal.main_arg1) = m ((c.tc : Thread Cert.BankDxReferenceIdeal.nD Cert.BankDxReferenceIdeal.τ).loc Cert.BankDxReferenceIdeal.main_arg1))
      ∧ r.2.sem = fun _ => 0)

def quiescent_BankDw [hBankDw : Cert.BankDw.Facts] : Prop :=
  ∀ (m : (ℓ : Loc Cert.BankDw.nD Cert.BankDw.τ Cert.BankDw.sig) → Buf (Elt Bits) ℓ) (g : Dev Cert.BankDw.nD → PrngReg), Pre_BankDw m →
    θ_run (Cert.BankDw.defs (F := Bits)) (onTc (τ := Cert.BankDw.τ) (Cert.BankDw.main (F := Bits))) ⟨m, fun _ => 0, g⟩ (fun r => (∀ c : Dev Cert.BankDw.nD,
      r.2.mem ((c.tc : Thread Cert.BankDw.nD Cert.BankDw.τ).loc Cert.BankDw.main_arg0) = m ((c.tc : Thread Cert.BankDw.nD Cert.BankDw.τ).loc Cert.BankDw.main_arg0)
      ∧ r.2.mem ((c.tc : Thread Cert.BankDw.nD Cert.BankDw.τ).loc Cert.BankDw.main_arg1) = m ((c.tc : Thread Cert.BankDw.nD Cert.BankDw.τ).loc Cert.BankDw.main_arg1))
      ∧ r.2.sem = fun _ => 0)

def quiescent_BankDwIdeal [hBankDwIdeal : Cert.BankDwIdeal.Facts] : Prop :=
  ∀ (m : (ℓ : Loc Cert.BankDwIdeal.nD Cert.BankDwIdeal.τ Cert.BankDwIdeal.sig) → Buf (Elt Ideal) ℓ) (g : Dev Cert.BankDwIdeal.nD → PrngReg), Pre_BankDwIdeal m →
    θ_run (Cert.BankDwIdeal.defs (F := Ideal)) (onTc (τ := Cert.BankDwIdeal.τ) (Cert.BankDwIdeal.main (F := Ideal))) ⟨m, fun _ => 0, g⟩ (fun r => (∀ c : Dev Cert.BankDwIdeal.nD,
      r.2.mem ((c.tc : Thread Cert.BankDwIdeal.nD Cert.BankDwIdeal.τ).loc Cert.BankDwIdeal.main_arg0) = m ((c.tc : Thread Cert.BankDwIdeal.nD Cert.BankDwIdeal.τ).loc Cert.BankDwIdeal.main_arg0)
      ∧ r.2.mem ((c.tc : Thread Cert.BankDwIdeal.nD Cert.BankDwIdeal.τ).loc Cert.BankDwIdeal.main_arg1) = m ((c.tc : Thread Cert.BankDwIdeal.nD Cert.BankDwIdeal.τ).loc Cert.BankDwIdeal.main_arg1))
      ∧ r.2.sem = fun _ => 0)

def quiescent_BankDwReferenceIdeal [hBankDwReferenceIdeal : Cert.BankDwReferenceIdeal.Facts] : Prop :=
  ∀ (m : (ℓ : Loc Cert.BankDwReferenceIdeal.nD Cert.BankDwReferenceIdeal.τ Cert.BankDwReferenceIdeal.sig) → Buf (Elt Ideal) ℓ) (g : Dev Cert.BankDwReferenceIdeal.nD → PrngReg), Pre_BankDwReferenceIdeal m →
    θ_run (Cert.BankDwReferenceIdeal.defs (F := Ideal)) (onTc (τ := Cert.BankDwReferenceIdeal.τ) (Cert.BankDwReferenceIdeal.main (F := Ideal))) ⟨m, fun _ => 0, g⟩ (fun r => (∀ c : Dev Cert.BankDwReferenceIdeal.nD,
      r.2.mem ((c.tc : Thread Cert.BankDwReferenceIdeal.nD Cert.BankDwReferenceIdeal.τ).loc Cert.BankDwReferenceIdeal.main_arg0) = m ((c.tc : Thread Cert.BankDwReferenceIdeal.nD Cert.BankDwReferenceIdeal.τ).loc Cert.BankDwReferenceIdeal.main_arg0)
      ∧ r.2.mem ((c.tc : Thread Cert.BankDwReferenceIdeal.nD Cert.BankDwReferenceIdeal.τ).loc Cert.BankDwReferenceIdeal.main_arg1) = m ((c.tc : Thread Cert.BankDwReferenceIdeal.nD Cert.BankDwReferenceIdeal.τ).loc Cert.BankDwReferenceIdeal.main_arg1))
      ∧ r.2.sem = fun _ => 0)

def quiescent_GatesFw [hGatesFw : Cert.GatesFw.Facts] : Prop :=
  ∀ (m : (ℓ : Loc Cert.GatesFw.nD Cert.GatesFw.τ Cert.GatesFw.sig) → Buf (Elt Bits) ℓ) (g : Dev Cert.GatesFw.nD → PrngReg), Pre_GatesFw m →
    θ_run (Cert.GatesFw.defs (F := Bits)) (onTc (τ := Cert.GatesFw.τ) (Cert.GatesFw.main (F := Bits))) ⟨m, fun _ => 0, g⟩ (fun r => (∀ c : Dev Cert.GatesFw.nD,
      r.2.mem ((c.tc : Thread Cert.GatesFw.nD Cert.GatesFw.τ).loc Cert.GatesFw.main_arg0) = m ((c.tc : Thread Cert.GatesFw.nD Cert.GatesFw.τ).loc Cert.GatesFw.main_arg0)
      ∧ r.2.mem ((c.tc : Thread Cert.GatesFw.nD Cert.GatesFw.τ).loc Cert.GatesFw.main_arg1) = m ((c.tc : Thread Cert.GatesFw.nD Cert.GatesFw.τ).loc Cert.GatesFw.main_arg1))
      ∧ r.2.sem = fun _ => 0)

def quiescent_GatesFwIdeal [hGatesFwIdeal : Cert.GatesFwIdeal.Facts] : Prop :=
  ∀ (m : (ℓ : Loc Cert.GatesFwIdeal.nD Cert.GatesFwIdeal.τ Cert.GatesFwIdeal.sig) → Buf (Elt Ideal) ℓ) (g : Dev Cert.GatesFwIdeal.nD → PrngReg), Pre_GatesFwIdeal m →
    θ_run (Cert.GatesFwIdeal.defs (F := Ideal)) (onTc (τ := Cert.GatesFwIdeal.τ) (Cert.GatesFwIdeal.main (F := Ideal))) ⟨m, fun _ => 0, g⟩ (fun r => (∀ c : Dev Cert.GatesFwIdeal.nD,
      r.2.mem ((c.tc : Thread Cert.GatesFwIdeal.nD Cert.GatesFwIdeal.τ).loc Cert.GatesFwIdeal.main_arg0) = m ((c.tc : Thread Cert.GatesFwIdeal.nD Cert.GatesFwIdeal.τ).loc Cert.GatesFwIdeal.main_arg0)
      ∧ r.2.mem ((c.tc : Thread Cert.GatesFwIdeal.nD Cert.GatesFwIdeal.τ).loc Cert.GatesFwIdeal.main_arg1) = m ((c.tc : Thread Cert.GatesFwIdeal.nD Cert.GatesFwIdeal.τ).loc Cert.GatesFwIdeal.main_arg1))
      ∧ r.2.sem = fun _ => 0)

def quiescent_GatesFwReferenceIdeal [hGatesFwReferenceIdeal : Cert.GatesFwReferenceIdeal.Facts] : Prop :=
  ∀ (m : (ℓ : Loc Cert.GatesFwReferenceIdeal.nD Cert.GatesFwReferenceIdeal.τ Cert.GatesFwReferenceIdeal.sig) → Buf (Elt Ideal) ℓ) (g : Dev Cert.GatesFwReferenceIdeal.nD → PrngReg), Pre_GatesFwReferenceIdeal m →
    θ_run (Cert.GatesFwReferenceIdeal.defs (F := Ideal)) (onTc (τ := Cert.GatesFwReferenceIdeal.τ) (Cert.GatesFwReferenceIdeal.main (F := Ideal))) ⟨m, fun _ => 0, g⟩ (fun r => (∀ c : Dev Cert.GatesFwReferenceIdeal.nD,
      r.2.mem ((c.tc : Thread Cert.GatesFwReferenceIdeal.nD Cert.GatesFwReferenceIdeal.τ).loc Cert.GatesFwReferenceIdeal.main_arg0) = m ((c.tc : Thread Cert.GatesFwReferenceIdeal.nD Cert.GatesFwReferenceIdeal.τ).loc Cert.GatesFwReferenceIdeal.main_arg0)
      ∧ r.2.mem ((c.tc : Thread Cert.GatesFwReferenceIdeal.nD Cert.GatesFwReferenceIdeal.τ).loc Cert.GatesFwReferenceIdeal.main_arg1) = m ((c.tc : Thread Cert.GatesFwReferenceIdeal.nD Cert.GatesFwReferenceIdeal.τ).loc Cert.GatesFwReferenceIdeal.main_arg1))
      ∧ r.2.sem = fun _ => 0)

def quiescent_GatesDx [hGatesDx : Cert.GatesDx.Facts] : Prop :=
  ∀ (m : (ℓ : Loc Cert.GatesDx.nD Cert.GatesDx.τ Cert.GatesDx.sig) → Buf (Elt Bits) ℓ) (g : Dev Cert.GatesDx.nD → PrngReg), Pre_GatesDx m →
    θ_run (Cert.GatesDx.defs (F := Bits)) (onTc (τ := Cert.GatesDx.τ) (Cert.GatesDx.main (F := Bits))) ⟨m, fun _ => 0, g⟩ (fun r => (∀ c : Dev Cert.GatesDx.nD,
      r.2.mem ((c.tc : Thread Cert.GatesDx.nD Cert.GatesDx.τ).loc Cert.GatesDx.main_arg0) = m ((c.tc : Thread Cert.GatesDx.nD Cert.GatesDx.τ).loc Cert.GatesDx.main_arg0)
      ∧ r.2.mem ((c.tc : Thread Cert.GatesDx.nD Cert.GatesDx.τ).loc Cert.GatesDx.main_arg1) = m ((c.tc : Thread Cert.GatesDx.nD Cert.GatesDx.τ).loc Cert.GatesDx.main_arg1)
      ∧ r.2.mem ((c.tc : Thread Cert.GatesDx.nD Cert.GatesDx.τ).loc Cert.GatesDx.main_arg2) = m ((c.tc : Thread Cert.GatesDx.nD Cert.GatesDx.τ).loc Cert.GatesDx.main_arg2))
      ∧ r.2.sem = fun _ => 0)

def quiescent_GatesDxIdeal [hGatesDxIdeal : Cert.GatesDxIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg), Pre_GatesDxIdeal m →
    θ_run (Cert.GatesDxIdeal.defs (F := Ideal)) (onTc (τ := Cert.GatesDxIdeal.τ) (Cert.GatesDxIdeal.main (F := Ideal))) ⟨m, fun _ => 0, g⟩ (fun r => (∀ c : Dev Cert.GatesDxIdeal.nD,
      r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
      ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
      ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2))
      ∧ r.2.sem = fun _ => 0)

def quiescent_GatesDxReferenceIdeal [hGatesDxReferenceIdeal : Cert.GatesDxReferenceIdeal.Facts] : Prop :=
  ∀ (m : (ℓ : Loc Cert.GatesDxReferenceIdeal.nD Cert.GatesDxReferenceIdeal.τ Cert.GatesDxReferenceIdeal.sig) → Buf (Elt Ideal) ℓ) (g : Dev Cert.GatesDxReferenceIdeal.nD → PrngReg), Pre_GatesDxReferenceIdeal m →
    θ_run (Cert.GatesDxReferenceIdeal.defs (F := Ideal)) (onTc (τ := Cert.GatesDxReferenceIdeal.τ) (Cert.GatesDxReferenceIdeal.main (F := Ideal))) ⟨m, fun _ => 0, g⟩ (fun r => (∀ c : Dev Cert.GatesDxReferenceIdeal.nD,
      r.2.mem ((c.tc : Thread Cert.GatesDxReferenceIdeal.nD Cert.GatesDxReferenceIdeal.τ).loc Cert.GatesDxReferenceIdeal.main_arg0) = m ((c.tc : Thread Cert.GatesDxReferenceIdeal.nD Cert.GatesDxReferenceIdeal.τ).loc Cert.GatesDxReferenceIdeal.main_arg0)
      ∧ r.2.mem ((c.tc : Thread Cert.GatesDxReferenceIdeal.nD Cert.GatesDxReferenceIdeal.τ).loc Cert.GatesDxReferenceIdeal.main_arg1) = m ((c.tc : Thread Cert.GatesDxReferenceIdeal.nD Cert.GatesDxReferenceIdeal.τ).loc Cert.GatesDxReferenceIdeal.main_arg1)
      ∧ r.2.mem ((c.tc : Thread Cert.GatesDxReferenceIdeal.nD Cert.GatesDxReferenceIdeal.τ).loc Cert.GatesDxReferenceIdeal.main_arg2) = m ((c.tc : Thread Cert.GatesDxReferenceIdeal.nD Cert.GatesDxReferenceIdeal.τ).loc Cert.GatesDxReferenceIdeal.main_arg2))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ r.2.sem = fun _ => 0)

def quiescent_GatesDwReferenceIdeal [hGatesDwReferenceIdeal : Cert.GatesDwReferenceIdeal.Facts] : Prop :=
  ∀ (m : (ℓ : Loc Cert.GatesDwReferenceIdeal.nD Cert.GatesDwReferenceIdeal.τ Cert.GatesDwReferenceIdeal.sig) → Buf (Elt Ideal) ℓ) (g : Dev Cert.GatesDwReferenceIdeal.nD → PrngReg), Pre_GatesDwReferenceIdeal m →
    θ_run (Cert.GatesDwReferenceIdeal.defs (F := Ideal)) (onTc (τ := Cert.GatesDwReferenceIdeal.τ) (Cert.GatesDwReferenceIdeal.main (F := Ideal))) ⟨m, fun _ => 0, g⟩ (fun r => (∀ c : Dev Cert.GatesDwReferenceIdeal.nD,
      r.2.mem ((c.tc : Thread Cert.GatesDwReferenceIdeal.nD Cert.GatesDwReferenceIdeal.τ).loc Cert.GatesDwReferenceIdeal.main_arg0) = m ((c.tc : Thread Cert.GatesDwReferenceIdeal.nD Cert.GatesDwReferenceIdeal.τ).loc Cert.GatesDwReferenceIdeal.main_arg0)
      ∧ r.2.mem ((c.tc : Thread Cert.GatesDwReferenceIdeal.nD Cert.GatesDwReferenceIdeal.τ).loc Cert.GatesDwReferenceIdeal.main_arg1) = m ((c.tc : Thread Cert.GatesDwReferenceIdeal.nD Cert.GatesDwReferenceIdeal.τ).loc Cert.GatesDwReferenceIdeal.main_arg1))
      ∧ r.2.sem = fun _ => 0)

def quiescent_ConvFw [hConvFw : Cert.ConvFw.Facts] : Prop :=
  ∀ (m : (ℓ : Loc Cert.ConvFw.nD Cert.ConvFw.τ Cert.ConvFw.sig) → Buf (Elt Bits) ℓ) (g : Dev Cert.ConvFw.nD → PrngReg), Pre_ConvFw m →
    θ_run (Cert.ConvFw.defs (F := Bits)) (onTc (τ := Cert.ConvFw.τ) (Cert.ConvFw.main (F := Bits))) ⟨m, fun _ => 0, g⟩ (fun r => (∀ c : Dev Cert.ConvFw.nD,
      r.2.mem ((c.tc : Thread Cert.ConvFw.nD Cert.ConvFw.τ).loc Cert.ConvFw.main_arg0) = m ((c.tc : Thread Cert.ConvFw.nD Cert.ConvFw.τ).loc Cert.ConvFw.main_arg0)
      ∧ r.2.mem ((c.tc : Thread Cert.ConvFw.nD Cert.ConvFw.τ).loc Cert.ConvFw.main_arg1) = m ((c.tc : Thread Cert.ConvFw.nD Cert.ConvFw.τ).loc Cert.ConvFw.main_arg1))
      ∧ r.2.sem = fun _ => 0)

def quiescent_ConvFwIdeal [hConvFwIdeal : Cert.ConvFwIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg), Pre_ConvFwIdeal m →
    θ_run (Cert.ConvFwIdeal.defs (F := Ideal)) (onTc (τ := Cert.ConvFwIdeal.τ) (Cert.ConvFwIdeal.main (F := Ideal))) ⟨m, fun _ => 0, g⟩ (fun r => (∀ c : Dev Cert.ConvFwIdeal.nD,
      r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
      ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ r.2.sem = fun _ => 0)

def quiescent_ConvFwReferenceIdeal [hConvFwReferenceIdeal : Cert.ConvFwReferenceIdeal.Facts] : Prop :=
  ∀ (m : (ℓ : Loc Cert.ConvFwReferenceIdeal.nD Cert.ConvFwReferenceIdeal.τ Cert.ConvFwReferenceIdeal.sig) → Buf (Elt Ideal) ℓ) (g : Dev Cert.ConvFwReferenceIdeal.nD → PrngReg), Pre_ConvFwReferenceIdeal m →
    θ_run (Cert.ConvFwReferenceIdeal.defs (F := Ideal)) (onTc (τ := Cert.ConvFwReferenceIdeal.τ) (Cert.ConvFwReferenceIdeal.main (F := Ideal))) ⟨m, fun _ => 0, g⟩ (fun r => (∀ c : Dev Cert.ConvFwReferenceIdeal.nD,
      r.2.mem ((c.tc : Thread Cert.ConvFwReferenceIdeal.nD Cert.ConvFwReferenceIdeal.τ).loc Cert.ConvFwReferenceIdeal.main_arg0) = m ((c.tc : Thread Cert.ConvFwReferenceIdeal.nD Cert.ConvFwReferenceIdeal.τ).loc Cert.ConvFwReferenceIdeal.main_arg0)
      ∧ r.2.mem ((c.tc : Thread Cert.ConvFwReferenceIdeal.nD Cert.ConvFwReferenceIdeal.τ).loc Cert.ConvFwReferenceIdeal.main_arg1) = m ((c.tc : Thread Cert.ConvFwReferenceIdeal.nD Cert.ConvFwReferenceIdeal.τ).loc Cert.ConvFwReferenceIdeal.main_arg1))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1)
      ∧ r.2.mem ((c.tc : Thread Cert.ConvDx.nD Cert.ConvDx.τ).loc Cert.ConvDx.main_arg2) = m ((c.tc : Thread Cert.ConvDx.nD Cert.ConvDx.τ).loc Cert.ConvDx.main_arg2))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
      ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2))
      ∧ r.2.sem = fun _ => 0)

def quiescent_ConvDxReferenceIdeal [hConvDxReferenceIdeal : Cert.ConvDxReferenceIdeal.Facts] : Prop :=
  ∀ (m : (ℓ : Loc Cert.ConvDxReferenceIdeal.nD Cert.ConvDxReferenceIdeal.τ Cert.ConvDxReferenceIdeal.sig) → Buf (Elt Ideal) ℓ) (g : Dev Cert.ConvDxReferenceIdeal.nD → PrngReg), Pre_ConvDxReferenceIdeal m →
    θ_run (Cert.ConvDxReferenceIdeal.defs (F := Ideal)) (onTc (τ := Cert.ConvDxReferenceIdeal.τ) (Cert.ConvDxReferenceIdeal.main (F := Ideal))) ⟨m, fun _ => 0, g⟩ (fun r => (∀ c : Dev Cert.ConvDxReferenceIdeal.nD,
      r.2.mem ((c.tc : Thread Cert.ConvDxReferenceIdeal.nD Cert.ConvDxReferenceIdeal.τ).loc Cert.ConvDxReferenceIdeal.main_arg0) = m ((c.tc : Thread Cert.ConvDxReferenceIdeal.nD Cert.ConvDxReferenceIdeal.τ).loc Cert.ConvDxReferenceIdeal.main_arg0)
      ∧ r.2.mem ((c.tc : Thread Cert.ConvDxReferenceIdeal.nD Cert.ConvDxReferenceIdeal.τ).loc Cert.ConvDxReferenceIdeal.main_arg1) = m ((c.tc : Thread Cert.ConvDxReferenceIdeal.nD Cert.ConvDxReferenceIdeal.τ).loc Cert.ConvDxReferenceIdeal.main_arg1)
      ∧ r.2.mem ((c.tc : Thread Cert.ConvDxReferenceIdeal.nD Cert.ConvDxReferenceIdeal.τ).loc Cert.ConvDxReferenceIdeal.main_arg2) = m ((c.tc : Thread Cert.ConvDxReferenceIdeal.nD Cert.ConvDxReferenceIdeal.τ).loc Cert.ConvDxReferenceIdeal.main_arg2))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ r.2.sem = fun _ => 0)

def quiescent_ConvDwReferenceIdeal [hConvDwReferenceIdeal : Cert.ConvDwReferenceIdeal.Facts] : Prop :=
  ∀ (m : (ℓ : Loc Cert.ConvDwReferenceIdeal.nD Cert.ConvDwReferenceIdeal.τ Cert.ConvDwReferenceIdeal.sig) → Buf (Elt Ideal) ℓ) (g : Dev Cert.ConvDwReferenceIdeal.nD → PrngReg), Pre_ConvDwReferenceIdeal m →
    θ_run (Cert.ConvDwReferenceIdeal.defs (F := Ideal)) (onTc (τ := Cert.ConvDwReferenceIdeal.τ) (Cert.ConvDwReferenceIdeal.main (F := Ideal))) ⟨m, fun _ => 0, g⟩ (fun r => (∀ c : Dev Cert.ConvDwReferenceIdeal.nD,
      r.2.mem ((c.tc : Thread Cert.ConvDwReferenceIdeal.nD Cert.ConvDwReferenceIdeal.τ).loc Cert.ConvDwReferenceIdeal.main_arg0) = m ((c.tc : Thread Cert.ConvDwReferenceIdeal.nD Cert.ConvDwReferenceIdeal.τ).loc Cert.ConvDwReferenceIdeal.main_arg0)
      ∧ r.2.mem ((c.tc : Thread Cert.ConvDwReferenceIdeal.nD Cert.ConvDwReferenceIdeal.τ).loc Cert.ConvDwReferenceIdeal.main_arg1) = m ((c.tc : Thread Cert.ConvDwReferenceIdeal.nD Cert.ConvDwReferenceIdeal.τ).loc Cert.ConvDwReferenceIdeal.main_arg1))
      ∧ r.2.sem = fun _ => 0)

def quiescent_PartFw [hPartFw : Cert.PartFw.Facts] : Prop :=
  ∀ (m : (ℓ : Loc Cert.PartFw.nD Cert.PartFw.τ Cert.PartFw.sig) → Buf (Elt Bits) ℓ) (g : Dev Cert.PartFw.nD → PrngReg), Pre_PartFw m →
    θ_run (Cert.PartFw.defs (F := Bits)) (onTc (τ := Cert.PartFw.τ) (Cert.PartFw.main (F := Bits))) ⟨m, fun _ => 0, g⟩ (fun r => (∀ c : Dev Cert.PartFw.nD,
      r.2.mem ((c.tc : Thread Cert.PartFw.nD Cert.PartFw.τ).loc Cert.PartFw.main_arg0) = m ((c.tc : Thread Cert.PartFw.nD Cert.PartFw.τ).loc Cert.PartFw.main_arg0)
      ∧ r.2.mem ((c.tc : Thread Cert.PartFw.nD Cert.PartFw.τ).loc Cert.PartFw.main_arg1) = m ((c.tc : Thread Cert.PartFw.nD Cert.PartFw.τ).loc Cert.PartFw.main_arg1))
      ∧ r.2.sem = fun _ => 0)

def quiescent_PartFwIdeal [hPartFwIdeal : Cert.PartFwIdeal.Facts] : Prop :=
  ∀ (m : (ℓ : Loc Cert.PartFwIdeal.nD Cert.PartFwIdeal.τ Cert.PartFwIdeal.sig) → Buf (Elt Ideal) ℓ) (g : Dev Cert.PartFwIdeal.nD → PrngReg), Pre_PartFwIdeal m →
    θ_run (Cert.PartFwIdeal.defs (F := Ideal)) (onTc (τ := Cert.PartFwIdeal.τ) (Cert.PartFwIdeal.main (F := Ideal))) ⟨m, fun _ => 0, g⟩ (fun r => (∀ c : Dev Cert.PartFwIdeal.nD,
      r.2.mem ((c.tc : Thread Cert.PartFwIdeal.nD Cert.PartFwIdeal.τ).loc Cert.PartFwIdeal.main_arg0) = m ((c.tc : Thread Cert.PartFwIdeal.nD Cert.PartFwIdeal.τ).loc Cert.PartFwIdeal.main_arg0)
      ∧ r.2.mem ((c.tc : Thread Cert.PartFwIdeal.nD Cert.PartFwIdeal.τ).loc Cert.PartFwIdeal.main_arg1) = m ((c.tc : Thread Cert.PartFwIdeal.nD Cert.PartFwIdeal.τ).loc Cert.PartFwIdeal.main_arg1))
      ∧ r.2.sem = fun _ => 0)

def quiescent_PartFwReferenceIdeal [hPartFwReferenceIdeal : Cert.PartFwReferenceIdeal.Facts] : Prop :=
  ∀ (m : (ℓ : Loc Cert.PartFwReferenceIdeal.nD Cert.PartFwReferenceIdeal.τ Cert.PartFwReferenceIdeal.sig) → Buf (Elt Ideal) ℓ) (g : Dev Cert.PartFwReferenceIdeal.nD → PrngReg), Pre_PartFwReferenceIdeal m →
    θ_run (Cert.PartFwReferenceIdeal.defs (F := Ideal)) (onTc (τ := Cert.PartFwReferenceIdeal.τ) (Cert.PartFwReferenceIdeal.main (F := Ideal))) ⟨m, fun _ => 0, g⟩ (fun r => (∀ c : Dev Cert.PartFwReferenceIdeal.nD,
      r.2.mem ((c.tc : Thread Cert.PartFwReferenceIdeal.nD Cert.PartFwReferenceIdeal.τ).loc Cert.PartFwReferenceIdeal.main_arg0) = m ((c.tc : Thread Cert.PartFwReferenceIdeal.nD Cert.PartFwReferenceIdeal.τ).loc Cert.PartFwReferenceIdeal.main_arg0)
      ∧ r.2.mem ((c.tc : Thread Cert.PartFwReferenceIdeal.nD Cert.PartFwReferenceIdeal.τ).loc Cert.PartFwReferenceIdeal.main_arg1) = m ((c.tc : Thread Cert.PartFwReferenceIdeal.nD Cert.PartFwReferenceIdeal.τ).loc Cert.PartFwReferenceIdeal.main_arg1))
      ∧ r.2.sem = fun _ => 0)

def quiescent_PartDx [hPartDx : Cert.PartDx.Facts] : Prop :=
  ∀ (m : (ℓ : Loc Cert.PartDx.nD Cert.PartDx.τ Cert.PartDx.sig) → Buf (Elt Bits) ℓ) (g : Dev Cert.PartDx.nD → PrngReg), Pre_PartDx m →
    θ_run (Cert.PartDx.defs (F := Bits)) (onTc (τ := Cert.PartDx.τ) (Cert.PartDx.main (F := Bits))) ⟨m, fun _ => 0, g⟩ (fun r => (∀ c : Dev Cert.PartDx.nD,
      r.2.mem ((c.tc : Thread Cert.PartDx.nD Cert.PartDx.τ).loc Cert.PartDx.main_arg0) = m ((c.tc : Thread Cert.PartDx.nD Cert.PartDx.τ).loc Cert.PartDx.main_arg0)
      ∧ r.2.mem ((c.tc : Thread Cert.PartDx.nD Cert.PartDx.τ).loc Cert.PartDx.main_arg1) = m ((c.tc : Thread Cert.PartDx.nD Cert.PartDx.τ).loc Cert.PartDx.main_arg1)
      ∧ r.2.mem ((c.tc : Thread Cert.PartDx.nD Cert.PartDx.τ).loc Cert.PartDx.main_arg2) = m ((c.tc : Thread Cert.PartDx.nD Cert.PartDx.τ).loc Cert.PartDx.main_arg2))
      ∧ r.2.sem = fun _ => 0)

def quiescent_PartDxIdeal [hPartDxIdeal : Cert.PartDxIdeal.Facts] : Prop :=
  ∀ (m : (ℓ : Loc Cert.PartDxIdeal.nD Cert.PartDxIdeal.τ Cert.PartDxIdeal.sig) → Buf (Elt Ideal) ℓ) (g : Dev Cert.PartDxIdeal.nD → PrngReg), Pre_PartDxIdeal m →
    θ_run (Cert.PartDxIdeal.defs (F := Ideal)) (onTc (τ := Cert.PartDxIdeal.τ) (Cert.PartDxIdeal.main (F := Ideal))) ⟨m, fun _ => 0, g⟩ (fun r => (∀ c : Dev Cert.PartDxIdeal.nD,
      r.2.mem ((c.tc : Thread Cert.PartDxIdeal.nD Cert.PartDxIdeal.τ).loc Cert.PartDxIdeal.main_arg0) = m ((c.tc : Thread Cert.PartDxIdeal.nD Cert.PartDxIdeal.τ).loc Cert.PartDxIdeal.main_arg0)
      ∧ r.2.mem ((c.tc : Thread Cert.PartDxIdeal.nD Cert.PartDxIdeal.τ).loc Cert.PartDxIdeal.main_arg1) = m ((c.tc : Thread Cert.PartDxIdeal.nD Cert.PartDxIdeal.τ).loc Cert.PartDxIdeal.main_arg1)
      ∧ r.2.mem ((c.tc : Thread Cert.PartDxIdeal.nD Cert.PartDxIdeal.τ).loc Cert.PartDxIdeal.main_arg2) = m ((c.tc : Thread Cert.PartDxIdeal.nD Cert.PartDxIdeal.τ).loc Cert.PartDxIdeal.main_arg2))
      ∧ r.2.sem = fun _ => 0)

def quiescent_PartDxReferenceIdeal [hPartDxReferenceIdeal : Cert.PartDxReferenceIdeal.Facts] : Prop :=
  ∀ (m : (ℓ : Loc Cert.PartDxReferenceIdeal.nD Cert.PartDxReferenceIdeal.τ Cert.PartDxReferenceIdeal.sig) → Buf (Elt Ideal) ℓ) (g : Dev Cert.PartDxReferenceIdeal.nD → PrngReg), Pre_PartDxReferenceIdeal m →
    θ_run (Cert.PartDxReferenceIdeal.defs (F := Ideal)) (onTc (τ := Cert.PartDxReferenceIdeal.τ) (Cert.PartDxReferenceIdeal.main (F := Ideal))) ⟨m, fun _ => 0, g⟩ (fun r => (∀ c : Dev Cert.PartDxReferenceIdeal.nD,
      r.2.mem ((c.tc : Thread Cert.PartDxReferenceIdeal.nD Cert.PartDxReferenceIdeal.τ).loc Cert.PartDxReferenceIdeal.main_arg0) = m ((c.tc : Thread Cert.PartDxReferenceIdeal.nD Cert.PartDxReferenceIdeal.τ).loc Cert.PartDxReferenceIdeal.main_arg0)
      ∧ r.2.mem ((c.tc : Thread Cert.PartDxReferenceIdeal.nD Cert.PartDxReferenceIdeal.τ).loc Cert.PartDxReferenceIdeal.main_arg1) = m ((c.tc : Thread Cert.PartDxReferenceIdeal.nD Cert.PartDxReferenceIdeal.τ).loc Cert.PartDxReferenceIdeal.main_arg1)
      ∧ r.2.mem ((c.tc : Thread Cert.PartDxReferenceIdeal.nD Cert.PartDxReferenceIdeal.τ).loc Cert.PartDxReferenceIdeal.main_arg2) = m ((c.tc : Thread Cert.PartDxReferenceIdeal.nD Cert.PartDxReferenceIdeal.τ).loc Cert.PartDxReferenceIdeal.main_arg2))
      ∧ r.2.sem = fun _ => 0)

def quiescent_PartDw [hPartDw : Cert.PartDw.Facts] : Prop :=
  ∀ (m : (ℓ : Loc Cert.PartDw.nD Cert.PartDw.τ Cert.PartDw.sig) → Buf (Elt Bits) ℓ) (g : Dev Cert.PartDw.nD → PrngReg), Pre_PartDw m →
    θ_run (Cert.PartDw.defs (F := Bits)) (onTc (τ := Cert.PartDw.τ) (Cert.PartDw.main (F := Bits))) ⟨m, fun _ => 0, g⟩ (fun r => (∀ c : Dev Cert.PartDw.nD,
      r.2.mem ((c.tc : Thread Cert.PartDw.nD Cert.PartDw.τ).loc Cert.PartDw.main_arg0) = m ((c.tc : Thread Cert.PartDw.nD Cert.PartDw.τ).loc Cert.PartDw.main_arg0)
      ∧ r.2.mem ((c.tc : Thread Cert.PartDw.nD Cert.PartDw.τ).loc Cert.PartDw.main_arg1) = m ((c.tc : Thread Cert.PartDw.nD Cert.PartDw.τ).loc Cert.PartDw.main_arg1))
      ∧ r.2.sem = fun _ => 0)

def quiescent_PartDwIdeal [hPartDwIdeal : Cert.PartDwIdeal.Facts] : Prop :=
  ∀ (m : (ℓ : Loc Cert.PartDwIdeal.nD Cert.PartDwIdeal.τ Cert.PartDwIdeal.sig) → Buf (Elt Ideal) ℓ) (g : Dev Cert.PartDwIdeal.nD → PrngReg), Pre_PartDwIdeal m →
    θ_run (Cert.PartDwIdeal.defs (F := Ideal)) (onTc (τ := Cert.PartDwIdeal.τ) (Cert.PartDwIdeal.main (F := Ideal))) ⟨m, fun _ => 0, g⟩ (fun r => (∀ c : Dev Cert.PartDwIdeal.nD,
      r.2.mem ((c.tc : Thread Cert.PartDwIdeal.nD Cert.PartDwIdeal.τ).loc Cert.PartDwIdeal.main_arg0) = m ((c.tc : Thread Cert.PartDwIdeal.nD Cert.PartDwIdeal.τ).loc Cert.PartDwIdeal.main_arg0)
      ∧ r.2.mem ((c.tc : Thread Cert.PartDwIdeal.nD Cert.PartDwIdeal.τ).loc Cert.PartDwIdeal.main_arg1) = m ((c.tc : Thread Cert.PartDwIdeal.nD Cert.PartDwIdeal.τ).loc Cert.PartDwIdeal.main_arg1))
      ∧ r.2.sem = fun _ => 0)

def quiescent_PartDwReferenceIdeal [hPartDwReferenceIdeal : Cert.PartDwReferenceIdeal.Facts] : Prop :=
  ∀ (m : (ℓ : Loc Cert.PartDwReferenceIdeal.nD Cert.PartDwReferenceIdeal.τ Cert.PartDwReferenceIdeal.sig) → Buf (Elt Ideal) ℓ) (g : Dev Cert.PartDwReferenceIdeal.nD → PrngReg), Pre_PartDwReferenceIdeal m →
    θ_run (Cert.PartDwReferenceIdeal.defs (F := Ideal)) (onTc (τ := Cert.PartDwReferenceIdeal.τ) (Cert.PartDwReferenceIdeal.main (F := Ideal))) ⟨m, fun _ => 0, g⟩ (fun r => (∀ c : Dev Cert.PartDwReferenceIdeal.nD,
      r.2.mem ((c.tc : Thread Cert.PartDwReferenceIdeal.nD Cert.PartDwReferenceIdeal.τ).loc Cert.PartDwReferenceIdeal.main_arg0) = m ((c.tc : Thread Cert.PartDwReferenceIdeal.nD Cert.PartDwReferenceIdeal.τ).loc Cert.PartDwReferenceIdeal.main_arg0)
      ∧ r.2.mem ((c.tc : Thread Cert.PartDwReferenceIdeal.nD Cert.PartDwReferenceIdeal.τ).loc Cert.PartDwReferenceIdeal.main_arg1) = m ((c.tc : Thread Cert.PartDwReferenceIdeal.nD Cert.PartDwReferenceIdeal.τ).loc Cert.PartDwReferenceIdeal.main_arg1))
      ∧ r.2.sem = fun _ => 0)

def quiescent_LogitsFw [hLogitsFw : Cert.LogitsFw.Facts] : Prop :=
  ∀ (m : (ℓ : Loc Cert.LogitsFw.nD Cert.LogitsFw.τ Cert.LogitsFw.sig) → Buf (Elt Bits) ℓ) (g : Dev Cert.LogitsFw.nD → PrngReg), Pre_LogitsFw m →
    θ_run (Cert.LogitsFw.defs (F := Bits)) (onTc (τ := Cert.LogitsFw.τ) (Cert.LogitsFw.main (F := Bits))) ⟨m, fun _ => 0, g⟩ (fun r => (∀ c : Dev Cert.LogitsFw.nD,
      r.2.mem ((c.tc : Thread Cert.LogitsFw.nD Cert.LogitsFw.τ).loc Cert.LogitsFw.main_arg0) = m ((c.tc : Thread Cert.LogitsFw.nD Cert.LogitsFw.τ).loc Cert.LogitsFw.main_arg0)
      ∧ r.2.mem ((c.tc : Thread Cert.LogitsFw.nD Cert.LogitsFw.τ).loc Cert.LogitsFw.main_arg1) = m ((c.tc : Thread Cert.LogitsFw.nD Cert.LogitsFw.τ).loc Cert.LogitsFw.main_arg1))
      ∧ r.2.sem = fun _ => 0)

def quiescent_LogitsFwIdeal [hLogitsFwIdeal : Cert.LogitsFwIdeal.Facts] : Prop :=
  ∀ (m : (ℓ : Loc Cert.LogitsFwIdeal.nD Cert.LogitsFwIdeal.τ Cert.LogitsFwIdeal.sig) → Buf (Elt Ideal) ℓ) (g : Dev Cert.LogitsFwIdeal.nD → PrngReg), Pre_LogitsFwIdeal m →
    θ_run (Cert.LogitsFwIdeal.defs (F := Ideal)) (onTc (τ := Cert.LogitsFwIdeal.τ) (Cert.LogitsFwIdeal.main (F := Ideal))) ⟨m, fun _ => 0, g⟩ (fun r => (∀ c : Dev Cert.LogitsFwIdeal.nD,
      r.2.mem ((c.tc : Thread Cert.LogitsFwIdeal.nD Cert.LogitsFwIdeal.τ).loc Cert.LogitsFwIdeal.main_arg0) = m ((c.tc : Thread Cert.LogitsFwIdeal.nD Cert.LogitsFwIdeal.τ).loc Cert.LogitsFwIdeal.main_arg0)
      ∧ r.2.mem ((c.tc : Thread Cert.LogitsFwIdeal.nD Cert.LogitsFwIdeal.τ).loc Cert.LogitsFwIdeal.main_arg1) = m ((c.tc : Thread Cert.LogitsFwIdeal.nD Cert.LogitsFwIdeal.τ).loc Cert.LogitsFwIdeal.main_arg1))
      ∧ r.2.sem = fun _ => 0)

def quiescent_LogitsFwReferenceIdeal [hLogitsFwReferenceIdeal : Cert.LogitsFwReferenceIdeal.Facts] : Prop :=
  ∀ (m : (ℓ : Loc Cert.LogitsFwReferenceIdeal.nD Cert.LogitsFwReferenceIdeal.τ Cert.LogitsFwReferenceIdeal.sig) → Buf (Elt Ideal) ℓ) (g : Dev Cert.LogitsFwReferenceIdeal.nD → PrngReg), Pre_LogitsFwReferenceIdeal m →
    θ_run (Cert.LogitsFwReferenceIdeal.defs (F := Ideal)) (onTc (τ := Cert.LogitsFwReferenceIdeal.τ) (Cert.LogitsFwReferenceIdeal.main (F := Ideal))) ⟨m, fun _ => 0, g⟩ (fun r => (∀ c : Dev Cert.LogitsFwReferenceIdeal.nD,
      r.2.mem ((c.tc : Thread Cert.LogitsFwReferenceIdeal.nD Cert.LogitsFwReferenceIdeal.τ).loc Cert.LogitsFwReferenceIdeal.main_arg0) = m ((c.tc : Thread Cert.LogitsFwReferenceIdeal.nD Cert.LogitsFwReferenceIdeal.τ).loc Cert.LogitsFwReferenceIdeal.main_arg0)
      ∧ r.2.mem ((c.tc : Thread Cert.LogitsFwReferenceIdeal.nD Cert.LogitsFwReferenceIdeal.τ).loc Cert.LogitsFwReferenceIdeal.main_arg1) = m ((c.tc : Thread Cert.LogitsFwReferenceIdeal.nD Cert.LogitsFwReferenceIdeal.τ).loc Cert.LogitsFwReferenceIdeal.main_arg1))
      ∧ r.2.sem = fun _ => 0)

def quiescent_LogitsDx [hLogitsDx : Cert.LogitsDx.Facts] : Prop :=
  ∀ (m : (ℓ : Loc Cert.LogitsDx.nD Cert.LogitsDx.τ Cert.LogitsDx.sig) → Buf (Elt Bits) ℓ) (g : Dev Cert.LogitsDx.nD → PrngReg), Pre_LogitsDx m →
    θ_run (Cert.LogitsDx.defs (F := Bits)) (onTc (τ := Cert.LogitsDx.τ) (Cert.LogitsDx.main (F := Bits))) ⟨m, fun _ => 0, g⟩ (fun r => (∀ c : Dev Cert.LogitsDx.nD,
      r.2.mem ((c.tc : Thread Cert.LogitsDx.nD Cert.LogitsDx.τ).loc Cert.LogitsDx.main_arg0) = m ((c.tc : Thread Cert.LogitsDx.nD Cert.LogitsDx.τ).loc Cert.LogitsDx.main_arg0)
      ∧ r.2.mem ((c.tc : Thread Cert.LogitsDx.nD Cert.LogitsDx.τ).loc Cert.LogitsDx.main_arg1) = m ((c.tc : Thread Cert.LogitsDx.nD Cert.LogitsDx.τ).loc Cert.LogitsDx.main_arg1)
      ∧ r.2.mem ((c.tc : Thread Cert.LogitsDx.nD Cert.LogitsDx.τ).loc Cert.LogitsDx.main_arg2) = m ((c.tc : Thread Cert.LogitsDx.nD Cert.LogitsDx.τ).loc Cert.LogitsDx.main_arg2))
      ∧ r.2.sem = fun _ => 0)

def quiescent_LogitsDxIdeal [hLogitsDxIdeal : Cert.LogitsDxIdeal.Facts] : Prop :=
  ∀ (m : (ℓ : Loc Cert.LogitsDxIdeal.nD Cert.LogitsDxIdeal.τ Cert.LogitsDxIdeal.sig) → Buf (Elt Ideal) ℓ) (g : Dev Cert.LogitsDxIdeal.nD → PrngReg), Pre_LogitsDxIdeal m →
    θ_run (Cert.LogitsDxIdeal.defs (F := Ideal)) (onTc (τ := Cert.LogitsDxIdeal.τ) (Cert.LogitsDxIdeal.main (F := Ideal))) ⟨m, fun _ => 0, g⟩ (fun r => (∀ c : Dev Cert.LogitsDxIdeal.nD,
      r.2.mem ((c.tc : Thread Cert.LogitsDxIdeal.nD Cert.LogitsDxIdeal.τ).loc Cert.LogitsDxIdeal.main_arg0) = m ((c.tc : Thread Cert.LogitsDxIdeal.nD Cert.LogitsDxIdeal.τ).loc Cert.LogitsDxIdeal.main_arg0)
      ∧ r.2.mem ((c.tc : Thread Cert.LogitsDxIdeal.nD Cert.LogitsDxIdeal.τ).loc Cert.LogitsDxIdeal.main_arg1) = m ((c.tc : Thread Cert.LogitsDxIdeal.nD Cert.LogitsDxIdeal.τ).loc Cert.LogitsDxIdeal.main_arg1)
      ∧ r.2.mem ((c.tc : Thread Cert.LogitsDxIdeal.nD Cert.LogitsDxIdeal.τ).loc Cert.LogitsDxIdeal.main_arg2) = m ((c.tc : Thread Cert.LogitsDxIdeal.nD Cert.LogitsDxIdeal.τ).loc Cert.LogitsDxIdeal.main_arg2))
      ∧ r.2.sem = fun _ => 0)

def quiescent_LogitsDxReferenceIdeal [hLogitsDxReferenceIdeal : Cert.LogitsDxReferenceIdeal.Facts] : Prop :=
  ∀ (m : (ℓ : Loc Cert.LogitsDxReferenceIdeal.nD Cert.LogitsDxReferenceIdeal.τ Cert.LogitsDxReferenceIdeal.sig) → Buf (Elt Ideal) ℓ) (g : Dev Cert.LogitsDxReferenceIdeal.nD → PrngReg), Pre_LogitsDxReferenceIdeal m →
    θ_run (Cert.LogitsDxReferenceIdeal.defs (F := Ideal)) (onTc (τ := Cert.LogitsDxReferenceIdeal.τ) (Cert.LogitsDxReferenceIdeal.main (F := Ideal))) ⟨m, fun _ => 0, g⟩ (fun r => (∀ c : Dev Cert.LogitsDxReferenceIdeal.nD,
      r.2.mem ((c.tc : Thread Cert.LogitsDxReferenceIdeal.nD Cert.LogitsDxReferenceIdeal.τ).loc Cert.LogitsDxReferenceIdeal.main_arg0) = m ((c.tc : Thread Cert.LogitsDxReferenceIdeal.nD Cert.LogitsDxReferenceIdeal.τ).loc Cert.LogitsDxReferenceIdeal.main_arg0)
      ∧ r.2.mem ((c.tc : Thread Cert.LogitsDxReferenceIdeal.nD Cert.LogitsDxReferenceIdeal.τ).loc Cert.LogitsDxReferenceIdeal.main_arg1) = m ((c.tc : Thread Cert.LogitsDxReferenceIdeal.nD Cert.LogitsDxReferenceIdeal.τ).loc Cert.LogitsDxReferenceIdeal.main_arg1)
      ∧ r.2.mem ((c.tc : Thread Cert.LogitsDxReferenceIdeal.nD Cert.LogitsDxReferenceIdeal.τ).loc Cert.LogitsDxReferenceIdeal.main_arg2) = m ((c.tc : Thread Cert.LogitsDxReferenceIdeal.nD Cert.LogitsDxReferenceIdeal.τ).loc Cert.LogitsDxReferenceIdeal.main_arg2))
      ∧ r.2.sem = fun _ => 0)

def quiescent_LogitsDw [hLogitsDw : Cert.LogitsDw.Facts] : Prop :=
  ∀ (m : (ℓ : Loc Cert.LogitsDw.nD Cert.LogitsDw.τ Cert.LogitsDw.sig) → Buf (Elt Bits) ℓ) (g : Dev Cert.LogitsDw.nD → PrngReg), Pre_LogitsDw m →
    θ_run (Cert.LogitsDw.defs (F := Bits)) (onTc (τ := Cert.LogitsDw.τ) (Cert.LogitsDw.main (F := Bits))) ⟨m, fun _ => 0, g⟩ (fun r => (∀ c : Dev Cert.LogitsDw.nD,
      r.2.mem ((c.tc : Thread Cert.LogitsDw.nD Cert.LogitsDw.τ).loc Cert.LogitsDw.main_arg0) = m ((c.tc : Thread Cert.LogitsDw.nD Cert.LogitsDw.τ).loc Cert.LogitsDw.main_arg0)
      ∧ r.2.mem ((c.tc : Thread Cert.LogitsDw.nD Cert.LogitsDw.τ).loc Cert.LogitsDw.main_arg1) = m ((c.tc : Thread Cert.LogitsDw.nD Cert.LogitsDw.τ).loc Cert.LogitsDw.main_arg1))
      ∧ r.2.sem = fun _ => 0)

def quiescent_LogitsDwIdeal [hLogitsDwIdeal : Cert.LogitsDwIdeal.Facts] : Prop :=
  ∀ (m : (ℓ : Loc Cert.LogitsDwIdeal.nD Cert.LogitsDwIdeal.τ Cert.LogitsDwIdeal.sig) → Buf (Elt Ideal) ℓ) (g : Dev Cert.LogitsDwIdeal.nD → PrngReg), Pre_LogitsDwIdeal m →
    θ_run (Cert.LogitsDwIdeal.defs (F := Ideal)) (onTc (τ := Cert.LogitsDwIdeal.τ) (Cert.LogitsDwIdeal.main (F := Ideal))) ⟨m, fun _ => 0, g⟩ (fun r => (∀ c : Dev Cert.LogitsDwIdeal.nD,
      r.2.mem ((c.tc : Thread Cert.LogitsDwIdeal.nD Cert.LogitsDwIdeal.τ).loc Cert.LogitsDwIdeal.main_arg0) = m ((c.tc : Thread Cert.LogitsDwIdeal.nD Cert.LogitsDwIdeal.τ).loc Cert.LogitsDwIdeal.main_arg0)
      ∧ r.2.mem ((c.tc : Thread Cert.LogitsDwIdeal.nD Cert.LogitsDwIdeal.τ).loc Cert.LogitsDwIdeal.main_arg1) = m ((c.tc : Thread Cert.LogitsDwIdeal.nD Cert.LogitsDwIdeal.τ).loc Cert.LogitsDwIdeal.main_arg1))
      ∧ r.2.sem = fun _ => 0)

def quiescent_LogitsDwReferenceIdeal [hLogitsDwReferenceIdeal : Cert.LogitsDwReferenceIdeal.Facts] : Prop :=
  ∀ (m : (ℓ : Loc Cert.LogitsDwReferenceIdeal.nD Cert.LogitsDwReferenceIdeal.τ Cert.LogitsDwReferenceIdeal.sig) → Buf (Elt Ideal) ℓ) (g : Dev Cert.LogitsDwReferenceIdeal.nD → PrngReg), Pre_LogitsDwReferenceIdeal m →
    θ_run (Cert.LogitsDwReferenceIdeal.defs (F := Ideal)) (onTc (τ := Cert.LogitsDwReferenceIdeal.τ) (Cert.LogitsDwReferenceIdeal.main (F := Ideal))) ⟨m, fun _ => 0, g⟩ (fun r => (∀ c : Dev Cert.LogitsDwReferenceIdeal.nD,
      r.2.mem ((c.tc : Thread Cert.LogitsDwReferenceIdeal.nD Cert.LogitsDwReferenceIdeal.τ).loc Cert.LogitsDwReferenceIdeal.main_arg0) = m ((c.tc : Thread Cert.LogitsDwReferenceIdeal.nD Cert.LogitsDwReferenceIdeal.τ).loc Cert.LogitsDwReferenceIdeal.main_arg0)
      ∧ r.2.mem ((c.tc : Thread Cert.LogitsDwReferenceIdeal.nD Cert.LogitsDwReferenceIdeal.τ).loc Cert.LogitsDwReferenceIdeal.main_arg1) = m ((c.tc : Thread Cert.LogitsDwReferenceIdeal.nD Cert.LogitsDwReferenceIdeal.τ).loc Cert.LogitsDwReferenceIdeal.main_arg1))
      ∧ r.2.sem = fun _ => 0)

def quiescent_FoxFw [hFoxFw : Cert.FoxFw.Facts] : Prop :=
  ∀ (m : (ℓ : Loc Cert.FoxFw.nD Cert.FoxFw.τ Cert.FoxFw.sig) → Buf (Elt Bits) ℓ) (g : Dev Cert.FoxFw.nD → PrngReg), Pre_FoxFw m →
    θ_run (Cert.FoxFw.defs (F := Bits)) (onTc (τ := Cert.FoxFw.τ) (Cert.FoxFw.main (F := Bits))) ⟨m, fun _ => 0, g⟩ (fun r => (∀ c : Dev Cert.FoxFw.nD,
      r.2.mem ((c.tc : Thread Cert.FoxFw.nD Cert.FoxFw.τ).loc Cert.FoxFw.main_arg0) = m ((c.tc : Thread Cert.FoxFw.nD Cert.FoxFw.τ).loc Cert.FoxFw.main_arg0)
      ∧ r.2.mem ((c.tc : Thread Cert.FoxFw.nD Cert.FoxFw.τ).loc Cert.FoxFw.main_arg1) = m ((c.tc : Thread Cert.FoxFw.nD Cert.FoxFw.τ).loc Cert.FoxFw.main_arg1)
      ∧ r.2.mem ((c.tc : Thread Cert.FoxFw.nD Cert.FoxFw.τ).loc Cert.FoxFw.main_arg2) = m ((c.tc : Thread Cert.FoxFw.nD Cert.FoxFw.τ).loc Cert.FoxFw.main_arg2)
      ∧ r.2.mem ((c.tc : Thread Cert.FoxFw.nD Cert.FoxFw.τ).loc Cert.FoxFw.main_arg3) = m ((c.tc : Thread Cert.FoxFw.nD Cert.FoxFw.τ).loc Cert.FoxFw.main_arg3))
      ∧ r.2.sem = fun _ => 0)

def quiescent_FoxFwIdeal [hFoxFwIdeal : Cert.FoxFwIdeal.Facts] : Prop :=
  ∀ (m : (ℓ : Loc Cert.FoxFwIdeal.nD Cert.FoxFwIdeal.τ Cert.FoxFwIdeal.sig) → Buf (Elt Ideal) ℓ) (g : Dev Cert.FoxFwIdeal.nD → PrngReg), Pre_FoxFwIdeal m →
    θ_run (Cert.FoxFwIdeal.defs (F := Ideal)) (onTc (τ := Cert.FoxFwIdeal.τ) (Cert.FoxFwIdeal.main (F := Ideal))) ⟨m, fun _ => 0, g⟩ (fun r => (∀ c : Dev Cert.FoxFwIdeal.nD,
      r.2.mem ((c.tc : Thread Cert.FoxFwIdeal.nD Cert.FoxFwIdeal.τ).loc Cert.FoxFwIdeal.main_arg0) = m ((c.tc : Thread Cert.FoxFwIdeal.nD Cert.FoxFwIdeal.τ).loc Cert.FoxFwIdeal.main_arg0)
      ∧ r.2.mem ((c.tc : Thread Cert.FoxFwIdeal.nD Cert.FoxFwIdeal.τ).loc Cert.FoxFwIdeal.main_arg1) = m ((c.tc : Thread Cert.FoxFwIdeal.nD Cert.FoxFwIdeal.τ).loc Cert.FoxFwIdeal.main_arg1)
      ∧ r.2.mem ((c.tc : Thread Cert.FoxFwIdeal.nD Cert.FoxFwIdeal.τ).loc Cert.FoxFwIdeal.main_arg2) = m ((c.tc : Thread Cert.FoxFwIdeal.nD Cert.FoxFwIdeal.τ).loc Cert.FoxFwIdeal.main_arg2)
      ∧ r.2.mem ((c.tc : Thread Cert.FoxFwIdeal.nD Cert.FoxFwIdeal.τ).loc Cert.FoxFwIdeal.main_arg3) = m ((c.tc : Thread Cert.FoxFwIdeal.nD Cert.FoxFwIdeal.τ).loc Cert.FoxFwIdeal.main_arg3))
      ∧ r.2.sem = fun _ => 0)

def quiescent_FoxFwIdeal_pre_finite_fwd [hFoxFwIdeal : Cert.FoxFwIdeal.Facts] [hPre_finite_fwd : Cert.Pre_finite_fwd.Facts] : Prop :=
  ∀ (m : (ℓ : Loc Cert.FoxFwIdeal.nD Cert.FoxFwIdeal.τ Cert.FoxFwIdeal.sig) → Buf (Elt Ideal) ℓ) (g : Dev Cert.FoxFwIdeal.nD → PrngReg), Pre_FoxFwIdeal_finite_fwd m →
    θ_run (Cert.FoxFwIdeal.defs (F := Ideal)) (onTc (τ := Cert.FoxFwIdeal.τ) (Cert.FoxFwIdeal.main (F := Ideal))) ⟨m, fun _ => 0, g⟩ (fun r => (∀ c : Dev Cert.FoxFwIdeal.nD,
      r.2.mem ((c.tc : Thread Cert.FoxFwIdeal.nD Cert.FoxFwIdeal.τ).loc Cert.FoxFwIdeal.main_arg0) = m ((c.tc : Thread Cert.FoxFwIdeal.nD Cert.FoxFwIdeal.τ).loc Cert.FoxFwIdeal.main_arg0)
      ∧ r.2.mem ((c.tc : Thread Cert.FoxFwIdeal.nD Cert.FoxFwIdeal.τ).loc Cert.FoxFwIdeal.main_arg1) = m ((c.tc : Thread Cert.FoxFwIdeal.nD Cert.FoxFwIdeal.τ).loc Cert.FoxFwIdeal.main_arg1)
      ∧ r.2.mem ((c.tc : Thread Cert.FoxFwIdeal.nD Cert.FoxFwIdeal.τ).loc Cert.FoxFwIdeal.main_arg2) = m ((c.tc : Thread Cert.FoxFwIdeal.nD Cert.FoxFwIdeal.τ).loc Cert.FoxFwIdeal.main_arg2)
      ∧ r.2.mem ((c.tc : Thread Cert.FoxFwIdeal.nD Cert.FoxFwIdeal.τ).loc Cert.FoxFwIdeal.main_arg3) = m ((c.tc : Thread Cert.FoxFwIdeal.nD Cert.FoxFwIdeal.τ).loc Cert.FoxFwIdeal.main_arg3))
      ∧ r.2.sem = fun _ => 0)

def quiescent_FoxFwReferenceIdeal [hFoxFwReferenceIdeal : Cert.FoxFwReferenceIdeal.Facts] : Prop :=
  ∀ (m : (ℓ : Loc Cert.FoxFwReferenceIdeal.nD Cert.FoxFwReferenceIdeal.τ Cert.FoxFwReferenceIdeal.sig) → Buf (Elt Ideal) ℓ) (g : Dev Cert.FoxFwReferenceIdeal.nD → PrngReg), Pre_FoxFwReferenceIdeal m →
    θ_run (Cert.FoxFwReferenceIdeal.defs (F := Ideal)) (onTc (τ := Cert.FoxFwReferenceIdeal.τ) (Cert.FoxFwReferenceIdeal.main (F := Ideal))) ⟨m, fun _ => 0, g⟩ (fun r => (∀ c : Dev Cert.FoxFwReferenceIdeal.nD,
      r.2.mem ((c.tc : Thread Cert.FoxFwReferenceIdeal.nD Cert.FoxFwReferenceIdeal.τ).loc Cert.FoxFwReferenceIdeal.main_arg0) = m ((c.tc : Thread Cert.FoxFwReferenceIdeal.nD Cert.FoxFwReferenceIdeal.τ).loc Cert.FoxFwReferenceIdeal.main_arg0)
      ∧ r.2.mem ((c.tc : Thread Cert.FoxFwReferenceIdeal.nD Cert.FoxFwReferenceIdeal.τ).loc Cert.FoxFwReferenceIdeal.main_arg1) = m ((c.tc : Thread Cert.FoxFwReferenceIdeal.nD Cert.FoxFwReferenceIdeal.τ).loc Cert.FoxFwReferenceIdeal.main_arg1)
      ∧ r.2.mem ((c.tc : Thread Cert.FoxFwReferenceIdeal.nD Cert.FoxFwReferenceIdeal.τ).loc Cert.FoxFwReferenceIdeal.main_arg2) = m ((c.tc : Thread Cert.FoxFwReferenceIdeal.nD Cert.FoxFwReferenceIdeal.τ).loc Cert.FoxFwReferenceIdeal.main_arg2)
      ∧ r.2.mem ((c.tc : Thread Cert.FoxFwReferenceIdeal.nD Cert.FoxFwReferenceIdeal.τ).loc Cert.FoxFwReferenceIdeal.main_arg3) = m ((c.tc : Thread Cert.FoxFwReferenceIdeal.nD Cert.FoxFwReferenceIdeal.τ).loc Cert.FoxFwReferenceIdeal.main_arg3))
      ∧ r.2.sem = fun _ => 0)

def quiescent_FoxFwReferenceIdeal_pre_finite_fwd [hFoxFwReferenceIdeal : Cert.FoxFwReferenceIdeal.Facts] [hPre_finite_fwd : Cert.Pre_finite_fwd.Facts] : Prop :=
  ∀ (m : (ℓ : Loc Cert.FoxFwReferenceIdeal.nD Cert.FoxFwReferenceIdeal.τ Cert.FoxFwReferenceIdeal.sig) → Buf (Elt Ideal) ℓ) (g : Dev Cert.FoxFwReferenceIdeal.nD → PrngReg), Pre_FoxFwReferenceIdeal_finite_fwd m →
    θ_run (Cert.FoxFwReferenceIdeal.defs (F := Ideal)) (onTc (τ := Cert.FoxFwReferenceIdeal.τ) (Cert.FoxFwReferenceIdeal.main (F := Ideal))) ⟨m, fun _ => 0, g⟩ (fun r => (∀ c : Dev Cert.FoxFwReferenceIdeal.nD,
      r.2.mem ((c.tc : Thread Cert.FoxFwReferenceIdeal.nD Cert.FoxFwReferenceIdeal.τ).loc Cert.FoxFwReferenceIdeal.main_arg0) = m ((c.tc : Thread Cert.FoxFwReferenceIdeal.nD Cert.FoxFwReferenceIdeal.τ).loc Cert.FoxFwReferenceIdeal.main_arg0)
      ∧ r.2.mem ((c.tc : Thread Cert.FoxFwReferenceIdeal.nD Cert.FoxFwReferenceIdeal.τ).loc Cert.FoxFwReferenceIdeal.main_arg1) = m ((c.tc : Thread Cert.FoxFwReferenceIdeal.nD Cert.FoxFwReferenceIdeal.τ).loc Cert.FoxFwReferenceIdeal.main_arg1)
      ∧ r.2.mem ((c.tc : Thread Cert.FoxFwReferenceIdeal.nD Cert.FoxFwReferenceIdeal.τ).loc Cert.FoxFwReferenceIdeal.main_arg2) = m ((c.tc : Thread Cert.FoxFwReferenceIdeal.nD Cert.FoxFwReferenceIdeal.τ).loc Cert.FoxFwReferenceIdeal.main_arg2)
      ∧ r.2.mem ((c.tc : Thread Cert.FoxFwReferenceIdeal.nD Cert.FoxFwReferenceIdeal.τ).loc Cert.FoxFwReferenceIdeal.main_arg3) = m ((c.tc : Thread Cert.FoxFwReferenceIdeal.nD Cert.FoxFwReferenceIdeal.τ).loc Cert.FoxFwReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)) (v4 : (c : Dev Cert.KernelIdeal.nD) → Buf (Elt Ideal) ((c.tc : Thread Cert.KernelIdeal.nD Cert.KernelIdeal.τ).loc Cert.KernelIdeal.main_v39_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_v39_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpFw_UpFwIdeal : Prop :=
  True

def algebraic_UpFwIdeal_UpFwReferenceIdeal [hUpFwIdeal : Cert.UpFwIdeal.Facts] [hUpFwReferenceIdeal : Cert.UpFwReferenceIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.UpFwReferenceIdeal.nD Cert.UpFwReferenceIdeal.τ Cert.UpFwReferenceIdeal.sig) → Buf (Elt Ideal) ℓ) (g' : Dev Cert.UpFwReferenceIdeal.nD → PrngReg), Pre_UpFwIdeal m →
    (∀ c : Dev Cert.UpFwIdeal.nD,
      m' ((c.tc : Thread Cert.UpFwReferenceIdeal.nD Cert.UpFwReferenceIdeal.τ).loc Cert.UpFwReferenceIdeal.main_arg0) = m ((c.tc : Thread Cert.UpFwIdeal.nD Cert.UpFwIdeal.τ).loc Cert.UpFwIdeal.main_arg0)
      ∧ m' ((c.tc : Thread Cert.UpFwReferenceIdeal.nD Cert.UpFwReferenceIdeal.τ).loc Cert.UpFwReferenceIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v2)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v2) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.UpFwReferenceIdeal.defs (F := Ideal)) (onTc (τ := Cert.UpFwReferenceIdeal.τ) (Cert.UpFwReferenceIdeal.main (F := Ideal))) ⟨m', fun _ => 0, g'⟩ (fun r => ∀ c : Dev Cert.UpFwReferenceIdeal.nD,
          r.2.mem ((c.tc : Thread Cert.UpFwReferenceIdeal.nD Cert.UpFwReferenceIdeal.τ).loc Cert.UpFwReferenceIdeal.main_v0) = v0 c
          ∧ r.2.mem ((c.tc : Thread Cert.UpFwReferenceIdeal.nD Cert.UpFwReferenceIdeal.τ).loc Cert.UpFwReferenceIdeal.main_arg0) = m' ((c.tc : Thread Cert.UpFwReferenceIdeal.nD Cert.UpFwReferenceIdeal.τ).loc Cert.UpFwReferenceIdeal.main_arg0)
          ∧ r.2.mem ((c.tc : Thread Cert.UpFwReferenceIdeal.nD Cert.UpFwReferenceIdeal.τ).loc Cert.UpFwReferenceIdeal.main_arg1) = m' ((c.tc : Thread Cert.UpFwReferenceIdeal.nD Cert.UpFwReferenceIdeal.τ).loc Cert.UpFwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v2) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownFw_DownFwIdeal : Prop :=
  True

def algebraic_DownFwIdeal_DownFwReferenceIdeal [hDownFwIdeal : Cert.DownFwIdeal.Facts] [hDownFwReferenceIdeal : Cert.DownFwReferenceIdeal.Facts] : Prop :=
  ∀ (m : (ℓ : Loc Cert.DownFwIdeal.nD Cert.DownFwIdeal.τ Cert.DownFwIdeal.sig) → Buf (Elt Ideal) ℓ) (g : Dev Cert.DownFwIdeal.nD → PrngReg)
    (m' : (ℓ : Loc Cert.DownFwReferenceIdeal.nD Cert.DownFwReferenceIdeal.τ Cert.DownFwReferenceIdeal.sig) → Buf (Elt Ideal) ℓ) (g' : Dev Cert.DownFwReferenceIdeal.nD → PrngReg), Pre_DownFwIdeal m →
    (∀ c : Dev Cert.DownFwIdeal.nD,
      m' ((c.tc : Thread Cert.DownFwReferenceIdeal.nD Cert.DownFwReferenceIdeal.τ).loc Cert.DownFwReferenceIdeal.main_arg0) = m ((c.tc : Thread Cert.DownFwIdeal.nD Cert.DownFwIdeal.τ).loc Cert.DownFwIdeal.main_arg0)
      ∧ m' ((c.tc : Thread Cert.DownFwReferenceIdeal.nD Cert.DownFwReferenceIdeal.τ).loc Cert.DownFwReferenceIdeal.main_arg1) = m ((c.tc : Thread Cert.DownFwIdeal.nD Cert.DownFwIdeal.τ).loc Cert.DownFwIdeal.main_arg1)
      ∧ m' ((c.tc : Thread Cert.DownFwReferenceIdeal.nD Cert.DownFwReferenceIdeal.τ).loc Cert.DownFwReferenceIdeal.main_arg2) = m ((c.tc : Thread Cert.DownFwIdeal.nD Cert.DownFwIdeal.τ).loc Cert.DownFwIdeal.main_arg2)) →
    ∃ (v0 : (c : Dev Cert.DownFwIdeal.nD) → Buf (Elt Ideal) ((c.tc : Thread Cert.DownFwIdeal.nD Cert.DownFwIdeal.τ).loc Cert.DownFwIdeal.main_v1)),
      θ_run (Cert.DownFwIdeal.defs (F := Ideal)) (onTc (τ := Cert.DownFwIdeal.τ) (Cert.DownFwIdeal.main (F := Ideal))) ⟨m, fun _ => 0, g⟩ (fun r => ∀ c : Dev Cert.DownFwIdeal.nD,
          r.2.mem ((c.tc : Thread Cert.DownFwIdeal.nD Cert.DownFwIdeal.τ).loc Cert.DownFwIdeal.main_v1) = v0 c
          ∧ r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
          ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
          ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2))
      ∧ θ_run (Cert.DownFwReferenceIdeal.defs (F := Ideal)) (onTc (τ := Cert.DownFwReferenceIdeal.τ) (Cert.DownFwReferenceIdeal.main (F := Ideal))) ⟨m', fun _ => 0, g'⟩ (fun r => ∀ c : Dev Cert.DownFwReferenceIdeal.nD,
          r.2.mem ((c.tc : Thread Cert.DownFwReferenceIdeal.nD Cert.DownFwReferenceIdeal.τ).loc Cert.DownFwReferenceIdeal.main_v1) = v0 c
          ∧ r.2.mem ((c.tc : Thread Cert.DownFwReferenceIdeal.nD Cert.DownFwReferenceIdeal.τ).loc Cert.DownFwReferenceIdeal.main_arg0) = m' ((c.tc : Thread Cert.DownFwReferenceIdeal.nD Cert.DownFwReferenceIdeal.τ).loc Cert.DownFwReferenceIdeal.main_arg0)
          ∧ r.2.mem ((c.tc : Thread Cert.DownFwReferenceIdeal.nD Cert.DownFwReferenceIdeal.τ).loc Cert.DownFwReferenceIdeal.main_arg1) = m' ((c.tc : Thread Cert.DownFwReferenceIdeal.nD Cert.DownFwReferenceIdeal.τ).loc Cert.DownFwReferenceIdeal.main_arg1)
          ∧ r.2.mem ((c.tc : Thread Cert.DownFwReferenceIdeal.nD Cert.DownFwReferenceIdeal.τ).loc Cert.DownFwReferenceIdeal.main_arg2) = m' ((c.tc : Thread Cert.DownFwReferenceIdeal.nD Cert.DownFwReferenceIdeal.τ).loc Cert.DownFwReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v2) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_OutFw_OutFwIdeal : Prop :=
  True

def algebraic_OutFwIdeal_OutFwReferenceIdeal [hOutFwIdeal : Cert.OutFwIdeal.Facts] [hOutFwReferenceIdeal : Cert.OutFwReferenceIdeal.Facts] : Prop :=
  ∀ (m : (ℓ : Loc Cert.OutFwIdeal.nD Cert.OutFwIdeal.τ Cert.OutFwIdeal.sig) → Buf (Elt Ideal) ℓ) (g : Dev Cert.OutFwIdeal.nD → PrngReg)
    (m' : (ℓ : Loc Cert.OutFwReferenceIdeal.nD Cert.OutFwReferenceIdeal.τ Cert.OutFwReferenceIdeal.sig) → Buf (Elt Ideal) ℓ) (g' : Dev Cert.OutFwReferenceIdeal.nD → PrngReg), Pre_OutFwIdeal m →
    (∀ c : Dev Cert.OutFwIdeal.nD,
      m' ((c.tc : Thread Cert.OutFwReferenceIdeal.nD Cert.OutFwReferenceIdeal.τ).loc Cert.OutFwReferenceIdeal.main_arg0) = m ((c.tc : Thread Cert.OutFwIdeal.nD Cert.OutFwIdeal.τ).loc Cert.OutFwIdeal.main_arg0)
      ∧ m' ((c.tc : Thread Cert.OutFwReferenceIdeal.nD Cert.OutFwReferenceIdeal.τ).loc Cert.OutFwReferenceIdeal.main_arg1) = m ((c.tc : Thread Cert.OutFwIdeal.nD Cert.OutFwIdeal.τ).loc Cert.OutFwIdeal.main_arg1)
      ∧ m' ((c.tc : Thread Cert.OutFwReferenceIdeal.nD Cert.OutFwReferenceIdeal.τ).loc Cert.OutFwReferenceIdeal.main_arg2) = m ((c.tc : Thread Cert.OutFwIdeal.nD Cert.OutFwIdeal.τ).loc Cert.OutFwIdeal.main_arg2)) →
    ∃ (v0 : (c : Dev Cert.OutFwIdeal.nD) → Buf (Elt Ideal) ((c.tc : Thread Cert.OutFwIdeal.nD Cert.OutFwIdeal.τ).loc Cert.OutFwIdeal.main_v1)),
      θ_run (Cert.OutFwIdeal.defs (F := Ideal)) (onTc (τ := Cert.OutFwIdeal.τ) (Cert.OutFwIdeal.main (F := Ideal))) ⟨m, fun _ => 0, g⟩ (fun r => ∀ c : Dev Cert.OutFwIdeal.nD,
          r.2.mem ((c.tc : Thread Cert.OutFwIdeal.nD Cert.OutFwIdeal.τ).loc Cert.OutFwIdeal.main_v1) = v0 c
          ∧ r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
          ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
          ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2))
      ∧ θ_run (Cert.OutFwReferenceIdeal.defs (F := Ideal)) (onTc (τ := Cert.OutFwReferenceIdeal.τ) (Cert.OutFwReferenceIdeal.main (F := Ideal))) ⟨m', fun _ => 0, g'⟩ (fun r => ∀ c : Dev Cert.OutFwReferenceIdeal.nD,
          r.2.mem ((c.tc : Thread Cert.OutFwReferenceIdeal.nD Cert.OutFwReferenceIdeal.τ).loc Cert.OutFwReferenceIdeal.main_v1) = v0 c
          ∧ r.2.mem ((c.tc : Thread Cert.OutFwReferenceIdeal.nD Cert.OutFwReferenceIdeal.τ).loc Cert.OutFwReferenceIdeal.main_arg0) = m' ((c.tc : Thread Cert.OutFwReferenceIdeal.nD Cert.OutFwReferenceIdeal.τ).loc Cert.OutFwReferenceIdeal.main_arg0)
          ∧ r.2.mem ((c.tc : Thread Cert.OutFwReferenceIdeal.nD Cert.OutFwReferenceIdeal.τ).loc Cert.OutFwReferenceIdeal.main_arg1) = m' ((c.tc : Thread Cert.OutFwReferenceIdeal.nD Cert.OutFwReferenceIdeal.τ).loc Cert.OutFwReferenceIdeal.main_arg1)
          ∧ r.2.mem ((c.tc : Thread Cert.OutFwReferenceIdeal.nD Cert.OutFwReferenceIdeal.τ).loc Cert.OutFwReferenceIdeal.main_arg2) = m' ((c.tc : Thread Cert.OutFwReferenceIdeal.nD Cert.OutFwReferenceIdeal.τ).loc Cert.OutFwReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v2) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_BranchFw_BranchFwIdeal : Prop :=
  True

def algebraic_BranchFwIdeal_BranchFwReferenceIdeal [hBranchFwIdeal : Cert.BranchFwIdeal.Facts] [hBranchFwReferenceIdeal : Cert.BranchFwReferenceIdeal.Facts] : Prop :=
  ∀ (m : (ℓ : Loc Cert.BranchFwIdeal.nD Cert.BranchFwIdeal.τ Cert.BranchFwIdeal.sig) → Buf (Elt Ideal) ℓ) (g : Dev Cert.BranchFwIdeal.nD → PrngReg)
    (m' : (ℓ : Loc Cert.BranchFwReferenceIdeal.nD Cert.BranchFwReferenceIdeal.τ Cert.BranchFwReferenceIdeal.sig) → Buf (Elt Ideal) ℓ) (g' : Dev Cert.BranchFwReferenceIdeal.nD → PrngReg), Pre_BranchFwIdeal m →
    (∀ c : Dev Cert.BranchFwIdeal.nD,
      m' ((c.tc : Thread Cert.BranchFwReferenceIdeal.nD Cert.BranchFwReferenceIdeal.τ).loc Cert.BranchFwReferenceIdeal.main_arg0) = m ((c.tc : Thread Cert.BranchFwIdeal.nD Cert.BranchFwIdeal.τ).loc Cert.BranchFwIdeal.main_arg0)
      ∧ m' ((c.tc : Thread Cert.BranchFwReferenceIdeal.nD Cert.BranchFwReferenceIdeal.τ).loc Cert.BranchFwReferenceIdeal.main_arg1) = m ((c.tc : Thread Cert.BranchFwIdeal.nD Cert.BranchFwIdeal.τ).loc Cert.BranchFwIdeal.main_arg1)) →
    ∃ (v0 : (c : Dev Cert.BranchFwIdeal.nD) → Buf (Elt Ideal) ((c.tc : Thread Cert.BranchFwIdeal.nD Cert.BranchFwIdeal.τ).loc Cert.BranchFwIdeal.main_v1)),
      θ_run (Cert.BranchFwIdeal.defs (F := Ideal)) (onTc (τ := Cert.BranchFwIdeal.τ) (Cert.BranchFwIdeal.main (F := Ideal))) ⟨m, fun _ => 0, g⟩ (fun r => ∀ c : Dev Cert.BranchFwIdeal.nD,
          r.2.mem ((c.tc : Thread Cert.BranchFwIdeal.nD Cert.BranchFwIdeal.τ).loc Cert.BranchFwIdeal.main_v1) = v0 c
          ∧ r.2.mem ((c.tc : Thread Cert.BranchFwIdeal.nD Cert.BranchFwIdeal.τ).loc Cert.BranchFwIdeal.main_arg0) = m ((c.tc : Thread Cert.BranchFwIdeal.nD Cert.BranchFwIdeal.τ).loc Cert.BranchFwIdeal.main_arg0)
          ∧ r.2.mem ((c.tc : Thread Cert.BranchFwIdeal.nD Cert.BranchFwIdeal.τ).loc Cert.BranchFwIdeal.main_arg1) = m ((c.tc : Thread Cert.BranchFwIdeal.nD Cert.BranchFwIdeal.τ).loc Cert.BranchFwIdeal.main_arg1))
      ∧ θ_run (Cert.BranchFwReferenceIdeal.defs (F := Ideal)) (onTc (τ := Cert.BranchFwReferenceIdeal.τ) (Cert.BranchFwReferenceIdeal.main (F := Ideal))) ⟨m', fun _ => 0, g'⟩ (fun r => ∀ c : Dev Cert.BranchFwReferenceIdeal.nD,
          r.2.mem ((c.tc : Thread Cert.BranchFwReferenceIdeal.nD Cert.BranchFwReferenceIdeal.τ).loc Cert.BranchFwReferenceIdeal.main_v0) = v0 c
          ∧ r.2.mem ((c.tc : Thread Cert.BranchFwReferenceIdeal.nD Cert.BranchFwReferenceIdeal.τ).loc Cert.BranchFwReferenceIdeal.main_arg0) = m' ((c.tc : Thread Cert.BranchFwReferenceIdeal.nD Cert.BranchFwReferenceIdeal.τ).loc Cert.BranchFwReferenceIdeal.main_arg0)
          ∧ r.2.mem ((c.tc : Thread Cert.BranchFwReferenceIdeal.nD Cert.BranchFwReferenceIdeal.τ).loc Cert.BranchFwReferenceIdeal.main_arg1) = m' ((c.tc : Thread Cert.BranchFwReferenceIdeal.nD Cert.BranchFwReferenceIdeal.τ).loc Cert.BranchFwReferenceIdeal.main_arg1))

def preserves_BranchDx_BranchDxIdeal : Prop :=
  True

def algebraic_BranchDxIdeal_BranchDxReferenceIdeal [hBranchDxIdeal : Cert.BranchDxIdeal.Facts] [hBranchDxReferenceIdeal : Cert.BranchDxReferenceIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxReferenceIdeal.nD Cert.BranchDxReferenceIdeal.τ Cert.BranchDxReferenceIdeal.sig) → Buf (Elt Ideal) ℓ) (g' : Dev Cert.BranchDxReferenceIdeal.nD → PrngReg), Pre_BranchDxIdeal m →
    (∀ c : Dev Cert.BranchDxIdeal.nD,
      m' ((c.tc : Thread Cert.BranchDxReferenceIdeal.nD Cert.BranchDxReferenceIdeal.τ).loc Cert.BranchDxReferenceIdeal.main_arg0) = m ((c.tc : Thread Cert.BranchDxIdeal.nD Cert.BranchDxIdeal.τ).loc Cert.BranchDxIdeal.main_arg0)
      ∧ m' ((c.tc : Thread Cert.BranchDxReferenceIdeal.nD Cert.BranchDxReferenceIdeal.τ).loc Cert.BranchDxReferenceIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v1)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v1) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxReferenceIdeal.defs (F := Ideal)) (onTc (τ := Cert.BranchDxReferenceIdeal.τ) (Cert.BranchDxReferenceIdeal.main (F := Ideal))) ⟨m', fun _ => 0, g'⟩ (fun r => ∀ c : Dev Cert.BranchDxReferenceIdeal.nD,
          r.2.mem ((c.tc : Thread Cert.BranchDxReferenceIdeal.nD Cert.BranchDxReferenceIdeal.τ).loc Cert.BranchDxReferenceIdeal.main_v2) = v0 c
          ∧ r.2.mem ((c.tc : Thread Cert.BranchDxReferenceIdeal.nD Cert.BranchDxReferenceIdeal.τ).loc Cert.BranchDxReferenceIdeal.main_arg0) = m' ((c.tc : Thread Cert.BranchDxReferenceIdeal.nD Cert.BranchDxReferenceIdeal.τ).loc Cert.BranchDxReferenceIdeal.main_arg0)
          ∧ r.2.mem ((c.tc : Thread Cert.BranchDxReferenceIdeal.nD Cert.BranchDxReferenceIdeal.τ).loc Cert.BranchDxReferenceIdeal.main_arg1) = m' ((c.tc : Thread Cert.BranchDxReferenceIdeal.nD Cert.BranchDxReferenceIdeal.τ).loc Cert.BranchDxReferenceIdeal.main_arg1))

def preserves_BranchDw_BranchDwIdeal : Prop :=
  True

def algebraic_BranchDwIdeal_BranchDwReferenceIdeal [hBranchDwIdeal : Cert.BranchDwIdeal.Facts] [hBranchDwReferenceIdeal : Cert.BranchDwReferenceIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwReferenceIdeal.nD Cert.BranchDwReferenceIdeal.τ Cert.BranchDwReferenceIdeal.sig) → Buf (Elt Ideal) ℓ) (g' : Dev Cert.BranchDwReferenceIdeal.nD → PrngReg), Pre_BranchDwIdeal m →
    (∀ c : Dev Cert.BranchDwIdeal.nD,
      m' ((c.tc : Thread Cert.BranchDwReferenceIdeal.nD Cert.BranchDwReferenceIdeal.τ).loc Cert.BranchDwReferenceIdeal.main_arg0) = m ((c.tc : Thread Cert.BranchDwIdeal.nD Cert.BranchDwIdeal.τ).loc Cert.BranchDwIdeal.main_arg0)
      ∧ m' ((c.tc : Thread Cert.BranchDwReferenceIdeal.nD Cert.BranchDwReferenceIdeal.τ).loc Cert.BranchDwReferenceIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwReferenceIdeal.defs (F := Ideal)) (onTc (τ := Cert.BranchDwReferenceIdeal.τ) (Cert.BranchDwReferenceIdeal.main (F := Ideal))) ⟨m', fun _ => 0, g'⟩ (fun r => ∀ c : Dev Cert.BranchDwReferenceIdeal.nD,
          r.2.mem ((c.tc : Thread Cert.BranchDwReferenceIdeal.nD Cert.BranchDwReferenceIdeal.τ).loc Cert.BranchDwReferenceIdeal.main_v3) = v0 c
          ∧ r.2.mem ((c.tc : Thread Cert.BranchDwReferenceIdeal.nD Cert.BranchDwReferenceIdeal.τ).loc Cert.BranchDwReferenceIdeal.main_arg0) = m' ((c.tc : Thread Cert.BranchDwReferenceIdeal.nD Cert.BranchDwReferenceIdeal.τ).loc Cert.BranchDwReferenceIdeal.main_arg0)
          ∧ r.2.mem ((c.tc : Thread Cert.BranchDwReferenceIdeal.nD Cert.BranchDwReferenceIdeal.τ).loc Cert.BranchDwReferenceIdeal.main_arg1) = m' ((c.tc : Thread Cert.BranchDwReferenceIdeal.nD Cert.BranchDwReferenceIdeal.τ).loc Cert.BranchDwReferenceIdeal.main_arg1))

def preserves_MemFw_MemFwIdeal : Prop :=
  True

def algebraic_MemFwIdeal_MemFwReferenceIdeal [hMemFwIdeal : Cert.MemFwIdeal.Facts] [hMemFwReferenceIdeal : Cert.MemFwReferenceIdeal.Facts] : Prop :=
  ∀ (m : (ℓ : Loc Cert.MemFwIdeal.nD Cert.MemFwIdeal.τ Cert.MemFwIdeal.sig) → Buf (Elt Ideal) ℓ) (g : Dev Cert.MemFwIdeal.nD → PrngReg)
    (m' : (ℓ : Loc Cert.MemFwReferenceIdeal.nD Cert.MemFwReferenceIdeal.τ Cert.MemFwReferenceIdeal.sig) → Buf (Elt Ideal) ℓ) (g' : Dev Cert.MemFwReferenceIdeal.nD → PrngReg), Pre_MemFwIdeal m →
    (∀ c : Dev Cert.MemFwIdeal.nD,
      m' ((c.tc : Thread Cert.MemFwReferenceIdeal.nD Cert.MemFwReferenceIdeal.τ).loc Cert.MemFwReferenceIdeal.main_arg0) = m ((c.tc : Thread Cert.MemFwIdeal.nD Cert.MemFwIdeal.τ).loc Cert.MemFwIdeal.main_arg0)
      ∧ m' ((c.tc : Thread Cert.MemFwReferenceIdeal.nD Cert.MemFwReferenceIdeal.τ).loc Cert.MemFwReferenceIdeal.main_arg1) = m ((c.tc : Thread Cert.MemFwIdeal.nD Cert.MemFwIdeal.τ).loc Cert.MemFwIdeal.main_arg1)
      ∧ m' ((c.tc : Thread Cert.MemFwReferenceIdeal.nD Cert.MemFwReferenceIdeal.τ).loc Cert.MemFwReferenceIdeal.main_arg2) = m ((c.tc : Thread Cert.MemFwIdeal.nD Cert.MemFwIdeal.τ).loc Cert.MemFwIdeal.main_arg2)) →
    ∃ (v0 : (c : Dev Cert.MemFwIdeal.nD) → Buf (Elt Ideal) ((c.tc : Thread Cert.MemFwIdeal.nD Cert.MemFwIdeal.τ).loc Cert.MemFwIdeal.main_v1)),
      θ_run (Cert.MemFwIdeal.defs (F := Ideal)) (onTc (τ := Cert.MemFwIdeal.τ) (Cert.MemFwIdeal.main (F := Ideal))) ⟨m, fun _ => 0, g⟩ (fun r => ∀ c : Dev Cert.MemFwIdeal.nD,
          r.2.mem ((c.tc : Thread Cert.MemFwIdeal.nD Cert.MemFwIdeal.τ).loc Cert.MemFwIdeal.main_v1) = v0 c
          ∧ r.2.mem ((c.tc : Thread Cert.MemFwIdeal.nD Cert.MemFwIdeal.τ).loc Cert.MemFwIdeal.main_arg0) = m ((c.tc : Thread Cert.MemFwIdeal.nD Cert.MemFwIdeal.τ).loc Cert.MemFwIdeal.main_arg0)
          ∧ r.2.mem ((c.tc : Thread Cert.MemFwIdeal.nD Cert.MemFwIdeal.τ).loc Cert.MemFwIdeal.main_arg1) = m ((c.tc : Thread Cert.MemFwIdeal.nD Cert.MemFwIdeal.τ).loc Cert.MemFwIdeal.main_arg1)
          ∧ r.2.mem ((c.tc : Thread Cert.MemFwIdeal.nD Cert.MemFwIdeal.τ).loc Cert.MemFwIdeal.main_arg2) = m ((c.tc : Thread Cert.MemFwIdeal.nD Cert.MemFwIdeal.τ).loc Cert.MemFwIdeal.main_arg2))
      ∧ θ_run (Cert.MemFwReferenceIdeal.defs (F := Ideal)) (onTc (τ := Cert.MemFwReferenceIdeal.τ) (Cert.MemFwReferenceIdeal.main (F := Ideal))) ⟨m', fun _ => 0, g'⟩ (fun r => ∀ c : Dev Cert.MemFwReferenceIdeal.nD,
          r.2.mem ((c.tc : Thread Cert.MemFwReferenceIdeal.nD Cert.MemFwReferenceIdeal.τ).loc Cert.MemFwReferenceIdeal.main_v1) = v0 c
          ∧ r.2.mem ((c.tc : Thread Cert.MemFwReferenceIdeal.nD Cert.MemFwReferenceIdeal.τ).loc Cert.MemFwReferenceIdeal.main_arg0) = m' ((c.tc : Thread Cert.MemFwReferenceIdeal.nD Cert.MemFwReferenceIdeal.τ).loc Cert.MemFwReferenceIdeal.main_arg0)
          ∧ r.2.mem ((c.tc : Thread Cert.MemFwReferenceIdeal.nD Cert.MemFwReferenceIdeal.τ).loc Cert.MemFwReferenceIdeal.main_arg1) = m' ((c.tc : Thread Cert.MemFwReferenceIdeal.nD Cert.MemFwReferenceIdeal.τ).loc Cert.MemFwReferenceIdeal.main_arg1)
          ∧ r.2.mem ((c.tc : Thread Cert.MemFwReferenceIdeal.nD Cert.MemFwReferenceIdeal.τ).loc Cert.MemFwReferenceIdeal.main_arg2) = m' ((c.tc : Thread Cert.MemFwReferenceIdeal.nD Cert.MemFwReferenceIdeal.τ).loc Cert.MemFwReferenceIdeal.main_arg2))

def preserves_QueryFw_QueryFwIdeal : Prop :=
  True

def algebraic_QueryFwIdeal_QueryFwReferenceIdeal [hQueryFwIdeal : Cert.QueryFwIdeal.Facts] [hQueryFwReferenceIdeal : Cert.QueryFwReferenceIdeal.Facts] : Prop :=
  ∀ (m : (ℓ : Loc Cert.QueryFwIdeal.nD Cert.QueryFwIdeal.τ Cert.QueryFwIdeal.sig) → Buf (Elt Ideal) ℓ) (g : Dev Cert.QueryFwIdeal.nD → PrngReg)
    (m' : (ℓ : Loc Cert.QueryFwReferenceIdeal.nD Cert.QueryFwReferenceIdeal.τ Cert.QueryFwReferenceIdeal.sig) → Buf (Elt Ideal) ℓ) (g' : Dev Cert.QueryFwReferenceIdeal.nD → PrngReg), Pre_QueryFwIdeal m →
    (∀ c : Dev Cert.QueryFwIdeal.nD,
      m' ((c.tc : Thread Cert.QueryFwReferenceIdeal.nD Cert.QueryFwReferenceIdeal.τ).loc Cert.QueryFwReferenceIdeal.main_arg0) = m ((c.tc : Thread Cert.QueryFwIdeal.nD Cert.QueryFwIdeal.τ).loc Cert.QueryFwIdeal.main_arg0)
      ∧ m' ((c.tc : Thread Cert.QueryFwReferenceIdeal.nD Cert.QueryFwReferenceIdeal.τ).loc Cert.QueryFwReferenceIdeal.main_arg1) = m ((c.tc : Thread Cert.QueryFwIdeal.nD Cert.QueryFwIdeal.τ).loc Cert.QueryFwIdeal.main_arg1)) →
    ∃ (v0 : (c : Dev Cert.QueryFwIdeal.nD) → Buf (Elt Ideal) ((c.tc : Thread Cert.QueryFwIdeal.nD Cert.QueryFwIdeal.τ).loc Cert.QueryFwIdeal.main_v1)),
      θ_run (Cert.QueryFwIdeal.defs (F := Ideal)) (onTc (τ := Cert.QueryFwIdeal.τ) (Cert.QueryFwIdeal.main (F := Ideal))) ⟨m, fun _ => 0, g⟩ (fun r => ∀ c : Dev Cert.QueryFwIdeal.nD,
          r.2.mem ((c.tc : Thread Cert.QueryFwIdeal.nD Cert.QueryFwIdeal.τ).loc Cert.QueryFwIdeal.main_v1) = v0 c
          ∧ r.2.mem ((c.tc : Thread Cert.QueryFwIdeal.nD Cert.QueryFwIdeal.τ).loc Cert.QueryFwIdeal.main_arg0) = m ((c.tc : Thread Cert.QueryFwIdeal.nD Cert.QueryFwIdeal.τ).loc Cert.QueryFwIdeal.main_arg0)
          ∧ r.2.mem ((c.tc : Thread Cert.QueryFwIdeal.nD Cert.QueryFwIdeal.τ).loc Cert.QueryFwIdeal.main_arg1) = m ((c.tc : Thread Cert.QueryFwIdeal.nD Cert.QueryFwIdeal.τ).loc Cert.QueryFwIdeal.main_arg1))
      ∧ θ_run (Cert.QueryFwReferenceIdeal.defs (F := Ideal)) (onTc (τ := Cert.QueryFwReferenceIdeal.τ) (Cert.QueryFwReferenceIdeal.main (F := Ideal))) ⟨m', fun _ => 0, g'⟩ (fun r => ∀ c : Dev Cert.QueryFwReferenceIdeal.nD,
          r.2.mem ((c.tc : Thread Cert.QueryFwReferenceIdeal.nD Cert.QueryFwReferenceIdeal.τ).loc Cert.QueryFwReferenceIdeal.main_v0) = v0 c
          ∧ r.2.mem ((c.tc : Thread Cert.QueryFwReferenceIdeal.nD Cert.QueryFwReferenceIdeal.τ).loc Cert.QueryFwReferenceIdeal.main_arg0) = m' ((c.tc : Thread Cert.QueryFwReferenceIdeal.nD Cert.QueryFwReferenceIdeal.τ).loc Cert.QueryFwReferenceIdeal.main_arg0)
          ∧ r.2.mem ((c.tc : Thread Cert.QueryFwReferenceIdeal.nD Cert.QueryFwReferenceIdeal.τ).loc Cert.QueryFwReferenceIdeal.main_arg1) = m' ((c.tc : Thread Cert.QueryFwReferenceIdeal.nD Cert.QueryFwReferenceIdeal.τ).loc Cert.QueryFwReferenceIdeal.main_arg1))

def preserves_QueryDx_QueryDxIdeal : Prop :=
  True

def algebraic_QueryDxIdeal_QueryDxReferenceIdeal [hQueryDxIdeal : Cert.QueryDxIdeal.Facts] [hQueryDxReferenceIdeal : Cert.QueryDxReferenceIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxReferenceIdeal.nD Cert.QueryDxReferenceIdeal.τ Cert.QueryDxReferenceIdeal.sig) → Buf (Elt Ideal) ℓ) (g' : Dev Cert.QueryDxReferenceIdeal.nD → PrngReg), Pre_QueryDxIdeal m →
    (∀ c : Dev Cert.QueryDxIdeal.nD,
      m' ((c.tc : Thread Cert.QueryDxReferenceIdeal.nD Cert.QueryDxReferenceIdeal.τ).loc Cert.QueryDxReferenceIdeal.main_arg0) = m ((c.tc : Thread Cert.QueryDxIdeal.nD Cert.QueryDxIdeal.τ).loc Cert.QueryDxIdeal.main_arg0)
      ∧ m' ((c.tc : Thread Cert.QueryDxReferenceIdeal.nD Cert.QueryDxReferenceIdeal.τ).loc Cert.QueryDxReferenceIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v1)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v1) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.QueryDxReferenceIdeal.defs (F := Ideal)) (onTc (τ := Cert.QueryDxReferenceIdeal.τ) (Cert.QueryDxReferenceIdeal.main (F := Ideal))) ⟨m', fun _ => 0, g'⟩ (fun r => ∀ c : Dev Cert.QueryDxReferenceIdeal.nD,
          r.2.mem ((c.tc : Thread Cert.QueryDxReferenceIdeal.nD Cert.QueryDxReferenceIdeal.τ).loc Cert.QueryDxReferenceIdeal.main_v2) = v0 c
          ∧ r.2.mem ((c.tc : Thread Cert.QueryDxReferenceIdeal.nD Cert.QueryDxReferenceIdeal.τ).loc Cert.QueryDxReferenceIdeal.main_arg0) = m' ((c.tc : Thread Cert.QueryDxReferenceIdeal.nD Cert.QueryDxReferenceIdeal.τ).loc Cert.QueryDxReferenceIdeal.main_arg0)
          ∧ r.2.mem ((c.tc : Thread Cert.QueryDxReferenceIdeal.nD Cert.QueryDxReferenceIdeal.τ).loc Cert.QueryDxReferenceIdeal.main_arg1) = m' ((c.tc : Thread Cert.QueryDxReferenceIdeal.nD Cert.QueryDxReferenceIdeal.τ).loc Cert.QueryDxReferenceIdeal.main_arg1))

def preserves_QueryDw_QueryDwIdeal : Prop :=
  True

def algebraic_QueryDwIdeal_QueryDwReferenceIdeal [hQueryDwIdeal : Cert.QueryDwIdeal.Facts] [hQueryDwReferenceIdeal : Cert.QueryDwReferenceIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwReferenceIdeal.nD Cert.QueryDwReferenceIdeal.τ Cert.QueryDwReferenceIdeal.sig) → Buf (Elt Ideal) ℓ) (g' : Dev Cert.QueryDwReferenceIdeal.nD → PrngReg), Pre_QueryDwIdeal m →
    (∀ c : Dev Cert.QueryDwIdeal.nD,
      m' ((c.tc : Thread Cert.QueryDwReferenceIdeal.nD Cert.QueryDwReferenceIdeal.τ).loc Cert.QueryDwReferenceIdeal.main_arg0) = m ((c.tc : Thread Cert.QueryDwIdeal.nD Cert.QueryDwIdeal.τ).loc Cert.QueryDwIdeal.main_arg0)
      ∧ m' ((c.tc : Thread Cert.QueryDwReferenceIdeal.nD Cert.QueryDwReferenceIdeal.τ).loc Cert.QueryDwReferenceIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwReferenceIdeal.defs (F := Ideal)) (onTc (τ := Cert.QueryDwReferenceIdeal.τ) (Cert.QueryDwReferenceIdeal.main (F := Ideal))) ⟨m', fun _ => 0, g'⟩ (fun r => ∀ c : Dev Cert.QueryDwReferenceIdeal.nD,
          r.2.mem ((c.tc : Thread Cert.QueryDwReferenceIdeal.nD Cert.QueryDwReferenceIdeal.τ).loc Cert.QueryDwReferenceIdeal.main_v3) = v0 c
          ∧ r.2.mem ((c.tc : Thread Cert.QueryDwReferenceIdeal.nD Cert.QueryDwReferenceIdeal.τ).loc Cert.QueryDwReferenceIdeal.main_arg0) = m' ((c.tc : Thread Cert.QueryDwReferenceIdeal.nD Cert.QueryDwReferenceIdeal.τ).loc Cert.QueryDwReferenceIdeal.main_arg0)
          ∧ r.2.mem ((c.tc : Thread Cert.QueryDwReferenceIdeal.nD Cert.QueryDwReferenceIdeal.τ).loc Cert.QueryDwReferenceIdeal.main_arg1) = m' ((c.tc : Thread Cert.QueryDwReferenceIdeal.nD Cert.QueryDwReferenceIdeal.τ).loc Cert.QueryDwReferenceIdeal.main_arg1))

def preserves_BankFw_BankFwIdeal : Prop :=
  True

def algebraic_BankFwIdeal_BankFwReferenceIdeal [hBankFwIdeal : Cert.BankFwIdeal.Facts] [hBankFwReferenceIdeal : Cert.BankFwReferenceIdeal.Facts] : Prop :=
  ∀ (m : (ℓ : Loc Cert.BankFwIdeal.nD Cert.BankFwIdeal.τ Cert.BankFwIdeal.sig) → Buf (Elt Ideal) ℓ) (g : Dev Cert.BankFwIdeal.nD → PrngReg)
    (m' : (ℓ : Loc Cert.BankFwReferenceIdeal.nD Cert.BankFwReferenceIdeal.τ Cert.BankFwReferenceIdeal.sig) → Buf (Elt Ideal) ℓ) (g' : Dev Cert.BankFwReferenceIdeal.nD → PrngReg), Pre_BankFwIdeal m →
    (∀ c : Dev Cert.BankFwIdeal.nD,
      m' ((c.tc : Thread Cert.BankFwReferenceIdeal.nD Cert.BankFwReferenceIdeal.τ).loc Cert.BankFwReferenceIdeal.main_arg0) = m ((c.tc : Thread Cert.BankFwIdeal.nD Cert.BankFwIdeal.τ).loc Cert.BankFwIdeal.main_arg0)
      ∧ m' ((c.tc : Thread Cert.BankFwReferenceIdeal.nD Cert.BankFwReferenceIdeal.τ).loc Cert.BankFwReferenceIdeal.main_arg1) = m ((c.tc : Thread Cert.BankFwIdeal.nD Cert.BankFwIdeal.τ).loc Cert.BankFwIdeal.main_arg1)) →
    ∃ (v0 : (c : Dev Cert.BankFwIdeal.nD) → Buf (Elt Ideal) ((c.tc : Thread Cert.BankFwIdeal.nD Cert.BankFwIdeal.τ).loc Cert.BankFwIdeal.main_v1)),
      θ_run (Cert.BankFwIdeal.defs (F := Ideal)) (onTc (τ := Cert.BankFwIdeal.τ) (Cert.BankFwIdeal.main (F := Ideal))) ⟨m, fun _ => 0, g⟩ (fun r => ∀ c : Dev Cert.BankFwIdeal.nD,
          r.2.mem ((c.tc : Thread Cert.BankFwIdeal.nD Cert.BankFwIdeal.τ).loc Cert.BankFwIdeal.main_v1) = v0 c
          ∧ r.2.mem ((c.tc : Thread Cert.BankFwIdeal.nD Cert.BankFwIdeal.τ).loc Cert.BankFwIdeal.main_arg0) = m ((c.tc : Thread Cert.BankFwIdeal.nD Cert.BankFwIdeal.τ).loc Cert.BankFwIdeal.main_arg0)
          ∧ r.2.mem ((c.tc : Thread Cert.BankFwIdeal.nD Cert.BankFwIdeal.τ).loc Cert.BankFwIdeal.main_arg1) = m ((c.tc : Thread Cert.BankFwIdeal.nD Cert.BankFwIdeal.τ).loc Cert.BankFwIdeal.main_arg1))
      ∧ θ_run (Cert.BankFwReferenceIdeal.defs (F := Ideal)) (onTc (τ := Cert.BankFwReferenceIdeal.τ) (Cert.BankFwReferenceIdeal.main (F := Ideal))) ⟨m', fun _ => 0, g'⟩ (fun r => ∀ c : Dev Cert.BankFwReferenceIdeal.nD,
          r.2.mem ((c.tc : Thread Cert.BankFwReferenceIdeal.nD Cert.BankFwReferenceIdeal.τ).loc Cert.BankFwReferenceIdeal.main_v0) = v0 c
          ∧ r.2.mem ((c.tc : Thread Cert.BankFwReferenceIdeal.nD Cert.BankFwReferenceIdeal.τ).loc Cert.BankFwReferenceIdeal.main_arg0) = m' ((c.tc : Thread Cert.BankFwReferenceIdeal.nD Cert.BankFwReferenceIdeal.τ).loc Cert.BankFwReferenceIdeal.main_arg0)
          ∧ r.2.mem ((c.tc : Thread Cert.BankFwReferenceIdeal.nD Cert.BankFwReferenceIdeal.τ).loc Cert.BankFwReferenceIdeal.main_arg1) = m' ((c.tc : Thread Cert.BankFwReferenceIdeal.nD Cert.BankFwReferenceIdeal.τ).loc Cert.BankFwReferenceIdeal.main_arg1))

def preserves_BankDx_BankDxIdeal : Prop :=
  True

def algebraic_BankDxIdeal_BankDxReferenceIdeal [hBankDxIdeal : Cert.BankDxIdeal.Facts] [hBankDxReferenceIdeal : Cert.BankDxReferenceIdeal.Facts] : Prop :=
  ∀ (m : (ℓ : Loc Cert.BankDxIdeal.nD Cert.BankDxIdeal.τ Cert.BankDxIdeal.sig) → Buf (Elt Ideal) ℓ) (g : Dev Cert.BankDxIdeal.nD → PrngReg)
    (m' : (ℓ : Loc Cert.BankDxReferenceIdeal.nD Cert.BankDxReferenceIdeal.τ Cert.BankDxReferenceIdeal.sig) → Buf (Elt Ideal) ℓ) (g' : Dev Cert.BankDxReferenceIdeal.nD → PrngReg), Pre_BankDxIdeal m →
    (∀ c : Dev Cert.BankDxIdeal.nD,
      m' ((c.tc : Thread Cert.BankDxReferenceIdeal.nD Cert.BankDxReferenceIdeal.τ).loc Cert.BankDxReferenceIdeal.main_arg0) = m ((c.tc : Thread Cert.BankDxIdeal.nD Cert.BankDxIdeal.τ).loc Cert.BankDxIdeal.main_arg0)
      ∧ m' ((c.tc : Thread Cert.BankDxReferenceIdeal.nD Cert.BankDxReferenceIdeal.τ).loc Cert.BankDxReferenceIdeal.main_arg1) = m ((c.tc : Thread Cert.BankDxIdeal.nD Cert.BankDxIdeal.τ).loc Cert.BankDxIdeal.main_arg1)) →
    ∃ (v0 : (c : Dev Cert.BankDxIdeal.nD) → Buf (Elt Ideal) ((c.tc : Thread Cert.BankDxIdeal.nD Cert.BankDxIdeal.τ).loc Cert.BankDxIdeal.main_v1)),
      θ_run (Cert.BankDxIdeal.defs (F := Ideal)) (onTc (τ := Cert.BankDxIdeal.τ) (Cert.BankDxIdeal.main (F := Ideal))) ⟨m, fun _ => 0, g⟩ (fun r => ∀ c : Dev Cert.BankDxIdeal.nD,
          r.2.mem ((c.tc : Thread Cert.BankDxIdeal.nD Cert.BankDxIdeal.τ).loc Cert.BankDxIdeal.main_v1) = v0 c
          ∧ r.2.mem ((c.tc : Thread Cert.BankDxIdeal.nD Cert.BankDxIdeal.τ).loc Cert.BankDxIdeal.main_arg0) = m ((c.tc : Thread Cert.BankDxIdeal.nD Cert.BankDxIdeal.τ).loc Cert.BankDxIdeal.main_arg0)
          ∧ r.2.mem ((c.tc : Thread Cert.BankDxIdeal.nD Cert.BankDxIdeal.τ).loc Cert.BankDxIdeal.main_arg1) = m ((c.tc : Thread Cert.BankDxIdeal.nD Cert.BankDxIdeal.τ).loc Cert.BankDxIdeal.main_arg1))
      ∧ θ_run (Cert.BankDxReferenceIdeal.defs (F := Ideal)) (onTc (τ := Cert.BankDxReferenceIdeal.τ) (Cert.BankDxReferenceIdeal.main (F := Ideal))) ⟨m', fun _ => 0, g'⟩ (fun r => ∀ c : Dev Cert.BankDxReferenceIdeal.nD,
          r.2.mem ((c.tc : Thread Cert.BankDxReferenceIdeal.nD Cert.BankDxReferenceIdeal.τ).loc Cert.BankDxReferenceIdeal.main_v2) = v0 c
          ∧ r.2.mem ((c.tc : Thread Cert.BankDxReferenceIdeal.nD Cert.BankDxReferenceIdeal.τ).loc Cert.BankDxReferenceIdeal.main_arg0) = m' ((c.tc : Thread Cert.BankDxReferenceIdeal.nD Cert.BankDxReferenceIdeal.τ).loc Cert.BankDxReferenceIdeal.main_arg0)
          ∧ r.2.mem ((c.tc : Thread Cert.BankDxReferenceIdeal.nD Cert.BankDxReferenceIdeal.τ).loc Cert.BankDxReferenceIdeal.main_arg1) = m' ((c.tc : Thread Cert.BankDxReferenceIdeal.nD Cert.BankDxReferenceIdeal.τ).loc Cert.BankDxReferenceIdeal.main_arg1))

def preserves_BankDw_BankDwIdeal : Prop :=
  True

def algebraic_BankDwIdeal_BankDwReferenceIdeal [hBankDwIdeal : Cert.BankDwIdeal.Facts] [hBankDwReferenceIdeal : Cert.BankDwReferenceIdeal.Facts] : Prop :=
  ∀ (m : (ℓ : Loc Cert.BankDwIdeal.nD Cert.BankDwIdeal.τ Cert.BankDwIdeal.sig) → Buf (Elt Ideal) ℓ) (g : Dev Cert.BankDwIdeal.nD → PrngReg)
    (m' : (ℓ : Loc Cert.BankDwReferenceIdeal.nD Cert.BankDwReferenceIdeal.τ Cert.BankDwReferenceIdeal.sig) → Buf (Elt Ideal) ℓ) (g' : Dev Cert.BankDwReferenceIdeal.nD → PrngReg), Pre_BankDwIdeal m →
    (∀ c : Dev Cert.BankDwIdeal.nD,
      m' ((c.tc : Thread Cert.BankDwReferenceIdeal.nD Cert.BankDwReferenceIdeal.τ).loc Cert.BankDwReferenceIdeal.main_arg0) = m ((c.tc : Thread Cert.BankDwIdeal.nD Cert.BankDwIdeal.τ).loc Cert.BankDwIdeal.main_arg0)
      ∧ m' ((c.tc : Thread Cert.BankDwReferenceIdeal.nD Cert.BankDwReferenceIdeal.τ).loc Cert.BankDwReferenceIdeal.main_arg1) = m ((c.tc : Thread Cert.BankDwIdeal.nD Cert.BankDwIdeal.τ).loc Cert.BankDwIdeal.main_arg1)) →
    ∃ (v0 : (c : Dev Cert.BankDwIdeal.nD) → Buf (Elt Ideal) ((c.tc : Thread Cert.BankDwIdeal.nD Cert.BankDwIdeal.τ).loc Cert.BankDwIdeal.main_v0)),
      θ_run (Cert.BankDwIdeal.defs (F := Ideal)) (onTc (τ := Cert.BankDwIdeal.τ) (Cert.BankDwIdeal.main (F := Ideal))) ⟨m, fun _ => 0, g⟩ (fun r => ∀ c : Dev Cert.BankDwIdeal.nD,
          r.2.mem ((c.tc : Thread Cert.BankDwIdeal.nD Cert.BankDwIdeal.τ).loc Cert.BankDwIdeal.main_v0) = v0 c
          ∧ r.2.mem ((c.tc : Thread Cert.BankDwIdeal.nD Cert.BankDwIdeal.τ).loc Cert.BankDwIdeal.main_arg0) = m ((c.tc : Thread Cert.BankDwIdeal.nD Cert.BankDwIdeal.τ).loc Cert.BankDwIdeal.main_arg0)
          ∧ r.2.mem ((c.tc : Thread Cert.BankDwIdeal.nD Cert.BankDwIdeal.τ).loc Cert.BankDwIdeal.main_arg1) = m ((c.tc : Thread Cert.BankDwIdeal.nD Cert.BankDwIdeal.τ).loc Cert.BankDwIdeal.main_arg1))
      ∧ θ_run (Cert.BankDwReferenceIdeal.defs (F := Ideal)) (onTc (τ := Cert.BankDwReferenceIdeal.τ) (Cert.BankDwReferenceIdeal.main (F := Ideal))) ⟨m', fun _ => 0, g'⟩ (fun r => ∀ c : Dev Cert.BankDwReferenceIdeal.nD,
          r.2.mem ((c.tc : Thread Cert.BankDwReferenceIdeal.nD Cert.BankDwReferenceIdeal.τ).loc Cert.BankDwReferenceIdeal.main_v3) = v0 c
          ∧ r.2.mem ((c.tc : Thread Cert.BankDwReferenceIdeal.nD Cert.BankDwReferenceIdeal.τ).loc Cert.BankDwReferenceIdeal.main_arg0) = m' ((c.tc : Thread Cert.BankDwReferenceIdeal.nD Cert.BankDwReferenceIdeal.τ).loc Cert.BankDwReferenceIdeal.main_arg0)
          ∧ r.2.mem ((c.tc : Thread Cert.BankDwReferenceIdeal.nD Cert.BankDwReferenceIdeal.τ).loc Cert.BankDwReferenceIdeal.main_arg1) = m' ((c.tc : Thread Cert.BankDwReferenceIdeal.nD Cert.BankDwReferenceIdeal.τ).loc Cert.BankDwReferenceIdeal.main_arg1))

def preserves_GatesFw_GatesFwIdeal : Prop :=
  True

def algebraic_GatesFwIdeal_GatesFwReferenceIdeal [hGatesFwIdeal : Cert.GatesFwIdeal.Facts] [hGatesFwReferenceIdeal : Cert.GatesFwReferenceIdeal.Facts] : Prop :=
  ∀ (m : (ℓ : Loc Cert.GatesFwIdeal.nD Cert.GatesFwIdeal.τ Cert.GatesFwIdeal.sig) → Buf (Elt Ideal) ℓ) (g : Dev Cert.GatesFwIdeal.nD → PrngReg)
    (m' : (ℓ : Loc Cert.GatesFwReferenceIdeal.nD Cert.GatesFwReferenceIdeal.τ Cert.GatesFwReferenceIdeal.sig) → Buf (Elt Ideal) ℓ) (g' : Dev Cert.GatesFwReferenceIdeal.nD → PrngReg), Pre_GatesFwIdeal m →
    (∀ c : Dev Cert.GatesFwIdeal.nD,
      m' ((c.tc : Thread Cert.GatesFwReferenceIdeal.nD Cert.GatesFwReferenceIdeal.τ).loc Cert.GatesFwReferenceIdeal.main_arg0) = m ((c.tc : Thread Cert.GatesFwIdeal.nD Cert.GatesFwIdeal.τ).loc Cert.GatesFwIdeal.main_arg0)
      ∧ m' ((c.tc : Thread Cert.GatesFwReferenceIdeal.nD Cert.GatesFwReferenceIdeal.τ).loc Cert.GatesFwReferenceIdeal.main_arg1) = m ((c.tc : Thread Cert.GatesFwIdeal.nD Cert.GatesFwIdeal.τ).loc Cert.GatesFwIdeal.main_arg1)) →
    ∃ (v0 : (c : Dev Cert.GatesFwIdeal.nD) → Buf (Elt Ideal) ((c.tc : Thread Cert.GatesFwIdeal.nD Cert.GatesFwIdeal.τ).loc Cert.GatesFwIdeal.main_v2)),
      θ_run (Cert.GatesFwIdeal.defs (F := Ideal)) (onTc (τ := Cert.GatesFwIdeal.τ) (Cert.GatesFwIdeal.main (F := Ideal))) ⟨m, fun _ => 0, g⟩ (fun r => ∀ c : Dev Cert.GatesFwIdeal.nD,
          r.2.mem ((c.tc : Thread Cert.GatesFwIdeal.nD Cert.GatesFwIdeal.τ).loc Cert.GatesFwIdeal.main_v2) = v0 c
          ∧ r.2.mem ((c.tc : Thread Cert.GatesFwIdeal.nD Cert.GatesFwIdeal.τ).loc Cert.GatesFwIdeal.main_arg0) = m ((c.tc : Thread Cert.GatesFwIdeal.nD Cert.GatesFwIdeal.τ).loc Cert.GatesFwIdeal.main_arg0)
          ∧ r.2.mem ((c.tc : Thread Cert.GatesFwIdeal.nD Cert.GatesFwIdeal.τ).loc Cert.GatesFwIdeal.main_arg1) = m ((c.tc : Thread Cert.GatesFwIdeal.nD Cert.GatesFwIdeal.τ).loc Cert.GatesFwIdeal.main_arg1))
      ∧ θ_run (Cert.GatesFwReferenceIdeal.defs (F := Ideal)) (onTc (τ := Cert.GatesFwReferenceIdeal.τ) (Cert.GatesFwReferenceIdeal.main (F := Ideal))) ⟨m', fun _ => 0, g'⟩ (fun r => ∀ c : Dev Cert.GatesFwReferenceIdeal.nD,
          r.2.mem ((c.tc : Thread Cert.GatesFwReferenceIdeal.nD Cert.GatesFwReferenceIdeal.τ).loc Cert.GatesFwReferenceIdeal.main_v0) = v0 c
          ∧ r.2.mem ((c.tc : Thread Cert.GatesFwReferenceIdeal.nD Cert.GatesFwReferenceIdeal.τ).loc Cert.GatesFwReferenceIdeal.main_arg0) = m' ((c.tc : Thread Cert.GatesFwReferenceIdeal.nD Cert.GatesFwReferenceIdeal.τ).loc Cert.GatesFwReferenceIdeal.main_arg0)
          ∧ r.2.mem ((c.tc : Thread Cert.GatesFwReferenceIdeal.nD Cert.GatesFwReferenceIdeal.τ).loc Cert.GatesFwReferenceIdeal.main_arg1) = m' ((c.tc : Thread Cert.GatesFwReferenceIdeal.nD Cert.GatesFwReferenceIdeal.τ).loc Cert.GatesFwReferenceIdeal.main_arg1))

def preserves_GatesDx_GatesDxIdeal : Prop :=
  True

def algebraic_GatesDxIdeal_GatesDxReferenceIdeal [hGatesDxIdeal : Cert.GatesDxIdeal.Facts] [hGatesDxReferenceIdeal : Cert.GatesDxReferenceIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg)
    (m' : (ℓ : Loc Cert.GatesDxReferenceIdeal.nD Cert.GatesDxReferenceIdeal.τ Cert.GatesDxReferenceIdeal.sig) → Buf (Elt Ideal) ℓ) (g' : Dev Cert.GatesDxReferenceIdeal.nD → PrngReg), Pre_GatesDxIdeal m →
    (∀ c : Dev Cert.GatesDxIdeal.nD,
      m' ((c.tc : Thread Cert.GatesDxReferenceIdeal.nD Cert.GatesDxReferenceIdeal.τ).loc Cert.GatesDxReferenceIdeal.main_arg0) = m ((c.tc : Thread Cert.GatesDxIdeal.nD Cert.GatesDxIdeal.τ).loc Cert.GatesDxIdeal.main_arg0)
      ∧ m' ((c.tc : Thread Cert.GatesDxReferenceIdeal.nD Cert.GatesDxReferenceIdeal.τ).loc Cert.GatesDxReferenceIdeal.main_arg1) = m ((c.tc : Thread Cert.GatesDxIdeal.nD Cert.GatesDxIdeal.τ).loc Cert.GatesDxIdeal.main_arg1)
      ∧ m' ((c.tc : Thread Cert.GatesDxReferenceIdeal.nD Cert.GatesDxReferenceIdeal.τ).loc Cert.GatesDxReferenceIdeal.main_arg2) = m ((c.tc : Thread Cert.GatesDxIdeal.nD Cert.GatesDxIdeal.τ).loc Cert.GatesDxIdeal.main_arg2)) →
    ∃ (v0 : (c : Dev Cert.GatesDxIdeal.nD) → Buf (Elt Ideal) ((c.tc : Thread Cert.GatesDxIdeal.nD Cert.GatesDxIdeal.τ).loc Cert.GatesDxIdeal.main_v1)),
      θ_run (Cert.GatesDxIdeal.defs (F := Ideal)) (onTc (τ := Cert.GatesDxIdeal.τ) (Cert.GatesDxIdeal.main (F := Ideal))) ⟨m, fun _ => 0, g⟩ (fun r => ∀ c : Dev Cert.GatesDxIdeal.nD,
          r.2.mem ((c.tc : Thread Cert.GatesDxIdeal.nD Cert.GatesDxIdeal.τ).loc Cert.GatesDxIdeal.main_v1) = v0 c
          ∧ r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
          ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
          ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2))
      ∧ θ_run (Cert.GatesDxReferenceIdeal.defs (F := Ideal)) (onTc (τ := Cert.GatesDxReferenceIdeal.τ) (Cert.GatesDxReferenceIdeal.main (F := Ideal))) ⟨m', fun _ => 0, g'⟩ (fun r => ∀ c : Dev Cert.GatesDxReferenceIdeal.nD,
          r.2.mem ((c.tc : Thread Cert.GatesDxReferenceIdeal.nD Cert.GatesDxReferenceIdeal.τ).loc Cert.GatesDxReferenceIdeal.main_v3) = v0 c
          ∧ r.2.mem ((c.tc : Thread Cert.GatesDxReferenceIdeal.nD Cert.GatesDxReferenceIdeal.τ).loc Cert.GatesDxReferenceIdeal.main_arg0) = m' ((c.tc : Thread Cert.GatesDxReferenceIdeal.nD Cert.GatesDxReferenceIdeal.τ).loc Cert.GatesDxReferenceIdeal.main_arg0)
          ∧ r.2.mem ((c.tc : Thread Cert.GatesDxReferenceIdeal.nD Cert.GatesDxReferenceIdeal.τ).loc Cert.GatesDxReferenceIdeal.main_arg1) = m' ((c.tc : Thread Cert.GatesDxReferenceIdeal.nD Cert.GatesDxReferenceIdeal.τ).loc Cert.GatesDxReferenceIdeal.main_arg1)
          ∧ r.2.mem ((c.tc : Thread Cert.GatesDxReferenceIdeal.nD Cert.GatesDxReferenceIdeal.τ).loc Cert.GatesDxReferenceIdeal.main_arg2) = m' ((c.tc : Thread Cert.GatesDxReferenceIdeal.nD Cert.GatesDxReferenceIdeal.τ).loc Cert.GatesDxReferenceIdeal.main_arg2))

def preserves_GatesDw_GatesDwIdeal : Prop :=
  True

def algebraic_GatesDwIdeal_GatesDwReferenceIdeal [hGatesDwIdeal : Cert.GatesDwIdeal.Facts] [hGatesDwReferenceIdeal : Cert.GatesDwReferenceIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesDwReferenceIdeal.nD Cert.GatesDwReferenceIdeal.τ Cert.GatesDwReferenceIdeal.sig) → Buf (Elt Ideal) ℓ) (g' : Dev Cert.GatesDwReferenceIdeal.nD → PrngReg), Pre_GatesDwIdeal m →
    (∀ c : Dev Cert.GatesDwIdeal.nD,
      m' ((c.tc : Thread Cert.GatesDwReferenceIdeal.nD Cert.GatesDwReferenceIdeal.τ).loc Cert.GatesDwReferenceIdeal.main_arg0) = m ((c.tc : Thread Cert.GatesDwIdeal.nD Cert.GatesDwIdeal.τ).loc Cert.GatesDwIdeal.main_arg0)
      ∧ m' ((c.tc : Thread Cert.GatesDwReferenceIdeal.nD Cert.GatesDwReferenceIdeal.τ).loc Cert.GatesDwReferenceIdeal.main_arg1) = m ((c.tc : Thread Cert.GatesDwIdeal.nD Cert.GatesDwIdeal.τ).loc Cert.GatesDwIdeal.main_arg1)) →
    ∃ (v0 : (c : Dev Cert.GatesDwIdeal.nD) → Buf (Elt Ideal) ((c.tc : Thread Cert.GatesDwIdeal.nD Cert.GatesDwIdeal.τ).loc Cert.GatesDwIdeal.main_v1)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v1) = v0 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ θ_run (Cert.GatesDwReferenceIdeal.defs (F := Ideal)) (onTc (τ := Cert.GatesDwReferenceIdeal.τ) (Cert.GatesDwReferenceIdeal.main (F := Ideal))) ⟨m', fun _ => 0, g'⟩ (fun r => ∀ c : Dev Cert.GatesDwReferenceIdeal.nD,
          r.2.mem ((c.tc : Thread Cert.GatesDwReferenceIdeal.nD Cert.GatesDwReferenceIdeal.τ).loc Cert.GatesDwReferenceIdeal.main_v3) = v0 c
          ∧ r.2.mem ((c.tc : Thread Cert.GatesDwReferenceIdeal.nD Cert.GatesDwReferenceIdeal.τ).loc Cert.GatesDwReferenceIdeal.main_arg0) = m' ((c.tc : Thread Cert.GatesDwReferenceIdeal.nD Cert.GatesDwReferenceIdeal.τ).loc Cert.GatesDwReferenceIdeal.main_arg0)
          ∧ r.2.mem ((c.tc : Thread Cert.GatesDwReferenceIdeal.nD Cert.GatesDwReferenceIdeal.τ).loc Cert.GatesDwReferenceIdeal.main_arg1) = m' ((c.tc : Thread Cert.GatesDwReferenceIdeal.nD Cert.GatesDwReferenceIdeal.τ).loc Cert.GatesDwReferenceIdeal.main_arg1))

def preserves_ConvFw_ConvFwIdeal : Prop :=
  True

def algebraic_ConvFwIdeal_ConvFwReferenceIdeal [hConvFwIdeal : Cert.ConvFwIdeal.Facts] [hConvFwReferenceIdeal : Cert.ConvFwReferenceIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg)
    (m' : (ℓ : Loc Cert.ConvFwReferenceIdeal.nD Cert.ConvFwReferenceIdeal.τ Cert.ConvFwReferenceIdeal.sig) → Buf (Elt Ideal) ℓ) (g' : Dev Cert.ConvFwReferenceIdeal.nD → PrngReg), Pre_ConvFwIdeal m →
    (∀ c : Dev Cert.ConvFwIdeal.nD,
      m' ((c.tc : Thread Cert.ConvFwReferenceIdeal.nD Cert.ConvFwReferenceIdeal.τ).loc Cert.ConvFwReferenceIdeal.main_arg0) = m ((c.tc : Thread Cert.ConvFwIdeal.nD Cert.ConvFwIdeal.τ).loc Cert.ConvFwIdeal.main_arg0)
      ∧ m' ((c.tc : Thread Cert.ConvFwReferenceIdeal.nD Cert.ConvFwReferenceIdeal.τ).loc Cert.ConvFwReferenceIdeal.main_arg1) = m ((c.tc : Thread Cert.ConvFwIdeal.nD Cert.ConvFwIdeal.τ).loc Cert.ConvFwIdeal.main_arg1)) →
    ∃ (v0 : (c : Dev Cert.ConvFwIdeal.nD) → Buf (Elt Ideal) ((c.tc : Thread Cert.ConvFwIdeal.nD Cert.ConvFwIdeal.τ).loc Cert.ConvFwIdeal.main_v2)),
      θ_run (Cert.ConvFwIdeal.defs (F := Ideal)) (onTc (τ := Cert.ConvFwIdeal.τ) (Cert.ConvFwIdeal.main (F := Ideal))) ⟨m, fun _ => 0, g⟩ (fun r => ∀ c : Dev Cert.ConvFwIdeal.nD,
          r.2.mem ((c.tc : Thread Cert.ConvFwIdeal.nD Cert.ConvFwIdeal.τ).loc Cert.ConvFwIdeal.main_v2) = v0 c
          ∧ r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
          ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ θ_run (Cert.ConvFwReferenceIdeal.defs (F := Ideal)) (onTc (τ := Cert.ConvFwReferenceIdeal.τ) (Cert.ConvFwReferenceIdeal.main (F := Ideal))) ⟨m', fun _ => 0, g'⟩ (fun r => ∀ c : Dev Cert.ConvFwReferenceIdeal.nD,
          r.2.mem ((c.tc : Thread Cert.ConvFwReferenceIdeal.nD Cert.ConvFwReferenceIdeal.τ).loc Cert.ConvFwReferenceIdeal.main_v0) = v0 c
          ∧ r.2.mem ((c.tc : Thread Cert.ConvFwReferenceIdeal.nD Cert.ConvFwReferenceIdeal.τ).loc Cert.ConvFwReferenceIdeal.main_arg0) = m' ((c.tc : Thread Cert.ConvFwReferenceIdeal.nD Cert.ConvFwReferenceIdeal.τ).loc Cert.ConvFwReferenceIdeal.main_arg0)
          ∧ r.2.mem ((c.tc : Thread Cert.ConvFwReferenceIdeal.nD Cert.ConvFwReferenceIdeal.τ).loc Cert.ConvFwReferenceIdeal.main_arg1) = m' ((c.tc : Thread Cert.ConvFwReferenceIdeal.nD Cert.ConvFwReferenceIdeal.τ).loc Cert.ConvFwReferenceIdeal.main_arg1))

def preserves_ConvDx_ConvDxIdeal : Prop :=
  True

def algebraic_ConvDxIdeal_ConvDxReferenceIdeal [hConvDxIdeal : Cert.ConvDxIdeal.Facts] [hConvDxReferenceIdeal : Cert.ConvDxReferenceIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxReferenceIdeal.nD Cert.ConvDxReferenceIdeal.τ Cert.ConvDxReferenceIdeal.sig) → Buf (Elt Ideal) ℓ) (g' : Dev Cert.ConvDxReferenceIdeal.nD → PrngReg), Pre_ConvDxIdeal m →
    (∀ c : Dev Cert.ConvDxIdeal.nD,
      m' ((c.tc : Thread Cert.ConvDxReferenceIdeal.nD Cert.ConvDxReferenceIdeal.τ).loc Cert.ConvDxReferenceIdeal.main_arg0) = m ((c.tc : Thread Cert.ConvDxIdeal.nD Cert.ConvDxIdeal.τ).loc Cert.ConvDxIdeal.main_arg0)
      ∧ m' ((c.tc : Thread Cert.ConvDxReferenceIdeal.nD Cert.ConvDxReferenceIdeal.τ).loc Cert.ConvDxReferenceIdeal.main_arg1) = m ((c.tc : Thread Cert.ConvDxIdeal.nD Cert.ConvDxIdeal.τ).loc Cert.ConvDxIdeal.main_arg1)
      ∧ m' ((c.tc : Thread Cert.ConvDxReferenceIdeal.nD Cert.ConvDxReferenceIdeal.τ).loc Cert.ConvDxReferenceIdeal.main_arg2) = m ((c.tc : Thread Cert.ConvDxIdeal.nD Cert.ConvDxIdeal.τ).loc Cert.ConvDxIdeal.main_arg2)) →
    ∃ (v0 : (c : Dev Cert.ConvDxIdeal.nD) → Buf (Elt Ideal) ((c.tc : Thread Cert.ConvDxIdeal.nD Cert.ConvDxIdeal.τ).loc Cert.ConvDxIdeal.main_v1)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v1) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
          ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2))
      ∧ θ_run (Cert.ConvDxReferenceIdeal.defs (F := Ideal)) (onTc (τ := Cert.ConvDxReferenceIdeal.τ) (Cert.ConvDxReferenceIdeal.main (F := Ideal))) ⟨m', fun _ => 0, g'⟩ (fun r => ∀ c : Dev Cert.ConvDxReferenceIdeal.nD,
          r.2.mem ((c.tc : Thread Cert.ConvDxReferenceIdeal.nD Cert.ConvDxReferenceIdeal.τ).loc Cert.ConvDxReferenceIdeal.main_v3) = v0 c
          ∧ r.2.mem ((c.tc : Thread Cert.ConvDxReferenceIdeal.nD Cert.ConvDxReferenceIdeal.τ).loc Cert.ConvDxReferenceIdeal.main_arg0) = m' ((c.tc : Thread Cert.ConvDxReferenceIdeal.nD Cert.ConvDxReferenceIdeal.τ).loc Cert.ConvDxReferenceIdeal.main_arg0)
          ∧ r.2.mem ((c.tc : Thread Cert.ConvDxReferenceIdeal.nD Cert.ConvDxReferenceIdeal.τ).loc Cert.ConvDxReferenceIdeal.main_arg1) = m' ((c.tc : Thread Cert.ConvDxReferenceIdeal.nD Cert.ConvDxReferenceIdeal.τ).loc Cert.ConvDxReferenceIdeal.main_arg1)
          ∧ r.2.mem ((c.tc : Thread Cert.ConvDxReferenceIdeal.nD Cert.ConvDxReferenceIdeal.τ).loc Cert.ConvDxReferenceIdeal.main_arg2) = m' ((c.tc : Thread Cert.ConvDxReferenceIdeal.nD Cert.ConvDxReferenceIdeal.τ).loc Cert.ConvDxReferenceIdeal.main_arg2))

def preserves_ConvDw_ConvDwIdeal : Prop :=
  True

def algebraic_ConvDwIdeal_ConvDwReferenceIdeal [hConvDwIdeal : Cert.ConvDwIdeal.Facts] [hConvDwReferenceIdeal : Cert.ConvDwReferenceIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg)
    (m' : (ℓ : Loc Cert.ConvDwReferenceIdeal.nD Cert.ConvDwReferenceIdeal.τ Cert.ConvDwReferenceIdeal.sig) → Buf (Elt Ideal) ℓ) (g' : Dev Cert.ConvDwReferenceIdeal.nD → PrngReg), Pre_ConvDwIdeal m →
    (∀ c : Dev Cert.ConvDwIdeal.nD,
      m' ((c.tc : Thread Cert.ConvDwReferenceIdeal.nD Cert.ConvDwReferenceIdeal.τ).loc Cert.ConvDwReferenceIdeal.main_arg0) = m ((c.tc : Thread Cert.ConvDwIdeal.nD Cert.ConvDwIdeal.τ).loc Cert.ConvDwIdeal.main_arg0)
      ∧ m' ((c.tc : Thread Cert.ConvDwReferenceIdeal.nD Cert.ConvDwReferenceIdeal.τ).loc Cert.ConvDwReferenceIdeal.main_arg1) = m ((c.tc : Thread Cert.ConvDwIdeal.nD Cert.ConvDwIdeal.τ).loc Cert.ConvDwIdeal.main_arg1)) →
    ∃ (v0 : (c : Dev Cert.ConvDwIdeal.nD) → Buf (Elt Ideal) ((c.tc : Thread Cert.ConvDwIdeal.nD Cert.ConvDwIdeal.τ).loc Cert.ConvDwIdeal.main_v1)),
      θ_run (Cert.ConvDwIdeal.defs (F := Ideal)) (onTc (τ := Cert.ConvDwIdeal.τ) (Cert.ConvDwIdeal.main (F := Ideal))) ⟨m, fun _ => 0, g⟩ (fun r => ∀ c : Dev Cert.ConvDwIdeal.nD,
          r.2.mem ((c.tc : Thread Cert.ConvDwIdeal.nD Cert.ConvDwIdeal.τ).loc Cert.ConvDwIdeal.main_v1) = v0 c
          ∧ r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
          ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ θ_run (Cert.ConvDwReferenceIdeal.defs (F := Ideal)) (onTc (τ := Cert.ConvDwReferenceIdeal.τ) (Cert.ConvDwReferenceIdeal.main (F := Ideal))) ⟨m', fun _ => 0, g'⟩ (fun r => ∀ c : Dev Cert.ConvDwReferenceIdeal.nD,
          r.2.mem ((c.tc : Thread Cert.ConvDwReferenceIdeal.nD Cert.ConvDwReferenceIdeal.τ).loc Cert.ConvDwReferenceIdeal.main_v3) = v0 c
          ∧ r.2.mem ((c.tc : Thread Cert.ConvDwReferenceIdeal.nD Cert.ConvDwReferenceIdeal.τ).loc Cert.ConvDwReferenceIdeal.main_arg0) = m' ((c.tc : Thread Cert.ConvDwReferenceIdeal.nD Cert.ConvDwReferenceIdeal.τ).loc Cert.ConvDwReferenceIdeal.main_arg0)
          ∧ r.2.mem ((c.tc : Thread Cert.ConvDwReferenceIdeal.nD Cert.ConvDwReferenceIdeal.τ).loc Cert.ConvDwReferenceIdeal.main_arg1) = m' ((c.tc : Thread Cert.ConvDwReferenceIdeal.nD Cert.ConvDwReferenceIdeal.τ).loc Cert.ConvDwReferenceIdeal.main_arg1))

def preserves_PartFw_PartFwIdeal : Prop :=
  True

def algebraic_PartFwIdeal_PartFwReferenceIdeal [hPartFwIdeal : Cert.PartFwIdeal.Facts] [hPartFwReferenceIdeal : Cert.PartFwReferenceIdeal.Facts] : Prop :=
  ∀ (m : (ℓ : Loc Cert.PartFwIdeal.nD Cert.PartFwIdeal.τ Cert.PartFwIdeal.sig) → Buf (Elt Ideal) ℓ) (g : Dev Cert.PartFwIdeal.nD → PrngReg)
    (m' : (ℓ : Loc Cert.PartFwReferenceIdeal.nD Cert.PartFwReferenceIdeal.τ Cert.PartFwReferenceIdeal.sig) → Buf (Elt Ideal) ℓ) (g' : Dev Cert.PartFwReferenceIdeal.nD → PrngReg), Pre_PartFwIdeal m →
    (∀ c : Dev Cert.PartFwIdeal.nD,
      m' ((c.tc : Thread Cert.PartFwReferenceIdeal.nD Cert.PartFwReferenceIdeal.τ).loc Cert.PartFwReferenceIdeal.main_arg0) = m ((c.tc : Thread Cert.PartFwIdeal.nD Cert.PartFwIdeal.τ).loc Cert.PartFwIdeal.main_arg0)
      ∧ m' ((c.tc : Thread Cert.PartFwReferenceIdeal.nD Cert.PartFwReferenceIdeal.τ).loc Cert.PartFwReferenceIdeal.main_arg1) = m ((c.tc : Thread Cert.PartFwIdeal.nD Cert.PartFwIdeal.τ).loc Cert.PartFwIdeal.main_arg1)) →
    ∃ (v0 : (c : Dev Cert.PartFwIdeal.nD) → Buf (Elt Ideal) ((c.tc : Thread Cert.PartFwIdeal.nD Cert.PartFwIdeal.τ).loc Cert.PartFwIdeal.main_v2)),
      θ_run (Cert.PartFwIdeal.defs (F := Ideal)) (onTc (τ := Cert.PartFwIdeal.τ) (Cert.PartFwIdeal.main (F := Ideal))) ⟨m, fun _ => 0, g⟩ (fun r => ∀ c : Dev Cert.PartFwIdeal.nD,
          r.2.mem ((c.tc : Thread Cert.PartFwIdeal.nD Cert.PartFwIdeal.τ).loc Cert.PartFwIdeal.main_v2) = v0 c
          ∧ r.2.mem ((c.tc : Thread Cert.PartFwIdeal.nD Cert.PartFwIdeal.τ).loc Cert.PartFwIdeal.main_arg0) = m ((c.tc : Thread Cert.PartFwIdeal.nD Cert.PartFwIdeal.τ).loc Cert.PartFwIdeal.main_arg0)
          ∧ r.2.mem ((c.tc : Thread Cert.PartFwIdeal.nD Cert.PartFwIdeal.τ).loc Cert.PartFwIdeal.main_arg1) = m ((c.tc : Thread Cert.PartFwIdeal.nD Cert.PartFwIdeal.τ).loc Cert.PartFwIdeal.main_arg1))
      ∧ θ_run (Cert.PartFwReferenceIdeal.defs (F := Ideal)) (onTc (τ := Cert.PartFwReferenceIdeal.τ) (Cert.PartFwReferenceIdeal.main (F := Ideal))) ⟨m', fun _ => 0, g'⟩ (fun r => ∀ c : Dev Cert.PartFwReferenceIdeal.nD,
          r.2.mem ((c.tc : Thread Cert.PartFwReferenceIdeal.nD Cert.PartFwReferenceIdeal.τ).loc Cert.PartFwReferenceIdeal.main_v0) = v0 c
          ∧ r.2.mem ((c.tc : Thread Cert.PartFwReferenceIdeal.nD Cert.PartFwReferenceIdeal.τ).loc Cert.PartFwReferenceIdeal.main_arg0) = m' ((c.tc : Thread Cert.PartFwReferenceIdeal.nD Cert.PartFwReferenceIdeal.τ).loc Cert.PartFwReferenceIdeal.main_arg0)
          ∧ r.2.mem ((c.tc : Thread Cert.PartFwReferenceIdeal.nD Cert.PartFwReferenceIdeal.τ).loc Cert.PartFwReferenceIdeal.main_arg1) = m' ((c.tc : Thread Cert.PartFwReferenceIdeal.nD Cert.PartFwReferenceIdeal.τ).loc Cert.PartFwReferenceIdeal.main_arg1))

def preserves_PartDx_PartDxIdeal : Prop :=
  True

def algebraic_PartDxIdeal_PartDxReferenceIdeal [hPartDxIdeal : Cert.PartDxIdeal.Facts] [hPartDxReferenceIdeal : Cert.PartDxReferenceIdeal.Facts] : Prop :=
  ∀ (m : (ℓ : Loc Cert.PartDxIdeal.nD Cert.PartDxIdeal.τ Cert.PartDxIdeal.sig) → Buf (Elt Ideal) ℓ) (g : Dev Cert.PartDxIdeal.nD → PrngReg)
    (m' : (ℓ : Loc Cert.PartDxReferenceIdeal.nD Cert.PartDxReferenceIdeal.τ Cert.PartDxReferenceIdeal.sig) → Buf (Elt Ideal) ℓ) (g' : Dev Cert.PartDxReferenceIdeal.nD → PrngReg), Pre_PartDxIdeal m →
    (∀ c : Dev Cert.PartDxIdeal.nD,
      m' ((c.tc : Thread Cert.PartDxReferenceIdeal.nD Cert.PartDxReferenceIdeal.τ).loc Cert.PartDxReferenceIdeal.main_arg0) = m ((c.tc : Thread Cert.PartDxIdeal.nD Cert.PartDxIdeal.τ).loc Cert.PartDxIdeal.main_arg0)
      ∧ m' ((c.tc : Thread Cert.PartDxReferenceIdeal.nD Cert.PartDxReferenceIdeal.τ).loc Cert.PartDxReferenceIdeal.main_arg1) = m ((c.tc : Thread Cert.PartDxIdeal.nD Cert.PartDxIdeal.τ).loc Cert.PartDxIdeal.main_arg1)
      ∧ m' ((c.tc : Thread Cert.PartDxReferenceIdeal.nD Cert.PartDxReferenceIdeal.τ).loc Cert.PartDxReferenceIdeal.main_arg2) = m ((c.tc : Thread Cert.PartDxIdeal.nD Cert.PartDxIdeal.τ).loc Cert.PartDxIdeal.main_arg2)) →
    ∃ (v0 : (c : Dev Cert.PartDxIdeal.nD) → Buf (Elt Ideal) ((c.tc : Thread Cert.PartDxIdeal.nD Cert.PartDxIdeal.τ).loc Cert.PartDxIdeal.main_v1)),
      θ_run (Cert.PartDxIdeal.defs (F := Ideal)) (onTc (τ := Cert.PartDxIdeal.τ) (Cert.PartDxIdeal.main (F := Ideal))) ⟨m, fun _ => 0, g⟩ (fun r => ∀ c : Dev Cert.PartDxIdeal.nD,
          r.2.mem ((c.tc : Thread Cert.PartDxIdeal.nD Cert.PartDxIdeal.τ).loc Cert.PartDxIdeal.main_v1) = v0 c
          ∧ r.2.mem ((c.tc : Thread Cert.PartDxIdeal.nD Cert.PartDxIdeal.τ).loc Cert.PartDxIdeal.main_arg0) = m ((c.tc : Thread Cert.PartDxIdeal.nD Cert.PartDxIdeal.τ).loc Cert.PartDxIdeal.main_arg0)
          ∧ r.2.mem ((c.tc : Thread Cert.PartDxIdeal.nD Cert.PartDxIdeal.τ).loc Cert.PartDxIdeal.main_arg1) = m ((c.tc : Thread Cert.PartDxIdeal.nD Cert.PartDxIdeal.τ).loc Cert.PartDxIdeal.main_arg1)
          ∧ r.2.mem ((c.tc : Thread Cert.PartDxIdeal.nD Cert.PartDxIdeal.τ).loc Cert.PartDxIdeal.main_arg2) = m ((c.tc : Thread Cert.PartDxIdeal.nD Cert.PartDxIdeal.τ).loc Cert.PartDxIdeal.main_arg2))
      ∧ θ_run (Cert.PartDxReferenceIdeal.defs (F := Ideal)) (onTc (τ := Cert.PartDxReferenceIdeal.τ) (Cert.PartDxReferenceIdeal.main (F := Ideal))) ⟨m', fun _ => 0, g'⟩ (fun r => ∀ c : Dev Cert.PartDxReferenceIdeal.nD,
          r.2.mem ((c.tc : Thread Cert.PartDxReferenceIdeal.nD Cert.PartDxReferenceIdeal.τ).loc Cert.PartDxReferenceIdeal.main_v3) = v0 c
          ∧ r.2.mem ((c.tc : Thread Cert.PartDxReferenceIdeal.nD Cert.PartDxReferenceIdeal.τ).loc Cert.PartDxReferenceIdeal.main_arg0) = m' ((c.tc : Thread Cert.PartDxReferenceIdeal.nD Cert.PartDxReferenceIdeal.τ).loc Cert.PartDxReferenceIdeal.main_arg0)
          ∧ r.2.mem ((c.tc : Thread Cert.PartDxReferenceIdeal.nD Cert.PartDxReferenceIdeal.τ).loc Cert.PartDxReferenceIdeal.main_arg1) = m' ((c.tc : Thread Cert.PartDxReferenceIdeal.nD Cert.PartDxReferenceIdeal.τ).loc Cert.PartDxReferenceIdeal.main_arg1)
          ∧ r.2.mem ((c.tc : Thread Cert.PartDxReferenceIdeal.nD Cert.PartDxReferenceIdeal.τ).loc Cert.PartDxReferenceIdeal.main_arg2) = m' ((c.tc : Thread Cert.PartDxReferenceIdeal.nD Cert.PartDxReferenceIdeal.τ).loc Cert.PartDxReferenceIdeal.main_arg2))

def preserves_PartDw_PartDwIdeal : Prop :=
  True

def algebraic_PartDwIdeal_PartDwReferenceIdeal [hPartDwIdeal : Cert.PartDwIdeal.Facts] [hPartDwReferenceIdeal : Cert.PartDwReferenceIdeal.Facts] : Prop :=
  ∀ (m : (ℓ : Loc Cert.PartDwIdeal.nD Cert.PartDwIdeal.τ Cert.PartDwIdeal.sig) → Buf (Elt Ideal) ℓ) (g : Dev Cert.PartDwIdeal.nD → PrngReg)
    (m' : (ℓ : Loc Cert.PartDwReferenceIdeal.nD Cert.PartDwReferenceIdeal.τ Cert.PartDwReferenceIdeal.sig) → Buf (Elt Ideal) ℓ) (g' : Dev Cert.PartDwReferenceIdeal.nD → PrngReg), Pre_PartDwIdeal m →
    (∀ c : Dev Cert.PartDwIdeal.nD,
      m' ((c.tc : Thread Cert.PartDwReferenceIdeal.nD Cert.PartDwReferenceIdeal.τ).loc Cert.PartDwReferenceIdeal.main_arg0) = m ((c.tc : Thread Cert.PartDwIdeal.nD Cert.PartDwIdeal.τ).loc Cert.PartDwIdeal.main_arg0)
      ∧ m' ((c.tc : Thread Cert.PartDwReferenceIdeal.nD Cert.PartDwReferenceIdeal.τ).loc Cert.PartDwReferenceIdeal.main_arg1) = m ((c.tc : Thread Cert.PartDwIdeal.nD Cert.PartDwIdeal.τ).loc Cert.PartDwIdeal.main_arg1)) →
    ∃ (v0 : (c : Dev Cert.PartDwIdeal.nD) → Buf (Elt Ideal) ((c.tc : Thread Cert.PartDwIdeal.nD Cert.PartDwIdeal.τ).loc Cert.PartDwIdeal.main_v1)),
      θ_run (Cert.PartDwIdeal.defs (F := Ideal)) (onTc (τ := Cert.PartDwIdeal.τ) (Cert.PartDwIdeal.main (F := Ideal))) ⟨m, fun _ => 0, g⟩ (fun r => ∀ c : Dev Cert.PartDwIdeal.nD,
          r.2.mem ((c.tc : Thread Cert.PartDwIdeal.nD Cert.PartDwIdeal.τ).loc Cert.PartDwIdeal.main_v1) = v0 c
          ∧ r.2.mem ((c.tc : Thread Cert.PartDwIdeal.nD Cert.PartDwIdeal.τ).loc Cert.PartDwIdeal.main_arg0) = m ((c.tc : Thread Cert.PartDwIdeal.nD Cert.PartDwIdeal.τ).loc Cert.PartDwIdeal.main_arg0)
          ∧ r.2.mem ((c.tc : Thread Cert.PartDwIdeal.nD Cert.PartDwIdeal.τ).loc Cert.PartDwIdeal.main_arg1) = m ((c.tc : Thread Cert.PartDwIdeal.nD Cert.PartDwIdeal.τ).loc Cert.PartDwIdeal.main_arg1))
      ∧ θ_run (Cert.PartDwReferenceIdeal.defs (F := Ideal)) (onTc (τ := Cert.PartDwReferenceIdeal.τ) (Cert.PartDwReferenceIdeal.main (F := Ideal))) ⟨m', fun _ => 0, g'⟩ (fun r => ∀ c : Dev Cert.PartDwReferenceIdeal.nD,
          r.2.mem ((c.tc : Thread Cert.PartDwReferenceIdeal.nD Cert.PartDwReferenceIdeal.τ).loc Cert.PartDwReferenceIdeal.main_v3) = v0 c
          ∧ r.2.mem ((c.tc : Thread Cert.PartDwReferenceIdeal.nD Cert.PartDwReferenceIdeal.τ).loc Cert.PartDwReferenceIdeal.main_arg0) = m' ((c.tc : Thread Cert.PartDwReferenceIdeal.nD Cert.PartDwReferenceIdeal.τ).loc Cert.PartDwReferenceIdeal.main_arg0)
          ∧ r.2.mem ((c.tc : Thread Cert.PartDwReferenceIdeal.nD Cert.PartDwReferenceIdeal.τ).loc Cert.PartDwReferenceIdeal.main_arg1) = m' ((c.tc : Thread Cert.PartDwReferenceIdeal.nD Cert.PartDwReferenceIdeal.τ).loc Cert.PartDwReferenceIdeal.main_arg1))

def preserves_LogitsFw_LogitsFwIdeal : Prop :=
  True

def algebraic_LogitsFwIdeal_LogitsFwReferenceIdeal [hLogitsFwIdeal : Cert.LogitsFwIdeal.Facts] [hLogitsFwReferenceIdeal : Cert.LogitsFwReferenceIdeal.Facts] : Prop :=
  ∀ (m : (ℓ : Loc Cert.LogitsFwIdeal.nD Cert.LogitsFwIdeal.τ Cert.LogitsFwIdeal.sig) → Buf (Elt Ideal) ℓ) (g : Dev Cert.LogitsFwIdeal.nD → PrngReg)
    (m' : (ℓ : Loc Cert.LogitsFwReferenceIdeal.nD Cert.LogitsFwReferenceIdeal.τ Cert.LogitsFwReferenceIdeal.sig) → Buf (Elt Ideal) ℓ) (g' : Dev Cert.LogitsFwReferenceIdeal.nD → PrngReg), Pre_LogitsFwIdeal m →
    (∀ c : Dev Cert.LogitsFwIdeal.nD,
      m' ((c.tc : Thread Cert.LogitsFwReferenceIdeal.nD Cert.LogitsFwReferenceIdeal.τ).loc Cert.LogitsFwReferenceIdeal.main_arg0) = m ((c.tc : Thread Cert.LogitsFwIdeal.nD Cert.LogitsFwIdeal.τ).loc Cert.LogitsFwIdeal.main_arg0)
      ∧ m' ((c.tc : Thread Cert.LogitsFwReferenceIdeal.nD Cert.LogitsFwReferenceIdeal.τ).loc Cert.LogitsFwReferenceIdeal.main_arg1) = m ((c.tc : Thread Cert.LogitsFwIdeal.nD Cert.LogitsFwIdeal.τ).loc Cert.LogitsFwIdeal.main_arg1)) →
    ∃ (v0 : (c : Dev Cert.LogitsFwIdeal.nD) → Buf (Elt Ideal) ((c.tc : Thread Cert.LogitsFwIdeal.nD Cert.LogitsFwIdeal.τ).loc Cert.LogitsFwIdeal.main_v2)),
      θ_run (Cert.LogitsFwIdeal.defs (F := Ideal)) (onTc (τ := Cert.LogitsFwIdeal.τ) (Cert.LogitsFwIdeal.main (F := Ideal))) ⟨m, fun _ => 0, g⟩ (fun r => ∀ c : Dev Cert.LogitsFwIdeal.nD,
          r.2.mem ((c.tc : Thread Cert.LogitsFwIdeal.nD Cert.LogitsFwIdeal.τ).loc Cert.LogitsFwIdeal.main_v2) = v0 c
          ∧ r.2.mem ((c.tc : Thread Cert.LogitsFwIdeal.nD Cert.LogitsFwIdeal.τ).loc Cert.LogitsFwIdeal.main_arg0) = m ((c.tc : Thread Cert.LogitsFwIdeal.nD Cert.LogitsFwIdeal.τ).loc Cert.LogitsFwIdeal.main_arg0)
          ∧ r.2.mem ((c.tc : Thread Cert.LogitsFwIdeal.nD Cert.LogitsFwIdeal.τ).loc Cert.LogitsFwIdeal.main_arg1) = m ((c.tc : Thread Cert.LogitsFwIdeal.nD Cert.LogitsFwIdeal.τ).loc Cert.LogitsFwIdeal.main_arg1))
      ∧ θ_run (Cert.LogitsFwReferenceIdeal.defs (F := Ideal)) (onTc (τ := Cert.LogitsFwReferenceIdeal.τ) (Cert.LogitsFwReferenceIdeal.main (F := Ideal))) ⟨m', fun _ => 0, g'⟩ (fun r => ∀ c : Dev Cert.LogitsFwReferenceIdeal.nD,
          r.2.mem ((c.tc : Thread Cert.LogitsFwReferenceIdeal.nD Cert.LogitsFwReferenceIdeal.τ).loc Cert.LogitsFwReferenceIdeal.main_v0) = v0 c
          ∧ r.2.mem ((c.tc : Thread Cert.LogitsFwReferenceIdeal.nD Cert.LogitsFwReferenceIdeal.τ).loc Cert.LogitsFwReferenceIdeal.main_arg0) = m' ((c.tc : Thread Cert.LogitsFwReferenceIdeal.nD Cert.LogitsFwReferenceIdeal.τ).loc Cert.LogitsFwReferenceIdeal.main_arg0)
          ∧ r.2.mem ((c.tc : Thread Cert.LogitsFwReferenceIdeal.nD Cert.LogitsFwReferenceIdeal.τ).loc Cert.LogitsFwReferenceIdeal.main_arg1) = m' ((c.tc : Thread Cert.LogitsFwReferenceIdeal.nD Cert.LogitsFwReferenceIdeal.τ).loc Cert.LogitsFwReferenceIdeal.main_arg1))

def preserves_LogitsDx_LogitsDxIdeal : Prop :=
  True

def algebraic_LogitsDxIdeal_LogitsDxReferenceIdeal [hLogitsDxIdeal : Cert.LogitsDxIdeal.Facts] [hLogitsDxReferenceIdeal : Cert.LogitsDxReferenceIdeal.Facts] : Prop :=
  ∀ (m : (ℓ : Loc Cert.LogitsDxIdeal.nD Cert.LogitsDxIdeal.τ Cert.LogitsDxIdeal.sig) → Buf (Elt Ideal) ℓ) (g : Dev Cert.LogitsDxIdeal.nD → PrngReg)
    (m' : (ℓ : Loc Cert.LogitsDxReferenceIdeal.nD Cert.LogitsDxReferenceIdeal.τ Cert.LogitsDxReferenceIdeal.sig) → Buf (Elt Ideal) ℓ) (g' : Dev Cert.LogitsDxReferenceIdeal.nD → PrngReg), Pre_LogitsDxIdeal m →
    (∀ c : Dev Cert.LogitsDxIdeal.nD,
      m' ((c.tc : Thread Cert.LogitsDxReferenceIdeal.nD Cert.LogitsDxReferenceIdeal.τ).loc Cert.LogitsDxReferenceIdeal.main_arg0) = m ((c.tc : Thread Cert.LogitsDxIdeal.nD Cert.LogitsDxIdeal.τ).loc Cert.LogitsDxIdeal.main_arg0)
      ∧ m' ((c.tc : Thread Cert.LogitsDxReferenceIdeal.nD Cert.LogitsDxReferenceIdeal.τ).loc Cert.LogitsDxReferenceIdeal.main_arg1) = m ((c.tc : Thread Cert.LogitsDxIdeal.nD Cert.LogitsDxIdeal.τ).loc Cert.LogitsDxIdeal.main_arg1)
      ∧ m' ((c.tc : Thread Cert.LogitsDxReferenceIdeal.nD Cert.LogitsDxReferenceIdeal.τ).loc Cert.LogitsDxReferenceIdeal.main_arg2) = m ((c.tc : Thread Cert.LogitsDxIdeal.nD Cert.LogitsDxIdeal.τ).loc Cert.LogitsDxIdeal.main_arg2)) →
    ∃ (v0 : (c : Dev Cert.LogitsDxIdeal.nD) → Buf (Elt Ideal) ((c.tc : Thread Cert.LogitsDxIdeal.nD Cert.LogitsDxIdeal.τ).loc Cert.LogitsDxIdeal.main_v1)),
      θ_run (Cert.LogitsDxIdeal.defs (F := Ideal)) (onTc (τ := Cert.LogitsDxIdeal.τ) (Cert.LogitsDxIdeal.main (F := Ideal))) ⟨m, fun _ => 0, g⟩ (fun r => ∀ c : Dev Cert.LogitsDxIdeal.nD,
          r.2.mem ((c.tc : Thread Cert.LogitsDxIdeal.nD Cert.LogitsDxIdeal.τ).loc Cert.LogitsDxIdeal.main_v1) = v0 c
          ∧ r.2.mem ((c.tc : Thread Cert.LogitsDxIdeal.nD Cert.LogitsDxIdeal.τ).loc Cert.LogitsDxIdeal.main_arg0) = m ((c.tc : Thread Cert.LogitsDxIdeal.nD Cert.LogitsDxIdeal.τ).loc Cert.LogitsDxIdeal.main_arg0)
          ∧ r.2.mem ((c.tc : Thread Cert.LogitsDxIdeal.nD Cert.LogitsDxIdeal.τ).loc Cert.LogitsDxIdeal.main_arg1) = m ((c.tc : Thread Cert.LogitsDxIdeal.nD Cert.LogitsDxIdeal.τ).loc Cert.LogitsDxIdeal.main_arg1)
          ∧ r.2.mem ((c.tc : Thread Cert.LogitsDxIdeal.nD Cert.LogitsDxIdeal.τ).loc Cert.LogitsDxIdeal.main_arg2) = m ((c.tc : Thread Cert.LogitsDxIdeal.nD Cert.LogitsDxIdeal.τ).loc Cert.LogitsDxIdeal.main_arg2))
      ∧ θ_run (Cert.LogitsDxReferenceIdeal.defs (F := Ideal)) (onTc (τ := Cert.LogitsDxReferenceIdeal.τ) (Cert.LogitsDxReferenceIdeal.main (F := Ideal))) ⟨m', fun _ => 0, g'⟩ (fun r => ∀ c : Dev Cert.LogitsDxReferenceIdeal.nD,
          r.2.mem ((c.tc : Thread Cert.LogitsDxReferenceIdeal.nD Cert.LogitsDxReferenceIdeal.τ).loc Cert.LogitsDxReferenceIdeal.main_v3) = v0 c
          ∧ r.2.mem ((c.tc : Thread Cert.LogitsDxReferenceIdeal.nD Cert.LogitsDxReferenceIdeal.τ).loc Cert.LogitsDxReferenceIdeal.main_arg0) = m' ((c.tc : Thread Cert.LogitsDxReferenceIdeal.nD Cert.LogitsDxReferenceIdeal.τ).loc Cert.LogitsDxReferenceIdeal.main_arg0)
          ∧ r.2.mem ((c.tc : Thread Cert.LogitsDxReferenceIdeal.nD Cert.LogitsDxReferenceIdeal.τ).loc Cert.LogitsDxReferenceIdeal.main_arg1) = m' ((c.tc : Thread Cert.LogitsDxReferenceIdeal.nD Cert.LogitsDxReferenceIdeal.τ).loc Cert.LogitsDxReferenceIdeal.main_arg1)
          ∧ r.2.mem ((c.tc : Thread Cert.LogitsDxReferenceIdeal.nD Cert.LogitsDxReferenceIdeal.τ).loc Cert.LogitsDxReferenceIdeal.main_arg2) = m' ((c.tc : Thread Cert.LogitsDxReferenceIdeal.nD Cert.LogitsDxReferenceIdeal.τ).loc Cert.LogitsDxReferenceIdeal.main_arg2))

def preserves_LogitsDw_LogitsDwIdeal : Prop :=
  True

def algebraic_LogitsDwIdeal_LogitsDwReferenceIdeal [hLogitsDwIdeal : Cert.LogitsDwIdeal.Facts] [hLogitsDwReferenceIdeal : Cert.LogitsDwReferenceIdeal.Facts] : Prop :=
  ∀ (m : (ℓ : Loc Cert.LogitsDwIdeal.nD Cert.LogitsDwIdeal.τ Cert.LogitsDwIdeal.sig) → Buf (Elt Ideal) ℓ) (g : Dev Cert.LogitsDwIdeal.nD → PrngReg)
    (m' : (ℓ : Loc Cert.LogitsDwReferenceIdeal.nD Cert.LogitsDwReferenceIdeal.τ Cert.LogitsDwReferenceIdeal.sig) → Buf (Elt Ideal) ℓ) (g' : Dev Cert.LogitsDwReferenceIdeal.nD → PrngReg), Pre_LogitsDwIdeal m →
    (∀ c : Dev Cert.LogitsDwIdeal.nD,
      m' ((c.tc : Thread Cert.LogitsDwReferenceIdeal.nD Cert.LogitsDwReferenceIdeal.τ).loc Cert.LogitsDwReferenceIdeal.main_arg0) = m ((c.tc : Thread Cert.LogitsDwIdeal.nD Cert.LogitsDwIdeal.τ).loc Cert.LogitsDwIdeal.main_arg0)
      ∧ m' ((c.tc : Thread Cert.LogitsDwReferenceIdeal.nD Cert.LogitsDwReferenceIdeal.τ).loc Cert.LogitsDwReferenceIdeal.main_arg1) = m ((c.tc : Thread Cert.LogitsDwIdeal.nD Cert.LogitsDwIdeal.τ).loc Cert.LogitsDwIdeal.main_arg1)) →
    ∃ (v0 : (c : Dev Cert.LogitsDwIdeal.nD) → Buf (Elt Ideal) ((c.tc : Thread Cert.LogitsDwIdeal.nD Cert.LogitsDwIdeal.τ).loc Cert.LogitsDwIdeal.main_v1)),
      θ_run (Cert.LogitsDwIdeal.defs (F := Ideal)) (onTc (τ := Cert.LogitsDwIdeal.τ) (Cert.LogitsDwIdeal.main (F := Ideal))) ⟨m, fun _ => 0, g⟩ (fun r => ∀ c : Dev Cert.LogitsDwIdeal.nD,
          r.2.mem ((c.tc : Thread Cert.LogitsDwIdeal.nD Cert.LogitsDwIdeal.τ).loc Cert.LogitsDwIdeal.main_v1) = v0 c
          ∧ r.2.mem ((c.tc : Thread Cert.LogitsDwIdeal.nD Cert.LogitsDwIdeal.τ).loc Cert.LogitsDwIdeal.main_arg0) = m ((c.tc : Thread Cert.LogitsDwIdeal.nD Cert.LogitsDwIdeal.τ).loc Cert.LogitsDwIdeal.main_arg0)
          ∧ r.2.mem ((c.tc : Thread Cert.LogitsDwIdeal.nD Cert.LogitsDwIdeal.τ).loc Cert.LogitsDwIdeal.main_arg1) = m ((c.tc : Thread Cert.LogitsDwIdeal.nD Cert.LogitsDwIdeal.τ).loc Cert.LogitsDwIdeal.main_arg1))
      ∧ θ_run (Cert.LogitsDwReferenceIdeal.defs (F := Ideal)) (onTc (τ := Cert.LogitsDwReferenceIdeal.τ) (Cert.LogitsDwReferenceIdeal.main (F := Ideal))) ⟨m', fun _ => 0, g'⟩ (fun r => ∀ c : Dev Cert.LogitsDwReferenceIdeal.nD,
          r.2.mem ((c.tc : Thread Cert.LogitsDwReferenceIdeal.nD Cert.LogitsDwReferenceIdeal.τ).loc Cert.LogitsDwReferenceIdeal.main_v3) = v0 c
          ∧ r.2.mem ((c.tc : Thread Cert.LogitsDwReferenceIdeal.nD Cert.LogitsDwReferenceIdeal.τ).loc Cert.LogitsDwReferenceIdeal.main_arg0) = m' ((c.tc : Thread Cert.LogitsDwReferenceIdeal.nD Cert.LogitsDwReferenceIdeal.τ).loc Cert.LogitsDwReferenceIdeal.main_arg0)
          ∧ r.2.mem ((c.tc : Thread Cert.LogitsDwReferenceIdeal.nD Cert.LogitsDwReferenceIdeal.τ).loc Cert.LogitsDwReferenceIdeal.main_arg1) = m' ((c.tc : Thread Cert.LogitsDwReferenceIdeal.nD Cert.LogitsDwReferenceIdeal.τ).loc Cert.LogitsDwReferenceIdeal.main_arg1))

def preserves_FoxFw_FoxFwIdeal : Prop :=
  IdealRules.named_const.Statement Cert.FoxFwIdeal.κ "mask" .f32 0xF149F2CA#32 ⊥

def algebraic_FoxFwIdeal_FoxFwReferenceIdeal_pre_finite_fwd [hFoxFwIdeal : Cert.FoxFwIdeal.Facts] [hFoxFwReferenceIdeal : Cert.FoxFwReferenceIdeal.Facts] [hPre_finite_fwd : Cert.Pre_finite_fwd.Facts] : Prop :=
  ∀ (m : (ℓ : Loc Cert.FoxFwIdeal.nD Cert.FoxFwIdeal.τ Cert.FoxFwIdeal.sig) → Buf (Elt Ideal) ℓ) (g : Dev Cert.FoxFwIdeal.nD → PrngReg)
    (m' : (ℓ : Loc Cert.FoxFwReferenceIdeal.nD Cert.FoxFwReferenceIdeal.τ Cert.FoxFwReferenceIdeal.sig) → Buf (Elt Ideal) ℓ) (g' : Dev Cert.FoxFwReferenceIdeal.nD → PrngReg), Pre_FoxFwIdeal_finite_fwd m →
    (∀ c : Dev Cert.FoxFwIdeal.nD,
      m' ((c.tc : Thread Cert.FoxFwReferenceIdeal.nD Cert.FoxFwReferenceIdeal.τ).loc Cert.FoxFwReferenceIdeal.main_arg0) = m ((c.tc : Thread Cert.FoxFwIdeal.nD Cert.FoxFwIdeal.τ).loc Cert.FoxFwIdeal.main_arg0)
      ∧ m' ((c.tc : Thread Cert.FoxFwReferenceIdeal.nD Cert.FoxFwReferenceIdeal.τ).loc Cert.FoxFwReferenceIdeal.main_arg1) = m ((c.tc : Thread Cert.FoxFwIdeal.nD Cert.FoxFwIdeal.τ).loc Cert.FoxFwIdeal.main_arg1)
      ∧ m' ((c.tc : Thread Cert.FoxFwReferenceIdeal.nD Cert.FoxFwReferenceIdeal.τ).loc Cert.FoxFwReferenceIdeal.main_arg2) = m ((c.tc : Thread Cert.FoxFwIdeal.nD Cert.FoxFwIdeal.τ).loc Cert.FoxFwIdeal.main_arg2)
      ∧ m' ((c.tc : Thread Cert.FoxFwReferenceIdeal.nD Cert.FoxFwReferenceIdeal.τ).loc Cert.FoxFwReferenceIdeal.main_arg3) = m ((c.tc : Thread Cert.FoxFwIdeal.nD Cert.FoxFwIdeal.τ).loc Cert.FoxFwIdeal.main_arg3)) →
    ∃ (v0 : (c : Dev Cert.FoxFwIdeal.nD) → Buf (Elt Ideal) ((c.tc : Thread Cert.FoxFwIdeal.nD Cert.FoxFwIdeal.τ).loc Cert.FoxFwIdeal.main_v2_0)) (v1 : (c : Dev Cert.FoxFwIdeal.nD) → Buf (Elt Ideal) ((c.tc : Thread Cert.FoxFwIdeal.nD Cert.FoxFwIdeal.τ).loc Cert.FoxFwIdeal.main_v2_1)),
      θ_run (Cert.FoxFwIdeal.defs (F := Ideal)) (onTc (τ := Cert.FoxFwIdeal.τ) (Cert.FoxFwIdeal.main (F := Ideal))) ⟨m, fun _ => 0, g⟩ (fun r => ∀ c : Dev Cert.FoxFwIdeal.nD,
          r.2.mem ((c.tc : Thread Cert.FoxFwIdeal.nD Cert.FoxFwIdeal.τ).loc Cert.FoxFwIdeal.main_v2_0) = v0 c
          ∧ r.2.mem ((c.tc : Thread Cert.FoxFwIdeal.nD Cert.FoxFwIdeal.τ).loc Cert.FoxFwIdeal.main_v2_1) = v1 c
          ∧ r.2.mem ((c.tc : Thread Cert.FoxFwIdeal.nD Cert.FoxFwIdeal.τ).loc Cert.FoxFwIdeal.main_arg0) = m ((c.tc : Thread Cert.FoxFwIdeal.nD Cert.FoxFwIdeal.τ).loc Cert.FoxFwIdeal.main_arg0)
          ∧ r.2.mem ((c.tc : Thread Cert.FoxFwIdeal.nD Cert.FoxFwIdeal.τ).loc Cert.FoxFwIdeal.main_arg1) = m ((c.tc : Thread Cert.FoxFwIdeal.nD Cert.FoxFwIdeal.τ).loc Cert.FoxFwIdeal.main_arg1)
          ∧ r.2.mem ((c.tc : Thread Cert.FoxFwIdeal.nD Cert.FoxFwIdeal.τ).loc Cert.FoxFwIdeal.main_arg2) = m ((c.tc : Thread Cert.FoxFwIdeal.nD Cert.FoxFwIdeal.τ).loc Cert.FoxFwIdeal.main_arg2)
          ∧ r.2.mem ((c.tc : Thread Cert.FoxFwIdeal.nD Cert.FoxFwIdeal.τ).loc Cert.FoxFwIdeal.main_arg3) = m ((c.tc : Thread Cert.FoxFwIdeal.nD Cert.FoxFwIdeal.τ).loc Cert.FoxFwIdeal.main_arg3))
      ∧ θ_run (Cert.FoxFwReferenceIdeal.defs (F := Ideal)) (onTc (τ := Cert.FoxFwReferenceIdeal.τ) (Cert.FoxFwReferenceIdeal.main (F := Ideal))) ⟨m', fun _ => 0, g'⟩ (fun r => ∀ c : Dev Cert.FoxFwReferenceIdeal.nD,
          r.2.mem ((c.tc : Thread Cert.FoxFwReferenceIdeal.nD Cert.FoxFwReferenceIdeal.τ).loc Cert.FoxFwReferenceIdeal.main_v34) = v0 c
          ∧ r.2.mem ((c.tc : Thread Cert.FoxFwReferenceIdeal.nD Cert.FoxFwReferenceIdeal.τ).loc Cert.FoxFwReferenceIdeal.main_v36) = v1 c
          ∧ r.2.mem ((c.tc : Thread Cert.FoxFwReferenceIdeal.nD Cert.FoxFwReferenceIdeal.τ).loc Cert.FoxFwReferenceIdeal.main_arg0) = m' ((c.tc : Thread Cert.FoxFwReferenceIdeal.nD Cert.FoxFwReferenceIdeal.τ).loc Cert.FoxFwReferenceIdeal.main_arg0)
          ∧ r.2.mem ((c.tc : Thread Cert.FoxFwReferenceIdeal.nD Cert.FoxFwReferenceIdeal.τ).loc Cert.FoxFwReferenceIdeal.main_arg1) = m' ((c.tc : Thread Cert.FoxFwReferenceIdeal.nD Cert.FoxFwReferenceIdeal.τ).loc Cert.FoxFwReferenceIdeal.main_arg1)
          ∧ r.2.mem ((c.tc : Thread Cert.FoxFwReferenceIdeal.nD Cert.FoxFwReferenceIdeal.τ).loc Cert.FoxFwReferenceIdeal.main_arg2) = m' ((c.tc : Thread Cert.FoxFwReferenceIdeal.nD Cert.FoxFwReferenceIdeal.τ).loc Cert.FoxFwReferenceIdeal.main_arg2)
          ∧ r.2.mem ((c.tc : Thread Cert.FoxFwReferenceIdeal.nD Cert.FoxFwReferenceIdeal.τ).loc Cert.FoxFwReferenceIdeal.main_arg3) = m' ((c.tc : Thread Cert.FoxFwReferenceIdeal.nD Cert.FoxFwReferenceIdeal.τ).loc Cert.FoxFwReferenceIdeal.main_arg3))

def Claim : Prop :=
  ∃ (hKernel : Cert.Kernel.Facts) (hKernelIdeal : Cert.KernelIdeal.Facts) (hReferenceIdeal : Cert.ReferenceIdeal.Facts) (hUpFw : Cert.UpFw.Facts) (hUpFwIdeal : Cert.UpFwIdeal.Facts) (hUpFwReferenceIdeal : Cert.UpFwReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hDownFw : Cert.DownFw.Facts) (hDownFwIdeal : Cert.DownFwIdeal.Facts) (hDownFwReferenceIdeal : Cert.DownFwReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hOutFw : Cert.OutFw.Facts) (hOutFwIdeal : Cert.OutFwIdeal.Facts) (hOutFwReferenceIdeal : Cert.OutFwReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hBranchFw : Cert.BranchFw.Facts) (hBranchFwIdeal : Cert.BranchFwIdeal.Facts) (hBranchFwReferenceIdeal : Cert.BranchFwReferenceIdeal.Facts) (hBranchDx : Cert.BranchDx.Facts) (hBranchDxIdeal : Cert.BranchDxIdeal.Facts) (hBranchDxReferenceIdeal : Cert.BranchDxReferenceIdeal.Facts) (hBranchDw : Cert.BranchDw.Facts) (hBranchDwIdeal : Cert.BranchDwIdeal.Facts) (hBranchDwReferenceIdeal : Cert.BranchDwReferenceIdeal.Facts) (hMemFw : Cert.MemFw.Facts) (hMemFwIdeal : Cert.MemFwIdeal.Facts) (hMemFwReferenceIdeal : Cert.MemFwReferenceIdeal.Facts) (hQueryFw : Cert.QueryFw.Facts) (hQueryFwIdeal : Cert.QueryFwIdeal.Facts) (hQueryFwReferenceIdeal : Cert.QueryFwReferenceIdeal.Facts) (hQueryDx : Cert.QueryDx.Facts) (hQueryDxIdeal : Cert.QueryDxIdeal.Facts) (hQueryDxReferenceIdeal : Cert.QueryDxReferenceIdeal.Facts) (hQueryDw : Cert.QueryDw.Facts) (hQueryDwIdeal : Cert.QueryDwIdeal.Facts) (hQueryDwReferenceIdeal : Cert.QueryDwReferenceIdeal.Facts) (hBankFw : Cert.BankFw.Facts) (hBankFwIdeal : Cert.BankFwIdeal.Facts) (hBankFwReferenceIdeal : Cert.BankFwReferenceIdeal.Facts) (hBankDx : Cert.BankDx.Facts) (hBankDxIdeal : Cert.BankDxIdeal.Facts) (hBankDxReferenceIdeal : Cert.BankDxReferenceIdeal.Facts) (hBankDw : Cert.BankDw.Facts) (hBankDwIdeal : Cert.BankDwIdeal.Facts) (hBankDwReferenceIdeal : Cert.BankDwReferenceIdeal.Facts) (hGatesFw : Cert.GatesFw.Facts) (hGatesFwIdeal : Cert.GatesFwIdeal.Facts) (hGatesFwReferenceIdeal : Cert.GatesFwReferenceIdeal.Facts) (hGatesDx : Cert.GatesDx.Facts) (hGatesDxIdeal : Cert.GatesDxIdeal.Facts) (hGatesDxReferenceIdeal : Cert.GatesDxReferenceIdeal.Facts) (hGatesDw : Cert.GatesDw.Facts) (hGatesDwIdeal : Cert.GatesDwIdeal.Facts) (hGatesDwReferenceIdeal : Cert.GatesDwReferenceIdeal.Facts) (hConvFw : Cert.ConvFw.Facts) (hConvFwIdeal : Cert.ConvFwIdeal.Facts) (hConvFwReferenceIdeal : Cert.ConvFwReferenceIdeal.Facts) (hConvDx : Cert.ConvDx.Facts) (hConvDxIdeal : Cert.ConvDxIdeal.Facts) (hConvDxReferenceIdeal : Cert.ConvDxReferenceIdeal.Facts) (hConvDw : Cert.ConvDw.Facts) (hConvDwIdeal : Cert.ConvDwIdeal.Facts) (hConvDwReferenceIdeal : Cert.ConvDwReferenceIdeal.Facts) (hPartFw : Cert.PartFw.Facts) (hPartFwIdeal : Cert.PartFwIdeal.Facts) (hPartFwReferenceIdeal : Cert.PartFwReferenceIdeal.Facts) (hPartDx : Cert.PartDx.Facts) (hPartDxIdeal : Cert.PartDxIdeal.Facts) (hPartDxReferenceIdeal : Cert.PartDxReferenceIdeal.Facts) (hPartDw : Cert.PartDw.Facts) (hPartDwIdeal : Cert.PartDwIdeal.Facts) (hPartDwReferenceIdeal : Cert.PartDwReferenceIdeal.Facts) (hLogitsFw : Cert.LogitsFw.Facts) (hLogitsFwIdeal : Cert.LogitsFwIdeal.Facts) (hLogitsFwReferenceIdeal : Cert.LogitsFwReferenceIdeal.Facts) (hLogitsDx : Cert.LogitsDx.Facts) (hLogitsDxIdeal : Cert.LogitsDxIdeal.Facts) (hLogitsDxReferenceIdeal : Cert.LogitsDxReferenceIdeal.Facts) (hLogitsDw : Cert.LogitsDw.Facts) (hLogitsDwIdeal : Cert.LogitsDwIdeal.Facts) (hLogitsDwReferenceIdeal : Cert.LogitsDwReferenceIdeal.Facts) (hFoxFw : Cert.FoxFw.Facts) (hFoxFwIdeal : Cert.FoxFwIdeal.Facts) (hFoxFwReferenceIdeal : Cert.FoxFwReferenceIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpFw (hUpFw := hUpFw)
    ∧ quiescent_UpFwIdeal (hUpFwIdeal := hUpFwIdeal)
    ∧ quiescent_UpFwReferenceIdeal (hUpFwReferenceIdeal := hUpFwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownFw (hDownFw := hDownFw)
    ∧ quiescent_DownFwIdeal (hDownFwIdeal := hDownFwIdeal)
    ∧ quiescent_DownFwReferenceIdeal (hDownFwReferenceIdeal := hDownFwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_OutFw (hOutFw := hOutFw)
    ∧ quiescent_OutFwIdeal (hOutFwIdeal := hOutFwIdeal)
    ∧ quiescent_OutFwReferenceIdeal (hOutFwReferenceIdeal := hOutFwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_BranchFw (hBranchFw := hBranchFw)
    ∧ quiescent_BranchFwIdeal (hBranchFwIdeal := hBranchFwIdeal)
    ∧ quiescent_BranchFwReferenceIdeal (hBranchFwReferenceIdeal := hBranchFwReferenceIdeal)
    ∧ quiescent_BranchDx (hBranchDx := hBranchDx)
    ∧ quiescent_BranchDxIdeal (hBranchDxIdeal := hBranchDxIdeal)
    ∧ quiescent_BranchDxReferenceIdeal (hBranchDxReferenceIdeal := hBranchDxReferenceIdeal)
    ∧ quiescent_BranchDw (hBranchDw := hBranchDw)
    ∧ quiescent_BranchDwIdeal (hBranchDwIdeal := hBranchDwIdeal)
    ∧ quiescent_BranchDwReferenceIdeal (hBranchDwReferenceIdeal := hBranchDwReferenceIdeal)
    ∧ quiescent_MemFw (hMemFw := hMemFw)
    ∧ quiescent_MemFwIdeal (hMemFwIdeal := hMemFwIdeal)
    ∧ quiescent_MemFwReferenceIdeal (hMemFwReferenceIdeal := hMemFwReferenceIdeal)
    ∧ quiescent_QueryFw (hQueryFw := hQueryFw)
    ∧ quiescent_QueryFwIdeal (hQueryFwIdeal := hQueryFwIdeal)
    ∧ quiescent_QueryFwReferenceIdeal (hQueryFwReferenceIdeal := hQueryFwReferenceIdeal)
    ∧ quiescent_QueryDx (hQueryDx := hQueryDx)
    ∧ quiescent_QueryDxIdeal (hQueryDxIdeal := hQueryDxIdeal)
    ∧ quiescent_QueryDxReferenceIdeal (hQueryDxReferenceIdeal := hQueryDxReferenceIdeal)
    ∧ quiescent_QueryDw (hQueryDw := hQueryDw)
    ∧ quiescent_QueryDwIdeal (hQueryDwIdeal := hQueryDwIdeal)
    ∧ quiescent_QueryDwReferenceIdeal (hQueryDwReferenceIdeal := hQueryDwReferenceIdeal)
    ∧ quiescent_BankFw (hBankFw := hBankFw)
    ∧ quiescent_BankFwIdeal (hBankFwIdeal := hBankFwIdeal)
    ∧ quiescent_BankFwReferenceIdeal (hBankFwReferenceIdeal := hBankFwReferenceIdeal)
    ∧ quiescent_BankDx (hBankDx := hBankDx)
    ∧ quiescent_BankDxIdeal (hBankDxIdeal := hBankDxIdeal)
    ∧ quiescent_BankDxReferenceIdeal (hBankDxReferenceIdeal := hBankDxReferenceIdeal)
    ∧ quiescent_BankDw (hBankDw := hBankDw)
    ∧ quiescent_BankDwIdeal (hBankDwIdeal := hBankDwIdeal)
    ∧ quiescent_BankDwReferenceIdeal (hBankDwReferenceIdeal := hBankDwReferenceIdeal)
    ∧ quiescent_GatesFw (hGatesFw := hGatesFw)
    ∧ quiescent_GatesFwIdeal (hGatesFwIdeal := hGatesFwIdeal)
    ∧ quiescent_GatesFwReferenceIdeal (hGatesFwReferenceIdeal := hGatesFwReferenceIdeal)
    ∧ quiescent_GatesDx (hGatesDx := hGatesDx)
    ∧ quiescent_GatesDxIdeal (hGatesDxIdeal := hGatesDxIdeal)
    ∧ quiescent_GatesDxReferenceIdeal (hGatesDxReferenceIdeal := hGatesDxReferenceIdeal)
    ∧ quiescent_GatesDw (hGatesDw := hGatesDw)
    ∧ quiescent_GatesDwIdeal (hGatesDwIdeal := hGatesDwIdeal)
    ∧ quiescent_GatesDwReferenceIdeal (hGatesDwReferenceIdeal := hGatesDwReferenceIdeal)
    ∧ quiescent_ConvFw (hConvFw := hConvFw)
    ∧ quiescent_ConvFwIdeal (hConvFwIdeal := hConvFwIdeal)
    ∧ quiescent_ConvFwReferenceIdeal (hConvFwReferenceIdeal := hConvFwReferenceIdeal)
    ∧ quiescent_ConvDx (hConvDx := hConvDx)
    ∧ quiescent_ConvDxIdeal (hConvDxIdeal := hConvDxIdeal)
    ∧ quiescent_ConvDxReferenceIdeal (hConvDxReferenceIdeal := hConvDxReferenceIdeal)
    ∧ quiescent_ConvDw (hConvDw := hConvDw)
    ∧ quiescent_ConvDwIdeal (hConvDwIdeal := hConvDwIdeal)
    ∧ quiescent_ConvDwReferenceIdeal (hConvDwReferenceIdeal := hConvDwReferenceIdeal)
    ∧ quiescent_PartFw (hPartFw := hPartFw)
    ∧ quiescent_PartFwIdeal (hPartFwIdeal := hPartFwIdeal)
    ∧ quiescent_PartFwReferenceIdeal (hPartFwReferenceIdeal := hPartFwReferenceIdeal)
    ∧ quiescent_PartDx (hPartDx := hPartDx)
    ∧ quiescent_PartDxIdeal (hPartDxIdeal := hPartDxIdeal)
    ∧ quiescent_PartDxReferenceIdeal (hPartDxReferenceIdeal := hPartDxReferenceIdeal)
    ∧ quiescent_PartDw (hPartDw := hPartDw)
    ∧ quiescent_PartDwIdeal (hPartDwIdeal := hPartDwIdeal)
    ∧ quiescent_PartDwReferenceIdeal (hPartDwReferenceIdeal := hPartDwReferenceIdeal)
    ∧ quiescent_LogitsFw (hLogitsFw := hLogitsFw)
    ∧ quiescent_LogitsFwIdeal (hLogitsFwIdeal := hLogitsFwIdeal)
    ∧ quiescent_LogitsFwReferenceIdeal (hLogitsFwReferenceIdeal := hLogitsFwReferenceIdeal)
    ∧ quiescent_LogitsDx (hLogitsDx := hLogitsDx)
    ∧ quiescent_LogitsDxIdeal (hLogitsDxIdeal := hLogitsDxIdeal)
    ∧ quiescent_LogitsDxReferenceIdeal (hLogitsDxReferenceIdeal := hLogitsDxReferenceIdeal)
    ∧ quiescent_LogitsDw (hLogitsDw := hLogitsDw)
    ∧ quiescent_LogitsDwIdeal (hLogitsDwIdeal := hLogitsDwIdeal)
    ∧ quiescent_LogitsDwReferenceIdeal (hLogitsDwReferenceIdeal := hLogitsDwReferenceIdeal)
    ∧ quiescent_FoxFw (hFoxFw := hFoxFw)
    ∧ quiescent_FoxFwIdeal (hFoxFwIdeal := hFoxFwIdeal)
    ∧ quiescent_FoxFwIdeal_pre_finite_fwd (hFoxFwIdeal := hFoxFwIdeal) (hPre_finite_fwd := hPre_finite_fwd)
    ∧ quiescent_FoxFwReferenceIdeal (hFoxFwReferenceIdeal := hFoxFwReferenceIdeal)
    ∧ quiescent_FoxFwReferenceIdeal_pre_finite_fwd (hFoxFwReferenceIdeal := hFoxFwReferenceIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_UpFw_UpFwIdeal
    ∧ algebraic_UpFwIdeal_UpFwReferenceIdeal (hUpFwIdeal := hUpFwIdeal) (hUpFwReferenceIdeal := hUpFwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownFw_DownFwIdeal
    ∧ algebraic_DownFwIdeal_DownFwReferenceIdeal (hDownFwIdeal := hDownFwIdeal) (hDownFwReferenceIdeal := hDownFwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_OutFw_OutFwIdeal
    ∧ algebraic_OutFwIdeal_OutFwReferenceIdeal (hOutFwIdeal := hOutFwIdeal) (hOutFwReferenceIdeal := hOutFwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_BranchFw_BranchFwIdeal
    ∧ algebraic_BranchFwIdeal_BranchFwReferenceIdeal (hBranchFwIdeal := hBranchFwIdeal) (hBranchFwReferenceIdeal := hBranchFwReferenceIdeal)
    ∧ preserves_BranchDx_BranchDxIdeal
    ∧ algebraic_BranchDxIdeal_BranchDxReferenceIdeal (hBranchDxIdeal := hBranchDxIdeal) (hBranchDxReferenceIdeal := hBranchDxReferenceIdeal)
    ∧ preserves_BranchDw_BranchDwIdeal
    ∧ algebraic_BranchDwIdeal_BranchDwReferenceIdeal (hBranchDwIdeal := hBranchDwIdeal) (hBranchDwReferenceIdeal := hBranchDwReferenceIdeal)
    ∧ preserves_MemFw_MemFwIdeal
    ∧ algebraic_MemFwIdeal_MemFwReferenceIdeal (hMemFwIdeal := hMemFwIdeal) (hMemFwReferenceIdeal := hMemFwReferenceIdeal)
    ∧ preserves_QueryFw_QueryFwIdeal
    ∧ algebraic_QueryFwIdeal_QueryFwReferenceIdeal (hQueryFwIdeal := hQueryFwIdeal) (hQueryFwReferenceIdeal := hQueryFwReferenceIdeal)
    ∧ preserves_QueryDx_QueryDxIdeal
    ∧ algebraic_QueryDxIdeal_QueryDxReferenceIdeal (hQueryDxIdeal := hQueryDxIdeal) (hQueryDxReferenceIdeal := hQueryDxReferenceIdeal)
    ∧ preserves_QueryDw_QueryDwIdeal
    ∧ algebraic_QueryDwIdeal_QueryDwReferenceIdeal (hQueryDwIdeal := hQueryDwIdeal) (hQueryDwReferenceIdeal := hQueryDwReferenceIdeal)
    ∧ preserves_BankFw_BankFwIdeal
    ∧ algebraic_BankFwIdeal_BankFwReferenceIdeal (hBankFwIdeal := hBankFwIdeal) (hBankFwReferenceIdeal := hBankFwReferenceIdeal)
    ∧ preserves_BankDx_BankDxIdeal
    ∧ algebraic_BankDxIdeal_BankDxReferenceIdeal (hBankDxIdeal := hBankDxIdeal) (hBankDxReferenceIdeal := hBankDxReferenceIdeal)
    ∧ preserves_BankDw_BankDwIdeal
    ∧ algebraic_BankDwIdeal_BankDwReferenceIdeal (hBankDwIdeal := hBankDwIdeal) (hBankDwReferenceIdeal := hBankDwReferenceIdeal)
    ∧ preserves_GatesFw_GatesFwIdeal
    ∧ algebraic_GatesFwIdeal_GatesFwReferenceIdeal (hGatesFwIdeal := hGatesFwIdeal) (hGatesFwReferenceIdeal := hGatesFwReferenceIdeal)
    ∧ preserves_GatesDx_GatesDxIdeal
    ∧ algebraic_GatesDxIdeal_GatesDxReferenceIdeal (hGatesDxIdeal := hGatesDxIdeal) (hGatesDxReferenceIdeal := hGatesDxReferenceIdeal)
    ∧ preserves_GatesDw_GatesDwIdeal
    ∧ algebraic_GatesDwIdeal_GatesDwReferenceIdeal (hGatesDwIdeal := hGatesDwIdeal) (hGatesDwReferenceIdeal := hGatesDwReferenceIdeal)
    ∧ preserves_ConvFw_ConvFwIdeal
    ∧ algebraic_ConvFwIdeal_ConvFwReferenceIdeal (hConvFwIdeal := hConvFwIdeal) (hConvFwReferenceIdeal := hConvFwReferenceIdeal)
    ∧ preserves_ConvDx_ConvDxIdeal
    ∧ algebraic_ConvDxIdeal_ConvDxReferenceIdeal (hConvDxIdeal := hConvDxIdeal) (hConvDxReferenceIdeal := hConvDxReferenceIdeal)
    ∧ preserves_ConvDw_ConvDwIdeal
    ∧ algebraic_ConvDwIdeal_ConvDwReferenceIdeal (hConvDwIdeal := hConvDwIdeal) (hConvDwReferenceIdeal := hConvDwReferenceIdeal)
    ∧ preserves_PartFw_PartFwIdeal
    ∧ algebraic_PartFwIdeal_PartFwReferenceIdeal (hPartFwIdeal := hPartFwIdeal) (hPartFwReferenceIdeal := hPartFwReferenceIdeal)
    ∧ preserves_PartDx_PartDxIdeal
    ∧ algebraic_PartDxIdeal_PartDxReferenceIdeal (hPartDxIdeal := hPartDxIdeal) (hPartDxReferenceIdeal := hPartDxReferenceIdeal)
    ∧ preserves_PartDw_PartDwIdeal
    ∧ algebraic_PartDwIdeal_PartDwReferenceIdeal (hPartDwIdeal := hPartDwIdeal) (hPartDwReferenceIdeal := hPartDwReferenceIdeal)
    ∧ preserves_LogitsFw_LogitsFwIdeal
    ∧ algebraic_LogitsFwIdeal_LogitsFwReferenceIdeal (hLogitsFwIdeal := hLogitsFwIdeal) (hLogitsFwReferenceIdeal := hLogitsFwReferenceIdeal)
    ∧ preserves_LogitsDx_LogitsDxIdeal
    ∧ algebraic_LogitsDxIdeal_LogitsDxReferenceIdeal (hLogitsDxIdeal := hLogitsDxIdeal) (hLogitsDxReferenceIdeal := hLogitsDxReferenceIdeal)
    ∧ preserves_LogitsDw_LogitsDwIdeal
    ∧ algebraic_LogitsDwIdeal_LogitsDwReferenceIdeal (hLogitsDwIdeal := hLogitsDwIdeal) (hLogitsDwReferenceIdeal := hLogitsDwReferenceIdeal)
    ∧ preserves_FoxFw_FoxFwIdeal
    ∧ algebraic_FoxFwIdeal_FoxFwReferenceIdeal_pre_finite_fwd (hFoxFwIdeal := hFoxFwIdeal) (hFoxFwReferenceIdeal := hFoxFwReferenceIdeal) (hPre_finite_fwd := hPre_finite_fwd)
-- ==== Pre_finite.lean ====
abbrev S8192x512 : Shape := ⟨2, ![8192, 512]⟩
abbrev S4x8192 : Shape := ⟨2, ![4, 8192]⟩
abbrev S_ : Shape := ⟨0, ![]⟩

class Facts : Prop where
  bcast_S_S8192x512 : S_.BroadcastsInDim S8192x512 (![] : Fin 0 → Fin S8192x512.rank)
  bcast_S_S4x8192 : S_.BroadcastsInDim S4x8192 (![] : Fin 0 → Fin S4x8192.rank)

variable [Facts]

def fn {F : FTy → Type} [FloatOps F] (main_arg0 : FVec F S8192x512 .f32) (main_arg1 : FVec F S8192x512 .f32) (main_arg2 : FVec F S8192x512 .f32) (main_arg3 : FVec F S4x8192 .f32) (main_arg4 : FVec F S8192x512 .f32) : IVec S8192x512 1 × IVec S8192x512 1 × IVec S8192x512 1 × IVec S4x8192 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S4x8192 .f32 := Host.absf main_arg3
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite_fwd.lean ====
abbrev S8192x512 : Shape := ⟨2, ![8192, 512]⟩
abbrev S4x8192 : Shape := ⟨2, ![4, 8192]⟩
abbrev S_ : Shape := ⟨0, ![]⟩

class Facts : Prop where
  bcast_S_S8192x512 : S_.BroadcastsInDim S8192x512 (![] : Fin 0 → Fin S8192x512.rank)
  bcast_S_S4x8192 : S_.BroadcastsInDim S4x8192 (![] : Fin 0 → Fin S4x8192.rank)

variable [Facts]

def fn {F : FTy → Type} [FloatOps F] (main_arg0 : FVec F S8192x512 .f32) (main_arg1 : FVec F S8192x512 .f32) (main_arg2 : FVec F S8192x512 .f32) (main_arg3 : FVec F S4x8192 .f32) : IVec S8192x512 1 × IVec S8192x512 1 × IVec S8192x512 1 × IVec S4x8192 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S4x8192 .f32 := Host.absf main_arg3
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  (main_v2, main_v5, main_v8, main_v11)
-- ==== Kernel.lean ====
abbrev S8192x512 : Shape := ⟨2, ![8192, 512]⟩
abbrev S4x8192 : Shape := ⟨2, ![4, 8192]⟩
abbrev S4x8192x1 : Shape := ⟨3, ![4, 8192, 1]⟩
abbrev S4x16x1x512 : Shape := ⟨4, ![4, 16, 1, 512]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S_ : Shape := ⟨0, ![]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S512x128 : Shape := ⟨2, ![512, 128]⟩
abbrev S8192x128 : Shape := ⟨2, ![8192, 128]⟩
abbrev S1x512x1 : Shape := ⟨3, ![1, 512, 1]⟩
abbrev S1x16x1x512 : Shape := ⟨4, ![1, 16, 1, 512]⟩
abbrev S16x1x512 : Shape := ⟨3, ![16, 1, 512]⟩
abbrev S512x1 : Shape := ⟨2, ![512, 1]⟩
abbrev S512 : Shape := ⟨1, ![512]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 56
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S4x8192, .f32⟩
  | .hbm, ⟨4, _⟩ => ⟨S8192x512, .f32⟩
  | .hbm, ⟨5, _⟩ => ⟨S4x8192x1, .f32⟩
  | .hbm, ⟨6, _⟩ => ⟨S4x16x1x512, .f32⟩
  | .hbm, ⟨7, _⟩ => ⟨S8192x4x128, .f32⟩
  | .hbm, ⟨8, _⟩ => ⟨S4x8192x128, .f32⟩
  | .hbm, ⟨9, _⟩ => ⟨S8192x4x128, .f32⟩
  | .hbm, ⟨10, _⟩ => ⟨S4x8192x128, .f32⟩
  | .hbm, ⟨11, _⟩ => ⟨S8192x4x128, .f32⟩
  | .hbm, ⟨12, _⟩ => ⟨S4x8192x128, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x1, .f32⟩
  | .hbm, ⟨18, _⟩ => ⟨S4x1x8192, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S8192, .i32⟩
  | .hbm, ⟨24, _⟩ => ⟨S1x8192, .i32⟩
  | .hbm, ⟨25, _⟩ => ⟨S8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S4x8192x8192, .i1⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x8192, .f32⟩
  | .hbm, ⟨45, _⟩ => ⟨S4x8192x8192, .f32⟩
  | .hbm, ⟨46, _⟩ => ⟨S4x8192x128, .f32⟩
  | .hbm, ⟨47, _⟩ => ⟨S8192x4x128, .f32⟩
  | .hbm, ⟨48, _⟩ => ⟨S8192x512, .f32⟩
  | .hbm, ⟨49, _⟩ => ⟨S4x8192x1, .f32⟩
  | .hbm, ⟨50, _⟩ => ⟨S4x8192x1, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S4x8192x1, .f32⟩
  | .hbm, ⟨55, _⟩ => ⟨S4x16x1x512, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x512x1, .f32⟩
  | .local _ .vmem, ⟨7, _⟩ => ⟨S1x512x1, .f32⟩
  | .local _ .vmem, ⟨8, _⟩ => ⟨S1x16x1x512, .f32⟩
  | .local _ .vmem, ⟨9, _⟩ => ⟨S1x16x1x512, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S1x512x1, .f32⟩
  | .local _ .vmem, ⟨23, _⟩ => ⟨S1x512x1, .f32⟩
  | .local _ .vmem, ⟨24, _⟩ => ⟨S1x16x1x512, .f32⟩
  | .local _ .vmem, ⟨25, _⟩ => ⟨S1x16x1x512, .f32⟩
  | .local _ .vmem, ⟨26, _⟩ => ⟨S8192x128, .bf16⟩
  | .local _ .vmem, ⟨27, _⟩ => ⟨S8192x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev main_v39_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_18 : BitVec 32 := 0#32
  let arg1 : BitVec 32 := BitVec.ofNat 32 (i 1).val
  let c1_i32 : BitVec 32 := 1#32
  let v22 : BitVec 32 := Scalar.muli arg1 c1_i32
  let v23 : BitVec 32 := Scalar.subi v22 c0_i32_18
  let c1_i32_19 : BitVec 32 := 1#32
  let v25 : BitVec 32 := Scalar.divsi v23 c1_i32_19
  let v26 : BitVec 32 := Scalar.muli v25 c1_i32_19
  let v27 : BitVec 32 := Scalar.addi c0_i32_18 v26
  let c1_i32_20 : BitVec 32 := 1#32
  ⟨c0_i32_18, v27, c1_i32_20⟩
def k0_mult1 (i : grid0.Coords) (k0_t1 : Fin (k0_t1_loop i).trips) : BitVec 32 :=
  let c0_i32_18 : BitVec 32 := 0#32
  let c1_i32_20 : BitVec 32 := 1#32
  let arg17 : BitVec 32 := Scf.iv c0_i32_18 c1_i32_20 k0_t1
  let c512_i32_58 : BitVec 32 := 512#32
  let v108 : BitVec 32 := Scalar.muli arg17 c512_i32_58
  v108
def k0_off1 (i : grid0.Coords) (k0_t1 : Fin (k0_t1_loop i).trips) : Fin 2 → Nat :=
  let c0_i32_18 : BitVec 32 := 0#32
  let c1_i32_20 : BitVec 32 := 1#32
  let arg17 : BitVec 32 := Scf.iv c0_i32_18 c1_i32_20 k0_t1
  let c512_i32_58 : BitVec 32 := 512#32
  let v108 : BitVec 32 := Scalar.muli arg17 c512_i32_58
  let v109 : BitVec 32 := v108
  let v110 : Index := Scalar.indexCast v109
  let c0_59 : Index := 0#32
  ![v110.toNat, 0]
def k0_off2 (i : grid0.Coords) (k0_t1 : Fin (k0_t1_loop i).trips) : Fin 4 → Nat :=
  let c0_63 : Index := 0#32
  let c0_i32_18 : BitVec 32 := 0#32
  let c1_i32_20 : BitVec 32 := 1#32
  let arg17 : BitVec 32 := Scf.iv c0_i32_18 c1_i32_20 k0_t1
  let v117 : Index := Scalar.indexCast arg17
  let c0_64 : Index := 0#32
  let c0_65 : Index := 0#32
  ![0, v117.toNat, 0, 0]
@[reducible] def k0_t2_loop (i : grid0.Coords) : Scf.Loop 32 :=
  let c0_i32_18 : BitVec 32 := 0#32
  let arg1 : BitVec 32 := BitVec.ofNat 32 (i 1).val
  let c1_i32 : BitVec 32 := 1#32
  let v22 : BitVec 32 := Scalar.muli arg1 c1_i32
  let v23 : BitVec 32 := Scalar.subi v22 c0_i32_18
  let c1_i32_19 : BitVec 32 := 1#32
  let v25 : BitVec 32 := Scalar.divsi v23 c1_i32_19
  let v26 : BitVec 32 := Scalar.muli v25 c1_i32_19
  let v27 : BitVec 32 := Scalar.addi c0_i32_18 v26
  let v24 : BitVec 32 := Scalar.addi c0_i32_18 v23
  let c1_i32_21 : BitVec 32 := 1#32
  ⟨v27, v24, c1_i32_21⟩
def k0_mult2 (i : grid0.Coords) (k0_t2 : Fin (k0_t2_loop i).trips) : BitVec 32 :=
  let c0_i32_18 : BitVec 32 := 0#32
  let arg1 : BitVec 32 := BitVec.ofNat 32 (i 1).val
  let c1_i32 : BitVec 32 := 1#32
  let v22 : BitVec 32 := Scalar.muli arg1 c1_i32
  let v23 : BitVec 32 := Scalar.subi v22 c0_i32_18
  let c1_i32_19 : BitVec 32 := 1#32
  let v25 : BitVec 32 := Scalar.divsi v23 c1_i32_19
  let v26 : BitVec 32 := Scalar.muli v25 c1_i32_19
  let v27 : BitVec 32 := Scalar.addi c0_i32_18 v26
  let c1_i32_21 : BitVec 32 := 1#32
  let arg17 : BitVec 32 := Scf.iv v27 c1_i32_21 k0_t2
  let c512_i32_58 : BitVec 32 := 512#32
  let v108 : BitVec 32 := Scalar.muli arg17 c512_i32_58
  v108
def k0_off3 (i : grid0.Coords) (k0_t2 : Fin (k0_t2_loop i).trips) : Fin 2 → Nat :=
  let c0_i32_18 : BitVec 32 := 0#32
  let arg1 : BitVec 32 := BitVec.ofNat 32 (i 1).val
  let c1_i32 : BitVec 32 := 1#32
  let v22 : BitVec 32 := Scalar.muli arg1 c1_i32
  let v23 : BitVec 32 := Scalar.subi v22 c0_i32_18
  let c1_i32_19 : BitVec 32 := 1#32
  let v25 : BitVec 32 := Scalar.divsi v23 c1_i32_19
  let v26 : BitVec 32 := Scalar.muli v25 c1_i32_19
  let v27 : BitVec 32 := Scalar.addi c0_i32_18 v26
  let c1_i32_21 : BitVec 32 := 1#32
  let arg17 : BitVec 32 := Scf.iv v27 c1_i32_21 k0_t2
  let c512_i32_58 : BitVec 32 := 512#32
  let v108 : BitVec 32 := Scalar.muli arg17 c512_i32_58
  let v109 : BitVec 32 := v108
  let v110 : Index := Scalar.indexCast v109
  let c0_59 : Index := 0#32
  ![v110.toNat, 0]
def k0_off4 (i : grid0.Coords) (k0_t2 : Fin (k0_t2_loop i).trips) : Fin 4 → Nat :=
  let c0_63 : Index := 0#32
  let c0_i32_18 : BitVec 32 := 0#32
  let arg1 : BitVec 32 := BitVec.ofNat 32 (i 1).val
  let c1_i32 : BitVec 32 := 1#32
  let v22 : BitVec 32 := Scalar.muli arg1 c1_i32
  let v23 : BitVec 32 := Scalar.subi v22 c0_i32_18
  let c1_i32_19 : BitVec 32 := 1#32
  let v25 : BitVec 32 := Scalar.divsi v23 c1_i32_19
  let v26 : BitVec 32 := Scalar.muli v25 c1_i32_19
  let v27 : BitVec 32 := Scalar.addi c0_i32_18 v26
  let c1_i32_21 : BitVec 32 := 1#32
  let arg17 : BitVec 32 := Scf.iv v27 c1_i32_21 k0_t2
  let v117 : Index := Scalar.indexCast arg17
  let c0_64 : Index := 0#32
  let c0_65 : Index := 0#32
  ![0, v117.toNat, 0, 0]
def k0_mult3 (i : grid0.Coords) : BitVec 32 :=
  let arg1 : BitVec 32 := BitVec.ofNat 32 (i 1).val
  let c1_i32_22 : BitVec 32 := 1#32
  let v30 : BitVec 32 := Scalar.muli arg1 c1_i32_22
  let c0_i32_23 : BitVec 32 := 0#32
  let v31 : BitVec 32 := Scalar.addi v30 c0_i32_23
  let c512_i32 : BitVec 32 := 512#32
  let v32 : BitVec 32 := Scalar.muli v31 c512_i32
  v32
def k0_off5 (i : grid0.Coords) : Fin 2 → Nat :=
  let arg1 : BitVec 32 := BitVec.ofNat 32 (i 1).val
  let c1_i32_22 : BitVec 32 := 1#32
  let v30 : BitVec 32 := Scalar.muli arg1 c1_i32_22
  let c0_i32_23 : BitVec 32 := 0#32
  let v31 : BitVec 32 := Scalar.addi v30 c0_i32_23
  let c512_i32 : BitVec 32 := 512#32
  let v32 : BitVec 32 := Scalar.muli v31 c512_i32
  let v33 : BitVec 32 := v32
  let v34 : Index := Scalar.indexCast v33
  let c0_24 : Index := 0#32
  ![v34.toNat, 0]
def k0_off6 (i : grid0.Coords) : Fin 4 → Nat :=
  let c0_28 : Index := 0#32
  let arg1 : BitVec 32 := BitVec.ofNat 32 (i 1).val
  let c1_i32_22 : BitVec 32 := 1#32
  let v30 : BitVec 32 := Scalar.muli arg1 c1_i32_22
  let c0_i32_23 : BitVec 32 := 0#32
  let v31 : BitVec 32 := Scalar.addi v30 c0_i32_23
  let v41 : Index := Scalar.indexCast v31
  let c0_29 : Index := 0#32
  let c0_30 : Index := 0#32
  ![0, v41.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x512 : Shape := ⟨2, ![8192, 512]⟩
abbrev S4x8192 : Shape := ⟨2, ![4, 8192]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S_ : Shape := ⟨0, ![]⟩
abbrev S4x8192x1 : Shape := ⟨3, ![4, 8192, 1]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩
abbrev S4x16x1x512 : Shape := ⟨4, ![4, 16, 1, 512]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S4x8192, .f32⟩
  | .hbm, ⟨4, _⟩ => ⟨S8192x512, .f32⟩
  | .hbm, ⟨5, _⟩ => ⟨S8192x4x128, .f32⟩
  | .hbm, ⟨6, _⟩ => ⟨S4x8192x128, .f32⟩
  | .hbm, ⟨7, _⟩ => ⟨S8192x4x128, .f32⟩
  | .hbm, ⟨8, _⟩ => ⟨S4x8192x128, .f32⟩
  | .hbm, ⟨9, _⟩ => ⟨S8192x4x128, .f32⟩
  | .hbm, ⟨10, _⟩ => ⟨S4x8192x128, .f32⟩
  | .hbm, ⟨11, _⟩ => ⟨S4x8192x8192, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x1, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S4x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S4x8192x8192, .i1⟩
  | .hbm, ⟨31, _⟩ => ⟨S4x8192x8192, .f32⟩
  | .hbm, ⟨32, _⟩ => ⟨S4x8192x8192, .f32⟩
  | .hbm, ⟨33, _⟩ => ⟨S_, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .i1⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .i1⟩
  | .hbm, ⟨49, _⟩ => ⟨S_, .f32⟩
  | .hbm, ⟨50, _⟩ => ⟨S4x8192, .f32⟩
  | .hbm, ⟨51, _⟩ => ⟨S4x8192, .i1⟩
  | .hbm, ⟨52, _⟩ => ⟨S_, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S_, .f32⟩
  | .hbm, ⟨57, _⟩ => ⟨S4x8192, .f32⟩
  | .hbm, ⟨58, _⟩ => ⟨S4x8192, .f32⟩
  | .hbm, ⟨59, _⟩ => ⟨S4x8192, .f32⟩
  | .hbm, ⟨60, _⟩ => ⟨S4x8192x1, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x8192, .f32⟩
  | .hbm, ⟨68, _⟩ => ⟨S4x8192x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x128, .f32⟩
  | .hbm, ⟨74, _⟩ => ⟨S8192x4x128, .f32⟩
  | .hbm, ⟨75, _⟩ => ⟨S8192x512, .f32⟩
  | .hbm, ⟨76, _⟩ => ⟨S8192x4x128, .f32⟩
  | .hbm, ⟨77, _⟩ => ⟨S4x8192x128, .f32⟩
  | .hbm, ⟨78, _⟩ => ⟨S4x128x8192, .f32⟩
  | .hbm, ⟨79, _⟩ => ⟨S4x8192x128, .f32⟩
  | .hbm, ⟨80, _⟩ => ⟨S4x8192x8192, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S4x8192x1, .f32⟩
  | .hbm, ⟨88, _⟩ => ⟨S4x8192x8192, .f32⟩
  | .hbm, ⟨89, _⟩ => ⟨S4x8192x8192, .f32⟩
  | .hbm, ⟨90, _⟩ => ⟨S_, .f32⟩
  | .hbm, ⟨91, _⟩ => ⟨S4x8192, .f32⟩
  | .hbm, ⟨92, _⟩ => ⟨S4x8192x8192, .f32⟩
  | .hbm, ⟨93, _⟩ => ⟨S4x8192x8192, .f32⟩
  | .hbm, ⟨94, _⟩ => ⟨S4x8192x8192, .f32⟩
  | .hbm, ⟨95, _⟩ => ⟨S_, .f32⟩
  | .hbm, ⟨96, _⟩ => ⟨S4x8192x8192, .f32⟩
  | .hbm, ⟨97, _⟩ => ⟨S4x8192x8192, .f32⟩
  | .hbm, ⟨98, _⟩ => ⟨S_, .f32⟩
  | .hbm, ⟨99, _⟩ => ⟨S4x8192, .f32⟩
  | .hbm, ⟨100, _⟩ => ⟨S4x8192x1, .f32⟩
  | .hbm, ⟨101, _⟩ => ⟨S4x8192x8192, .f32⟩
  | .hbm, ⟨102, _⟩ => ⟨S_, .f32⟩
  | .hbm, ⟨103, _⟩ => ⟨S4x8192, .f32⟩
  | .hbm, ⟨104, _⟩ => ⟨S4x1x8192, .f32⟩
  | .hbm, ⟨105, _⟩ => ⟨S_, .f32⟩
  | .hbm, ⟨106, _⟩ => ⟨S4x8192, .f32⟩
  | .hbm, ⟨107, _⟩ => ⟨S_, .f32⟩
  | .hbm, ⟨108, _⟩ => ⟨S4x8192, .f32⟩
  | .hbm, ⟨109, _⟩ => ⟨S_, .f32⟩
  | .hbm, ⟨110, _⟩ => ⟨S4x8192x8192, .f32⟩
  | .hbm, ⟨111, _⟩ => ⟨S4x8192x8192, .f32⟩
  | .hbm, ⟨112, _⟩ => ⟨S4x8192x128, .f32⟩
  | .hbm, ⟨113, _⟩ => ⟨S4x8192x128, .f32⟩
  | .hbm, ⟨114, _⟩ => ⟨S8192x4x128, .f32⟩
  | .hbm, ⟨115, _⟩ => ⟨S8192x512, .f32⟩
  | .hbm, ⟨116, _⟩ => ⟨S8192x4x128, .f32⟩
  | .hbm, ⟨117, _⟩ => ⟨S8192x512, .f32⟩
  | .hbm, ⟨118, _⟩ => ⟨S8192x4x128, .f32⟩
  | .hbm, ⟨119, _⟩ => ⟨S8192x512, .f32⟩
  | .hbm, ⟨120, _⟩ => ⟨S4x8192x1, .f32⟩
  | .hbm, ⟨121, _⟩ => ⟨S4x16x1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== UpFw.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S8192x1024, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S8192x1024, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S1024x5632, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S1024x5632, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownFw.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwIdeal.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFw.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwIdeal.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchFw.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S512x1024, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S512x1024, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDx.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxReferenceIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchDw.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwIdeal.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemFw.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S512x1024, .bf16⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MemFwReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== QueryFw.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryFwIdeal.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryFwReferenceIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryDx.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxIdeal.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxReferenceIdeal.lean ====
abbrev S8192x512 : Shape := ⟨2, ![8192, 512]⟩
abbrev S1024x512 : Shape := ⟨2, ![1024, 512]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S_, .f32⟩
  | .hbm, ⟨3, _⟩ => ⟨S8192x1024, .f32⟩
  | .hbm, ⟨4, _⟩ => ⟨S8192x512, .f32⟩
  | .hbm, ⟨5, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QueryDw.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwIdeal.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BankFw.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BankFwReferenceIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BankDx.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BankDxReferenceIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BankDw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BankDwReferenceIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GatesFw.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesFwIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesFwReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GatesDx.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024x3072, .bf16⟩
  | .hbm, ⟨4, _⟩ => ⟨S8192x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesDxIdeal.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024x3072, .bf16⟩
  | .hbm, ⟨4, _⟩ => ⟨S8192x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesDxReferenceIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x3072, .f32⟩
  | .hbm, ⟨6, _⟩ => ⟨S8192x1024, .f32⟩
  | .hbm, ⟨7, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GatesDw.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesDwIdeal.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesDwReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvFw.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvFwIdeal.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvFwReferenceIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvDx.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024x1536, .bf16⟩
  | .hbm, ⟨4, _⟩ => ⟨S8192x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvDxIdeal.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024x1536, .bf16⟩
  | .hbm, ⟨4, _⟩ => ⟨S8192x1024, .f32⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvDxReferenceIdeal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ConvDw.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDwIdeal.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDwReferenceIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PartFw.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PartFwIdeal.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PartFwReferenceIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PartDx.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x1024, .f32⟩
  | .hbm, ⟨3, _⟩ => ⟨S1024x512, .bf16⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PartDxIdeal.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x1024, .f32⟩
  | .hbm, ⟨3, _⟩ => ⟨S1024x512, .bf16⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PartDxReferenceIdeal.lean ====
abbrev S8192x512 : Shape := ⟨2, ![8192, 512]⟩
abbrev S1024x512 : Shape := ⟨2, ![1024, 512]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x512, .f32⟩
  | .hbm, ⟨6, _⟩ => ⟨S8192x1024, .f32⟩
  | .hbm, ⟨7, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== PartDw.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PartDwIdeal.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PartDwReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LogitsFw.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x1024, .bf16⟩
  | .hbm, ⟨3, _⟩ => ⟨S1024x128, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LogitsFwReferenceIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LogitsDx.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S1024x128, .bf16⟩
  | .hbm, ⟨4, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LogitsDxReferenceIdeal.lean ====
abbrev S8192x128 : Shape := ⟨2, ![8192, 128]⟩
abbrev S1024x128 : Shape := ⟨2, ![1024, 128]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x128, .f32⟩
  | .hbm, ⟨6, _⟩ => ⟨S8192x1024, .f32⟩
  | .hbm, ⟨7, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== LogitsDw.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LogitsDwReferenceIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FoxFw.lean ====
abbrev S8192x512 : Shape := ⟨2, ![8192, 512]⟩
abbrev S4x8192 : Shape := ⟨2, ![4, 8192]⟩
abbrev S4x8192x1 : Shape := ⟨3, ![4, 8192, 1]⟩
abbrev S4x16x1x512 : Shape := ⟨4, ![4, 16, 1, 512]⟩
abbrev S512x128 : Shape := ⟨2, ![512, 128]⟩
abbrev S8192x128 : Shape := ⟨2, ![8192, 128]⟩
abbrev S1x512x1 : Shape := ⟨3, ![1, 512, 1]⟩
abbrev S1x16x1x512 : Shape := ⟨4, ![1, 16, 1, 512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S4x8192, .f32⟩
  | .hbm, ⟨4, _⟩ => ⟨S4x8192x1, .f32⟩
  | .hbm, ⟨5, _⟩ => ⟨S4x16x1x512, .f32⟩
  | .hbm, ⟨6, _⟩ => ⟨S8192x512, .f32⟩
  | .hbm, ⟨7, _⟩ => ⟨S4x8192x1, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x512x1, .f32⟩
  | .local _ .vmem, ⟨7, _⟩ => ⟨S1x512x1, .f32⟩
  | .local _ .vmem, ⟨8, _⟩ => ⟨S1x16x1x512, .f32⟩
  | .local _ .vmem, ⟨9, _⟩ => ⟨S1x16x1x512, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S8192x128, .bf16⟩
  | .local _ .vmem, ⟨15, _⟩ => ⟨S8192x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_9 : BitVec 32 := 1#32
  ⟨c0_i32_7, v15, c1_i32_9⟩
def k0_mult1 (i : grid0.Coords) (k0_t1 : Fin (k0_t1_loop i).trips) : BitVec 32 :=
  let c0_i32_7 : BitVec 32 := 0#32
  let c1_i32_9 : BitVec 32 := 1#32
  let arg11 : BitVec 32 := Scf.iv c0_i32_7 c1_i32_9 k0_t1
  let c512_i32_32 : BitVec 32 := 512#32
  let v74 : BitVec 32 := Scalar.muli arg11 c512_i32_32
  v74
def k0_off1 (i : grid0.Coords) (k0_t1 : Fin (k0_t1_loop i).trips) : Fin 2 → Nat :=
  let c0_i32_7 : BitVec 32 := 0#32
  let c1_i32_9 : BitVec 32 := 1#32
  let arg11 : BitVec 32 := Scf.iv c0_i32_7 c1_i32_9 k0_t1
  let c512_i32_32 : BitVec 32 := 512#32
  let v74 : BitVec 32 := Scalar.muli arg11 c512_i32_32
  let v75 : BitVec 32 := v74
  let v76 : Index := Scalar.indexCast v75
  let c0_33 : Index := 0#32
  ![v76.toNat, 0]
def k0_off2 (i : grid0.Coords) (k0_t1 : Fin (k0_t1_loop i).trips) : Fin 4 → Nat :=
  let c0_36 : Index := 0#32
  let c0_i32_7 : BitVec 32 := 0#32
  let c1_i32_9 : BitVec 32 := 1#32
  let arg11 : BitVec 32 := Scf.iv c0_i32_7 c1_i32_9 k0_t1
  let v81 : Index := Scalar.indexCast arg11
  let c0_37 : Index := 0#32
  let c0_38 : Index := 0#32
  ![0, v81.toNat, 0, 0]
def k0_mult2 (i : grid0.Coords) (k0_t1 : Fin (k0_t1_loop i).trips) : BitVec 32 :=
  let c0_i32_7 : BitVec 32 := 0#32
  let c1_i32_9 : BitVec 32 := 1#32
  let arg11 : BitVec 32 := Scf.iv c0_i32_7 c1_i32_9 k0_t1
  let c512_i32_41 : BitVec 32 := 512#32
  let v102 : BitVec 32 := Scalar.muli arg11 c512_i32_41
  v102
@[reducible] def k0_t2_loop (i : grid0.Coords) : Scf.Loop 32 :=
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let v12 : BitVec 32 := Scalar.addi c0_i32_7 v11
  let c1_i32_10 : BitVec 32 := 1#32
  ⟨v15, v12, c1_i32_10⟩
def k0_mult3 (i : grid0.Coords) (k0_t2 : Fin (k0_t2_loop i).trips) : BitVec 32 :=
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg11 : BitVec 32 := Scf.iv v15 c1_i32_10 k0_t2
  let c512_i32_32 : BitVec 32 := 512#32
  let v74 : BitVec 32 := Scalar.muli arg11 c512_i32_32
  v74
def k0_off3 (i : grid0.Coords) (k0_t2 : Fin (k0_t2_loop i).trips) : Fin 2 → Nat :=
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg11 : BitVec 32 := Scf.iv v15 c1_i32_10 k0_t2
  let c512_i32_32 : BitVec 32 := 512#32
  let v74 : BitVec 32 := Scalar.muli arg11 c512_i32_32
  let v75 : BitVec 32 := v74
  let v76 : Index := Scalar.indexCast v75
  let c0_33 : Index := 0#32
  ![v76.toNat, 0]
def k0_off4 (i : grid0.Coords) (k0_t2 : Fin (k0_t2_loop i).trips) : Fin 4 → Nat :=
  let c0_36 : Index := 0#32
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg11 : BitVec 32 := Scf.iv v15 c1_i32_10 k0_t2
  let v81 : Index := Scalar.indexCast arg11
  let c0_37 : Index := 0#32
  let c0_38 : Index := 0#32
  ![0, v81.toNat, 0, 0]
def k0_mult4 (i : grid0.Coords) (k0_t2 : Fin (k0_t2_loop i).trips) : BitVec 32 :=
  let c0_i32_7 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg11 : BitVec 32 := Scf.iv v15 c1_i32_10 k0_t2
  let c512_i32_41 : BitVec 32 := 512#32
  let v102 : BitVec 32 := Scalar.muli arg11 c512_i32_41
  v102
def k0_mult5 (i : grid0.Coords) : BitVec 32 :=
  let arg1 : BitVec 32 := BitVec.ofNat 32 (i 1).val
  let c1_i32_11 : BitVec 32 := 1#32
  let v18 : BitVec 32 := Scalar.muli arg1 c1_i32_11
  let c0_i32_12 : BitVec 32 := 0#32
  let v19 : BitVec 32 := Scalar.addi v18 c0_i32_12
  let c512_i32 : BitVec 32 := 512#32
  let v20 : BitVec 32 := Scalar.muli v19 c512_i32
  v20
def k0_off5 (i : grid0.Coords) : Fin 2 → Nat :=
  let arg1 : BitVec 32 := BitVec.ofNat 32 (i 1).val
  let c1_i32_11 : BitVec 32 := 1#32
  let v18 : BitVec 32 := Scalar.muli arg1 c1_i32_11
  let c0_i32_12 : BitVec 32 := 0#32
  let v19 : BitVec 32 := Scalar.addi v18 c0_i32_12
  let c512_i32 : BitVec 32 := 512#32
  let v20 : BitVec 32 := Scalar.muli v19 c512_i32
  let v21 : BitVec 32 := v20
  let v22 : Index := Scalar.indexCast v21
  let c0_13 : Index := 0#32
  ![v22.toNat, 0]
def k0_off6 (i : grid0.Coords) : Fin 4 → Nat :=
  let c0_16 : Index := 0#32
  let arg1 : BitVec 32 := BitVec.ofNat 32 (i 1).val
  let c1_i32_11 : BitVec 32 := 1#32
  let v18 : BitVec 32 := Scalar.muli arg1 c1_i32_11
  let c0_i32_12 : BitVec 32 := 0#32
  let v19 : BitVec 32 := Scalar.addi v18 c0_i32_12
  let v27 : Index := Scalar.indexCast v19
  let c0_17 : Index := 0#32
  let c0_18 : Index := 0#32
  ![0, v27.toNat, 0, 0]
def k0_mult6 (i : grid0.Coords) : BitVec 32 :=
  let arg1 : BitVec 32 := BitVec.ofNat 32 (i 1).val
  let c1_i32_11 : BitVec 32 := 1#32
  let v18 : BitVec 32 := Scalar.muli arg1 c1_i32_11
  let c0_i32_12 : BitVec 32 := 0#32
  let v19 : BitVec 32 := Scalar.addi v18 c0_i32_12
  let c512_i32_24 : BitVec 32 := 512#32
  let v59 : BitVec 32 := Scalar.muli v19 c512_i32_24
  v59
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxFwIdeal.lean ====
variable {F : FTy → Type} [FloatOps F] [Named F]
def κ : String → Option EReal := fun
  | "mask" => some ⊥
  | _ => none
-- ==== FoxFwReferenceIdeal.lean ====
abbrev S8192x512 : Shape := ⟨2, ![8192, 512]⟩
abbrev S4x8192 : Shape := ⟨2, ![4, 8192]⟩
abbrev S8192x4x128 : Shape := ⟨3, ![8192, 4, 128]⟩
abbrev S4x8192x128 : Shape := ⟨3, ![4, 8192, 128]⟩
abbrev S4x8192x8192 : Shape := ⟨3, ![4, 8192, 8192]⟩
abbrev S_ : Shape := ⟨0, ![]⟩
abbrev S4x8192x1 : Shape := ⟨3, ![4, 8192, 1]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S4x8192, .f32⟩
  | .hbm, ⟨4, _⟩ => ⟨S8192x4x128, .f32⟩
  | .hbm, ⟨5, _⟩ => ⟨S4x8192x128, .f32⟩
  | .hbm, ⟨6, _⟩ => ⟨S8192x4x128, .f32⟩
  | .hbm, ⟨7, _⟩ => ⟨S4x8192x128, .f32⟩
  | .hbm, ⟨8, _⟩ => ⟨S8192x4x128, .f32⟩
  | .hbm, ⟨9, _⟩ => ⟨S4x8192x128, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x1, .f32⟩
  | .hbm, ⟨15, _⟩ => ⟨S4x1x8192, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S8192, .i32⟩
  | .hbm, ⟨21, _⟩ => ⟨S1x8192, .i32⟩
  | .hbm, ⟨22, _⟩ => ⟨S8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S4x8192x8192, .i1⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x8192, .f32⟩
  | .hbm, ⟨42, _⟩ => ⟨S4x8192x8192, .f32⟩
  | .hbm, ⟨43, _⟩ => ⟨S4x8192x128, .f32⟩
  | .hbm, ⟨44, _⟩ => ⟨S8192x4x128, .f32⟩
  | .hbm, ⟨45, _⟩ => ⟨S8192x512, .f32⟩
  | .hbm, ⟨46, _⟩ => ⟨S4x8192x1, .f32⟩
  | .hbm, ⟨47, _⟩ => ⟨S4x8192x1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Products.lean ====
module
public import Idealize.ShloMosaic.Lib.Pipeline.Value
public import Idealize.ShloMosaic.PureOps.Ideal
@[expose] public section

/-! A product computed block by block along the axis it sums over. -/

noncomputable section
namespace Cert.Products
open Idealize.ShloMosaic

/-- A sum of `K` blocks of `T` terms each is the sum of all terms. -/
theorem sum_blocks (f : ℕ → EReal) (T K N : ℕ) (hN : T * K = N) :
    ∑ s ∈ Finset.range K, ∑ x : Fin T, f (T * s + x.val) = ∑ x : Fin N, f x.val := by
  subst hN
  rw [Fin.sum_univ_eq_sum_range (fun i => f i)]
  induction K with
  | zero => simp
  | succ K ih =>
    rw [Finset.sum_range_succ, ih, Nat.mul_succ, Finset.sum_range_add, Fin.sum_univ_eq_sum_range (fun i => f (T * K + i))]

/-- What a run of `K` points leaves at one place `i` of its block, when its first point leaves `z` plus its own block of terms and
    each later point adds its block of terms to what it finds: `z` plus the sum of all terms. -/
theorem acc_sum {N : ℕ} {ι : Type} (a : (n : ℕ) → n < N → ι → EReal) (g : (n : ℕ) → n < N → (ι → EReal) → ι → EReal)
    (b T K M : ℕ) (hM : T * (K + 1) = M) (f : ℕ → EReal) (z : EReal) (i : ι)
    (ha : ∀ h : b < N, a b h i = z + ∑ x : Fin T, f x.val)
    (hg : ∀ (j : ℕ) (h : b + (j + 1) < N) (acc : ι → EReal), j < K →
      g (b + (j + 1)) h acc i = acc i + ∑ x : Fin T, f (T * (j + 1) + x.val))
    (h : b + K < N) :
    Pipeline.accAt a g b K h i = z + ∑ x : Fin M, f x.val := by
  rw [← sum_blocks f T (K + 1) M hM]
  have e : ∀ (j : ℕ), j ≤ K → ∀ h : b + j < N,
      Pipeline.accAt a g b j h i = z + ∑ s ∈ Finset.range (j + 1), ∑ x : Fin T, f (T * s + x.val) := by
    intro j
    induction j with
    | zero => intro _ h; rw [Pipeline.accAt_zero, ha]; simp
    | succ j ih =>
      intro hj h
      rw [Pipeline.accAt_succ, hg j h _ (by omega), ih (by omega), Finset.sum_range_succ _ (j + 1), add_assoc]
  exact e K le_rfl h

end Cert.Products
end
-- ==== Proof.UpFwSum.lean ====
module
public import proofs.«01_k».proof.Proof.Gen.UpFwIdeal.Value
public import proofs.«01_k».proof.Proof.Gen.UpFwReferenceIdeal.Run
public import proofs.«01_k».proof.Proof.Gen.UpFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product that widens the rows for the gated mixer. -/

noncomputable section
namespace Cert.UpFwSum
open Idealize.ShloMosaic Idealize.ShloMosaic.TcCoe Idealize.ShloMosaic.Tactic
open Cert.UpFwIdeal Cert.UpFwIdeal.Gen Cert.UpFwIdeal.Value

/-- The blocks each point reads and the block it writes. -/
theorem idx : ∀ t : Fin cfg0.N, win0_0.index t = ![t.val / 4, t.val % 1] ∧ win0_1.index t = ![t.val % 1, t.val / 1 % 4]
    ∧ win0_2.index t = ![t.val / 4, t.val / 1 % 4] :=
  (by decide +kernel : ∀ t : Fin grid0.N, _)

section
variable (c : Dev nD) (t : Fin cfg0.N)
/-- The row of the product that row `a` of a point's block is. -/
abbrev row (a : Fin 1024) : Fin 8192 := ⟨1024 * (t.val / 4) + a.val, by have := a.isLt; have : t.val < 32 := lt_of_lt_of_eq t.isLt N_0; omega⟩
/-- The column of the product that column `b` of a point's block is. -/
abbrev col (b : Fin 1408) : Fin 5632 := ⟨1408 * (t.val / 1 % 4) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_v1 : S8192x1024.Idx → EReal) (ix2 (row t a) (place t x)) := by
  blk_ext [idx t]
/-- A point's block of the second array. -/
theorem blkB (W : (b : Ref sig .tc) → Buf (Elt Ideal) ((c : Thread nD τ).loc b)) (b : Fin 1408) (x : Fin 1024) :
    (((cfg0.win 1).blk t).view.read (Elt Ideal) (W (Pipeline.arrRef spec0 1)) : S1024x1408.Idx → EReal) (ix2 x b)
    = (W main_v0 : S1024x5632.Idx → EReal) (ix2 (place t x) (col t b)) := by
  blk_ext [idx t]
/-- A point's block of the result. -/
theorem blkO (G : Buf (Elt Ideal) ((c : Thread nD τ).loc (Pipeline.arrRef spec0 2))) (a : Fin 1024) (b : Fin 1408) :
    (((cfg0.win 2).blk t).view.read (Elt Ideal) G : S1024x1408.Idx → EReal) (ix2 a b)
    = (G : S8192x5632.Idx → EReal) (ix2 (row t a) (col t b)) := by
  blk_ext [idx t]
end

/-- One step: the block of products is added to what is held. -/
theorem step_apply (acc : Vec Ideal S1024x1408 .f32) (x0 : Vec Ideal S1024x1024 .bf16) (x1 : Vec Ideal S1024x1408 .bf16)
    (a : Fin 1024) (b : Fin 1408) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 1408) : (k0_pay1 (F := Ideal) : S1024x1408.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x5632.Idx → EReal := m ((c : Thread nD τ).loc main_arg1)
/-- What the kernel is given for the first argument is the argument. -/
theorem V_A : (V m c main_v1 : S8192x1024.Idx → EReal) = A m c := by
  show StableHlo.after hostOps0 (fun b => m (c, b)) (Proc.tc.devRef main_v1) = _
  entry_read
  rfl
/-- What the kernel is given for the second argument is the argument. -/
theorem V_B : (V m c main_v0 : S1024x5632.Idx → EReal) = B m c := by
  show StableHlo.after hostOps0 (fun b => m (c, b)) (Proc.tc.devRef main_v0) = _
  entry_read
  rfl

/-- The sum the result holds at row `p` and column `q`. -/
def total (p : Fin 8192) (q : Fin 5632) : EReal :=
  ∑ x : Fin 1024, A m c (ix2 p x) * B m c (ix2 x q)

/-- The terms of the sum at row `p` and column `q`. -/
def term (p : Fin 8192) (q : Fin 5632) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1408.Idx → EReal := iblk m c 1 t

/-- What a point adds: its block of the terms. -/
theorem point (t : Fin cfg0.N) (a : Fin 1024) (b : Fin 1408) (p : Fin 8192) (q : Fin 5632) (j : ℕ)
    (hp : p.val = 1024 * (t.val / 4) + a.val) (hq : q.val = 1408 * (t.val / 1 % 4) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x5632.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1408), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 5632) : ((dats m 0 c).arrAt 2 cfg0.N : S8192x5632.Idx → EReal) (ix2 p q) = total m c p q :=
  congrFun (final m c) (ix2 p q)

/-- The reference's array holds the sums. -/
theorem ref (x0 : FVec Ideal S8192x1024 .f32) (x1 : FVec Ideal S1024x5632 .f32) (p : Fin 8192) (q : Fin 5632) :
    (Cert.UpFwReferenceIdeal.Read.val_main_v0 (F := Ideal) x0 x1 : S8192x5632.Idx → EReal) (ix2 p q)
      = ∑ x : Fin 1024, (x0 (ix2 p x) : EReal) * x1 (ix2 x q) := by
  pointwise [Cert.UpFwReferenceIdeal.Read.val_main_v0]

/-- The idealized kernel and the idealized reference end with the same array. -/
theorem algebraic : Cert.algebraic_UpFwIdeal_UpFwReferenceIdeal := by
  intro m g m' g' _ hagree
  refine ⟨fun c => (dats m 0 c).arrAt 2 cfg0.N, run_blocks m g, ?_⟩
  refine (θ_run _ _ _).mono (fun r h c => ?_) (Cert.UpFwReferenceIdeal.Value.run m' g')
  obtain ⟨a0, a1⟩ := hagree c
  obtain ⟨h0, h1⟩ := h c
  refine ⟨h0.trans ?_, h1⟩
  rw [Cert.UpFwReferenceIdeal.Read.val_main_v0_eq, a0, a1]
  funext i
  obtain ⟨p, q, rfl⟩ : ∃ (p : Fin 8192) (q : Fin 5632), i = ix2 p q := ⟨i 0, i 1, eq_ix2 i⟩
  exact (ref _ _ p q).trans (value m c p q).symm

/-- The idealized reference ends, its arguments as they were; it declares no semaphore. -/
theorem frame_reference : Cert.quiescent_UpFwReferenceIdeal := fun m ρ _ =>
  (θ_run _ _ _).mono (fun r h => ⟨fun c => (h c).2, sem_eq_zero_of_no_sems (by decide) r.2⟩)
    (Cert.UpFwReferenceIdeal.Value.run m ρ)

end Cert.UpFwSum
end
-- ==== Proof.UpDxSum.lean ====
module
public import proofs.«01_k».proof.Proof.Gen.UpDxIdeal.Value
public import proofs.«01_k».proof.Proof.Gen.UpDxReferenceIdeal.Run
public import proofs.«01_k».proof.Proof.Gen.UpDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product that widens the rows for the gated mixer. -/

noncomputable section
namespace Cert.UpDxSum
open Idealize.ShloMosaic Idealize.ShloMosaic.TcCoe Idealize.ShloMosaic.Tactic
open Cert.UpDxIdeal Cert.UpDxIdeal.Gen Cert.UpDxIdeal.Value

/-- The blocks each point reads and the block it writes. -/
theorem idx : ∀ t : Fin cfg0.N, win0_0.index t = ![t.val / 4, t.val % 4] ∧ win0_1.index t = ![t.val / 4 % 1, t.val % 4]
    ∧ win0_2.index t = ![t.val / 4, t.val / 4 % 1] :=
  (by decide +kernel : ∀ t : Fin grid0.N, _)

section
variable (c : Dev nD) (t : Fin cfg0.N)
/-- The row of the product that row `a` of a point's block is. -/
abbrev row (a : Fin 1024) : Fin 8192 := ⟨1024 * (t.val / 4) + a.val, by have := a.isLt; have : t.val < 32 := lt_of_lt_of_eq t.isLt N_0; omega⟩
/-- The column of the product that column `b` of a point's block is. -/
abbrev col (b : Fin 1024) : Fin 1024 := ⟨1024 * (t.val / 4 % 1) + b.val, by have := b.isLt; omega⟩
/-- The place of the sum that place `x` of a point's block is. -/
abbrev place (x : Fin 1408) : Fin 5632 := ⟨1408 * (t.val % 4) + x.val, by have := x.isLt; omega⟩
/-- A point's block of the first array. -/
theorem blkA (W : (b : Ref sig .tc) → Buf (Elt Ideal) ((c : Thread nD τ).loc b)) (a : Fin 1024) (x : Fin 1408) :
    (((cfg0.win 0).blk t).view.read (Elt Ideal) (W (Pipeline.arrRef spec0 0)) : S1024x1408.Idx → EReal) (ix2 a x)
    = (W main_arg0 : S8192x5632.Idx → EReal) (ix2 (row t a) (place t x)) := by
  blk_ext [idx t]
/-- A point's block of the second array. -/
theorem blkB (W : (b : Ref sig .tc) → Buf (Elt Ideal) ((c : Thread nD τ).loc b)) (b : Fin 1024) (x : Fin 1408) :
    (((cfg0.win 1).blk t).view.read (Elt Ideal) (W (Pipeline.arrRef spec0 1)) : S1024x1408.Idx → EReal) (ix2 b x)
    = (W main_v0 : S1024x5632.Idx → EReal) (ix2 (col t b) (place t x)) := by
  blk_ext [idx t]
end

/-- One step: the block of products is added to what is held. -/
theorem step_apply (acc : Vec Ideal S1024x1024 .f32) (x0 : Vec Ideal S1024x1408 .f32) (x1 : Vec Ideal S1024x1408 .bf16)
    (a : Fin 1024) (b : Fin 1024) :
    k0_pay2 acc x0 x1 (ix2 a b) = acc (ix2 a b) + ∑ x : Fin 1408, (x0 (ix2 a x) : EReal) * x1 (ix2 b x) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x5632.Idx → EReal := m ((c : Thread nD τ).loc main_arg0)
/-- The second argument. -/
abbrev B : S1024x5632.Idx → EReal := m ((c : Thread nD τ).loc main_arg1)
/-- What the kernel is given for the first argument is the argument. -/
theorem V_A : (V m c main_arg0 : S8192x5632.Idx → EReal) = A m c := by
  exact V_main_arg0 m c
/-- What the kernel is given for the second argument is the argument. -/
theorem V_B : (V m c main_v0 : S1024x5632.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  ∑ x : Fin 5632, A m c (ix2 p x) * B m c (ix2 q x)

/-- The terms of the sum at row `p` and column `q`. -/
def term (p : Fin 8192) (q : Fin 1024) (x : ℕ) : EReal :=
  if h : x < 5632 then A m c (ix2 p ⟨x, h⟩) * B m c (ix2 q ⟨x, h⟩) else 0

/-- The first block of point `t`. -/
abbrev blockA (t : Fin cfg0.N) : S1024x1408.Idx → EReal := iblk m c 0 t
/-- The second block of point `t`. -/
abbrev blockB (t : Fin cfg0.N) : S1024x1408.Idx → EReal := iblk m c 1 t

/-- What a point adds: its block of the terms. -/
theorem point (t : Fin cfg0.N) (a : Fin 1024) (b : Fin 1024) (p : Fin 8192) (q : Fin 1024) (j : ℕ)
    (hp : p.val = 1024 * (t.val / 4) + a.val) (hq : q.val = 1024 * (t.val / 4 % 1) + b.val) (hj : t.val % 4 = j) :
    ∑ x : Fin 1408, blockA m c t (ix2 a x) * blockB m c t (ix2 b x) = ∑ x : Fin 1408, term m c p q (1408 * j + x.val) := by
  subst hj
  obtain rfl : p = row t a := Fin.ext hp
  obtain rfl : q = col t b := Fin.ext hq
  refine Finset.sum_congr rfl fun x _ => ?_
  have hx : 1408 * (t.val % 4) + x.val < 5632 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 8192) (q : Fin 1024) : (G2 m c : S8192x1024.Idx → EReal) (ix2 p q) = total m c p q := by
  have hp := p.isLt
  have hq := q.isLt
  have hr : run2Of (ix2 p q) = 1 * (p.val / 1024) + q.val / 1024 := by
    show 1 * (p.val / 1024 - 0) + 1 * (q.val / 1024 - 0) = _
    omega
  have hl : loc2Of (ix2 p q) = ix2 ⟨p.val % 1024, Nat.mod_lt _ (by decide)⟩ ⟨q.val % 1024, Nat.mod_lt _ (by decide)⟩ := by
    funext a; match a with
    | ⟨0, _⟩ => rfl
    | ⟨1, _⟩ => rfl
  have hN : cfg0.N = 32 := N_0
  have hlt : 4 * (1 * (p.val / 1024) + q.val / 1024) + 3 < cfg0.N := by omega
  have hG : (G2 m c : S8192x1024.Idx → EReal) (ix2 p q) = Pipeline.accAt (reset2 m c) (step2 m c) (4 * (1 * (p.val / 1024) + q.val / 1024)) 3 hlt
      (ix2 ⟨p.val % 1024, Nat.mod_lt _ (by decide)⟩ ⟨q.val % 1024, Nat.mod_lt _ (by decide)⟩) := by
    unfold G2
    rw [dif_pos (by rw [hr]; exact hlt)]
    rw [hl]
    have gen : ∀ (r : ℕ) (h : 4 * r + 3 < cfg0.N) (i), r = 1 * (p.val / 1024) + q.val / 1024 →
        Pipeline.accAt (reset2 m c) (step2 m c) (4 * r) 3 h i
          = Pipeline.accAt (reset2 m c) (step2 m c) (4 * (1 * (p.val / 1024) + q.val / 1024)) 3 hlt i := by
      rintro r h i rfl; rfl
    exact gen _ _ _ hr
  rw [hG]
  refine (Cert.Products.acc_sum (reset2 m c) (step2 m c) _ 1408 3 5632 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1024, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x5632 .f32) (x1 : FVec Ideal S1024x5632 .f32) (p : Fin 8192) (q : Fin 1024) :
    (Cert.UpDxReferenceIdeal.Read.val_main_v2 (F := Ideal) x0 x1 : S8192x1024.Idx → EReal) (ix2 p q)
      = ∑ x : Fin 5632, (x0 (ix2 p x) : EReal) * x1 (ix2 q x) := by
  pointwise [Cert.UpDxReferenceIdeal.Read.val_main_v2]

/-- The idealized kernel and the idealized reference end with the same array. -/
theorem algebraic : Cert.algebraic_UpDxIdeal_UpDxReferenceIdeal := by
  intro m g m' g' _ hagree
  refine ⟨G2 m, run m g, ?_⟩
  refine (θ_run _ _ _).mono (fun r h c => ?_) (Cert.UpDxReferenceIdeal.Value.run m' g')
  obtain ⟨a0, a1⟩ := hagree c
  obtain ⟨h0, h1⟩ := h c
  refine ⟨h0.trans ?_, h1⟩
  rw [Cert.UpDxReferenceIdeal.Read.val_main_v2_eq, a0, a1]
  funext i
  obtain ⟨p, q, rfl⟩ : ∃ (p : Fin 8192) (q : Fin 1024), i = ix2 p q := ⟨i 0, i 1, eq_ix2 i⟩
  exact (ref _ _ p q).trans (value m c p q).symm

/-- The idealized reference ends, its arguments as they were; it declares no semaphore. -/
theorem frame_reference : Cert.quiescent_UpDxReferenceIdeal := fun m ρ _ =>
  (θ_run _ _ _).mono (fun r h => ⟨fun c => (h c).2, sem_eq_zero_of_no_sems (by decide) r.2⟩)
    (Cert.UpDxReferenceIdeal.Value.run m ρ)

end Cert.UpDxSum
end
-- ==== Proof.UpDwSum.lean ====
module
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product that widens the rows for the gated mixer. -/

noncomputable section
namespace Cert.UpDwSum
open Idealize.ShloMosaic Idealize.ShloMosaic.TcCoe Idealize.ShloMosaic.Tactic
open Cert.UpDwIdeal Cert.UpDwIdeal.Gen Cert.UpDwIdeal.Value

/-- The blocks each point reads and the block it writes. -/
theorem idx : ∀ t : Fin cfg0.N, win0_0.index t = ![t.val % 8, t.val / 32] ∧ win0_1.index t = ![t.val % 8, t.val / 8 % 4]
    ∧ win0_2.index t = ![t.val / 32, t.val / 8 % 4] :=
  (by decide +kernel : ∀ t : Fin grid0.N, _)

section
variable (c : Dev nD) (t : Fin cfg0.N)
/-- The row of the product that row `a` of a point's block is. -/
abbrev row (a : Fin 1024) : Fin 1024 := ⟨1024 * (t.val / 32) + a.val, by have := a.isLt; have : t.val < 32 := lt_of_lt_of_eq t.isLt N_0; omega⟩
/-- The column of the product that column `b` of a point's block is. -/
abbrev col (b : Fin 1408) : Fin 5632 := ⟨1408 * (t.val / 8 % 4) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_v0 : S8192x1024.Idx → EReal) (ix2 (place t x) (row t a)) := by
  blk_ext [idx t]
/-- A point's block of the second array. -/
theorem blkB (W : (b : Ref sig .tc) → Buf (Elt Ideal) ((c : Thread nD τ).loc b)) (b : Fin 1408) (x : Fin 1024) :
    (((cfg0.win 1).blk t).view.read (Elt Ideal) (W (Pipeline.arrRef spec0 1)) : S1024x1408.Idx → EReal) (ix2 x b)
    = (W main_arg1 : S8192x5632.Idx → EReal) (ix2 (place t x) (col t b)) := by
  blk_ext [idx t]
end

/-- One step: the block of products is added to what is held. -/
theorem step_apply (acc : Vec Ideal S1024x1408 .f32) (x0 : Vec Ideal S1024x1024 .bf16) (x1 : Vec Ideal S1024x1408 .f32)
    (a : Fin 1024) (b : Fin 1408) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 1408) : (k0_pay1 (F := Ideal) : S1024x1408.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x5632.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_arg1 : S8192x5632.Idx → EReal) = B m c := by
  exact V_main_arg1 m c

/-- The sum the result holds at row `p` and column `q`. -/
def total (p : Fin 1024) (q : Fin 5632) : EReal :=
  ∑ x : Fin 8192, A m c (ix2 x p) * B m c (ix2 x q)

/-- The terms of the sum at row `p` and column `q`. -/
def term (p : Fin 1024) (q : Fin 5632) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1408.Idx → EReal := iblk m c 1 t

/-- What a point adds: its block of the terms. -/
theorem point (t : Fin cfg0.N) (a : Fin 1024) (b : Fin 1408) (p : Fin 1024) (q : Fin 5632) (j : ℕ)
    (hp : p.val = 1024 * (t.val / 32) + a.val) (hq : q.val = 1408 * (t.val / 8 % 4) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 5632) : (G2 m c : S1024x5632.Idx → EReal) (ix2 p q) = total m c p q := by
  have hp := p.isLt
  have hq := q.isLt
  have hr : run2Of (ix2 p q) = 4 * (p.val / 1024) + q.val / 1408 := by
    show 4 * (p.val / 1024 - 0) + 1 * (q.val / 1408 - 0) = _
    omega
  have hl : loc2Of (ix2 p q) = ix2 ⟨p.val % 1024, Nat.mod_lt _ (by decide)⟩ ⟨q.val % 1408, Nat.mod_lt _ (by decide)⟩ := by
    funext a; match a with
    | ⟨0, _⟩ => rfl
    | ⟨1, _⟩ => rfl
  have hN : cfg0.N = 32 := N_0
  have hlt : 8 * (4 * (p.val / 1024) + q.val / 1408) + 7 < cfg0.N := by omega
  have hG : (G2 m c : S1024x5632.Idx → EReal) (ix2 p q) = Pipeline.accAt (reset2 m c) (step2 m c) (8 * (4 * (p.val / 1024) + q.val / 1408)) 7 hlt
      (ix2 ⟨p.val % 1024, Nat.mod_lt _ (by decide)⟩ ⟨q.val % 1408, Nat.mod_lt _ (by decide)⟩) := by
    unfold G2
    rw [dif_pos (by rw [hr]; exact hlt)]
    rw [hl]
    have gen : ∀ (r : ℕ) (h : 8 * r + 7 < cfg0.N) (i), r = 4 * (p.val / 1024) + q.val / 1408 →
        Pipeline.accAt (reset2 m c) (step2 m c) (8 * r) 7 h i
          = Pipeline.accAt (reset2 m c) (step2 m c) (8 * (4 * (p.val / 1024) + q.val / 1408)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 1408, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1408, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x5632 .f32) (p : Fin 1024) (q : Fin 5632) :
    (Cert.UpDwReferenceIdeal.Read.val_main_v3 (F := Ideal) x0 x1 : S1024x5632.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.UpDwReferenceIdeal.Read.val_main_v3, Cert.UpDwReferenceIdeal.Read.val_main_v2]

/-- The idealized kernel and the idealized reference end with the same array. -/
theorem algebraic : Cert.algebraic_UpDwIdeal_UpDwReferenceIdeal := by
  intro m g m' g' _ hagree
  refine ⟨G2 m, run m g, ?_⟩
  refine (θ_run _ _ _).mono (fun r h c => ?_) (Cert.UpDwReferenceIdeal.Value.run m' g')
  obtain ⟨a0, a1⟩ := hagree c
  obtain ⟨h0, h1⟩ := h c
  refine ⟨h0.trans ?_, h1⟩
  rw [Cert.UpDwReferenceIdeal.Read.val_main_v3_eq, a0, a1]
  funext i
  obtain ⟨p, q, rfl⟩ : ∃ (p : Fin 1024) (q : Fin 5632), i = ix2 p q := ⟨i 0, i 1, eq_ix2 i⟩
  exact (ref _ _ p q).trans (value m c p q).symm

/-- The idealized reference ends, its arguments as they were; it declares no semaphore. -/
theorem frame_reference : Cert.quiescent_UpDwReferenceIdeal := fun m ρ _ =>
  (θ_run _ _ _).mono (fun r h => ⟨fun c => (h c).2, sem_eq_zero_of_no_sems (by decide) r.2⟩)
    (Cert.UpDwReferenceIdeal.Value.run m ρ)

end Cert.UpDwSum
end
-- ==== Proof.DownFwSum.lean ====
module
public import proofs.«01_k».proof.Proof.Gen.DownFwIdeal.Value
public import proofs.«01_k».proof.Proof.Gen.DownFwReferenceIdeal.Run
public import proofs.«01_k».proof.Proof.Gen.DownFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product that narrows the gated rows again, added to what the call is given. -/

noncomputable section
namespace Cert.DownFwSum
open Idealize.ShloMosaic Idealize.ShloMosaic.TcCoe Idealize.ShloMosaic.Tactic
open Cert.DownFwIdeal Cert.DownFwIdeal.Gen Cert.DownFwIdeal.Value

/-- The blocks each point reads and the block it writes. -/
theorem idx : ∀ t : Fin cfg0.N, win0_0.index t = ![t.val / 2, t.val % 2] ∧ win0_1.index t = ![t.val % 2, t.val / 2 % 1]
    ∧ win0_2.index t = ![t.val / 2, t.val / 2 % 1] ∧ win0_3.index t = ![t.val / 2, t.val / 2 % 1] :=
  (by decide +kernel : ∀ t : Fin grid0.N, _)

section
variable (c : Dev nD) (t : Fin cfg0.N)
/-- The row of the product that row `a` of a point's block is. -/
abbrev row (a : Fin 1024) : Fin 8192 := ⟨1024 * (t.val / 2) + a.val, by have := a.isLt; have : t.val < 16 := lt_of_lt_of_eq t.isLt N_0; omega⟩
/-- The column of the product that column `b` of a point's block is. -/
abbrev col (b : Fin 1024) : Fin 1024 := ⟨1024 * (t.val / 2 % 1) + b.val, by have := b.isLt; omega⟩
/-- The place of the sum that place `x` of a point's block is. -/
abbrev place (x : Fin 1408) : Fin 2816 := ⟨1408 * (t.val % 2) + x.val, by have := x.isLt; omega⟩
/-- A point's block of the first array. -/
theorem blkA (W : (b : Ref sig .tc) → Buf (Elt Ideal) ((c : Thread nD τ).loc b)) (a : Fin 1024) (x : Fin 1408) :
    (((cfg0.win 0).blk t).view.read (Elt Ideal) (W (Pipeline.arrRef spec0 0)) : S1024x1408.Idx → EReal) (ix2 a x)
    = (W main_arg0 : S8192x2816.Idx → EReal) (ix2 (row t a) (place t x)) := by
  blk_ext [idx t]
/-- A point's block of the second array. -/
theorem blkB (W : (b : Ref sig .tc) → Buf (Elt Ideal) ((c : Thread nD τ).loc b)) (b : Fin 1024) (x : Fin 1408) :
    (((cfg0.win 1).blk t).view.read (Elt Ideal) (W (Pipeline.arrRef spec0 1)) : S1408x1024.Idx → EReal) (ix2 x b)
    = (W main_v0 : S2816x1024.Idx → EReal) (ix2 (place t x) (col t b)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
end

/-- One step: the block of products is added to what is held. -/
theorem step_apply (acc : Vec Ideal S1024x1024 .f32) (x0 : Vec Ideal S1024x1408 .f32) (x1 : Vec Ideal S1408x1024 .bf16)
    (a : Fin 1024) (b : Fin 1024) :
    k0_pay1 acc x0 x1 (ix2 a b) = acc (ix2 a b) + ∑ x : Fin 1408, (x0 (ix2 a x) : EReal) * x1 (ix2 x b) := by
  pointwise [k0_pay1]

variable (m : (ℓ : Loc nD τ sig) → Buf (Elt Ideal) ℓ) (c : Dev nD)

/-- The first argument. -/
abbrev A : S8192x2816.Idx → EReal := m ((c : Thread nD τ).loc main_arg0)
/-- The second argument. -/
abbrev B : S2816x1024.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x2816.Idx → EReal) = A m c := by
  exact V_main_arg0 m c
/-- What the kernel is given for the second argument is the argument. -/
theorem V_B : (V m c main_v0 : S2816x1024.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 2816, A m c (ix2 p x) * B m c (ix2 x q)

/-- The terms of the sum at row `p` and column `q`. -/
def term (p : Fin 8192) (q : Fin 1024) (x : ℕ) : EReal :=
  if h : x < 2816 then A m c (ix2 p ⟨x, h⟩) * B m c (ix2 ⟨x, h⟩ q) else 0

/-- The first block of point `t`. -/
abbrev blockA (t : Fin cfg0.N) : S1024x1408.Idx → EReal := iblk m c 0 t
/-- The second block of point `t`. -/
abbrev blockB (t : Fin cfg0.N) : S1408x1024.Idx → EReal := iblk m c 1 t

/-- What a point adds: its block of the terms. -/
theorem point (t : Fin cfg0.N) (a : Fin 1024) (b : Fin 1024) (p : Fin 8192) (q : Fin 1024) (j : ℕ)
    (hp : p.val = 1024 * (t.val / 2) + a.val) (hq : q.val = 1024 * (t.val / 2 % 1) + b.val) (hj : t.val % 2 = j) :
    ∑ x : Fin 1408, blockA m c t (ix2 a x) * blockB m c t (ix2 x b) = ∑ x : Fin 1408, term m c p q (1408 * j + x.val) := by
  subst hj
  obtain rfl : p = row t a := Fin.ext hp
  obtain rfl : q = col t b := Fin.ext hq
  refine Finset.sum_congr rfl fun x _ => ?_
  have hx : 1408 * (t.val % 2) + x.val < 2816 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 2) + a.val) (hq : q.val = 1024 * (t.val / 2 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The kernel's array holds the sums. -/
theorem value (p : Fin 8192) (q : Fin 1024) : (G3 m c : S8192x1024.Idx → EReal) (ix2 p q) = total m c p q := by
  have hp := p.isLt
  have hq := q.isLt
  have hr : run3Of (ix2 p q) = 1 * (p.val / 1024) + q.val / 1024 := by
    show 1 * (p.val / 1024 - 0) + 1 * (q.val / 1024 - 0) = _
    omega
  have hl : loc3Of (ix2 p q) = ix2 ⟨p.val % 1024, Nat.mod_lt _ (by decide)⟩ ⟨q.val % 1024, Nat.mod_lt _ (by decide)⟩ := by
    funext a; match a with
    | ⟨0, _⟩ => rfl
    | ⟨1, _⟩ => rfl
  have hN : cfg0.N = 16 := N_0
  have hlt : 2 * (1 * (p.val / 1024) + q.val / 1024) + 1 < cfg0.N := by omega
  have hG : (G3 m c : S8192x1024.Idx → EReal) (ix2 p q) = Pipeline.accAt (reset3 m c) (step3 m c) (2 * (1 * (p.val / 1024) + q.val / 1024)) 1 hlt
      (ix2 ⟨p.val % 1024, Nat.mod_lt _ (by decide)⟩ ⟨q.val % 1024, Nat.mod_lt _ (by decide)⟩) := by
    unfold G3
    rw [dif_pos (by rw [hr]; exact hlt)]
    rw [hl]
    have gen : ∀ (r : ℕ) (h : 2 * r + 1 < cfg0.N) (i), r = 1 * (p.val / 1024) + q.val / 1024 →
        Pipeline.accAt (reset3 m c) (step3 m c) (2 * r) 1 h i
          = Pipeline.accAt (reset3 m c) (step3 m c) (2 * (1 * (p.val / 1024) + q.val / 1024)) 1 hlt i := by
      rintro r h i rfl; rfl
    exact gen _ _ _ hr
  rw [hG]
  refine (Cert.Products.acc_sum (reset3 m c) (step3 m c) _ 1408 1 2816 (by decide) (term m c p q) (C m c (ix2 p q)) _ ?_ ?_ hlt).trans ?_
  · intro h
    refine (step_apply _ _ _ _ _).trans ?_
    refine congrArg₂ (fun u v : EReal => u + v) (pointC m c ⟨_, h⟩ ⟨p.val % 1024, Nat.mod_lt _ (by decide)⟩ ⟨q.val % 1024, Nat.mod_lt _ (by decide)⟩ p q (by dsimp only; omega) (by dsimp only; omega)) ?_
    refine (point m c ⟨_, h⟩ ⟨p.val % 1024, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1024, Nat.mod_lt _ (by decide)⟩ p q (j + 1) (by dsimp only; omega) (by dsimp only; omega) (by dsimp only; omega))
  · rw [total]
    exact congrArg (fun u : EReal => C m c (ix2 p q) + u) (Finset.sum_congr rfl fun x _ => dif_pos x.isLt)

/-- The reference's array holds the sums. -/
theorem ref (x0 : FVec Ideal S8192x2816 .f32) (x1 : FVec Ideal S2816x1024 .f32) (x2 : FVec Ideal S8192x1024 .f32) (p : Fin 8192) (q : Fin 1024) :
    (Cert.DownFwReferenceIdeal.Read.val_main_v1 (F := Ideal) x0 x1 x2 : S8192x1024.Idx → EReal) (ix2 p q)
      = (x2 (ix2 p q) : EReal) + ∑ x : Fin 2816, (x0 (ix2 p x) : EReal) * x1 (ix2 x q) := by
  pointwise [Cert.DownFwReferenceIdeal.Read.val_main_v1, Cert.DownFwReferenceIdeal.Read.val_main_v0]

/-- The idealized kernel and the idealized reference end with the same array. -/
theorem algebraic : Cert.algebraic_DownFwIdeal_DownFwReferenceIdeal := by
  intro m g m' g' _ hagree
  refine ⟨G3 m, run m g, ?_⟩
  refine (θ_run _ _ _).mono (fun r h c => ?_) (Cert.DownFwReferenceIdeal.Value.run m' g')
  obtain ⟨a0, a1, a2⟩ := hagree c
  obtain ⟨h0, h1⟩ := h c
  refine ⟨h0.trans ?_, h1⟩
  rw [Cert.DownFwReferenceIdeal.Read.val_main_v1_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_DownFwReferenceIdeal := fun m ρ _ =>
  (θ_run _ _ _).mono (fun r h => ⟨fun c => (h c).2, sem_eq_zero_of_no_sems (by decide) r.2⟩)
    (Cert.DownFwReferenceIdeal.Value.run m ρ)

end Cert.DownFwSum
end
-- ==== Proof.DownDxSum.lean ====
module
public import proofs.«01_k».proof.Proof.Gen.DownDxIdeal.Value
public import proofs.«01_k».proof.Proof.Gen.DownDxReferenceIdeal.Run
public import proofs.«01_k».proof.Proof.Gen.DownDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product that narrows the gated rows again. -/

noncomputable section
namespace Cert.DownDxSum
open Idealize.ShloMosaic Idealize.ShloMosaic.TcCoe Idealize.ShloMosaic.Tactic
open Cert.DownDxIdeal Cert.DownDxIdeal.Gen Cert.DownDxIdeal.Value

/-- The blocks each point reads and the block it writes. -/
theorem idx : ∀ t : Fin cfg0.N, win0_0.index t = ![t.val / 2, t.val % 1] ∧ win0_1.index t = ![t.val / 1 % 2, t.val % 1]
    ∧ win0_2.index t = ![t.val / 2, t.val / 1 % 2] :=
  (by decide +kernel : ∀ t : Fin grid0.N, _)

section
variable (c : Dev nD) (t : Fin cfg0.N)
/-- The row of the product that row `a` of a point's block is. -/
abbrev row (a : Fin 1024) : Fin 8192 := ⟨1024 * (t.val / 2) + a.val, by have := a.isLt; have : t.val < 16 := lt_of_lt_of_eq t.isLt N_0; omega⟩
/-- The column of the product that column `b` of a point's block is. -/
abbrev col (b : Fin 1408) : Fin 2816 := ⟨1408 * (t.val / 1 % 2) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_arg0 : S8192x1024.Idx → EReal) (ix2 (row t a) (place t x)) := by
  blk_ext [idx t]
/-- A point's block of the second array. -/
theorem blkB (W : (b : Ref sig .tc) → Buf (Elt Ideal) ((c : Thread nD τ).loc b)) (b : Fin 1408) (x : Fin 1024) :
    (((cfg0.win 1).blk t).view.read (Elt Ideal) (W (Pipeline.arrRef spec0 1)) : S1408x1024.Idx → EReal) (ix2 b x)
    = (W main_v0 : S2816x1024.Idx → EReal) (ix2 (col t b) (place t x)) := by
  blk_ext [idx t]
/-- A point's block of the result. -/
theorem blkO (G : Buf (Elt Ideal) ((c : Thread nD τ).loc (Pipeline.arrRef spec0 2))) (a : Fin 1024) (b : Fin 1408) :
    (((cfg0.win 2).blk t).view.read (Elt Ideal) G : S1024x1408.Idx → EReal) (ix2 a b)
    = (G : S8192x2816.Idx → EReal) (ix2 (row t a) (col t b)) := by
  blk_ext [idx t]
end

/-- One step: the block of products is added to what is held. -/
theorem step_apply (acc : Vec Ideal S1024x1408 .f32) (x0 : Vec Ideal S1024x1024 .f32) (x1 : Vec Ideal S1408x1024 .bf16)
    (a : Fin 1024) (b : Fin 1408) :
    k0_pay2 acc x0 x1 (ix2 a b) = acc (ix2 a b) + ∑ x : Fin 1024, (x0 (ix2 a x) : EReal) * x1 (ix2 b x) := by
  pointwise [k0_pay2]
/-- The block a run begins with is zero. -/
theorem zero_apply (a : Fin 1024) (b : Fin 1408) : (k0_pay1 (F := Ideal) : S1024x1408.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S2816x1024.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_v0 : S2816x1024.Idx → EReal) = B m c := by
  show StableHlo.after hostOps0 (fun b => m (c, b)) (Proc.tc.devRef main_v0) = _
  entry_read
  rfl

/-- The sum the result holds at row `p` and column `q`. -/
def total (p : Fin 8192) (q : Fin 2816) : EReal :=
  ∑ x : Fin 1024, A m c (ix2 p x) * B m c (ix2 q x)

/-- The terms of the sum at row `p` and column `q`. -/
def term (p : Fin 8192) (q : Fin 2816) (x : ℕ) : EReal :=
  if h : x < 1024 then A m c (ix2 p ⟨x, h⟩) * B m c (ix2 q ⟨x, h⟩) else 0

/-- The first block of point `t`. -/
abbrev blockA (t : Fin cfg0.N) : S1024x1024.Idx → EReal := iblk m c 0 t
/-- The second block of point `t`. -/
abbrev blockB (t : Fin cfg0.N) : S1408x1024.Idx → EReal := iblk m c 1 t

/-- What a point adds: its block of the terms. -/
theorem point (t : Fin cfg0.N) (a : Fin 1024) (b : Fin 1408) (p : Fin 8192) (q : Fin 2816) (j : ℕ)
    (hp : p.val = 1024 * (t.val / 2) + a.val) (hq : q.val = 1408 * (t.val / 1 % 2) + b.val) (hj : t.val % 1 = j) :
    ∑ x : Fin 1024, blockA m c t (ix2 a x) * blockB m c t (ix2 b x) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x2816.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1408), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 2816) : ((dats m 0 c).arrAt 2 cfg0.N : S8192x2816.Idx → EReal) (ix2 p q) = total m c p q :=
  congrFun (final m c) (ix2 p q)

/-- The reference's array holds the sums. -/
theorem ref (x0 : FVec Ideal S8192x1024 .f32) (x1 : FVec Ideal S2816x1024 .f32) (p : Fin 8192) (q : Fin 2816) :
    (Cert.DownDxReferenceIdeal.Read.val_main_v2 (F := Ideal) x0 x1 : S8192x2816.Idx → EReal) (ix2 p q)
      = ∑ x : Fin 1024, (x0 (ix2 p x) : EReal) * x1 (ix2 q x) := by
  pointwise [Cert.DownDxReferenceIdeal.Read.val_main_v2]

/-- The idealized kernel and the idealized reference end with the same array. -/
theorem algebraic : Cert.algebraic_DownDxIdeal_DownDxReferenceIdeal := by
  intro m g m' g' _ hagree
  refine ⟨fun c => (dats m 0 c).arrAt 2 cfg0.N, run_blocks m g, ?_⟩
  refine (θ_run _ _ _).mono (fun r h c => ?_) (Cert.DownDxReferenceIdeal.Value.run m' g')
  obtain ⟨a0, a1⟩ := hagree c
  obtain ⟨h0, h1⟩ := h c
  refine ⟨h0.trans ?_, h1⟩
  rw [Cert.DownDxReferenceIdeal.Read.val_main_v2_eq, a0, a1]
  funext i
  obtain ⟨p, q, rfl⟩ : ∃ (p : Fin 8192) (q : Fin 2816), i = ix2 p q := ⟨i 0, i 1, eq_ix2 i⟩
  exact (ref _ _ p q).trans (value m c p q).symm

/-- The idealized reference ends, its arguments as they were; it declares no semaphore. -/
theorem frame_reference : Cert.quiescent_DownDxReferenceIdeal := fun m ρ _ =>
  (θ_run _ _ _).mono (fun r h => ⟨fun c => (h c).2, sem_eq_zero_of_no_sems (by decide) r.2⟩)
    (Cert.DownDxReferenceIdeal.Value.run m ρ)

end Cert.DownDxSum
end
-- ==== Proof.DownDwSum.lean ====
module
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product that narrows the gated rows again. -/

noncomputable section
namespace Cert.DownDwSum
open Idealize.ShloMosaic Idealize.ShloMosaic.TcCoe Idealize.ShloMosaic.Tactic
open Cert.DownDwIdeal Cert.DownDwIdeal.Gen Cert.DownDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 1408) : Fin 2816 := ⟨1408 * (t.val / 8) + a.val, by have := a.isLt; have : t.val < 16 := lt_of_lt_of_eq t.isLt N_0; omega⟩
/-- The column of the product that column `b` of a point's block is. -/
abbrev col (b : Fin 1024) : Fin 1024 := ⟨1024 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1408) (x : Fin 1024) :
    (((cfg0.win 0).blk t).view.read (Elt Ideal) (W (Pipeline.arrRef spec0 0)) : S1024x1408.Idx → EReal) (ix2 x a)
    = (W main_arg0 : S8192x2816.Idx → EReal) (ix2 (place t x) (row t a)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_arg1 : S8192x1024.Idx → EReal) (ix2 (place t x) (col t b)) := by
  blk_ext [idx t]
end

/-- One step: the block of products is added to what is held. -/
theorem step_apply (acc : Vec Ideal S1408x1024 .f32) (x0 : Vec Ideal S1024x1408 .f32) (x1 : Vec Ideal S1024x1024 .f32)
    (a : Fin 1408) (b : Fin 1024) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1408) (b : Fin 1024) : (k0_pay1 (F := Ideal) : S1408x1024.Idx → EReal) (ix2 a b) = 0 := by
  pointwise [k0_pay1]

variable (m : (ℓ : Loc nD τ sig) → Buf (Elt Ideal) ℓ) (c : Dev nD)

/-- The first argument. -/
abbrev A : S8192x2816.Idx → EReal := m ((c : Thread nD τ).loc main_arg0)
/-- The second argument. -/
abbrev B : S8192x1024.Idx → EReal := m ((c : Thread nD τ).loc main_arg1)
/-- What the kernel is given for the first argument is the argument. -/
theorem V_A : (V m c main_arg0 : S8192x2816.Idx → EReal) = A m c := by
  exact V_main_arg0 m c
/-- What the kernel is given for the second argument is the argument. -/
theorem V_B : (V m c main_arg1 : S8192x1024.Idx → EReal) = B m c := by
  exact V_main_arg1 m c

/-- The sum the result holds at row `p` and column `q`. -/
def total (p : Fin 2816) (q : Fin 1024) : EReal :=
  ∑ x : Fin 8192, A m c (ix2 x p) * B m c (ix2 x q)

/-- The terms of the sum at row `p` and column `q`. -/
def term (p : Fin 2816) (q : Fin 1024) (x : ℕ) : EReal :=
  if h : x < 8192 then A m c (ix2 ⟨x, h⟩ p) * B m c (ix2 ⟨x, h⟩ q) else 0

/-- The first block of point `t`. -/
abbrev blockA (t : Fin cfg0.N) : S1024x1408.Idx → EReal := iblk m c 0 t
/-- The second block of point `t`. -/
abbrev blockB (t : Fin cfg0.N) : S1024x1024.Idx → EReal := iblk m c 1 t

/-- What a point adds: its block of the terms. -/
theorem point (t : Fin cfg0.N) (a : Fin 1408) (b : Fin 1024) (p : Fin 2816) (q : Fin 1024) (j : ℕ)
    (hp : p.val = 1408 * (t.val / 8) + a.val) (hq : q.val = 1024 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 2816) (q : Fin 1024) : (G2 m c : S2816x1024.Idx → EReal) (ix2 p q) = total m c p q := by
  have hp := p.isLt
  have hq := q.isLt
  have hr : run2Of (ix2 p q) = 1 * (p.val / 1408) + q.val / 1024 := by
    show 1 * (p.val / 1408 - 0) + 1 * (q.val / 1024 - 0) = _
    omega
  have hl : loc2Of (ix2 p q) = ix2 ⟨p.val % 1408, Nat.mod_lt _ (by decide)⟩ ⟨q.val % 1024, Nat.mod_lt _ (by decide)⟩ := by
    funext a; match a with
    | ⟨0, _⟩ => rfl
    | ⟨1, _⟩ => rfl
  have hN : cfg0.N = 16 := N_0
  have hlt : 8 * (1 * (p.val / 1408) + q.val / 1024) + 7 < cfg0.N := by omega
  have hG : (G2 m c : S2816x1024.Idx → EReal) (ix2 p q) = Pipeline.accAt (reset2 m c) (step2 m c) (8 * (1 * (p.val / 1408) + q.val / 1024)) 7 hlt
      (ix2 ⟨p.val % 1408, Nat.mod_lt _ (by decide)⟩ ⟨q.val % 1024, Nat.mod_lt _ (by decide)⟩) := by
    unfold G2
    rw [dif_pos (by rw [hr]; exact hlt)]
    rw [hl]
    have gen : ∀ (r : ℕ) (h : 8 * r + 7 < cfg0.N) (i), r = 1 * (p.val / 1408) + q.val / 1024 →
        Pipeline.accAt (reset2 m c) (step2 m c) (8 * r) 7 h i
          = Pipeline.accAt (reset2 m c) (step2 m c) (8 * (1 * (p.val / 1408) + q.val / 1024)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1408, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1408, Nat.mod_lt _ (by decide)⟩ ⟨q.val % 1024, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x2816 .f32) (x1 : FVec Ideal S8192x1024 .f32) (p : Fin 2816) (q : Fin 1024) :
    (Cert.DownDwReferenceIdeal.Read.val_main_v3 (F := Ideal) x0 x1 : S2816x1024.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.DownDwReferenceIdeal.Read.val_main_v3, Cert.DownDwReferenceIdeal.Read.val_main_v2]

/-- The idealized kernel and the idealized reference end with the same array. -/
theorem algebraic : Cert.algebraic_DownDwIdeal_DownDwReferenceIdeal := by
  intro m g m' g' _ hagree
  refine ⟨G2 m, run m g, ?_⟩
  refine (θ_run _ _ _).mono (fun r h c => ?_) (Cert.DownDwReferenceIdeal.Value.run m' g')
  obtain ⟨a0, a1⟩ := hagree c
  obtain ⟨h0, h1⟩ := h c
  refine ⟨h0.trans ?_, h1⟩
  rw [Cert.DownDwReferenceIdeal.Read.val_main_v3_eq, a0, a1]
  funext i
  obtain ⟨p, q, rfl⟩ : ∃ (p : Fin 2816) (q : Fin 1024), i = ix2 p q := ⟨i 0, i 1, eq_ix2 i⟩
  exact (ref _ _ p q).trans (value m c p q).symm

/-- The idealized reference ends, its arguments as they were; it declares no semaphore. -/
theorem frame_reference : Cert.quiescent_DownDwReferenceIdeal := fun m ρ _ =>
  (θ_run _ _ _).mono (fun r h => ⟨fun c => (h c).2, sem_eq_zero_of_no_sems (by decide) r.2⟩)
    (Cert.DownDwReferenceIdeal.Value.run m ρ)

end Cert.DownDwSum
end
-- ==== Proof.OutFwSum.lean ====
module
public import proofs.«01_k».proof.Proof.Gen.OutFwIdeal.Value
public import proofs.«01_k».proof.Proof.Gen.OutFwReferenceIdeal.Run
public import proofs.«01_k».proof.Proof.Gen.OutFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product of the merged branches with the output weights, added to what the call is given. -/

noncomputable section
namespace Cert.OutFwSum
open Idealize.ShloMosaic Idealize.ShloMosaic.TcCoe Idealize.ShloMosaic.Tactic
open Cert.OutFwIdeal Cert.OutFwIdeal.Gen Cert.OutFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] ∧ win0_3.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_arg0 : S8192x1024.Idx → EReal) (ix2 (row t a) (place t x)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_v0 : S1024x1024.Idx → EReal) (ix2 (place t x) (col t b)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
/-- A point's block of the result. -/
theorem blkO (G : Buf (Elt Ideal) ((c : Thread nD τ).loc (Pipeline.arrRef spec0 3))) (a : Fin 1024) (b : Fin 1024) :
    (((cfg0.win 3).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x1024 .f32) (x1 : Vec Ideal S1024x1024 .bf16)
    (a : Fin 1024) (b : Fin 1024) :
    k0_pay1 acc x0 x1 (ix2 a b) = acc (ix2 a b) + ∑ x : Fin 1024, (x0 (ix2 a x) : EReal) * x1 (ix2 x b) := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x1024.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x1024.Idx → EReal) = A m c := by
  exact V_main_arg0 m c
/-- What the kernel is given for the second argument is the argument. -/
theorem V_B : (V m c main_v0 : S1024x1024.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 1024, A m c (ix2 p x) * B m c (ix2 x q)

/-- The terms of the sum at row `p` and column `q`. -/
def term (p : Fin 8192) (q : Fin 1024) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 1) + a.val) (hq : q.val = 1024 * (t.val / 1 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The array of the sums. -/
def sums : S8192x1024.Idx → EReal := fun i => total m c (i 0) (i 1)

/-- The kernel's array holds the sums. -/
theorem final : (dats m 0 c).arrAt 3 cfg0.N = sums m c := by
  refine (dats m 0 c).arrAt_eq_of_covers 3 (sums m c) (by decide +kernel) fun t _ y => ?_
  blk_simp
  rw [after0_3]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  refine (congrArg₂ (fun u v : EReal => u + v) (pointC m c t a b (row t a) (col t b) rfl rfl) hs).trans ?_
  rw [total]
  exact congrArg (fun u : EReal => C m c (ix2 (row t a) (col t b)) + u) (Finset.sum_congr rfl fun x _ => dif_pos x.isLt)

/-- So at row `p` and column `q`. -/
theorem value (p : Fin 8192) (q : Fin 1024) : ((dats m 0 c).arrAt 3 cfg0.N : S8192x1024.Idx → EReal) (ix2 p q) = total m c p q :=
  congrFun (final m c) (ix2 p q)

/-- The reference's array holds the sums. -/
theorem ref (x0 : FVec Ideal S8192x1024 .f32) (x1 : FVec Ideal S1024x1024 .f32) (x2 : FVec Ideal S8192x1024 .f32) (p : Fin 8192) (q : Fin 1024) :
    (Cert.OutFwReferenceIdeal.Read.val_main_v1 (F := Ideal) x0 x1 x2 : S8192x1024.Idx → EReal) (ix2 p q)
      = (x2 (ix2 p q) : EReal) + ∑ x : Fin 1024, (x0 (ix2 p x) : EReal) * x1 (ix2 x q) := by
  pointwise [Cert.OutFwReferenceIdeal.Read.val_main_v1, Cert.OutFwReferenceIdeal.Read.val_main_v0]

/-- The idealized kernel and the idealized reference end with the same array. -/
theorem algebraic : Cert.algebraic_OutFwIdeal_OutFwReferenceIdeal := by
  intro m g m' g' _ hagree
  refine ⟨fun c => (dats m 0 c).arrAt 3 cfg0.N, run_blocks m g, ?_⟩
  refine (θ_run _ _ _).mono (fun r h c => ?_) (Cert.OutFwReferenceIdeal.Value.run m' g')
  obtain ⟨a0, a1, a2⟩ := hagree c
  obtain ⟨h0, h1⟩ := h c
  refine ⟨h0.trans ?_, h1⟩
  rw [Cert.OutFwReferenceIdeal.Read.val_main_v1_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_OutFwReferenceIdeal := fun m ρ _ =>
  (θ_run _ _ _).mono (fun r h => ⟨fun c => (h c).2, sem_eq_zero_of_no_sems (by decide) r.2⟩)
    (Cert.OutFwReferenceIdeal.Value.run m ρ)

end Cert.OutFwSum
end
-- ==== Proof.OutDxSum.lean ====
module
public import proofs.«01_k».proof.Proof.Gen.OutDxIdeal.Value
public import proofs.«01_k».proof.Proof.Gen.OutDxReferenceIdeal.Run
public import proofs.«01_k».proof.Proof.Gen.OutDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product of the merged branches with the output weights. -/

noncomputable section
namespace Cert.OutDxSum
open Idealize.ShloMosaic Idealize.ShloMosaic.TcCoe Idealize.ShloMosaic.Tactic
open Cert.OutDxIdeal Cert.OutDxIdeal.Gen Cert.OutDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_arg0 : S8192x1024.Idx → EReal) (ix2 (row t a) (place t x)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 b x)
    = (W main_v0 : S1024x1024.Idx → EReal) (ix2 (col t b) (place t x)) := by
  blk_ext [idx t]
/-- A point's block of the result. -/
theorem blkO (G : Buf (Elt Ideal) ((c : Thread nD τ).loc (Pipeline.arrRef spec0 2))) (a : Fin 1024) (b : Fin 1024) :
    (((cfg0.win 2).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x1024 .f32) (x1 : Vec Ideal S1024x1024 .bf16)
    (a : Fin 1024) (b : Fin 1024) :
    k0_pay2 acc x0 x1 (ix2 a b) = acc (ix2 a b) + ∑ x : Fin 1024, (x0 (ix2 a x) : EReal) * x1 (ix2 b x) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x1024.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_v0 : S1024x1024.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  ∑ x : Fin 1024, A m c (ix2 p x) * B m c (ix2 q x)

/-- The terms of the sum at row `p` and column `q`. -/
def term (p : Fin 8192) (q : Fin 1024) (x : ℕ) : EReal :=
  if h : x < 1024 then A m c (ix2 p ⟨x, h⟩) * B m c (ix2 q ⟨x, h⟩) else 0

/-- The first block of point `t`. -/
abbrev blockA (t : Fin cfg0.N) : S1024x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 1024, blockA m c t (ix2 a x) * blockB m c t (ix2 b x) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 1024) : ((dats m 0 c).arrAt 2 cfg0.N : S8192x1024.Idx → EReal) (ix2 p q) = total m c p q :=
  congrFun (final m c) (ix2 p q)

/-- The reference's array holds the sums. -/
theorem ref (x0 : FVec Ideal S8192x1024 .f32) (x1 : FVec Ideal S1024x1024 .f32) (p : Fin 8192) (q : Fin 1024) :
    (Cert.OutDxReferenceIdeal.Read.val_main_v2 (F := Ideal) x0 x1 : S8192x1024.Idx → EReal) (ix2 p q)
      = ∑ x : Fin 1024, (x0 (ix2 p x) : EReal) * x1 (ix2 q x) := by
  pointwise [Cert.OutDxReferenceIdeal.Read.val_main_v2]

/-- The idealized kernel and the idealized reference end with the same array. -/
theorem algebraic : Cert.algebraic_OutDxIdeal_OutDxReferenceIdeal := by
  intro m g m' g' _ hagree
  refine ⟨fun c => (dats m 0 c).arrAt 2 cfg0.N, run_blocks m g, ?_⟩
  refine (θ_run _ _ _).mono (fun r h c => ?_) (Cert.OutDxReferenceIdeal.Value.run m' g')
  obtain ⟨a0, a1⟩ := hagree c
  obtain ⟨h0, h1⟩ := h c
  refine ⟨h0.trans ?_, h1⟩
  rw [Cert.OutDxReferenceIdeal.Read.val_main_v2_eq, a0, a1]
  funext i
  obtain ⟨p, q, rfl⟩ : ∃ (p : Fin 8192) (q : Fin 1024), i = ix2 p q := ⟨i 0, i 1, eq_ix2 i⟩
  exact (ref _ _ p q).trans (value m c p q).symm

/-- The idealized reference ends, its arguments as they were; it declares no semaphore. -/
theorem frame_reference : Cert.quiescent_OutDxReferenceIdeal := fun m ρ _ =>
  (θ_run _ _ _).mono (fun r h => ⟨fun c => (h c).2, sem_eq_zero_of_no_sems (by decide) r.2⟩)
    (Cert.OutDxReferenceIdeal.Value.run m ρ)

end Cert.OutDxSum
end
-- ==== Proof.OutDwSum.lean ====
module
public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product of the merged branches with the output weights. -/

noncomputable section
namespace Cert.OutDwSum
open Idealize.ShloMosaic Idealize.ShloMosaic.TcCoe Idealize.ShloMosaic.Tactic
open Cert.OutDwIdeal Cert.OutDwIdeal.Gen Cert.OutDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 1024) : Fin 1024 := ⟨1024 * (t.val / 8) + a.val, by have := a.isLt; have : t.val < 8 := lt_of_lt_of_eq t.isLt N_0; omega⟩
/-- The column of the product that column `b` of a point's block is. -/
abbrev col (b : Fin 1024) : Fin 1024 := ⟨1024 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_arg0 : S8192x1024.Idx → EReal) (ix2 (place t x) (row t a)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_arg1 : S8192x1024.Idx → EReal) (ix2 (place t x) (col t b)) := by
  blk_ext [idx t]
end

/-- One step: the block of products is added to what is held. -/
theorem step_apply (acc : Vec Ideal S1024x1024 .f32) (x0 : Vec Ideal S1024x1024 .f32) (x1 : Vec Ideal S1024x1024 .f32)
    (a : Fin 1024) (b : Fin 1024) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x1024.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_arg1 : S8192x1024.Idx → EReal) = B m c := by
  exact V_main_arg1 m c

/-- The sum the result holds at row `p` and column `q`. -/
def total (p : Fin 1024) (q : Fin 1024) : EReal :=
  ∑ x : Fin 8192, A m c (ix2 x p) * B m c (ix2 x q)

/-- The terms of the sum at row `p` and column `q`. -/
def term (p : Fin 1024) (q : Fin 1024) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 1024) (b : Fin 1024) (p : Fin 1024) (q : Fin 1024) (j : ℕ)
    (hp : p.val = 1024 * (t.val / 8) + a.val) (hq : q.val = 1024 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 1024) : (G2 m c : S1024x1024.Idx → EReal) (ix2 p q) = total m c p q := by
  have hp := p.isLt
  have hq := q.isLt
  have hr : run2Of (ix2 p q) = 1 * (p.val / 1024) + q.val / 1024 := by
    show 1 * (p.val / 1024 - 0) + 1 * (q.val / 1024 - 0) = _
    omega
  have hl : loc2Of (ix2 p q) = ix2 ⟨p.val % 1024, Nat.mod_lt _ (by decide)⟩ ⟨q.val % 1024, Nat.mod_lt _ (by decide)⟩ := by
    funext a; match a with
    | ⟨0, _⟩ => rfl
    | ⟨1, _⟩ => rfl
  have hN : cfg0.N = 8 := N_0
  have hlt : 8 * (1 * (p.val / 1024) + q.val / 1024) + 7 < cfg0.N := by omega
  have hG : (G2 m c : S1024x1024.Idx → EReal) (ix2 p q) = Pipeline.accAt (reset2 m c) (step2 m c) (8 * (1 * (p.val / 1024) + q.val / 1024)) 7 hlt
      (ix2 ⟨p.val % 1024, Nat.mod_lt _ (by decide)⟩ ⟨q.val % 1024, Nat.mod_lt _ (by decide)⟩) := by
    unfold G2
    rw [dif_pos (by rw [hr]; exact hlt)]
    rw [hl]
    have gen : ∀ (r : ℕ) (h : 8 * r + 7 < cfg0.N) (i), r = 1 * (p.val / 1024) + q.val / 1024 →
        Pipeline.accAt (reset2 m c) (step2 m c) (8 * r) 7 h i
          = Pipeline.accAt (reset2 m c) (step2 m c) (8 * (1 * (p.val / 1024) + q.val / 1024)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1024, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x1024 .f32) (p : Fin 1024) (q : Fin 1024) :
    (Cert.OutDwReferenceIdeal.Read.val_main_v3 (F := Ideal) x0 x1 : S1024x1024.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.OutDwReferenceIdeal.Read.val_main_v3, Cert.OutDwReferenceIdeal.Read.val_main_v2]

/-- The idealized kernel and the idealized reference end with the same array. -/
theorem algebraic : Cert.algebraic_OutDwIdeal_OutDwReferenceIdeal := by
  intro m g m' g' _ hagree
  refine ⟨G2 m, run m g, ?_⟩
  refine (θ_run _ _ _).mono (fun r h c => ?_) (Cert.OutDwReferenceIdeal.Value.run m' g')
  obtain ⟨a0, a1⟩ := hagree c
  obtain ⟨h0, h1⟩ := h c
  refine ⟨h0.trans ?_, h1⟩
  rw [Cert.OutDwReferenceIdeal.Read.val_main_v3_eq, a0, a1]
  funext i
  obtain ⟨p, q, rfl⟩ : ∃ (p : Fin 1024) (q : Fin 1024), i = ix2 p q := ⟨i 0, i 1, eq_ix2 i⟩
  exact (ref _ _ p q).trans (value m c p q).symm

/-- The idealized reference ends, its arguments as they were; it declares no semaphore. -/
theorem frame_reference : Cert.quiescent_OutDwReferenceIdeal := fun m ρ _ =>
  (θ_run _ _ _).mono (fun r h => ⟨fun c => (h c).2, sem_eq_zero_of_no_sems (by decide) r.2⟩)
    (Cert.OutDwReferenceIdeal.Value.run m ρ)

end Cert.OutDwSum
end
-- ==== Proof.BranchFwSum.lean ====
module
public import proofs.«01_k».proof.Proof.Gen.BranchFwIdeal.Value
public import proofs.«01_k».proof.Proof.Gen.BranchFwReferenceIdeal.Run
public import proofs.«01_k».proof.Proof.Gen.BranchFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product of one branch's output with its weights. -/

noncomputable section
namespace Cert.BranchFwSum
open Idealize.ShloMosaic Idealize.ShloMosaic.TcCoe Idealize.ShloMosaic.Tactic
open Cert.BranchFwIdeal Cert.BranchFwIdeal.Gen Cert.BranchFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 512) : Fin 512 := ⟨512 * (t.val % 1) + x.val, by have := x.isLt; omega⟩
/-- A point's block of the first array. -/
theorem blkA (W : (b : Ref sig .tc) → Buf (Elt Ideal) ((c : Thread nD τ).loc b)) (a : Fin 1024) (x : Fin 512) :
    (((cfg0.win 0).blk t).view.read (Elt Ideal) (W (Pipeline.arrRef spec0 0)) : S1024x512.Idx → EReal) (ix2 a x)
    = (W main_arg0 : S8192x512.Idx → EReal) (ix2 (row t a) (place t x)) := by
  blk_ext [idx t]
/-- A point's block of the second array. -/
theorem blkB (W : (b : Ref sig .tc) → Buf (Elt Ideal) ((c : Thread nD τ).loc b)) (b : Fin 1024) (x : Fin 512) :
    (((cfg0.win 1).blk t).view.read (Elt Ideal) (W (Pipeline.arrRef spec0 1)) : S512x1024.Idx → EReal) (ix2 x b)
    = (W main_v0 : S512x1024.Idx → EReal) (ix2 (place t x) (col t b)) := by
  blk_ext [idx t]
/-- A point's block of the result. -/
theorem blkO (G : Buf (Elt Ideal) ((c : Thread nD τ).loc (Pipeline.arrRef spec0 2))) (a : Fin 1024) (b : Fin 1024) :
    (((cfg0.win 2).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x512 .f32) (x1 : Vec Ideal S512x1024 .bf16)
    (a : Fin 1024) (b : Fin 1024) :
    k0_pay2 acc x0 x1 (ix2 a b) = acc (ix2 a b) + ∑ x : Fin 512, (x0 (ix2 a x) : EReal) * x1 (ix2 x b) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x512.Idx → EReal := m ((c : Thread nD τ).loc main_arg0)
/-- The second argument. -/
abbrev B : S512x1024.Idx → EReal := m ((c : Thread nD τ).loc main_arg1)
/-- What the kernel is given for the first argument is the argument. -/
theorem V_A : (V m c main_arg0 : S8192x512.Idx → EReal) = A m c := by
  exact V_main_arg0 m c
/-- What the kernel is given for the second argument is the argument. -/
theorem V_B : (V m c main_v0 : S512x1024.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  ∑ x : Fin 512, A m c (ix2 p x) * B m c (ix2 x q)

/-- The terms of the sum at row `p` and column `q`. -/
def term (p : Fin 8192) (q : Fin 1024) (x : ℕ) : EReal :=
  if h : x < 512 then A m c (ix2 p ⟨x, h⟩) * B m c (ix2 ⟨x, h⟩ q) else 0

/-- The first block of point `t`. -/
abbrev blockA (t : Fin cfg0.N) : S1024x512.Idx → EReal := iblk m c 0 t
/-- The second block of point `t`. -/
abbrev blockB (t : Fin cfg0.N) : S512x1024.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 512, blockA m c t (ix2 a x) * blockB m c t (ix2 x b) = ∑ x : Fin 512, term m c p q (512 * j + x.val) := by
  subst hj
  obtain rfl : p = row t a := Fin.ext hp
  obtain rfl : q = col t b := Fin.ext hq
  refine Finset.sum_congr rfl fun x _ => ?_
  have hx : 512 * (t.val % 1) + x.val < 512 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 1024) : ((dats m 0 c).arrAt 2 cfg0.N : S8192x1024.Idx → EReal) (ix2 p q) = total m c p q :=
  congrFun (final m c) (ix2 p q)

/-- The reference's array holds the sums. -/
theorem ref (x0 : FVec Ideal S8192x512 .f32) (x1 : FVec Ideal S512x1024 .f32) (p : Fin 8192) (q : Fin 1024) :
    (Cert.BranchFwReferenceIdeal.Read.val_main_v0 (F := Ideal) x0 x1 : S8192x1024.Idx → EReal) (ix2 p q)
      = ∑ x : Fin 512, (x0 (ix2 p x) : EReal) * x1 (ix2 x q) := by
  pointwise [Cert.BranchFwReferenceIdeal.Read.val_main_v0]

/-- The idealized kernel and the idealized reference end with the same array. -/
theorem algebraic : Cert.algebraic_BranchFwIdeal_BranchFwReferenceIdeal := by
  intro m g m' g' _ hagree
  refine ⟨fun c => (dats m 0 c).arrAt 2 cfg0.N, run_blocks m g, ?_⟩
  refine (θ_run _ _ _).mono (fun r h c => ?_) (Cert.BranchFwReferenceIdeal.Value.run m' g')
  obtain ⟨a0, a1⟩ := hagree c
  obtain ⟨h0, h1⟩ := h c
  refine ⟨h0.trans ?_, h1⟩
  rw [Cert.BranchFwReferenceIdeal.Read.val_main_v0_eq, a0, a1]
  funext i
  obtain ⟨p, q, rfl⟩ : ∃ (p : Fin 8192) (q : Fin 1024), i = ix2 p q := ⟨i 0, i 1, eq_ix2 i⟩
  exact (ref _ _ p q).trans (value m c p q).symm

/-- The idealized reference ends, its arguments as they were; it declares no semaphore. -/
theorem frame_reference : Cert.quiescent_BranchFwReferenceIdeal := fun m ρ _ =>
  (θ_run _ _ _).mono (fun r h => ⟨fun c => (h c).2, sem_eq_zero_of_no_sems (by decide) r.2⟩)
    (Cert.BranchFwReferenceIdeal.Value.run m ρ)

end Cert.BranchFwSum
end
-- ==== Proof.BranchDxSum.lean ====
module
public import proofs.«01_k».proof.Proof.Gen.BranchDxIdeal.Value
public import proofs.«01_k».proof.Proof.Gen.BranchDxReferenceIdeal.Run
public import proofs.«01_k».proof.Proof.Gen.BranchDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product of one branch's output with its weights. -/

noncomputable section
namespace Cert.BranchDxSum
open Idealize.ShloMosaic Idealize.ShloMosaic.TcCoe Idealize.ShloMosaic.Tactic
open Cert.BranchDxIdeal Cert.BranchDxIdeal.Gen Cert.BranchDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 512) : Fin 512 := ⟨512 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_arg0 : S8192x1024.Idx → EReal) (ix2 (row t a) (place t x)) := by
  blk_ext [idx t]
/-- A point's block of the second array. -/
theorem blkB (W : (b : Ref sig .tc) → Buf (Elt Ideal) ((c : Thread nD τ).loc b)) (b : Fin 512) (x : Fin 1024) :
    (((cfg0.win 1).blk t).view.read (Elt Ideal) (W (Pipeline.arrRef spec0 1)) : S512x1024.Idx → EReal) (ix2 b x)
    = (W main_v0 : S512x1024.Idx → EReal) (ix2 (col t b) (place t x)) := by
  blk_ext [idx t]
/-- A point's block of the result. -/
theorem blkO (G : Buf (Elt Ideal) ((c : Thread nD τ).loc (Pipeline.arrRef spec0 2))) (a : Fin 1024) (b : Fin 512) :
    (((cfg0.win 2).blk t).view.read (Elt Ideal) G : S1024x512.Idx → EReal) (ix2 a b)
    = (G : S8192x512.Idx → EReal) (ix2 (row t a) (col t b)) := by
  blk_ext [idx t]
end

/-- One step: the block of products is added to what is held. -/
theorem step_apply (acc : Vec Ideal S1024x512 .f32) (x0 : Vec Ideal S1024x1024 .f32) (x1 : Vec Ideal S512x1024 .bf16)
    (a : Fin 1024) (b : Fin 512) :
    k0_pay2 acc x0 x1 (ix2 a b) = acc (ix2 a b) + ∑ x : Fin 1024, (x0 (ix2 a x) : EReal) * x1 (ix2 b x) := by
  pointwise [k0_pay2]
/-- The block a run begins with is zero. -/
theorem zero_apply (a : Fin 1024) (b : Fin 512) : (k0_pay1 (F := Ideal) : S1024x512.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S512x1024.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_v0 : S512x1024.Idx → EReal) = B m c := by
  show StableHlo.after hostOps0 (fun b => m (c, b)) (Proc.tc.devRef main_v0) = _
  entry_read
  rfl

/-- The sum the result holds at row `p` and column `q`. -/
def total (p : Fin 8192) (q : Fin 512) : EReal :=
  ∑ x : Fin 1024, A m c (ix2 p x) * B m c (ix2 q x)

/-- The terms of the sum at row `p` and column `q`. -/
def term (p : Fin 8192) (q : Fin 512) (x : ℕ) : EReal :=
  if h : x < 1024 then A m c (ix2 p ⟨x, h⟩) * B m c (ix2 q ⟨x, h⟩) else 0

/-- The first block of point `t`. -/
abbrev blockA (t : Fin cfg0.N) : S1024x1024.Idx → EReal := iblk m c 0 t
/-- The second block of point `t`. -/
abbrev blockB (t : Fin cfg0.N) : S512x1024.Idx → EReal := iblk m c 1 t

/-- What a point adds: its block of the terms. -/
theorem point (t : Fin cfg0.N) (a : Fin 1024) (b : Fin 512) (p : Fin 8192) (q : Fin 512) (j : ℕ)
    (hp : p.val = 1024 * (t.val / 1) + a.val) (hq : q.val = 512 * (t.val / 1 % 1) + b.val) (hj : t.val % 1 = j) :
    ∑ x : Fin 1024, blockA m c t (ix2 a x) * blockB m c t (ix2 b x) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x512.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 512), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 512) : ((dats m 0 c).arrAt 2 cfg0.N : S8192x512.Idx → EReal) (ix2 p q) = total m c p q :=
  congrFun (final m c) (ix2 p q)

/-- The reference's array holds the sums. -/
theorem ref (x0 : FVec Ideal S8192x1024 .f32) (x1 : FVec Ideal S512x1024 .f32) (p : Fin 8192) (q : Fin 512) :
    (Cert.BranchDxReferenceIdeal.Read.val_main_v2 (F := Ideal) x0 x1 : S8192x512.Idx → EReal) (ix2 p q)
      = ∑ x : Fin 1024, (x0 (ix2 p x) : EReal) * x1 (ix2 q x) := by
  pointwise [Cert.BranchDxReferenceIdeal.Read.val_main_v2]

/-- The idealized kernel and the idealized reference end with the same array. -/
theorem algebraic : Cert.algebraic_BranchDxIdeal_BranchDxReferenceIdeal := by
  intro m g m' g' _ hagree
  refine ⟨fun c => (dats m 0 c).arrAt 2 cfg0.N, run_blocks m g, ?_⟩
  refine (θ_run _ _ _).mono (fun r h c => ?_) (Cert.BranchDxReferenceIdeal.Value.run m' g')
  obtain ⟨a0, a1⟩ := hagree c
  obtain ⟨h0, h1⟩ := h c
  refine ⟨h0.trans ?_, h1⟩
  rw [Cert.BranchDxReferenceIdeal.Read.val_main_v2_eq, a0, a1]
  funext i
  obtain ⟨p, q, rfl⟩ : ∃ (p : Fin 8192) (q : Fin 512), i = ix2 p q := ⟨i 0, i 1, eq_ix2 i⟩
  exact (ref _ _ p q).trans (value m c p q).symm

/-- The idealized reference ends, its arguments as they were; it declares no semaphore. -/
theorem frame_reference : Cert.quiescent_BranchDxReferenceIdeal := fun m ρ _ =>
  (θ_run _ _ _).mono (fun r h => ⟨fun c => (h c).2, sem_eq_zero_of_no_sems (by decide) r.2⟩)
    (Cert.BranchDxReferenceIdeal.Value.run m ρ)

end Cert.BranchDxSum
end
-- ==== Proof.BranchDwSum.lean ====
module
public import proofs.«01_k».proof.Proof.Gen.BranchDwIdeal.Value
public import proofs.«01_k».proof.Proof.Gen.BranchDwReferenceIdeal.Run
public import proofs.«01_k».proof.Proof.Gen.BranchDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product of one branch's output with its weights. -/

noncomputable section
namespace Cert.BranchDwSum
open Idealize.ShloMosaic Idealize.ShloMosaic.TcCoe Idealize.ShloMosaic.Tactic
open Cert.BranchDwIdeal Cert.BranchDwIdeal.Gen Cert.BranchDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 512) : Fin 512 := ⟨512 * (t.val / 8) + a.val, by have := a.isLt; have : t.val < 8 := lt_of_lt_of_eq t.isLt N_0; omega⟩
/-- The column of the product that column `b` of a point's block is. -/
abbrev col (b : Fin 1024) : Fin 1024 := ⟨1024 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 512) (x : Fin 1024) :
    (((cfg0.win 0).blk t).view.read (Elt Ideal) (W (Pipeline.arrRef spec0 0)) : S1024x512.Idx → EReal) (ix2 x a)
    = (W main_arg0 : S8192x512.Idx → EReal) (ix2 (place t x) (row t a)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_arg1 : S8192x1024.Idx → EReal) (ix2 (place t x) (col t b)) := by
  blk_ext [idx t]
end

/-- One step: the block of products is added to what is held. -/
theorem step_apply (acc : Vec Ideal S512x1024 .f32) (x0 : Vec Ideal S1024x512 .f32) (x1 : Vec Ideal S1024x1024 .f32)
    (a : Fin 512) (b : Fin 1024) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 512) (b : Fin 1024) : (k0_pay1 (F := Ideal) : S512x1024.Idx → EReal) (ix2 a b) = 0 := by
  pointwise [k0_pay1]

variable (m : (ℓ : Loc nD τ sig) → Buf (Elt Ideal) ℓ) (c : Dev nD)

/-- The first argument. -/
abbrev A : S8192x512.Idx → EReal := m ((c : Thread nD τ).loc main_arg0)
/-- The second argument. -/
abbrev B : S8192x1024.Idx → EReal := m ((c : Thread nD τ).loc main_arg1)
/-- What the kernel is given for the first argument is the argument. -/
theorem V_A : (V m c main_arg0 : S8192x512.Idx → EReal) = A m c := by
  exact V_main_arg0 m c
/-- What the kernel is given for the second argument is the argument. -/
theorem V_B : (V m c main_arg1 : S8192x1024.Idx → EReal) = B m c := by
  exact V_main_arg1 m c

/-- The sum the result holds at row `p` and column `q`. -/
def total (p : Fin 512) (q : Fin 1024) : EReal :=
  ∑ x : Fin 8192, A m c (ix2 x p) * B m c (ix2 x q)

/-- The terms of the sum at row `p` and column `q`. -/
def term (p : Fin 512) (q : Fin 1024) (x : ℕ) : EReal :=
  if h : x < 8192 then A m c (ix2 ⟨x, h⟩ p) * B m c (ix2 ⟨x, h⟩ q) else 0

/-- The first block of point `t`. -/
abbrev blockA (t : Fin cfg0.N) : S1024x512.Idx → EReal := iblk m c 0 t
/-- The second block of point `t`. -/
abbrev blockB (t : Fin cfg0.N) : S1024x1024.Idx → EReal := iblk m c 1 t

/-- What a point adds: its block of the terms. -/
theorem point (t : Fin cfg0.N) (a : Fin 512) (b : Fin 1024) (p : Fin 512) (q : Fin 1024) (j : ℕ)
    (hp : p.val = 512 * (t.val / 8) + a.val) (hq : q.val = 1024 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 512) (q : Fin 1024) : (G2 m c : S512x1024.Idx → EReal) (ix2 p q) = total m c p q := by
  have hp := p.isLt
  have hq := q.isLt
  have hr : run2Of (ix2 p q) = 1 * (p.val / 512) + q.val / 1024 := by
    show 1 * (p.val / 512 - 0) + 1 * (q.val / 1024 - 0) = _
    omega
  have hl : loc2Of (ix2 p q) = ix2 ⟨p.val % 512, Nat.mod_lt _ (by decide)⟩ ⟨q.val % 1024, Nat.mod_lt _ (by decide)⟩ := by
    funext a; match a with
    | ⟨0, _⟩ => rfl
    | ⟨1, _⟩ => rfl
  have hN : cfg0.N = 8 := N_0
  have hlt : 8 * (1 * (p.val / 512) + q.val / 1024) + 7 < cfg0.N := by omega
  have hG : (G2 m c : S512x1024.Idx → EReal) (ix2 p q) = Pipeline.accAt (reset2 m c) (step2 m c) (8 * (1 * (p.val / 512) + q.val / 1024)) 7 hlt
      (ix2 ⟨p.val % 512, Nat.mod_lt _ (by decide)⟩ ⟨q.val % 1024, Nat.mod_lt _ (by decide)⟩) := by
    unfold G2
    rw [dif_pos (by rw [hr]; exact hlt)]
    rw [hl]
    have gen : ∀ (r : ℕ) (h : 8 * r + 7 < cfg0.N) (i), r = 1 * (p.val / 512) + q.val / 1024 →
        Pipeline.accAt (reset2 m c) (step2 m c) (8 * r) 7 h i
          = Pipeline.accAt (reset2 m c) (step2 m c) (8 * (1 * (p.val / 512) + q.val / 1024)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 512, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 512, Nat.mod_lt _ (by decide)⟩ ⟨q.val % 1024, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x512 .f32) (x1 : FVec Ideal S8192x1024 .f32) (p : Fin 512) (q : Fin 1024) :
    (Cert.BranchDwReferenceIdeal.Read.val_main_v3 (F := Ideal) x0 x1 : S512x1024.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.BranchDwReferenceIdeal.Read.val_main_v3, Cert.BranchDwReferenceIdeal.Read.val_main_v2]

/-- The idealized kernel and the idealized reference end with the same array. -/
theorem algebraic : Cert.algebraic_BranchDwIdeal_BranchDwReferenceIdeal := by
  intro m g m' g' _ hagree
  refine ⟨G2 m, run m g, ?_⟩
  refine (θ_run _ _ _).mono (fun r h c => ?_) (Cert.BranchDwReferenceIdeal.Value.run m' g')
  obtain ⟨a0, a1⟩ := hagree c
  obtain ⟨h0, h1⟩ := h c
  refine ⟨h0.trans ?_, h1⟩
  rw [Cert.BranchDwReferenceIdeal.Read.val_main_v3_eq, a0, a1]
  funext i
  obtain ⟨p, q, rfl⟩ : ∃ (p : Fin 512) (q : Fin 1024), i = ix2 p q := ⟨i 0, i 1, eq_ix2 i⟩
  exact (ref _ _ p q).trans (value m c p q).symm

/-- The idealized reference ends, its arguments as they were; it declares no semaphore. -/
theorem frame_reference : Cert.quiescent_BranchDwReferenceIdeal := fun m ρ _ =>
  (θ_run _ _ _).mono (fun r h => ⟨fun c => (h c).2, sem_eq_zero_of_no_sems (by decide) r.2⟩)
    (Cert.BranchDwReferenceIdeal.Value.run m ρ)

end Cert.BranchDwSum
end
-- ==== Proof.MemFwSum.lean ====
module
public import proofs.«01_k».proof.Proof.Gen.MemFwIdeal.Value
public import proofs.«01_k».proof.Proof.Gen.MemFwReferenceIdeal.Run
public import proofs.«01_k».proof.Proof.Gen.MemFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product of the memory's answer with its weights, added to what the call is given. -/

noncomputable section
namespace Cert.MemFwSum
open Idealize.ShloMosaic Idealize.ShloMosaic.TcCoe Idealize.ShloMosaic.Tactic
open Cert.MemFwIdeal Cert.MemFwIdeal.Gen Cert.MemFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] ∧ win0_3.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 512) : Fin 512 := ⟨512 * (t.val % 1) + x.val, by have := x.isLt; omega⟩
/-- A point's block of the first array. -/
theorem blkA (W : (b : Ref sig .tc) → Buf (Elt Ideal) ((c : Thread nD τ).loc b)) (a : Fin 1024) (x : Fin 512) :
    (((cfg0.win 0).blk t).view.read (Elt Ideal) (W (Pipeline.arrRef spec0 0)) : S1024x512.Idx → EReal) (ix2 a x)
    = (W main_arg0 : S8192x512.Idx → EReal) (ix2 (row t a) (place t x)) := by
  blk_ext [idx t]
/-- A point's block of the second array. -/
theorem blkB (W : (b : Ref sig .tc) → Buf (Elt Ideal) ((c : Thread nD τ).loc b)) (b : Fin 1024) (x : Fin 512) :
    (((cfg0.win 1).blk t).view.read (Elt Ideal) (W (Pipeline.arrRef spec0 1)) : S512x1024.Idx → EReal) (ix2 x b)
    = (W main_v0 : S512x1024.Idx → EReal) (ix2 (place t x) (col t b)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
/-- A point's block of the result. -/
theorem blkO (G : Buf (Elt Ideal) ((c : Thread nD τ).loc (Pipeline.arrRef spec0 3))) (a : Fin 1024) (b : Fin 1024) :
    (((cfg0.win 3).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x512 .f32) (x1 : Vec Ideal S512x1024 .bf16)
    (a : Fin 1024) (b : Fin 1024) :
    k0_pay1 acc x0 x1 (ix2 a b) = acc (ix2 a b) + ∑ x : Fin 512, (x0 (ix2 a x) : EReal) * x1 (ix2 x b) := by
  pointwise [k0_pay1]

variable (m : (ℓ : Loc nD τ sig) → Buf (Elt Ideal) ℓ) (c : Dev nD)

/-- The first argument. -/
abbrev A : S8192x512.Idx → EReal := m ((c : Thread nD τ).loc main_arg0)
/-- The second argument. -/
abbrev B : S512x1024.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x512.Idx → EReal) = A m c := by
  exact V_main_arg0 m c
/-- What the kernel is given for the second argument is the argument. -/
theorem V_B : (V m c main_v0 : S512x1024.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 512, A m c (ix2 p x) * B m c (ix2 x q)

/-- The terms of the sum at row `p` and column `q`. -/
def term (p : Fin 8192) (q : Fin 1024) (x : ℕ) : EReal :=
  if h : x < 512 then A m c (ix2 p ⟨x, h⟩) * B m c (ix2 ⟨x, h⟩ q) else 0

/-- The first block of point `t`. -/
abbrev blockA (t : Fin cfg0.N) : S1024x512.Idx → EReal := iblk m c 0 t
/-- The second block of point `t`. -/
abbrev blockB (t : Fin cfg0.N) : S512x1024.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 512, blockA m c t (ix2 a x) * blockB m c t (ix2 x b) = ∑ x : Fin 512, term m c p q (512 * j + x.val) := by
  subst hj
  obtain rfl : p = row t a := Fin.ext hp
  obtain rfl : q = col t b := Fin.ext hq
  refine Finset.sum_congr rfl fun x _ => ?_
  have hx : 512 * (t.val % 1) + x.val < 512 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 1) + a.val) (hq : q.val = 1024 * (t.val / 1 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The array of the sums. -/
def sums : S8192x1024.Idx → EReal := fun i => total m c (i 0) (i 1)

/-- The kernel's array holds the sums. -/
theorem final : (dats m 0 c).arrAt 3 cfg0.N = sums m c := by
  refine (dats m 0 c).arrAt_eq_of_covers 3 (sums m c) (by decide +kernel) fun t _ y => ?_
  blk_simp
  rw [after0_3]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  refine (congrArg₂ (fun u v : EReal => u + v) (pointC m c t a b (row t a) (col t b) rfl rfl) hs).trans ?_
  rw [total]
  exact congrArg (fun u : EReal => C m c (ix2 (row t a) (col t b)) + u) (Finset.sum_congr rfl fun x _ => dif_pos x.isLt)

/-- So at row `p` and column `q`. -/
theorem value (p : Fin 8192) (q : Fin 1024) : ((dats m 0 c).arrAt 3 cfg0.N : S8192x1024.Idx → EReal) (ix2 p q) = total m c p q :=
  congrFun (final m c) (ix2 p q)

/-- The reference's array holds the sums. -/
theorem ref (x0 : FVec Ideal S8192x512 .f32) (x1 : FVec Ideal S512x1024 .f32) (x2 : FVec Ideal S8192x1024 .f32) (p : Fin 8192) (q : Fin 1024) :
    (Cert.MemFwReferenceIdeal.Read.val_main_v1 (F := Ideal) x0 x1 x2 : S8192x1024.Idx → EReal) (ix2 p q)
      = (x2 (ix2 p q) : EReal) + ∑ x : Fin 512, (x0 (ix2 p x) : EReal) * x1 (ix2 x q) := by
  pointwise [Cert.MemFwReferenceIdeal.Read.val_main_v1, Cert.MemFwReferenceIdeal.Read.val_main_v0]

/-- The idealized kernel and the idealized reference end with the same array. -/
theorem algebraic : Cert.algebraic_MemFwIdeal_MemFwReferenceIdeal := by
  intro m g m' g' _ hagree
  refine ⟨fun c => (dats m 0 c).arrAt 3 cfg0.N, run_blocks m g, ?_⟩
  refine (θ_run _ _ _).mono (fun r h c => ?_) (Cert.MemFwReferenceIdeal.Value.run m' g')
  obtain ⟨a0, a1, a2⟩ := hagree c
  obtain ⟨h0, h1⟩ := h c
  refine ⟨h0.trans ?_, h1⟩
  rw [Cert.MemFwReferenceIdeal.Read.val_main_v1_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_MemFwReferenceIdeal := fun m ρ _ =>
  (θ_run _ _ _).mono (fun r h => ⟨fun c => (h c).2, sem_eq_zero_of_no_sems (by decide) r.2⟩)
    (Cert.MemFwReferenceIdeal.Value.run m ρ)

end Cert.MemFwSum
end
-- ==== Proof.QueryFwSum.lean ====
module
public import proofs.«01_k».proof.Proof.Gen.QueryFwIdeal.Value
public import proofs.«01_k».proof.Proof.Gen.QueryFwReferenceIdeal.Run
public import proofs.«01_k».proof.Proof.Gen.QueryFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product that makes the queries to the memory. -/

noncomputable section
namespace Cert.QueryFwSum
open Idealize.ShloMosaic Idealize.ShloMosaic.TcCoe Idealize.ShloMosaic.Tactic
open Cert.QueryFwIdeal Cert.QueryFwIdeal.Gen Cert.QueryFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 512) : Fin 512 := ⟨512 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_arg0 : S8192x1024.Idx → EReal) (ix2 (row t a) (place t x)) := by
  blk_ext [idx t]
/-- A point's block of the second array. -/
theorem blkB (W : (b : Ref sig .tc) → Buf (Elt Ideal) ((c : Thread nD τ).loc b)) (b : Fin 512) (x : Fin 1024) :
    (((cfg0.win 1).blk t).view.read (Elt Ideal) (W (Pipeline.arrRef spec0 1)) : S1024x512.Idx → EReal) (ix2 x b)
    = (W main_v0 : S1024x512.Idx → EReal) (ix2 (place t x) (col t b)) := by
  blk_ext [idx t]
/-- A point's block of the result. -/
theorem blkO (G : Buf (Elt Ideal) ((c : Thread nD τ).loc (Pipeline.arrRef spec0 2))) (a : Fin 1024) (b : Fin 512) :
    (((cfg0.win 2).blk t).view.read (Elt Ideal) G : S1024x512.Idx → EReal) (ix2 a b)
    = (G : S8192x512.Idx → EReal) (ix2 (row t a) (col t b)) := by
  blk_ext [idx t]
end

/-- One step: the block of products is added to what is held. -/
theorem step_apply (acc : Vec Ideal S1024x512 .f32) (x0 : Vec Ideal S1024x1024 .f32) (x1 : Vec Ideal S1024x512 .bf16)
    (a : Fin 1024) (b : Fin 512) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 512) : (k0_pay1 (F := Ideal) : S1024x512.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x512.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_v0 : S1024x512.Idx → EReal) = B m c := by
  show StableHlo.after hostOps0 (fun b => m (c, b)) (Proc.tc.devRef main_v0) = _
  entry_read
  rfl

/-- The sum the result holds at row `p` and column `q`. -/
def total (p : Fin 8192) (q : Fin 512) : EReal :=
  ∑ x : Fin 1024, A m c (ix2 p x) * B m c (ix2 x q)

/-- The terms of the sum at row `p` and column `q`. -/
def term (p : Fin 8192) (q : Fin 512) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 512) (p : Fin 8192) (q : Fin 512) (j : ℕ)
    (hp : p.val = 1024 * (t.val / 1) + a.val) (hq : q.val = 512 * (t.val / 1 % 1) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x512.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 512), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 512) : ((dats m 0 c).arrAt 2 cfg0.N : S8192x512.Idx → EReal) (ix2 p q) = total m c p q :=
  congrFun (final m c) (ix2 p q)

/-- The reference's array holds the sums. -/
theorem ref (x0 : FVec Ideal S8192x1024 .f32) (x1 : FVec Ideal S1024x512 .f32) (p : Fin 8192) (q : Fin 512) :
    (Cert.QueryFwReferenceIdeal.Read.val_main_v0 (F := Ideal) x0 x1 : S8192x512.Idx → EReal) (ix2 p q)
      = ∑ x : Fin 1024, (x0 (ix2 p x) : EReal) * x1 (ix2 x q) := by
  pointwise [Cert.QueryFwReferenceIdeal.Read.val_main_v0]

/-- The idealized kernel and the idealized reference end with the same array. -/
theorem algebraic : Cert.algebraic_QueryFwIdeal_QueryFwReferenceIdeal := by
  intro m g m' g' _ hagree
  refine ⟨fun c => (dats m 0 c).arrAt 2 cfg0.N, run_blocks m g, ?_⟩
  refine (θ_run _ _ _).mono (fun r h c => ?_) (Cert.QueryFwReferenceIdeal.Value.run m' g')
  obtain ⟨a0, a1⟩ := hagree c
  obtain ⟨h0, h1⟩ := h c
  refine ⟨h0.trans ?_, h1⟩
  rw [Cert.QueryFwReferenceIdeal.Read.val_main_v0_eq, a0, a1]
  funext i
  obtain ⟨p, q, rfl⟩ : ∃ (p : Fin 8192) (q : Fin 512), i = ix2 p q := ⟨i 0, i 1, eq_ix2 i⟩
  exact (ref _ _ p q).trans (value m c p q).symm

/-- The idealized reference ends, its arguments as they were; it declares no semaphore. -/
theorem frame_reference : Cert.quiescent_QueryFwReferenceIdeal := fun m ρ _ =>
  (θ_run _ _ _).mono (fun r h => ⟨fun c => (h c).2, sem_eq_zero_of_no_sems (by decide) r.2⟩)
    (Cert.QueryFwReferenceIdeal.Value.run m ρ)

end Cert.QueryFwSum
end
-- ==== Proof.QueryDxSum.lean ====
module
public import proofs.«01_k».proof.Proof.Gen.QueryDxIdeal.Value
public import proofs.«01_k».proof.Proof.Gen.QueryDxReferenceIdeal.Run
public import proofs.«01_k».proof.Proof.Gen.QueryDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product that makes the queries to the memory. -/

noncomputable section
namespace Cert.QueryDxSum
open Idealize.ShloMosaic Idealize.ShloMosaic.TcCoe Idealize.ShloMosaic.Tactic
open Cert.QueryDxIdeal Cert.QueryDxIdeal.Gen Cert.QueryDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 512) : Fin 512 := ⟨512 * (t.val % 1) + x.val, by have := x.isLt; omega⟩
/-- A point's block of the first array. -/
theorem blkA (W : (b : Ref sig .tc) → Buf (Elt Ideal) ((c : Thread nD τ).loc b)) (a : Fin 1024) (x : Fin 512) :
    (((cfg0.win 0).blk t).view.read (Elt Ideal) (W (Pipeline.arrRef spec0 0)) : S1024x512.Idx → EReal) (ix2 a x)
    = (W main_arg0 : S8192x512.Idx → EReal) (ix2 (row t a) (place t x)) := by
  blk_ext [idx t]
/-- A point's block of the second array. -/
theorem blkB (W : (b : Ref sig .tc) → Buf (Elt Ideal) ((c : Thread nD τ).loc b)) (b : Fin 1024) (x : Fin 512) :
    (((cfg0.win 1).blk t).view.read (Elt Ideal) (W (Pipeline.arrRef spec0 1)) : S1024x512.Idx → EReal) (ix2 b x)
    = (W main_v0 : S1024x512.Idx → EReal) (ix2 (col t b) (place t x)) := by
  blk_ext [idx t]
/-- A point's block of the result. -/
theorem blkO (G : Buf (Elt Ideal) ((c : Thread nD τ).loc (Pipeline.arrRef spec0 2))) (a : Fin 1024) (b : Fin 1024) :
    (((cfg0.win 2).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x512 .f32) (x1 : Vec Ideal S1024x512 .bf16)
    (a : Fin 1024) (b : Fin 1024) :
    k0_pay2 acc x0 x1 (ix2 a b) = acc (ix2 a b) + ∑ x : Fin 512, (x0 (ix2 a x) : EReal) * x1 (ix2 b x) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x512.Idx → EReal := m ((c : Thread nD τ).loc main_arg0)
/-- The second argument. -/
abbrev B : S1024x512.Idx → EReal := m ((c : Thread nD τ).loc main_arg1)
/-- What the kernel is given for the first argument is the argument. -/
theorem V_A : (V m c main_arg0 : S8192x512.Idx → EReal) = A m c := by
  exact V_main_arg0 m c
/-- What the kernel is given for the second argument is the argument. -/
theorem V_B : (V m c main_v0 : S1024x512.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  ∑ x : Fin 512, A m c (ix2 p x) * B m c (ix2 q x)

/-- The terms of the sum at row `p` and column `q`. -/
def term (p : Fin 8192) (q : Fin 1024) (x : ℕ) : EReal :=
  if h : x < 512 then A m c (ix2 p ⟨x, h⟩) * B m c (ix2 q ⟨x, h⟩) else 0

/-- The first block of point `t`. -/
abbrev blockA (t : Fin cfg0.N) : S1024x512.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 512, blockA m c t (ix2 a x) * blockB m c t (ix2 b x) = ∑ x : Fin 512, term m c p q (512 * j + x.val) := by
  subst hj
  obtain rfl : p = row t a := Fin.ext hp
  obtain rfl : q = col t b := Fin.ext hq
  refine Finset.sum_congr rfl fun x _ => ?_
  have hx : 512 * (t.val % 1) + x.val < 512 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 1024) : ((dats m 0 c).arrAt 2 cfg0.N : S8192x1024.Idx → EReal) (ix2 p q) = total m c p q :=
  congrFun (final m c) (ix2 p q)

/-- The reference's array holds the sums. -/
theorem ref (x0 : FVec Ideal S8192x512 .f32) (x1 : FVec Ideal S1024x512 .f32) (p : Fin 8192) (q : Fin 1024) :
    (Cert.QueryDxReferenceIdeal.Read.val_main_v2 (F := Ideal) x0 x1 : S8192x1024.Idx → EReal) (ix2 p q)
      = ∑ x : Fin 512, (x0 (ix2 p x) : EReal) * x1 (ix2 q x) := by
  pointwise [Cert.QueryDxReferenceIdeal.Read.val_main_v2]

/-- The idealized kernel and the idealized reference end with the same array. -/
theorem algebraic : Cert.algebraic_QueryDxIdeal_QueryDxReferenceIdeal := by
  intro m g m' g' _ hagree
  refine ⟨fun c => (dats m 0 c).arrAt 2 cfg0.N, run_blocks m g, ?_⟩
  refine (θ_run _ _ _).mono (fun r h c => ?_) (Cert.QueryDxReferenceIdeal.Value.run m' g')
  obtain ⟨a0, a1⟩ := hagree c
  obtain ⟨h0, h1⟩ := h c
  refine ⟨h0.trans ?_, h1⟩
  rw [Cert.QueryDxReferenceIdeal.Read.val_main_v2_eq, a0, a1]
  funext i
  obtain ⟨p, q, rfl⟩ : ∃ (p : Fin 8192) (q : Fin 1024), i = ix2 p q := ⟨i 0, i 1, eq_ix2 i⟩
  exact (ref _ _ p q).trans (value m c p q).symm

/-- The idealized reference ends, its arguments as they were; it declares no semaphore. -/
theorem frame_reference : Cert.quiescent_QueryDxReferenceIdeal := fun m ρ _ =>
  (θ_run _ _ _).mono (fun r h => ⟨fun c => (h c).2, sem_eq_zero_of_no_sems (by decide) r.2⟩)
    (Cert.QueryDxReferenceIdeal.Value.run m ρ)

end Cert.QueryDxSum
end
-- ==== Proof.QueryDwSum.lean ====
module
public import proofs.«01_k».proof.Proof.Gen.QueryDwIdeal.Value
public import proofs.«01_k».proof.Proof.Gen.QueryDwReferenceIdeal.Run
public import proofs.«01_k».proof.Proof.Gen.QueryDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product that makes the queries to the memory. -/

noncomputable section
namespace Cert.QueryDwSum
open Idealize.ShloMosaic Idealize.ShloMosaic.TcCoe Idealize.ShloMosaic.Tactic
open Cert.QueryDwIdeal Cert.QueryDwIdeal.Gen Cert.QueryDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 1024) : Fin 1024 := ⟨1024 * (t.val / 8) + a.val, by have := a.isLt; have : t.val < 8 := lt_of_lt_of_eq t.isLt N_0; omega⟩
/-- The column of the product that column `b` of a point's block is. -/
abbrev col (b : Fin 512) : Fin 512 := ⟨512 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_arg0 : S8192x1024.Idx → EReal) (ix2 (place t x) (row t a)) := by
  blk_ext [idx t]
/-- A point's block of the second array. -/
theorem blkB (W : (b : Ref sig .tc) → Buf (Elt Ideal) ((c : Thread nD τ).loc b)) (b : Fin 512) (x : Fin 1024) :
    (((cfg0.win 1).blk t).view.read (Elt Ideal) (W (Pipeline.arrRef spec0 1)) : S1024x512.Idx → EReal) (ix2 x b)
    = (W main_arg1 : S8192x512.Idx → EReal) (ix2 (place t x) (col t b)) := by
  blk_ext [idx t]
end

/-- One step: the block of products is added to what is held. -/
theorem step_apply (acc : Vec Ideal S1024x512 .f32) (x0 : Vec Ideal S1024x1024 .f32) (x1 : Vec Ideal S1024x512 .f32)
    (a : Fin 1024) (b : Fin 512) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 512) : (k0_pay1 (F := Ideal) : S1024x512.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x512.Idx → EReal := m ((c : Thread nD τ).loc main_arg1)
/-- What the kernel is given for the first argument is the argument. -/
theorem V_A : (V m c main_arg0 : S8192x1024.Idx → EReal) = A m c := by
  exact V_main_arg0 m c
/-- What the kernel is given for the second argument is the argument. -/
theorem V_B : (V m c main_arg1 : S8192x512.Idx → EReal) = B m c := by
  exact V_main_arg1 m c

/-- The sum the result holds at row `p` and column `q`. -/
def total (p : Fin 1024) (q : Fin 512) : EReal :=
  ∑ x : Fin 8192, A m c (ix2 x p) * B m c (ix2 x q)

/-- The terms of the sum at row `p` and column `q`. -/
def term (p : Fin 1024) (q : Fin 512) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 512) (p : Fin 1024) (q : Fin 512) (j : ℕ)
    (hp : p.val = 1024 * (t.val / 8) + a.val) (hq : q.val = 512 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 512) : (G2 m c : S1024x512.Idx → EReal) (ix2 p q) = total m c p q := by
  have hp := p.isLt
  have hq := q.isLt
  have hr : run2Of (ix2 p q) = 1 * (p.val / 1024) + q.val / 512 := by
    show 1 * (p.val / 1024 - 0) + 1 * (q.val / 512 - 0) = _
    omega
  have hl : loc2Of (ix2 p q) = ix2 ⟨p.val % 1024, Nat.mod_lt _ (by decide)⟩ ⟨q.val % 512, Nat.mod_lt _ (by decide)⟩ := by
    funext a; match a with
    | ⟨0, _⟩ => rfl
    | ⟨1, _⟩ => rfl
  have hN : cfg0.N = 8 := N_0
  have hlt : 8 * (1 * (p.val / 1024) + q.val / 512) + 7 < cfg0.N := by omega
  have hG : (G2 m c : S1024x512.Idx → EReal) (ix2 p q) = Pipeline.accAt (reset2 m c) (step2 m c) (8 * (1 * (p.val / 1024) + q.val / 512)) 7 hlt
      (ix2 ⟨p.val % 1024, Nat.mod_lt _ (by decide)⟩ ⟨q.val % 512, Nat.mod_lt _ (by decide)⟩) := by
    unfold G2
    rw [dif_pos (by rw [hr]; exact hlt)]
    rw [hl]
    have gen : ∀ (r : ℕ) (h : 8 * r + 7 < cfg0.N) (i), r = 1 * (p.val / 1024) + q.val / 512 →
        Pipeline.accAt (reset2 m c) (step2 m c) (8 * r) 7 h i
          = Pipeline.accAt (reset2 m c) (step2 m c) (8 * (1 * (p.val / 1024) + q.val / 512)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 512, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 512, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x512 .f32) (p : Fin 1024) (q : Fin 512) :
    (Cert.QueryDwReferenceIdeal.Read.val_main_v3 (F := Ideal) x0 x1 : S1024x512.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.QueryDwReferenceIdeal.Read.val_main_v3, Cert.QueryDwReferenceIdeal.Read.val_main_v2]

/-- The idealized kernel and the idealized reference end with the same array. -/
theorem algebraic : Cert.algebraic_QueryDwIdeal_QueryDwReferenceIdeal := by
  intro m g m' g' _ hagree
  refine ⟨G2 m, run m g, ?_⟩
  refine (θ_run _ _ _).mono (fun r h c => ?_) (Cert.QueryDwReferenceIdeal.Value.run m' g')
  obtain ⟨a0, a1⟩ := hagree c
  obtain ⟨h0, h1⟩ := h c
  refine ⟨h0.trans ?_, h1⟩
  rw [Cert.QueryDwReferenceIdeal.Read.val_main_v3_eq, a0, a1]
  funext i
  obtain ⟨p, q, rfl⟩ : ∃ (p : Fin 1024) (q : Fin 512), i = ix2 p q := ⟨i 0, i 1, eq_ix2 i⟩
  exact (ref _ _ p q).trans (value m c p q).symm

/-- The idealized reference ends, its arguments as they were; it declares no semaphore. -/
theorem frame_reference : Cert.quiescent_QueryDwReferenceIdeal := fun m ρ _ =>
  (θ_run _ _ _).mono (fun r h => ⟨fun c => (h c).2, sem_eq_zero_of_no_sems (by decide) r.2⟩)
    (Cert.QueryDwReferenceIdeal.Value.run m ρ)

end Cert.QueryDwSum
end
-- ==== Proof.BankFwSum.lean ====
module
public import proofs.«01_k».proof.Proof.Gen.BankFwIdeal.Value
public import proofs.«01_k».proof.Proof.Gen.BankFwReferenceIdeal.Run
public import proofs.«01_k».proof.Proof.Gen.BankFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the product that makes the memory's keys and values. -/

noncomputable section
namespace Cert.BankFwSum
open Idealize.ShloMosaic Idealize.ShloMosaic.TcCoe Idealize.ShloMosaic.Tactic
open Cert.BankFwIdeal Cert.BankFwIdeal.Gen Cert.BankFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 256) : Fin 256 := ⟨256 * (t.val / 1) + a.val, by have := a.isLt; have : t.val < 1 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 256) (x : Fin 1024) :
    (((cfg0.win 0).blk t).view.read (Elt Ideal) (W (Pipeline.arrRef spec0 0)) : S256x1024.Idx → EReal) (ix2 a x)
    = (W main_arg0 : S256x1024.Idx → EReal) (ix2 (row t a) (place t x)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_v0 : S1024x1024.Idx → EReal) (ix2 (place t x) (col t b)) := by
  blk_ext [idx t]
/-- A point's block of the result. -/
theorem blkO (G : Buf (Elt Ideal) ((c : Thread nD τ).loc (Pipeline.arrRef spec0 2))) (a : Fin 256) (b : Fin 1024) :
    (((cfg0.win 2).blk t).view.read (Elt Ideal) G : S256x1024.Idx → EReal) (ix2 a b)
    = (G : S256x1024.Idx → EReal) (ix2 (row t a) (col t b)) := by
  blk_ext [idx t]
end

/-- One step: the block of products is added to what is held. -/
theorem step_apply (acc : Vec Ideal S256x1024 .f32) (x0 : Vec Ideal S256x1024 .f32) (x1 : Vec Ideal S1024x1024 .bf16)
    (a : Fin 256) (b : Fin 1024) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 256) (b : Fin 1024) : (k0_pay1 (F := Ideal) : S256x1024.Idx → EReal) (ix2 a b) = 0 := by
  pointwise [k0_pay1]

variable (m : (ℓ : Loc nD τ sig) → Buf (Elt Ideal) ℓ) (c : Dev nD)

/-- The first argument. -/
abbrev A : S256x1024.Idx → EReal := m ((c : Thread nD τ).loc main_arg0)
/-- The second argument. -/
abbrev B : S1024x1024.Idx → EReal := m ((c : Thread nD τ).loc main_arg1)
/-- What the kernel is given for the first argument is the argument. -/
theorem V_A : (V m c main_arg0 : S256x1024.Idx → EReal) = A m c := by
  exact V_main_arg0 m c
/-- What the kernel is given for the second argument is the argument. -/
theorem V_B : (V m c main_v0 : S1024x1024.Idx → EReal) = B m c := by
  show StableHlo.after hostOps0 (fun b => m (c, b)) (Proc.tc.devRef main_v0) = _
  entry_read
  rfl

/-- The sum the result holds at row `p` and column `q`. -/
def total (p : Fin 256) (q : Fin 1024) : EReal :=
  ∑ x : Fin 1024, A m c (ix2 p x) * B m c (ix2 x q)

/-- The terms of the sum at row `p` and column `q`. -/
def term (p : Fin 256) (q : Fin 1024) (x : ℕ) : EReal :=
  if h : x < 1024 then A m c (ix2 p ⟨x, h⟩) * B m c (ix2 ⟨x, h⟩ q) else 0

/-- The first block of point `t`. -/
abbrev blockA (t : Fin cfg0.N) : S256x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 256) (b : Fin 1024) (p : Fin 256) (q : Fin 1024) (j : ℕ)
    (hp : p.val = 256 * (t.val / 1) + a.val) (hq : q.val = 1024 * (t.val / 1 % 1) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S256x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 256) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 256) (q : Fin 1024) : ((dats m 0 c).arrAt 2 cfg0.N : S256x1024.Idx → EReal) (ix2 p q) = total m c p q :=
  congrFun (final m c) (ix2 p q)

/-- The reference's array holds the sums. -/
theorem ref (x0 : FVec Ideal S256x1024 .f32) (x1 : FVec Ideal S1024x1024 .f32) (p : Fin 256) (q : Fin 1024) :
    (Cert.BankFwReferenceIdeal.Read.val_main_v0 (F := Ideal) x0 x1 : S256x1024.Idx → EReal) (ix2 p q)
      = ∑ x : Fin 1024, (x0 (ix2 p x) : EReal) * x1 (ix2 x q) := by
  pointwise [Cert.BankFwReferenceIdeal.Read.val_main_v0]

/-- The idealized kernel and the idealized reference end with the same array. -/
theorem algebraic : Cert.algebraic_BankFwIdeal_BankFwReferenceIdeal := by
  intro m g m' g' _ hagree
  refine ⟨fun c => (dats m 0 c).arrAt 2 cfg0.N, run_blocks m g, ?_⟩
  refine (θ_run _ _ _).mono (fun r h c => ?_) (Cert.BankFwReferenceIdeal.Value.run m' g')
  obtain ⟨a0, a1⟩ := hagree c
  obtain ⟨h0, h1⟩ := h c
  refine ⟨h0.trans ?_, h1⟩
  rw [Cert.BankFwReferenceIdeal.Read.val_main_v0_eq, a0, a1]
  funext i
  obtain ⟨p, q, rfl⟩ : ∃ (p : Fin 256) (q : Fin 1024), i = ix2 p q := ⟨i 0, i 1, eq_ix2 i⟩
  exact (ref _ _ p q).trans (value m c p q).symm

/-- The idealized reference ends, its arguments as they were; it declares no semaphore. -/
theorem frame_reference : Cert.quiescent_BankFwReferenceIdeal := fun m ρ _ =>
  (θ_run _ _ _).mono (fun r h => ⟨fun c => (h c).2, sem_eq_zero_of_no_sems (by decide) r.2⟩)
    (Cert.BankFwReferenceIdeal.Value.run m ρ)

end Cert.BankFwSum
end
-- ==== Proof.BankDxSum.lean ====
module
public import proofs.«01_k».proof.Proof.Gen.BankDxIdeal.Value
public import proofs.«01_k».proof.Proof.Gen.BankDxReferenceIdeal.Run
public import proofs.«01_k».proof.Proof.Gen.BankDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the product that makes the memory's keys and values. -/

noncomputable section
namespace Cert.BankDxSum
open Idealize.ShloMosaic Idealize.ShloMosaic.TcCoe Idealize.ShloMosaic.Tactic
open Cert.BankDxIdeal Cert.BankDxIdeal.Gen Cert.BankDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 256) : Fin 256 := ⟨256 * (t.val / 1) + a.val, by have := a.isLt; have : t.val < 1 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 256) (x : Fin 1024) :
    (((cfg0.win 0).blk t).view.read (Elt Ideal) (W (Pipeline.arrRef spec0 0)) : S256x1024.Idx → EReal) (ix2 a x)
    = (W main_arg0 : S256x1024.Idx → EReal) (ix2 (row t a) (place t x)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 b x)
    = (W main_v0 : S1024x1024.Idx → EReal) (ix2 (col t b) (place t x)) := by
  blk_ext [idx t]
/-- A point's block of the result. -/
theorem blkO (G : Buf (Elt Ideal) ((c : Thread nD τ).loc (Pipeline.arrRef spec0 2))) (a : Fin 256) (b : Fin 1024) :
    (((cfg0.win 2).blk t).view.read (Elt Ideal) G : S256x1024.Idx → EReal) (ix2 a b)
    = (G : S256x1024.Idx → EReal) (ix2 (row t a) (col t b)) := by
  blk_ext [idx t]
end

/-- One step: the block of products is added to what is held. -/
theorem step_apply (acc : Vec Ideal S256x1024 .f32) (x0 : Vec Ideal S256x1024 .f32) (x1 : Vec Ideal S1024x1024 .bf16)
    (a : Fin 256) (b : Fin 1024) :
    k0_pay2 acc x0 x1 (ix2 a b) = acc (ix2 a b) + ∑ x : Fin 1024, (x0 (ix2 a x) : EReal) * x1 (ix2 b x) := by
  pointwise [k0_pay2]
/-- The block a run begins with is zero. -/
theorem zero_apply (a : Fin 256) (b : Fin 1024) : (k0_pay1 (F := Ideal) : S256x1024.Idx → EReal) (ix2 a b) = 0 := by
  pointwise [k0_pay1]

variable (m : (ℓ : Loc nD τ sig) → Buf (Elt Ideal) ℓ) (c : Dev nD)

/-- The first argument. -/
abbrev A : S256x1024.Idx → EReal := m ((c : Thread nD τ).loc main_arg0)
/-- The second argument. -/
abbrev B : S1024x1024.Idx → EReal := m ((c : Thread nD τ).loc main_arg1)
/-- What the kernel is given for the first argument is the argument. -/
theorem V_A : (V m c main_arg0 : S256x1024.Idx → EReal) = A m c := by
  exact V_main_arg0 m c
/-- What the kernel is given for the second argument is the argument. -/
theorem V_B : (V m c main_v0 : S1024x1024.Idx → EReal) = B m c := by
  show StableHlo.after hostOps0 (fun b => m (c, b)) (Proc.tc.devRef main_v0) = _
  entry_read
  rfl

/-- The sum the result holds at row `p` and column `q`. -/
def total (p : Fin 256) (q : Fin 1024) : EReal :=
  ∑ x : Fin 1024, A m c (ix2 p x) * B m c (ix2 q x)

/-- The terms of the sum at row `p` and column `q`. -/
def term (p : Fin 256) (q : Fin 1024) (x : ℕ) : EReal :=
  if h : x < 1024 then A m c (ix2 p ⟨x, h⟩) * B m c (ix2 q ⟨x, h⟩) else 0

/-- The first block of point `t`. -/
abbrev blockA (t : Fin cfg0.N) : S256x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 256) (b : Fin 1024) (p : Fin 256) (q : Fin 1024) (j : ℕ)
    (hp : p.val = 256 * (t.val / 1) + a.val) (hq : q.val = 1024 * (t.val / 1 % 1) + b.val) (hj : t.val % 1 = j) :
    ∑ x : Fin 1024, blockA m c t (ix2 a x) * blockB m c t (ix2 b x) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S256x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 256) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 256) (q : Fin 1024) : ((dats m 0 c).arrAt 2 cfg0.N : S256x1024.Idx → EReal) (ix2 p q) = total m c p q :=
  congrFun (final m c) (ix2 p q)

/-- The reference's array holds the sums. -/
theorem ref (x0 : FVec Ideal S256x1024 .f32) (x1 : FVec Ideal S1024x1024 .f32) (p : Fin 256) (q : Fin 1024) :
    (Cert.BankDxReferenceIdeal.Read.val_main_v2 (F := Ideal) x0 x1 : S256x1024.Idx → EReal) (ix2 p q)
      = ∑ x : Fin 1024, (x0 (ix2 p x) : EReal) * x1 (ix2 q x) := by
  pointwise [Cert.BankDxReferenceIdeal.Read.val_main_v2]

/-- The idealized kernel and the idealized reference end with the same array. -/
theorem algebraic : Cert.algebraic_BankDxIdeal_BankDxReferenceIdeal := by
  intro m g m' g' _ hagree
  refine ⟨fun c => (dats m 0 c).arrAt 2 cfg0.N, run_blocks m g, ?_⟩
  refine (θ_run _ _ _).mono (fun r h c => ?_) (Cert.BankDxReferenceIdeal.Value.run m' g')
  obtain ⟨a0, a1⟩ := hagree c
  obtain ⟨h0, h1⟩ := h c
  refine ⟨h0.trans ?_, h1⟩
  rw [Cert.BankDxReferenceIdeal.Read.val_main_v2_eq, a0, a1]
  funext i
  obtain ⟨p, q, rfl⟩ : ∃ (p : Fin 256) (q : Fin 1024), i = ix2 p q := ⟨i 0, i 1, eq_ix2 i⟩
  exact (ref _ _ p q).trans (value m c p q).symm

/-- The idealized reference ends, its arguments as they were; it declares no semaphore. -/
theorem frame_reference : Cert.quiescent_BankDxReferenceIdeal := fun m ρ _ =>
  (θ_run _ _ _).mono (fun r h => ⟨fun c => (h c).2, sem_eq_zero_of_no_sems (by decide) r.2⟩)
    (Cert.BankDxReferenceIdeal.Value.run m ρ)

end Cert.BankDxSum
end
-- ==== Proof.BankDwSum.lean ====
module
public import proofs.«01_k».proof.Proof.Gen.BankDwIdeal.Value
public import proofs.«01_k».proof.Proof.Gen.BankDwReferenceIdeal.Run
public import proofs.«01_k».proof.Proof.Gen.BankDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the product that makes the memory's keys and values. -/

noncomputable section
namespace Cert.BankDwSum
open Idealize.ShloMosaic Idealize.ShloMosaic.TcCoe Idealize.ShloMosaic.Tactic
open Cert.BankDwIdeal Cert.BankDwIdeal.Gen Cert.BankDwIdeal.Value

/-- The blocks each point reads and the block it writes. -/
theorem idx : ∀ t : Fin cfg0.N, win0_0.index t = ![t.val % 1, t.val / 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 1024 := ⟨1024 * (t.val / 1) + a.val, by have := a.isLt; have : t.val < 1 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 256) : Fin 256 := ⟨256 * (t.val % 1) + x.val, by have := x.isLt; omega⟩
/-- A point's block of the first array. -/
theorem blkA (W : (b : Ref sig .tc) → Buf (Elt Ideal) ((c : Thread nD τ).loc b)) (a : Fin 1024) (x : Fin 256) :
    (((cfg0.win 0).blk t).view.read (Elt Ideal) (W (Pipeline.arrRef spec0 0)) : S256x1024.Idx → EReal) (ix2 x a)
    = (W main_arg0 : S256x1024.Idx → EReal) (ix2 (place t x) (row t a)) := by
  blk_ext [idx t]
/-- A point's block of the second array. -/
theorem blkB (W : (b : Ref sig .tc) → Buf (Elt Ideal) ((c : Thread nD τ).loc b)) (b : Fin 1024) (x : Fin 256) :
    (((cfg0.win 1).blk t).view.read (Elt Ideal) (W (Pipeline.arrRef spec0 1)) : S256x1024.Idx → EReal) (ix2 x b)
    = (W main_arg1 : S256x1024.Idx → EReal) (ix2 (place t x) (col t b)) := by
  blk_ext [idx t]
/-- A point's block of the result. -/
theorem blkO (G : Buf (Elt Ideal) ((c : Thread nD τ).loc (Pipeline.arrRef spec0 2))) (a : Fin 1024) (b : Fin 1024) :
    (((cfg0.win 2).blk t).view.read (Elt Ideal) G : S1024x1024.Idx → EReal) (ix2 a b)
    = (G : S1024x1024.Idx → EReal) (ix2 (row t a) (col t b)) := by
  blk_ext [idx t]
end

/-- One step: the block of products is added to what is held. -/
theorem step_apply (acc : Vec Ideal S1024x1024 .f32) (x0 : Vec Ideal S256x1024 .f32) (x1 : Vec Ideal S256x1024 .f32)
    (a : Fin 1024) (b : Fin 1024) :
    k0_pay2 acc x0 x1 (ix2 a b) = acc (ix2 a b) + ∑ x : Fin 256, (x0 (ix2 x a) : EReal) * x1 (ix2 x b) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S256x1024.Idx → EReal := m ((c : Thread nD τ).loc main_arg0)
/-- The second argument. -/
abbrev B : S256x1024.Idx → EReal := m ((c : Thread nD τ).loc main_arg1)
/-- What the kernel is given for the first argument is the argument. -/
theorem V_A : (V m c main_arg0 : S256x1024.Idx → EReal) = A m c := by
  exact V_main_arg0 m c
/-- What the kernel is given for the second argument is the argument. -/
theorem V_B : (V m c main_arg1 : S256x1024.Idx → EReal) = B m c := by
  exact V_main_arg1 m c

/-- The sum the result holds at row `p` and column `q`. -/
def total (p : Fin 1024) (q : Fin 1024) : EReal :=
  ∑ x : Fin 256, A m c (ix2 x p) * B m c (ix2 x q)

/-- The terms of the sum at row `p` and column `q`. -/
def term (p : Fin 1024) (q : Fin 1024) (x : ℕ) : EReal :=
  if h : x < 256 then A m c (ix2 ⟨x, h⟩ p) * B m c (ix2 ⟨x, h⟩ q) else 0

/-- The first block of point `t`. -/
abbrev blockA (t : Fin cfg0.N) : S256x1024.Idx → EReal := iblk m c 0 t
/-- The second block of point `t`. -/
abbrev blockB (t : Fin cfg0.N) : S256x1024.Idx → EReal := iblk m c 1 t

/-- What a point adds: its block of the terms. -/
theorem point (t : Fin cfg0.N) (a : Fin 1024) (b : Fin 1024) (p : Fin 1024) (q : Fin 1024) (j : ℕ)
    (hp : p.val = 1024 * (t.val / 1) + a.val) (hq : q.val = 1024 * (t.val / 1 % 1) + b.val) (hj : t.val % 1 = j) :
    ∑ x : Fin 256, blockA m c t (ix2 x a) * blockB m c t (ix2 x b) = ∑ x : Fin 256, term m c p q (256 * j + x.val) := by
  subst hj
  obtain rfl : p = row t a := Fin.ext hp
  obtain rfl : q = col t b := Fin.ext hq
  refine Finset.sum_congr rfl fun x _ => ?_
  have hx : 256 * (t.val % 1) + x.val < 256 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S1024x1024.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 1024) (q : Fin 1024) : ((dats m 0 c).arrAt 2 cfg0.N : S1024x1024.Idx → EReal) (ix2 p q) = total m c p q :=
  congrFun (final m c) (ix2 p q)

/-- The reference's array holds the sums. -/
theorem ref (x0 : FVec Ideal S256x1024 .f32) (x1 : FVec Ideal S256x1024 .f32) (p : Fin 1024) (q : Fin 1024) :
    (Cert.BankDwReferenceIdeal.Read.val_main_v3 (F := Ideal) x0 x1 : S1024x1024.Idx → EReal) (ix2 p q)
      = ∑ x : Fin 256, (x0 (ix2 x p) : EReal) * x1 (ix2 x q) := by
  refine Eq.trans (b := ∑ x : Fin 256, (x1 (ix2 x q) : EReal) * x0 (ix2 x p)) ?_ (Finset.sum_congr rfl fun x _ => mul_comm _ _)
  pointwise [Cert.BankDwReferenceIdeal.Read.val_main_v3, Cert.BankDwReferenceIdeal.Read.val_main_v2]

/-- The idealized kernel and the idealized reference end with the same array. -/
theorem algebraic : Cert.algebraic_BankDwIdeal_BankDwReferenceIdeal := by
  intro m g m' g' _ hagree
  refine ⟨fun c => (dats m 0 c).arrAt 2 cfg0.N, run_blocks m g, ?_⟩
  refine (θ_run _ _ _).mono (fun r h c => ?_) (Cert.BankDwReferenceIdeal.Value.run m' g')
  obtain ⟨a0, a1⟩ := hagree c
  obtain ⟨h0, h1⟩ := h c
  refine ⟨h0.trans ?_, h1⟩
  rw [Cert.BankDwReferenceIdeal.Read.val_main_v3_eq, a0, a1]
  funext i
  obtain ⟨p, q, rfl⟩ : ∃ (p : Fin 1024) (q : Fin 1024), i = ix2 p q := ⟨i 0, i 1, eq_ix2 i⟩
  exact (ref _ _ p q).trans (value m c p q).symm

/-- The idealized reference ends, its arguments as they were; it declares no semaphore. -/
theorem frame_reference : Cert.quiescent_BankDwReferenceIdeal := fun m ρ _ =>
  (θ_run _ _ _).mono (fun r h => ⟨fun c => (h c).2, sem_eq_zero_of_no_sems (by decide) r.2⟩)
    (Cert.BankDwReferenceIdeal.Value.run m ρ)

end Cert.BankDwSum
end
-- ==== Proof.GatesFwSum.lean ====
module
public import proofs.«01_k».proof.Proof.Gen.GatesFwIdeal.Value
public import proofs.«01_k».proof.Proof.Gen.GatesFwReferenceIdeal.Run
public import proofs.«01_k».proof.Proof.Gen.GatesFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the input projection's columns of merge gates. -/

noncomputable section
namespace Cert.GatesFwSum
open Idealize.ShloMosaic Idealize.ShloMosaic.TcCoe Idealize.ShloMosaic.Tactic
open Cert.GatesFwIdeal Cert.GatesFwIdeal.Gen Cert.GatesFwIdeal.Value

/-- The blocks each point reads and the block it writes. -/
theorem idx : ∀ t : Fin cfg0.N, win0_0.index t = ![t.val / 3, t.val % 1] ∧ win0_1.index t = ![t.val % 1, t.val / 1 % 3]
    ∧ win0_2.index t = ![t.val / 3, t.val / 1 % 3] :=
  (by decide +kernel : ∀ t : Fin grid0.N, _)

section
variable (c : Dev nD) (t : Fin cfg0.N)
/-- The row of the product that row `a` of a point's block is. -/
abbrev row (a : Fin 1024) : Fin 8192 := ⟨1024 * (t.val / 3) + a.val, by have := a.isLt; have : t.val < 24 := lt_of_lt_of_eq t.isLt N_0; omega⟩
/-- The column of the product that column `b` of a point's block is. -/
abbrev col (b : Fin 1024) : Fin 3072 := ⟨1024 * (t.val / 1 % 3) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_v0 : S8192x1024.Idx → EReal) (ix2 (row t a) (place t x)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_v1 : S1024x3072.Idx → EReal) (ix2 (place t x) (col t b)) := by
  blk_ext [idx t]
/-- A point's block of the result. -/
theorem blkO (G : Buf (Elt Ideal) ((c : Thread nD τ).loc (Pipeline.arrRef spec0 2))) (a : Fin 1024) (b : Fin 1024) :
    (((cfg0.win 2).blk t).view.read (Elt Ideal) G : S1024x1024.Idx → EReal) (ix2 a b)
    = (G : S8192x3072.Idx → EReal) (ix2 (row t a) (col t b)) := by
  blk_ext [idx t]
end

/-- One step: the block of products is added to what is held. -/
theorem step_apply (acc : Vec Ideal S1024x1024 .f32) (x0 : Vec Ideal S1024x1024 .bf16) (x1 : Vec Ideal S1024x1024 .bf16)
    (a : Fin 1024) (b : Fin 1024) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x3072.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_v1 : S1024x3072.Idx → EReal) = B m c := by
  show StableHlo.after hostOps0 (fun b => m (c, b)) (Proc.tc.devRef main_v1) = _
  entry_read
  rfl

/-- The sum the result holds at row `p` and column `q`. -/
def total (p : Fin 8192) (q : Fin 3072) : EReal :=
  ∑ x : Fin 1024, A m c (ix2 p x) * B m c (ix2 x q)

/-- The terms of the sum at row `p` and column `q`. -/
def term (p : Fin 8192) (q : Fin 3072) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 1024) (b : Fin 1024) (p : Fin 8192) (q : Fin 3072) (j : ℕ)
    (hp : p.val = 1024 * (t.val / 3) + a.val) (hq : q.val = 1024 * (t.val / 1 % 3) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x3072.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 3072) : ((dats m 0 c).arrAt 2 cfg0.N : S8192x3072.Idx → EReal) (ix2 p q) = total m c p q :=
  congrFun (final m c) (ix2 p q)

/-- The reference's array holds the sums. -/
theorem ref (x0 : FVec Ideal S8192x1024 .f32) (x1 : FVec Ideal S1024x3072 .f32) (p : Fin 8192) (q : Fin 3072) :
    (Cert.GatesFwReferenceIdeal.Read.val_main_v0 (F := Ideal) x0 x1 : S8192x3072.Idx → EReal) (ix2 p q)
      = ∑ x : Fin 1024, (x0 (ix2 p x) : EReal) * x1 (ix2 x q) := by
  pointwise [Cert.GatesFwReferenceIdeal.Read.val_main_v0]

/-- The idealized kernel and the idealized reference end with the same array. -/
theorem algebraic : Cert.algebraic_GatesFwIdeal_GatesFwReferenceIdeal := by
  intro m g m' g' _ hagree
  refine ⟨fun c => (dats m 0 c).arrAt 2 cfg0.N, run_blocks m g, ?_⟩
  refine (θ_run _ _ _).mono (fun r h c => ?_) (Cert.GatesFwReferenceIdeal.Value.run m' g')
  obtain ⟨a0, a1⟩ := hagree c
  obtain ⟨h0, h1⟩ := h c
  refine ⟨h0.trans ?_, h1⟩
  rw [Cert.GatesFwReferenceIdeal.Read.val_main_v0_eq, a0, a1]
  funext i
  obtain ⟨p, q, rfl⟩ : ∃ (p : Fin 8192) (q : Fin 3072), i = ix2 p q := ⟨i 0, i 1, eq_ix2 i⟩
  exact (ref _ _ p q).trans (value m c p q).symm

/-- The idealized reference ends, its arguments as they were; it declares no semaphore. -/
theorem frame_reference : Cert.quiescent_GatesFwReferenceIdeal := fun m ρ _ =>
  (θ_run _ _ _).mono (fun r h => ⟨fun c => (h c).2, sem_eq_zero_of_no_sems (by decide) r.2⟩)
    (Cert.GatesFwReferenceIdeal.Value.run m ρ)

end Cert.GatesFwSum
end
-- ==== Proof.GatesDxSum.lean ====
module
public import proofs.«01_k».proof.Proof.Gen.GatesDxIdeal.Value
public import proofs.«01_k».proof.Proof.Gen.GatesDxReferenceIdeal.Run
public import proofs.«01_k».proof.Proof.Gen.GatesDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the input projection's columns of merge gates, added to what the call is given. -/

noncomputable section
namespace Cert.GatesDxSum
open Idealize.ShloMosaic Idealize.ShloMosaic.TcCoe Idealize.ShloMosaic.Tactic
open Cert.GatesDxIdeal Cert.GatesDxIdeal.Gen Cert.GatesDxIdeal.Value

/-- The blocks each point reads and the block it writes. -/
theorem idx : ∀ t : Fin cfg0.N, win0_0.index t = ![t.val / 2, t.val % 2] ∧ win0_1.index t = ![t.val / 2 % 1, t.val % 2]
    ∧ win0_2.index t = ![t.val / 2, t.val / 2 % 1] ∧ win0_3.index t = ![t.val / 2, t.val / 2 % 1] :=
  (by decide +kernel : ∀ t : Fin grid0.N, _)

section
variable (c : Dev nD) (t : Fin cfg0.N)
/-- The row of the product that row `a` of a point's block is. -/
abbrev row (a : Fin 1024) : Fin 8192 := ⟨1024 * (t.val / 2) + a.val, by have := a.isLt; have : t.val < 16 := lt_of_lt_of_eq t.isLt N_0; omega⟩
/-- The column of the product that column `b` of a point's block is. -/
abbrev col (b : Fin 1024) : Fin 1024 := ⟨1024 * (t.val / 2 % 1) + b.val, by have := b.isLt; omega⟩
/-- The place of the sum that place `x` of a point's block is. -/
abbrev place (x : Fin 1536) : Fin 3072 := ⟨1536 * (t.val % 2) + x.val, by have := x.isLt; omega⟩
/-- A point's block of the first array. -/
theorem blkA (W : (b : Ref sig .tc) → Buf (Elt Ideal) ((c : Thread nD τ).loc b)) (a : Fin 1024) (x : Fin 1536) :
    (((cfg0.win 0).blk t).view.read (Elt Ideal) (W (Pipeline.arrRef spec0 0)) : S1024x1536.Idx → EReal) (ix2 a x)
    = (W main_arg0 : S8192x3072.Idx → EReal) (ix2 (row t a) (place t x)) := by
  blk_ext [idx t]
/-- A point's block of the second array. -/
theorem blkB (W : (b : Ref sig .tc) → Buf (Elt Ideal) ((c : Thread nD τ).loc b)) (b : Fin 1024) (x : Fin 1536) :
    (((cfg0.win 1).blk t).view.read (Elt Ideal) (W (Pipeline.arrRef spec0 1)) : S1024x1536.Idx → EReal) (ix2 b x)
    = (W main_v0 : S1024x3072.Idx → EReal) (ix2 (col t b) (place t x)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
end

/-- One step: the block of products is added to what is held. -/
theorem step_apply (acc : Vec Ideal S1024x1024 .f32) (x0 : Vec Ideal S1024x1536 .f32) (x1 : Vec Ideal S1024x1536 .bf16)
    (a : Fin 1024) (b : Fin 1024) :
    k0_pay1 acc x0 x1 (ix2 a b) = acc (ix2 a b) + ∑ x : Fin 1536, (x0 (ix2 a x) : EReal) * x1 (ix2 b x) := by
  pointwise [k0_pay1]

variable (m : (ℓ : Loc nD τ sig) → Buf (Elt Ideal) ℓ) (c : Dev nD)

/-- The first argument. -/
abbrev A : S8192x3072.Idx → EReal := m ((c : Thread nD τ).loc main_arg0)
/-- The second argument. -/
abbrev B : S1024x3072.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x3072.Idx → EReal) = A m c := by
  exact V_main_arg0 m c
/-- What the kernel is given for the second argument is the argument. -/
theorem V_B : (V m c main_v0 : S1024x3072.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 3072, A m c (ix2 p x) * B m c (ix2 q x)

/-- The terms of the sum at row `p` and column `q`. -/
def term (p : Fin 8192) (q : Fin 1024) (x : ℕ) : EReal :=
  if h : x < 3072 then A m c (ix2 p ⟨x, h⟩) * B m c (ix2 q ⟨x, h⟩) else 0

/-- The first block of point `t`. -/
abbrev blockA (t : Fin cfg0.N) : S1024x1536.Idx → EReal := iblk m c 0 t
/-- The second block of point `t`. -/
abbrev blockB (t : Fin cfg0.N) : S1024x1536.Idx → EReal := iblk m c 1 t

/-- What a point adds: its block of the terms. -/
theorem point (t : Fin cfg0.N) (a : Fin 1024) (b : Fin 1024) (p : Fin 8192) (q : Fin 1024) (j : ℕ)
    (hp : p.val = 1024 * (t.val / 2) + a.val) (hq : q.val = 1024 * (t.val / 2 % 1) + b.val) (hj : t.val % 2 = j) :
    ∑ x : Fin 1536, blockA m c t (ix2 a x) * blockB m c t (ix2 b x) = ∑ x : Fin 1536, term m c p q (1536 * j + x.val) := by
  subst hj
  obtain rfl : p = row t a := Fin.ext hp
  obtain rfl : q = col t b := Fin.ext hq
  refine Finset.sum_congr rfl fun x _ => ?_
  have hx : 1536 * (t.val % 2) + x.val < 3072 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 2) + a.val) (hq : q.val = 1024 * (t.val / 2 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The kernel's array holds the sums. -/
theorem value (p : Fin 8192) (q : Fin 1024) : (G3 m c : S8192x1024.Idx → EReal) (ix2 p q) = total m c p q := by
  have hp := p.isLt
  have hq := q.isLt
  have hr : run3Of (ix2 p q) = 1 * (p.val / 1024) + q.val / 1024 := by
    show 1 * (p.val / 1024 - 0) + 1 * (q.val / 1024 - 0) = _
    omega
  have hl : loc3Of (ix2 p q) = ix2 ⟨p.val % 1024, Nat.mod_lt _ (by decide)⟩ ⟨q.val % 1024, Nat.mod_lt _ (by decide)⟩ := by
    funext a; match a with
    | ⟨0, _⟩ => rfl
    | ⟨1, _⟩ => rfl
  have hN : cfg0.N = 16 := N_0
  have hlt : 2 * (1 * (p.val / 1024) + q.val / 1024) + 1 < cfg0.N := by omega
  have hG : (G3 m c : S8192x1024.Idx → EReal) (ix2 p q) = Pipeline.accAt (reset3 m c) (step3 m c) (2 * (1 * (p.val / 1024) + q.val / 1024)) 1 hlt
      (ix2 ⟨p.val % 1024, Nat.mod_lt _ (by decide)⟩ ⟨q.val % 1024, Nat.mod_lt _ (by decide)⟩) := by
    unfold G3
    rw [dif_pos (by rw [hr]; exact hlt)]
    rw [hl]
    have gen : ∀ (r : ℕ) (h : 2 * r + 1 < cfg0.N) (i), r = 1 * (p.val / 1024) + q.val / 1024 →
        Pipeline.accAt (reset3 m c) (step3 m c) (2 * r) 1 h i
          = Pipeline.accAt (reset3 m c) (step3 m c) (2 * (1 * (p.val / 1024) + q.val / 1024)) 1 hlt i := by
      rintro r h i rfl; rfl
    exact gen _ _ _ hr
  rw [hG]
  refine (Cert.Products.acc_sum (reset3 m c) (step3 m c) _ 1536 1 3072 (by decide) (term m c p q) (C m c (ix2 p q)) _ ?_ ?_ hlt).trans ?_
  · intro h
    refine (step_apply _ _ _ _ _).trans ?_
    refine congrArg₂ (fun u v : EReal => u + v) (pointC m c ⟨_, h⟩ ⟨p.val % 1024, Nat.mod_lt _ (by decide)⟩ ⟨q.val % 1024, Nat.mod_lt _ (by decide)⟩ p q (by dsimp only; omega) (by dsimp only; omega)) ?_
    refine (point m c ⟨_, h⟩ ⟨p.val % 1024, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1024, Nat.mod_lt _ (by decide)⟩ p q (j + 1) (by dsimp only; omega) (by dsimp only; omega) (by dsimp only; omega))
  · rw [total]
    exact congrArg (fun u : EReal => C m c (ix2 p q) + u) (Finset.sum_congr rfl fun x _ => dif_pos x.isLt)

/-- The reference's array holds the sums. -/
theorem ref (x0 : FVec Ideal S8192x3072 .f32) (x1 : FVec Ideal S1024x3072 .f32) (x2 : FVec Ideal S8192x1024 .f32) (p : Fin 8192) (q : Fin 1024) :
    (Cert.GatesDxReferenceIdeal.Read.val_main_v3 (F := Ideal) x0 x1 x2 : S8192x1024.Idx → EReal) (ix2 p q)
      = (x2 (ix2 p q) : EReal) + ∑ x : Fin 3072, (x0 (ix2 p x) : EReal) * x1 (ix2 q x) := by
  pointwise [Cert.GatesDxReferenceIdeal.Read.val_main_v3, Cert.GatesDxReferenceIdeal.Read.val_main_v2]

/-- The idealized kernel and the idealized reference end with the same array. -/
theorem algebraic : Cert.algebraic_GatesDxIdeal_GatesDxReferenceIdeal := by
  intro m g m' g' _ hagree
  refine ⟨G3 m, run m g, ?_⟩
  refine (θ_run _ _ _).mono (fun r h c => ?_) (Cert.GatesDxReferenceIdeal.Value.run m' g')
  obtain ⟨a0, a1, a2⟩ := hagree c
  obtain ⟨h0, h1⟩ := h c
  refine ⟨h0.trans ?_, h1⟩
  rw [Cert.GatesDxReferenceIdeal.Read.val_main_v3_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_GatesDxReferenceIdeal := fun m ρ _ =>
  (θ_run _ _ _).mono (fun r h => ⟨fun c => (h c).2, sem_eq_zero_of_no_sems (by decide) r.2⟩)
    (Cert.GatesDxReferenceIdeal.Value.run m ρ)

end Cert.GatesDxSum
end
-- ==== Proof.GatesDwSum.lean ====
module
public import proofs.«01_k».proof.Proof.Gen.GatesDwIdeal.Value
public import proofs.«01_k».proof.Proof.Gen.GatesDwReferenceIdeal.Run
public import proofs.«01_k».proof.Proof.Gen.GatesDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the input projection's columns of merge gates. -/

noncomputable section
namespace Cert.GatesDwSum
open Idealize.ShloMosaic Idealize.ShloMosaic.TcCoe Idealize.ShloMosaic.Tactic
open Cert.GatesDwIdeal Cert.GatesDwIdeal.Gen Cert.GatesDwIdeal.Value

/-- The blocks each point reads and the block it writes. -/
theorem idx : ∀ t : Fin cfg0.N, win0_0.index t = ![t.val % 8, t.val / 24] ∧ win0_1.index t = ![t.val % 8, t.val / 8 % 3]
    ∧ win0_2.index t = ![t.val / 24, t.val / 8 % 3] :=
  (by decide +kernel : ∀ t : Fin grid0.N, _)

section
variable (c : Dev nD) (t : Fin cfg0.N)
/-- The row of the product that row `a` of a point's block is. -/
abbrev row (a : Fin 1024) : Fin 1024 := ⟨1024 * (t.val / 24) + a.val, by have := a.isLt; have : t.val < 24 := lt_of_lt_of_eq t.isLt N_0; omega⟩
/-- The column of the product that column `b` of a point's block is. -/
abbrev col (b : Fin 1024) : Fin 3072 := ⟨1024 * (t.val / 8 % 3) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_v0 : S8192x1024.Idx → EReal) (ix2 (place t x) (row t a)) := by
  blk_ext [idx t]
/-- A point's block of the second array. -/
theorem blkB (W : (b : Ref sig .tc) → Buf (Elt Ideal) ((c : Thread nD τ).loc b)) (b : Fin 1024) (x : Fin 1024) :
    (((cfg0.win 1).blk t).view.read (Elt Ideal) (W (Pipeline.arrRef spec0 1)) : S1024x1024.Idx → EReal) (ix2 x b)
    = (W main_arg1 : S8192x3072.Idx → EReal) (ix2 (place t x) (col t b)) := by
  blk_ext [idx t]
end

/-- One step: the block of products is added to what is held. -/
theorem step_apply (acc : Vec Ideal S1024x1024 .f32) (x0 : Vec Ideal S1024x1024 .bf16) (x1 : Vec Ideal S1024x1024 .f32)
    (a : Fin 1024) (b : Fin 1024) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 1024) : (k0_pay1 (F := Ideal) : S1024x1024.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x3072.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_arg1 : S8192x3072.Idx → EReal) = B m c := by
  exact V_main_arg1 m c

/-- The sum the result holds at row `p` and column `q`. -/
def total (p : Fin 1024) (q : Fin 3072) : EReal :=
  ∑ x : Fin 8192, A m c (ix2 x p) * B m c (ix2 x q)

/-- The terms of the sum at row `p` and column `q`. -/
def term (p : Fin 1024) (q : Fin 3072) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x1024.Idx → EReal := iblk m c 1 t

/-- What a point adds: its block of the terms. -/
theorem point (t : Fin cfg0.N) (a : Fin 1024) (b : Fin 1024) (p : Fin 1024) (q : Fin 3072) (j : ℕ)
    (hp : p.val = 1024 * (t.val / 24) + a.val) (hq : q.val = 1024 * (t.val / 8 % 3) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 3072) : (G2 m c : S1024x3072.Idx → EReal) (ix2 p q) = total m c p q := by
  have hp := p.isLt
  have hq := q.isLt
  have hr : run2Of (ix2 p q) = 3 * (p.val / 1024) + q.val / 1024 := by
    show 3 * (p.val / 1024 - 0) + 1 * (q.val / 1024 - 0) = _
    omega
  have hl : loc2Of (ix2 p q) = ix2 ⟨p.val % 1024, Nat.mod_lt _ (by decide)⟩ ⟨q.val % 1024, Nat.mod_lt _ (by decide)⟩ := by
    funext a; match a with
    | ⟨0, _⟩ => rfl
    | ⟨1, _⟩ => rfl
  have hN : cfg0.N = 24 := N_0
  have hlt : 8 * (3 * (p.val / 1024) + q.val / 1024) + 7 < cfg0.N := by omega
  have hG : (G2 m c : S1024x3072.Idx → EReal) (ix2 p q) = Pipeline.accAt (reset2 m c) (step2 m c) (8 * (3 * (p.val / 1024) + q.val / 1024)) 7 hlt
      (ix2 ⟨p.val % 1024, Nat.mod_lt _ (by decide)⟩ ⟨q.val % 1024, Nat.mod_lt _ (by decide)⟩) := by
    unfold G2
    rw [dif_pos (by rw [hr]; exact hlt)]
    rw [hl]
    have gen : ∀ (r : ℕ) (h : 8 * r + 7 < cfg0.N) (i), r = 3 * (p.val / 1024) + q.val / 1024 →
        Pipeline.accAt (reset2 m c) (step2 m c) (8 * r) 7 h i
          = Pipeline.accAt (reset2 m c) (step2 m c) (8 * (3 * (p.val / 1024) + q.val / 1024)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 1024, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 1024, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x3072 .f32) (p : Fin 1024) (q : Fin 3072) :
    (Cert.GatesDwReferenceIdeal.Read.val_main_v3 (F := Ideal) x0 x1 : S1024x3072.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.GatesDwReferenceIdeal.Read.val_main_v3, Cert.GatesDwReferenceIdeal.Read.val_main_v2]

/-- The idealized kernel and the idealized reference end with the same array. -/
theorem algebraic : Cert.algebraic_GatesDwIdeal_GatesDwReferenceIdeal := by
  intro m g m' g' _ hagree
  refine ⟨G2 m, run m g, ?_⟩
  refine (θ_run _ _ _).mono (fun r h c => ?_) (Cert.GatesDwReferenceIdeal.Value.run m' g')
  obtain ⟨a0, a1⟩ := hagree c
  obtain ⟨h0, h1⟩ := h c
  refine ⟨h0.trans ?_, h1⟩
  rw [Cert.GatesDwReferenceIdeal.Read.val_main_v3_eq, a0, a1]
  funext i
  obtain ⟨p, q, rfl⟩ : ∃ (p : Fin 1024) (q : Fin 3072), i = ix2 p q := ⟨i 0, i 1, eq_ix2 i⟩
  exact (ref _ _ p q).trans (value m c p q).symm

/-- The idealized reference ends, its arguments as they were; it declares no semaphore. -/
theorem frame_reference : Cert.quiescent_GatesDwReferenceIdeal := fun m ρ _ =>
  (θ_run _ _ _).mono (fun r h => ⟨fun c => (h c).2, sem_eq_zero_of_no_sems (by decide) r.2⟩)
    (Cert.GatesDwReferenceIdeal.Value.run m ρ)

end Cert.GatesDwSum
end
-- ==== Proof.ConvFwSum.lean ====
module
public import proofs.«01_k».proof.Proof.Gen.ConvFwIdeal.Value
public import proofs.«01_k».proof.Proof.Gen.ConvFwReferenceIdeal.Run
public import proofs.«01_k».proof.Proof.Gen.ConvFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the input projection's columns for the short convolution. -/

noncomputable section
namespace Cert.ConvFwSum
open Idealize.ShloMosaic Idealize.ShloMosaic.TcCoe Idealize.ShloMosaic.Tactic
open Cert.ConvFwIdeal Cert.ConvFwIdeal.Gen Cert.ConvFwIdeal.Value

/-- The blocks each point reads and the block it writes. -/
theorem idx : ∀ t : Fin cfg0.N, win0_0.index t = ![t.val / 2, t.val % 1] ∧ win0_1.index t = ![t.val % 1, t.val / 1 % 2]
    ∧ win0_2.index t = ![t.val / 2, t.val / 1 % 2] :=
  (by decide +kernel : ∀ t : Fin grid0.N, _)

section
variable (c : Dev nD) (t : Fin cfg0.N)
/-- The row of the product that row `a` of a point's block is. -/
abbrev row (a : Fin 1024) : Fin 8192 := ⟨1024 * (t.val / 2) + a.val, by have := a.isLt; have : t.val < 16 := lt_of_lt_of_eq t.isLt N_0; omega⟩
/-- The column of the product that column `b` of a point's block is. -/
abbrev col (b : Fin 768) : Fin 1536 := ⟨768 * (t.val / 1 % 2) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_v0 : S8192x1024.Idx → EReal) (ix2 (row t a) (place t x)) := by
  blk_ext [idx t]
/-- A point's block of the second array. -/
theorem blkB (W : (b : Ref sig .tc) → Buf (Elt Ideal) ((c : Thread nD τ).loc b)) (b : Fin 768) (x : Fin 1024) :
    (((cfg0.win 1).blk t).view.read (Elt Ideal) (W (Pipeline.arrRef spec0 1)) : S1024x768.Idx → EReal) (ix2 x b)
    = (W main_v1 : S1024x1536.Idx → EReal) (ix2 (place t x) (col t b)) := by
  blk_ext [idx t]
/-- A point's block of the result. -/
theorem blkO (G : Buf (Elt Ideal) ((c : Thread nD τ).loc (Pipeline.arrRef spec0 2))) (a : Fin 1024) (b : Fin 768) :
    (((cfg0.win 2).blk t).view.read (Elt Ideal) G : S1024x768.Idx → EReal) (ix2 a b)
    = (G : S8192x1536.Idx → EReal) (ix2 (row t a) (col t b)) := by
  blk_ext [idx t]
end

/-- One step: the block of products is added to what is held. -/
theorem step_apply (acc : Vec Ideal S1024x768 .f32) (x0 : Vec Ideal S1024x1024 .bf16) (x1 : Vec Ideal S1024x768 .bf16)
    (a : Fin 1024) (b : Fin 768) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 768) : (k0_pay1 (F := Ideal) : S1024x768.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x1536.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_v1 : S1024x1536.Idx → EReal) = B m c := by
  show StableHlo.after hostOps0 (fun b => m (c, b)) (Proc.tc.devRef main_v1) = _
  entry_read
  rfl

/-- The sum the result holds at row `p` and column `q`. -/
def total (p : Fin 8192) (q : Fin 1536) : EReal :=
  ∑ x : Fin 1024, A m c (ix2 p x) * B m c (ix2 x q)

/-- The terms of the sum at row `p` and column `q`. -/
def term (p : Fin 8192) (q : Fin 1536) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x768.Idx → EReal := iblk m c 1 t

/-- What a point adds: its block of the terms. -/
theorem point (t : Fin cfg0.N) (a : Fin 1024) (b : Fin 768) (p : Fin 8192) (q : Fin 1536) (j : ℕ)
    (hp : p.val = 1024 * (t.val / 2) + a.val) (hq : q.val = 768 * (t.val / 1 % 2) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x1536.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 768), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 1536) : ((dats m 0 c).arrAt 2 cfg0.N : S8192x1536.Idx → EReal) (ix2 p q) = total m c p q :=
  congrFun (final m c) (ix2 p q)

/-- The reference's array holds the sums. -/
theorem ref (x0 : FVec Ideal S8192x1024 .f32) (x1 : FVec Ideal S1024x1536 .f32) (p : Fin 8192) (q : Fin 1536) :
    (Cert.ConvFwReferenceIdeal.Read.val_main_v0 (F := Ideal) x0 x1 : S8192x1536.Idx → EReal) (ix2 p q)
      = ∑ x : Fin 1024, (x0 (ix2 p x) : EReal) * x1 (ix2 x q) := by
  pointwise [Cert.ConvFwReferenceIdeal.Read.val_main_v0]

/-- The idealized kernel and the idealized reference end with the same array. -/
theorem algebraic : Cert.algebraic_ConvFwIdeal_ConvFwReferenceIdeal := by
  intro m g m' g' _ hagree
  refine ⟨fun c => (dats m 0 c).arrAt 2 cfg0.N, run_blocks m g, ?_⟩
  refine (θ_run _ _ _).mono (fun r h c => ?_) (Cert.ConvFwReferenceIdeal.Value.run m' g')
  obtain ⟨a0, a1⟩ := hagree c
  obtain ⟨h0, h1⟩ := h c
  refine ⟨h0.trans ?_, h1⟩
  rw [Cert.ConvFwReferenceIdeal.Read.val_main_v0_eq, a0, a1]
  funext i
  obtain ⟨p, q, rfl⟩ : ∃ (p : Fin 8192) (q : Fin 1536), i = ix2 p q := ⟨i 0, i 1, eq_ix2 i⟩
  exact (ref _ _ p q).trans (value m c p q).symm

/-- The idealized reference ends, its arguments as they were; it declares no semaphore. -/
theorem frame_reference : Cert.quiescent_ConvFwReferenceIdeal := fun m ρ _ =>
  (θ_run _ _ _).mono (fun r h => ⟨fun c => (h c).2, sem_eq_zero_of_no_sems (by decide) r.2⟩)
    (Cert.ConvFwReferenceIdeal.Value.run m ρ)

end Cert.ConvFwSum
end
-- ==== Proof.ConvDxSum.lean ====
module
public import proofs.«01_k».proof.Proof.Gen.ConvDxIdeal.Value
public import proofs.«01_k».proof.Proof.Gen.ConvDxReferenceIdeal.Run
public import proofs.«01_k».proof.Proof.Gen.ConvDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the input projection's columns for the short convolution, added to what the call is given. -/

noncomputable section
namespace Cert.ConvDxSum
open Idealize.ShloMosaic Idealize.ShloMosaic.TcCoe Idealize.ShloMosaic.Tactic
open Cert.ConvDxIdeal Cert.ConvDxIdeal.Gen Cert.ConvDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 1536) : Fin 1536 := ⟨1536 * (t.val % 1) + x.val, by have := x.isLt; omega⟩
/-- A point's block of the first array. -/
theorem blkA (W : (b : Ref sig .tc) → Buf (Elt Ideal) ((c : Thread nD τ).loc b)) (a : Fin 1024) (x : Fin 1536) :
    (((cfg0.win 0).blk t).view.read (Elt Ideal) (W (Pipeline.arrRef spec0 0)) : S1024x1536.Idx → EReal) (ix2 a x)
    = (W main_arg0 : S8192x1536.Idx → EReal) (ix2 (row t a) (place t x)) := by
  blk_ext [idx t]
/-- A point's block of the second array. -/
theorem blkB (W : (b : Ref sig .tc) → Buf (Elt Ideal) ((c : Thread nD τ).loc b)) (b : Fin 1024) (x : Fin 1536) :
    (((cfg0.win 1).blk t).view.read (Elt Ideal) (W (Pipeline.arrRef spec0 1)) : S1024x1536.Idx → EReal) (ix2 b x)
    = (W main_v0 : S1024x1536.Idx → EReal) (ix2 (col t b) (place t x)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
/-- A point's block of the result. -/
theorem blkO (G : Buf (Elt Ideal) ((c : Thread nD τ).loc (Pipeline.arrRef spec0 3))) (a : Fin 1024) (b : Fin 1024) :
    (((cfg0.win 3).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x1536 .f32) (x1 : Vec Ideal S1024x1536 .bf16)
    (a : Fin 1024) (b : Fin 1024) :
    k0_pay1 acc x0 x1 (ix2 a b) = acc (ix2 a b) + ∑ x : Fin 1536, (x0 (ix2 a x) : EReal) * x1 (ix2 b x) := by
  pointwise [k0_pay1]

variable (m : (ℓ : Loc nD τ sig) → Buf (Elt Ideal) ℓ) (c : Dev nD)

/-- The first argument. -/
abbrev A : S8192x1536.Idx → EReal := m ((c : Thread nD τ).loc main_arg0)
/-- The second argument. -/
abbrev B : S1024x1536.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x1536.Idx → EReal) = A m c := by
  exact V_main_arg0 m c
/-- What the kernel is given for the second argument is the argument. -/
theorem V_B : (V m c main_v0 : S1024x1536.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 1536, A m c (ix2 p x) * B m c (ix2 q x)

/-- The terms of the sum at row `p` and column `q`. -/
def term (p : Fin 8192) (q : Fin 1024) (x : ℕ) : EReal :=
  if h : x < 1536 then A m c (ix2 p ⟨x, h⟩) * B m c (ix2 q ⟨x, h⟩) else 0

/-- The first block of point `t`. -/
abbrev blockA (t : Fin cfg0.N) : S1024x1536.Idx → EReal := iblk m c 0 t
/-- The second block of point `t`. -/
abbrev blockB (t : Fin cfg0.N) : S1024x1536.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 1536, blockA m c t (ix2 a x) * blockB m c t (ix2 b x) = ∑ x : Fin 1536, term m c p q (1536 * j + x.val) := by
  subst hj
  obtain rfl : p = row t a := Fin.ext hp
  obtain rfl : q = col t b := Fin.ext hq
  refine Finset.sum_congr rfl fun x _ => ?_
  have hx : 1536 * (t.val % 1) + x.val < 1536 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 1) + a.val) (hq : q.val = 1024 * (t.val / 1 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The array of the sums. -/
def sums : S8192x1024.Idx → EReal := fun i => total m c (i 0) (i 1)

/-- The kernel's array holds the sums. -/
theorem final : (dats m 0 c).arrAt 3 cfg0.N = sums m c := by
  refine (dats m 0 c).arrAt_eq_of_covers 3 (sums m c) (by decide +kernel) fun t _ y => ?_
  blk_simp
  rw [after0_3]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  refine (congrArg₂ (fun u v : EReal => u + v) (pointC m c t a b (row t a) (col t b) rfl rfl) hs).trans ?_
  rw [total]
  exact congrArg (fun u : EReal => C m c (ix2 (row t a) (col t b)) + u) (Finset.sum_congr rfl fun x _ => dif_pos x.isLt)

/-- So at row `p` and column `q`. -/
theorem value (p : Fin 8192) (q : Fin 1024) : ((dats m 0 c).arrAt 3 cfg0.N : S8192x1024.Idx → EReal) (ix2 p q) = total m c p q :=
  congrFun (final m c) (ix2 p q)

/-- The reference's array holds the sums. -/
theorem ref (x0 : FVec Ideal S8192x1536 .f32) (x1 : FVec Ideal S1024x1536 .f32) (x2 : FVec Ideal S8192x1024 .f32) (p : Fin 8192) (q : Fin 1024) :
    (Cert.ConvDxReferenceIdeal.Read.val_main_v3 (F := Ideal) x0 x1 x2 : S8192x1024.Idx → EReal) (ix2 p q)
      = (x2 (ix2 p q) : EReal) + ∑ x : Fin 1536, (x0 (ix2 p x) : EReal) * x1 (ix2 q x) := by
  pointwise [Cert.ConvDxReferenceIdeal.Read.val_main_v3, Cert.ConvDxReferenceIdeal.Read.val_main_v2]

/-- The idealized kernel and the idealized reference end with the same array. -/
theorem algebraic : Cert.algebraic_ConvDxIdeal_ConvDxReferenceIdeal := by
  intro m g m' g' _ hagree
  refine ⟨fun c => (dats m 0 c).arrAt 3 cfg0.N, run_blocks m g, ?_⟩
  refine (θ_run _ _ _).mono (fun r h c => ?_) (Cert.ConvDxReferenceIdeal.Value.run m' g')
  obtain ⟨a0, a1, a2⟩ := hagree c
  obtain ⟨h0, h1⟩ := h c
  refine ⟨h0.trans ?_, h1⟩
  rw [Cert.ConvDxReferenceIdeal.Read.val_main_v3_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_ConvDxReferenceIdeal := fun m ρ _ =>
  (θ_run _ _ _).mono (fun r h => ⟨fun c => (h c).2, sem_eq_zero_of_no_sems (by decide) r.2⟩)
    (Cert.ConvDxReferenceIdeal.Value.run m ρ)

end Cert.ConvDxSum
end
-- ==== Proof.ConvDwSum.lean ====
module
public import proofs.«01_k».proof.Proof.Gen.ConvDwIdeal.Value
public import proofs.«01_k».proof.Proof.Gen.ConvDwReferenceIdeal.Run
public import proofs.«01_k».proof.Proof.Gen.ConvDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the input projection's columns for the short convolution. -/

noncomputable section
namespace Cert.ConvDwSum
open Idealize.ShloMosaic Idealize.ShloMosaic.TcCoe Idealize.ShloMosaic.Tactic
open Cert.ConvDwIdeal Cert.ConvDwIdeal.Gen Cert.ConvDwIdeal.Value

/-- The blocks each point reads and the block it writes. -/
theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

section
variable (c : Dev nD) (t : Fin cfg0.N)
/-- The row of the product that row `a` of a point's block is. -/
abbrev row (a : Fin 1024) : Fin 1024 := ⟨1024 * (t.val / 16) + a.val, by have := a.isLt; have : t.val < 16 := lt_of_lt_of_eq t.isLt N_0; omega⟩
/-- The column of the product that column `b` of a point's block is. -/
abbrev col (b : Fin 768) : Fin 1536 := ⟨768 * (t.val / 8 % 2) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_v0 : S8192x1024.Idx → EReal) (ix2 (place t x) (row t a)) := by
  blk_ext [idx t]
/-- A point's block of the second array. -/
theorem blkB (W : (b : Ref sig .tc) → Buf (Elt Ideal) ((c : Thread nD τ).loc b)) (b : Fin 768) (x : Fin 1024) :
    (((cfg0.win 1).blk t).view.read (Elt Ideal) (W (Pipeline.arrRef spec0 1)) : S1024x768.Idx → EReal) (ix2 x b)
    = (W main_arg1 : S8192x1536.Idx → EReal) (ix2 (place t x) (col t b)) := by
  blk_ext [idx t]
end

/-- One step: the block of products is added to what is held. -/
theorem step_apply (acc : Vec Ideal S1024x768 .f32) (x0 : Vec Ideal S1024x1024 .bf16) (x1 : Vec Ideal S1024x768 .f32)
    (a : Fin 1024) (b : Fin 768) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 768) : (k0_pay1 (F := Ideal) : S1024x768.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x1536.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_arg1 : S8192x1536.Idx → EReal) = B m c := by
  exact V_main_arg1 m c

/-- The sum the result holds at row `p` and column `q`. -/
def total (p : Fin 1024) (q : Fin 1536) : EReal :=
  ∑ x : Fin 8192, A m c (ix2 x p) * B m c (ix2 x q)

/-- The terms of the sum at row `p` and column `q`. -/
def term (p : Fin 1024) (q : Fin 1536) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x768.Idx → EReal := iblk m c 1 t

/-- What a point adds: its block of the terms. -/
theorem point (t : Fin cfg0.N) (a : Fin 1024) (b : Fin 768) (p : Fin 1024) (q : Fin 1536) (j : ℕ)
    (hp : p.val = 1024 * (t.val / 16) + a.val) (hq : q.val = 768 * (t.val / 8 % 2) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 1536) : (G2 m c : S1024x1536.Idx → EReal) (ix2 p q) = total m c p q := by
  have hp := p.isLt
  have hq := q.isLt
  have hr : run2Of (ix2 p q) = 2 * (p.val / 1024) + q.val / 768 := by
    show 2 * (p.val / 1024 - 0) + 1 * (q.val / 768 - 0) = _
    omega
  have hl : loc2Of (ix2 p q) = ix2 ⟨p.val % 1024, Nat.mod_lt _ (by decide)⟩ ⟨q.val % 768, Nat.mod_lt _ (by decide)⟩ := by
    funext a; match a with
    | ⟨0, _⟩ => rfl
    | ⟨1, _⟩ => rfl
  have hN : cfg0.N = 16 := N_0
  have hlt : 8 * (2 * (p.val / 1024) + q.val / 768) + 7 < cfg0.N := by omega
  have hG : (G2 m c : S1024x1536.Idx → EReal) (ix2 p q) = Pipeline.accAt (reset2 m c) (step2 m c) (8 * (2 * (p.val / 1024) + q.val / 768)) 7 hlt
      (ix2 ⟨p.val % 1024, Nat.mod_lt _ (by decide)⟩ ⟨q.val % 768, Nat.mod_lt _ (by decide)⟩) := by
    unfold G2
    rw [dif_pos (by rw [hr]; exact hlt)]
    rw [hl]
    have gen : ∀ (r : ℕ) (h : 8 * r + 7 < cfg0.N) (i), r = 2 * (p.val / 1024) + q.val / 768 →
        Pipeline.accAt (reset2 m c) (step2 m c) (8 * r) 7 h i
          = Pipeline.accAt (reset2 m c) (step2 m c) (8 * (2 * (p.val / 1024) + q.val / 768)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 768, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 768, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x1536 .f32) (p : Fin 1024) (q : Fin 1536) :
    (Cert.ConvDwReferenceIdeal.Read.val_main_v3 (F := Ideal) x0 x1 : S1024x1536.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.ConvDwReferenceIdeal.Read.val_main_v3, Cert.ConvDwReferenceIdeal.Read.val_main_v2]

/-- The idealized kernel and the idealized reference end with the same array. -/
theorem algebraic : Cert.algebraic_ConvDwIdeal_ConvDwReferenceIdeal := by
  intro m g m' g' _ hagree
  refine ⟨G2 m, run m g, ?_⟩
  refine (θ_run _ _ _).mono (fun r h c => ?_) (Cert.ConvDwReferenceIdeal.Value.run m' g')
  obtain ⟨a0, a1⟩ := hagree c
  obtain ⟨h0, h1⟩ := h c
  refine ⟨h0.trans ?_, h1⟩
  rw [Cert.ConvDwReferenceIdeal.Read.val_main_v3_eq, a0, a1]
  funext i
  obtain ⟨p, q, rfl⟩ : ∃ (p : Fin 1024) (q : Fin 1536), i = ix2 p q := ⟨i 0, i 1, eq_ix2 i⟩
  exact (ref _ _ p q).trans (value m c p q).symm

/-- The idealized reference ends, its arguments as they were; it declares no semaphore. -/
theorem frame_reference : Cert.quiescent_ConvDwReferenceIdeal := fun m ρ _ =>
  (θ_run _ _ _).mono (fun r h => ⟨fun c => (h c).2, sem_eq_zero_of_no_sems (by decide) r.2⟩)
    (Cert.ConvDwReferenceIdeal.Value.run m ρ)

end Cert.ConvDwSum
end
-- ==== Proof.PartFwSum.lean ====
module
public import proofs.«01_k».proof.Proof.Gen.PartFwIdeal.Value
public import proofs.«01_k».proof.Proof.Gen.PartFwReferenceIdeal.Run
public import proofs.«01_k».proof.Proof.Gen.PartFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of a group of 512 columns of the input projection. -/

noncomputable section
namespace Cert.PartFwSum
open Idealize.ShloMosaic Idealize.ShloMosaic.TcCoe Idealize.ShloMosaic.Tactic
open Cert.PartFwIdeal Cert.PartFwIdeal.Gen Cert.PartFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 512) : Fin 512 := ⟨512 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_v0 : S8192x1024.Idx → EReal) (ix2 (row t a) (place t x)) := by
  blk_ext [idx t]
/-- A point's block of the second array. -/
theorem blkB (W : (b : Ref sig .tc) → Buf (Elt Ideal) ((c : Thread nD τ).loc b)) (b : Fin 512) (x : Fin 1024) :
    (((cfg0.win 1).blk t).view.read (Elt Ideal) (W (Pipeline.arrRef spec0 1)) : S1024x512.Idx → EReal) (ix2 x b)
    = (W main_v1 : S1024x512.Idx → EReal) (ix2 (place t x) (col t b)) := by
  blk_ext [idx t]
/-- A point's block of the result. -/
theorem blkO (G : Buf (Elt Ideal) ((c : Thread nD τ).loc (Pipeline.arrRef spec0 2))) (a : Fin 1024) (b : Fin 512) :
    (((cfg0.win 2).blk t).view.read (Elt Ideal) G : S1024x512.Idx → EReal) (ix2 a b)
    = (G : S8192x512.Idx → EReal) (ix2 (row t a) (col t b)) := by
  blk_ext [idx t]
end

/-- One step: the block of products is added to what is held. -/
theorem step_apply (acc : Vec Ideal S1024x512 .f32) (x0 : Vec Ideal S1024x1024 .bf16) (x1 : Vec Ideal S1024x512 .bf16)
    (a : Fin 1024) (b : Fin 512) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 512) : (k0_pay1 (F := Ideal) : S1024x512.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x512.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_v1 : S1024x512.Idx → EReal) = B m c := by
  show StableHlo.after hostOps0 (fun b => m (c, b)) (Proc.tc.devRef main_v1) = _
  entry_read
  rfl

/-- The sum the result holds at row `p` and column `q`. -/
def total (p : Fin 8192) (q : Fin 512) : EReal :=
  ∑ x : Fin 1024, A m c (ix2 p x) * B m c (ix2 x q)

/-- The terms of the sum at row `p` and column `q`. -/
def term (p : Fin 8192) (q : Fin 512) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 512) (p : Fin 8192) (q : Fin 512) (j : ℕ)
    (hp : p.val = 1024 * (t.val / 1) + a.val) (hq : q.val = 512 * (t.val / 1 % 1) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x512.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 512), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 512) : ((dats m 0 c).arrAt 2 cfg0.N : S8192x512.Idx → EReal) (ix2 p q) = total m c p q :=
  congrFun (final m c) (ix2 p q)

/-- The reference's array holds the sums. -/
theorem ref (x0 : FVec Ideal S8192x1024 .f32) (x1 : FVec Ideal S1024x512 .f32) (p : Fin 8192) (q : Fin 512) :
    (Cert.PartFwReferenceIdeal.Read.val_main_v0 (F := Ideal) x0 x1 : S8192x512.Idx → EReal) (ix2 p q)
      = ∑ x : Fin 1024, (x0 (ix2 p x) : EReal) * x1 (ix2 x q) := by
  pointwise [Cert.PartFwReferenceIdeal.Read.val_main_v0]

/-- The idealized kernel and the idealized reference end with the same array. -/
theorem algebraic : Cert.algebraic_PartFwIdeal_PartFwReferenceIdeal := by
  intro m g m' g' _ hagree
  refine ⟨fun c => (dats m 0 c).arrAt 2 cfg0.N, run_blocks m g, ?_⟩
  refine (θ_run _ _ _).mono (fun r h c => ?_) (Cert.PartFwReferenceIdeal.Value.run m' g')
  obtain ⟨a0, a1⟩ := hagree c
  obtain ⟨h0, h1⟩ := h c
  refine ⟨h0.trans ?_, h1⟩
  rw [Cert.PartFwReferenceIdeal.Read.val_main_v0_eq, a0, a1]
  funext i
  obtain ⟨p, q, rfl⟩ : ∃ (p : Fin 8192) (q : Fin 512), i = ix2 p q := ⟨i 0, i 1, eq_ix2 i⟩
  exact (ref _ _ p q).trans (value m c p q).symm

/-- The idealized reference ends, its arguments as they were; it declares no semaphore. -/
theorem frame_reference : Cert.quiescent_PartFwReferenceIdeal := fun m ρ _ =>
  (θ_run _ _ _).mono (fun r h => ⟨fun c => (h c).2, sem_eq_zero_of_no_sems (by decide) r.2⟩)
    (Cert.PartFwReferenceIdeal.Value.run m ρ)

end Cert.PartFwSum
end
-- ==== Proof.PartDxSum.lean ====
module
public import proofs.«01_k».proof.Proof.Gen.PartDxIdeal.Value
public import proofs.«01_k».proof.Proof.Gen.PartDxReferenceIdeal.Run
public import proofs.«01_k».proof.Proof.Gen.PartDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of a group of 512 columns of the input projection, added to what the call is given. -/

noncomputable section
namespace Cert.PartDxSum
open Idealize.ShloMosaic Idealize.ShloMosaic.TcCoe Idealize.ShloMosaic.Tactic
open Cert.PartDxIdeal Cert.PartDxIdeal.Gen Cert.PartDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 512) : Fin 512 := ⟨512 * (t.val % 1) + x.val, by have := x.isLt; omega⟩
/-- A point's block of the first array. -/
theorem blkA (W : (b : Ref sig .tc) → Buf (Elt Ideal) ((c : Thread nD τ).loc b)) (a : Fin 1024) (x : Fin 512) :
    (((cfg0.win 0).blk t).view.read (Elt Ideal) (W (Pipeline.arrRef spec0 0)) : S1024x512.Idx → EReal) (ix2 a x)
    = (W main_arg0 : S8192x512.Idx → EReal) (ix2 (row t a) (place t x)) := by
  blk_ext [idx t]
/-- A point's block of the second array. -/
theorem blkB (W : (b : Ref sig .tc) → Buf (Elt Ideal) ((c : Thread nD τ).loc b)) (b : Fin 1024) (x : Fin 512) :
    (((cfg0.win 1).blk t).view.read (Elt Ideal) (W (Pipeline.arrRef spec0 1)) : S1024x512.Idx → EReal) (ix2 b x)
    = (W main_v0 : S1024x512.Idx → EReal) (ix2 (col t b) (place t x)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
/-- A point's block of the result. -/
theorem blkO (G : Buf (Elt Ideal) ((c : Thread nD τ).loc (Pipeline.arrRef spec0 3))) (a : Fin 1024) (b : Fin 1024) :
    (((cfg0.win 3).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x512 .f32) (x1 : Vec Ideal S1024x512 .bf16)
    (a : Fin 1024) (b : Fin 1024) :
    k0_pay1 acc x0 x1 (ix2 a b) = acc (ix2 a b) + ∑ x : Fin 512, (x0 (ix2 a x) : EReal) * x1 (ix2 b x) := by
  pointwise [k0_pay1]

variable (m : (ℓ : Loc nD τ sig) → Buf (Elt Ideal) ℓ) (c : Dev nD)

/-- The first argument. -/
abbrev A : S8192x512.Idx → EReal := m ((c : Thread nD τ).loc main_arg0)
/-- The second argument. -/
abbrev B : S1024x512.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x512.Idx → EReal) = A m c := by
  exact V_main_arg0 m c
/-- What the kernel is given for the second argument is the argument. -/
theorem V_B : (V m c main_v0 : S1024x512.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 512, A m c (ix2 p x) * B m c (ix2 q x)

/-- The terms of the sum at row `p` and column `q`. -/
def term (p : Fin 8192) (q : Fin 1024) (x : ℕ) : EReal :=
  if h : x < 512 then A m c (ix2 p ⟨x, h⟩) * B m c (ix2 q ⟨x, h⟩) else 0

/-- The first block of point `t`. -/
abbrev blockA (t : Fin cfg0.N) : S1024x512.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 512, blockA m c t (ix2 a x) * blockB m c t (ix2 b x) = ∑ x : Fin 512, term m c p q (512 * j + x.val) := by
  subst hj
  obtain rfl : p = row t a := Fin.ext hp
  obtain rfl : q = col t b := Fin.ext hq
  refine Finset.sum_congr rfl fun x _ => ?_
  have hx : 512 * (t.val % 1) + x.val < 512 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 1) + a.val) (hq : q.val = 1024 * (t.val / 1 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The array of the sums. -/
def sums : S8192x1024.Idx → EReal := fun i => total m c (i 0) (i 1)

/-- The kernel's array holds the sums. -/
theorem final : (dats m 0 c).arrAt 3 cfg0.N = sums m c := by
  refine (dats m 0 c).arrAt_eq_of_covers 3 (sums m c) (by decide +kernel) fun t _ y => ?_
  blk_simp
  rw [after0_3]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  refine (congrArg₂ (fun u v : EReal => u + v) (pointC m c t a b (row t a) (col t b) rfl rfl) hs).trans ?_
  rw [total]
  exact congrArg (fun u : EReal => C m c (ix2 (row t a) (col t b)) + u) (Finset.sum_congr rfl fun x _ => dif_pos x.isLt)

/-- So at row `p` and column `q`. -/
theorem value (p : Fin 8192) (q : Fin 1024) : ((dats m 0 c).arrAt 3 cfg0.N : S8192x1024.Idx → EReal) (ix2 p q) = total m c p q :=
  congrFun (final m c) (ix2 p q)

/-- The reference's array holds the sums. -/
theorem ref (x0 : FVec Ideal S8192x512 .f32) (x1 : FVec Ideal S1024x512 .f32) (x2 : FVec Ideal S8192x1024 .f32) (p : Fin 8192) (q : Fin 1024) :
    (Cert.PartDxReferenceIdeal.Read.val_main_v3 (F := Ideal) x0 x1 x2 : S8192x1024.Idx → EReal) (ix2 p q)
      = (x2 (ix2 p q) : EReal) + ∑ x : Fin 512, (x0 (ix2 p x) : EReal) * x1 (ix2 q x) := by
  pointwise [Cert.PartDxReferenceIdeal.Read.val_main_v3, Cert.PartDxReferenceIdeal.Read.val_main_v2]

/-- The idealized kernel and the idealized reference end with the same array. -/
theorem algebraic : Cert.algebraic_PartDxIdeal_PartDxReferenceIdeal := by
  intro m g m' g' _ hagree
  refine ⟨fun c => (dats m 0 c).arrAt 3 cfg0.N, run_blocks m g, ?_⟩
  refine (θ_run _ _ _).mono (fun r h c => ?_) (Cert.PartDxReferenceIdeal.Value.run m' g')
  obtain ⟨a0, a1, a2⟩ := hagree c
  obtain ⟨h0, h1⟩ := h c
  refine ⟨h0.trans ?_, h1⟩
  rw [Cert.PartDxReferenceIdeal.Read.val_main_v3_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_PartDxReferenceIdeal := fun m ρ _ =>
  (θ_run _ _ _).mono (fun r h => ⟨fun c => (h c).2, sem_eq_zero_of_no_sems (by decide) r.2⟩)
    (Cert.PartDxReferenceIdeal.Value.run m ρ)

end Cert.PartDxSum
end
-- ==== Proof.PartDwSum.lean ====
module
public import proofs.«01_k».proof.Proof.Gen.PartDwIdeal.Value
public import proofs.«01_k».proof.Proof.Gen.PartDwReferenceIdeal.Run
public import proofs.«01_k».proof.Proof.Gen.PartDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of a group of 512 columns of the input projection. -/

noncomputable section
namespace Cert.PartDwSum
open Idealize.ShloMosaic Idealize.ShloMosaic.TcCoe Idealize.ShloMosaic.Tactic
open Cert.PartDwIdeal Cert.PartDwIdeal.Gen Cert.PartDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 1024) : Fin 1024 := ⟨1024 * (t.val / 8) + a.val, by have := a.isLt; have : t.val < 8 := lt_of_lt_of_eq t.isLt N_0; omega⟩
/-- The column of the product that column `b` of a point's block is. -/
abbrev col (b : Fin 512) : Fin 512 := ⟨512 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_v0 : S8192x1024.Idx → EReal) (ix2 (place t x) (row t a)) := by
  blk_ext [idx t]
/-- A point's block of the second array. -/
theorem blkB (W : (b : Ref sig .tc) → Buf (Elt Ideal) ((c : Thread nD τ).loc b)) (b : Fin 512) (x : Fin 1024) :
    (((cfg0.win 1).blk t).view.read (Elt Ideal) (W (Pipeline.arrRef spec0 1)) : S1024x512.Idx → EReal) (ix2 x b)
    = (W main_arg1 : S8192x512.Idx → EReal) (ix2 (place t x) (col t b)) := by
  blk_ext [idx t]
end

/-- One step: the block of products is added to what is held. -/
theorem step_apply (acc : Vec Ideal S1024x512 .f32) (x0 : Vec Ideal S1024x1024 .bf16) (x1 : Vec Ideal S1024x512 .f32)
    (a : Fin 1024) (b : Fin 512) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 512) : (k0_pay1 (F := Ideal) : S1024x512.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x512.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_arg1 : S8192x512.Idx → EReal) = B m c := by
  exact V_main_arg1 m c

/-- The sum the result holds at row `p` and column `q`. -/
def total (p : Fin 1024) (q : Fin 512) : EReal :=
  ∑ x : Fin 8192, A m c (ix2 x p) * B m c (ix2 x q)

/-- The terms of the sum at row `p` and column `q`. -/
def term (p : Fin 1024) (q : Fin 512) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x512.Idx → EReal := iblk m c 1 t

/-- What a point adds: its block of the terms. -/
theorem point (t : Fin cfg0.N) (a : Fin 1024) (b : Fin 512) (p : Fin 1024) (q : Fin 512) (j : ℕ)
    (hp : p.val = 1024 * (t.val / 8) + a.val) (hq : q.val = 512 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 512) : (G2 m c : S1024x512.Idx → EReal) (ix2 p q) = total m c p q := by
  have hp := p.isLt
  have hq := q.isLt
  have hr : run2Of (ix2 p q) = 1 * (p.val / 1024) + q.val / 512 := by
    show 1 * (p.val / 1024 - 0) + 1 * (q.val / 512 - 0) = _
    omega
  have hl : loc2Of (ix2 p q) = ix2 ⟨p.val % 1024, Nat.mod_lt _ (by decide)⟩ ⟨q.val % 512, Nat.mod_lt _ (by decide)⟩ := by
    funext a; match a with
    | ⟨0, _⟩ => rfl
    | ⟨1, _⟩ => rfl
  have hN : cfg0.N = 8 := N_0
  have hlt : 8 * (1 * (p.val / 1024) + q.val / 512) + 7 < cfg0.N := by omega
  have hG : (G2 m c : S1024x512.Idx → EReal) (ix2 p q) = Pipeline.accAt (reset2 m c) (step2 m c) (8 * (1 * (p.val / 1024) + q.val / 512)) 7 hlt
      (ix2 ⟨p.val % 1024, Nat.mod_lt _ (by decide)⟩ ⟨q.val % 512, Nat.mod_lt _ (by decide)⟩) := by
    unfold G2
    rw [dif_pos (by rw [hr]; exact hlt)]
    rw [hl]
    have gen : ∀ (r : ℕ) (h : 8 * r + 7 < cfg0.N) (i), r = 1 * (p.val / 1024) + q.val / 512 →
        Pipeline.accAt (reset2 m c) (step2 m c) (8 * r) 7 h i
          = Pipeline.accAt (reset2 m c) (step2 m c) (8 * (1 * (p.val / 1024) + q.val / 512)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 512, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 512, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x512 .f32) (p : Fin 1024) (q : Fin 512) :
    (Cert.PartDwReferenceIdeal.Read.val_main_v3 (F := Ideal) x0 x1 : S1024x512.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.PartDwReferenceIdeal.Read.val_main_v3, Cert.PartDwReferenceIdeal.Read.val_main_v2]

/-- The idealized kernel and the idealized reference end with the same array. -/
theorem algebraic : Cert.algebraic_PartDwIdeal_PartDwReferenceIdeal := by
  intro m g m' g' _ hagree
  refine ⟨G2 m, run m g, ?_⟩
  refine (θ_run _ _ _).mono (fun r h c => ?_) (Cert.PartDwReferenceIdeal.Value.run m' g')
  obtain ⟨a0, a1⟩ := hagree c
  obtain ⟨h0, h1⟩ := h c
  refine ⟨h0.trans ?_, h1⟩
  rw [Cert.PartDwReferenceIdeal.Read.val_main_v3_eq, a0, a1]
  funext i
  obtain ⟨p, q, rfl⟩ : ∃ (p : Fin 1024) (q : Fin 512), i = ix2 p q := ⟨i 0, i 1, eq_ix2 i⟩
  exact (ref _ _ p q).trans (value m c p q).symm

/-- The idealized reference ends, its arguments as they were; it declares no semaphore. -/
theorem frame_reference : Cert.quiescent_PartDwReferenceIdeal := fun m ρ _ =>
  (θ_run _ _ _).mono (fun r h => ⟨fun c => (h c).2, sem_eq_zero_of_no_sems (by decide) r.2⟩)
    (Cert.PartDwReferenceIdeal.Value.run m ρ)

end Cert.PartDwSum
end
-- ==== Proof.LogitsFwSum.lean ====
module
public import proofs.«01_k».proof.Proof.Gen.LogitsFwIdeal.Value
public import proofs.«01_k».proof.Proof.Gen.LogitsFwReferenceIdeal.Run
public import proofs.«01_k».proof.Proof.Gen.LogitsFwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The rows of the input projection's columns of logits. -/

noncomputable section
namespace Cert.LogitsFwSum
open Idealize.ShloMosaic Idealize.ShloMosaic.TcCoe Idealize.ShloMosaic.Tactic
open Cert.LogitsFwIdeal Cert.LogitsFwIdeal.Gen Cert.LogitsFwIdeal.Value

/-- The blocks each point reads and the block it writes. -/
theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 128) : Fin 128 := ⟨128 * (t.val / 1 % 1) + b.val, by have := b.isLt; omega⟩
/-- The place of the sum that place `x` of a point's block is. -/
abbrev place (x : Fin 1024) : Fin 1024 := ⟨1024 * (t.val % 1) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 a x)
    = (W main_v0 : S8192x1024.Idx → EReal) (ix2 (row t a) (place t x)) := by
  blk_ext [idx t]
/-- A point's block of the second array. -/
theorem blkB (W : (b : Ref sig .tc) → Buf (Elt Ideal) ((c : Thread nD τ).loc b)) (b : Fin 128) (x : Fin 1024) :
    (((cfg0.win 1).blk t).view.read (Elt Ideal) (W (Pipeline.arrRef spec0 1)) : S1024x128.Idx → EReal) (ix2 x b)
    = (W main_v1 : S1024x128.Idx → EReal) (ix2 (place t x) (col t b)) := by
  blk_ext [idx t]
/-- A point's block of the result. -/
theorem blkO (G : Buf (Elt Ideal) ((c : Thread nD τ).loc (Pipeline.arrRef spec0 2))) (a : Fin 1024) (b : Fin 128) :
    (((cfg0.win 2).blk t).view.read (Elt Ideal) G : S1024x128.Idx → EReal) (ix2 a b)
    = (G : S8192x128.Idx → EReal) (ix2 (row t a) (col t b)) := by
  blk_ext [idx t]
end

/-- One step: the block of products is added to what is held. -/
theorem step_apply (acc : Vec Ideal S1024x128 .f32) (x0 : Vec Ideal S1024x1024 .bf16) (x1 : Vec Ideal S1024x128 .bf16)
    (a : Fin 1024) (b : Fin 128) :
    k0_pay2 acc x0 x1 (ix2 a b) = acc (ix2 a b) + ∑ x : Fin 1024, (x0 (ix2 a x) : EReal) * x1 (ix2 x b) := by
  pointwise [k0_pay2]
/-- The block a run begins with is zero. -/
theorem zero_apply (a : Fin 1024) (b : Fin 128) : (k0_pay1 (F := Ideal) : S1024x128.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S1024x128.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_v1 : S1024x128.Idx → EReal) = B m c := by
  show StableHlo.after hostOps0 (fun b => m (c, b)) (Proc.tc.devRef main_v1) = _
  entry_read
  rfl

/-- The sum the result holds at row `p` and column `q`. -/
def total (p : Fin 8192) (q : Fin 128) : EReal :=
  ∑ x : Fin 1024, A m c (ix2 p x) * B m c (ix2 x q)

/-- The terms of the sum at row `p` and column `q`. -/
def term (p : Fin 8192) (q : Fin 128) (x : ℕ) : EReal :=
  if h : x < 1024 then A m c (ix2 p ⟨x, h⟩) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x128.Idx → EReal := iblk m c 1 t

/-- What a point adds: its block of the terms. -/
theorem point (t : Fin cfg0.N) (a : Fin 1024) (b : Fin 128) (p : Fin 8192) (q : Fin 128) (j : ℕ)
    (hp : p.val = 1024 * (t.val / 1) + a.val) (hq : q.val = 128 * (t.val / 1 % 1) + b.val) (hj : t.val % 1 = j) :
    ∑ x : Fin 1024, blockA m c t (ix2 a x) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 1) + x.val < 1024 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The array of the sums. -/
def sums : S8192x128.Idx → EReal := fun i => total m c (i 0) (i 1)

/-- The kernel's array holds the sums. -/
theorem final : (dats m 0 c).arrAt 2 cfg0.N = sums m c := by
  refine (dats m 0 c).arrAt_eq_of_covers 2 (sums m c) (by decide +kernel) fun t _ y => ?_
  blk_simp
  rw [after0_2]
  unfold outsAt0
  frame_out
  obtain ⟨a, b, rfl⟩ : ∃ (a : Fin 1024) (b : Fin 128), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  rw [zero_apply, zero_add, total]
  exact hs.trans (Finset.sum_congr rfl fun x _ => dif_pos x.isLt)

/-- So at row `p` and column `q`. -/
theorem value (p : Fin 8192) (q : Fin 128) : ((dats m 0 c).arrAt 2 cfg0.N : S8192x128.Idx → EReal) (ix2 p q) = total m c p q :=
  congrFun (final m c) (ix2 p q)

/-- The reference's array holds the sums. -/
theorem ref (x0 : FVec Ideal S8192x1024 .f32) (x1 : FVec Ideal S1024x128 .f32) (p : Fin 8192) (q : Fin 128) :
    (Cert.LogitsFwReferenceIdeal.Read.val_main_v0 (F := Ideal) x0 x1 : S8192x128.Idx → EReal) (ix2 p q)
      = ∑ x : Fin 1024, (x0 (ix2 p x) : EReal) * x1 (ix2 x q) := by
  pointwise [Cert.LogitsFwReferenceIdeal.Read.val_main_v0]

/-- The idealized kernel and the idealized reference end with the same array. -/
theorem algebraic : Cert.algebraic_LogitsFwIdeal_LogitsFwReferenceIdeal := by
  intro m g m' g' _ hagree
  refine ⟨fun c => (dats m 0 c).arrAt 2 cfg0.N, run_blocks m g, ?_⟩
  refine (θ_run _ _ _).mono (fun r h c => ?_) (Cert.LogitsFwReferenceIdeal.Value.run m' g')
  obtain ⟨a0, a1⟩ := hagree c
  obtain ⟨h0, h1⟩ := h c
  refine ⟨h0.trans ?_, h1⟩
  rw [Cert.LogitsFwReferenceIdeal.Read.val_main_v0_eq, a0, a1]
  funext i
  obtain ⟨p, q, rfl⟩ : ∃ (p : Fin 8192) (q : Fin 128), i = ix2 p q := ⟨i 0, i 1, eq_ix2 i⟩
  exact (ref _ _ p q).trans (value m c p q).symm

/-- The idealized reference ends, its arguments as they were; it declares no semaphore. -/
theorem frame_reference : Cert.quiescent_LogitsFwReferenceIdeal := fun m ρ _ =>
  (θ_run _ _ _).mono (fun r h => ⟨fun c => (h c).2, sem_eq_zero_of_no_sems (by decide) r.2⟩)
    (Cert.LogitsFwReferenceIdeal.Value.run m ρ)

end Cert.LogitsFwSum
end
-- ==== Proof.LogitsDxSum.lean ====
module
public import proofs.«01_k».proof.Proof.Gen.LogitsDxIdeal.Value
public import proofs.«01_k».proof.Proof.Gen.LogitsDxReferenceIdeal.Run
public import proofs.«01_k».proof.Proof.Gen.LogitsDxReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the rows of the input projection's columns of logits, added to what the call is given. -/

noncomputable section
namespace Cert.LogitsDxSum
open Idealize.ShloMosaic Idealize.ShloMosaic.TcCoe Idealize.ShloMosaic.Tactic
open Cert.LogitsDxIdeal Cert.LogitsDxIdeal.Gen Cert.LogitsDxIdeal.Value

/-- The blocks each point reads and the block it writes. -/
theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] :=
  (by decide +kernel : ∀ t : Fin grid0.N, _)

section
variable (c : Dev nD) (t : Fin cfg0.N)
/-- The row of the product that row `a` of a point's block is. -/
abbrev row (a : Fin 1024) : Fin 8192 := ⟨1024 * (t.val / 1) + a.val, by have := a.isLt; have : t.val < 8 := lt_of_lt_of_eq t.isLt N_0; omega⟩
/-- The column of the product that column `b` of a point's block is. -/
abbrev col (b : Fin 1024) : Fin 1024 := ⟨1024 * (t.val / 1 % 1) + b.val, by have := b.isLt; omega⟩
/-- The place of the sum that place `x` of a point's block is. -/
abbrev place (x : Fin 128) : Fin 128 := ⟨128 * (t.val % 1) + x.val, by have := x.isLt; omega⟩
/-- A point's block of the first array. -/
theorem blkA (W : (b : Ref sig .tc) → Buf (Elt Ideal) ((c : Thread nD τ).loc b)) (a : Fin 1024) (x : Fin 128) :
    (((cfg0.win 0).blk t).view.read (Elt Ideal) (W (Pipeline.arrRef spec0 0)) : S1024x128.Idx → EReal) (ix2 a x)
    = (W main_arg0 : S8192x128.Idx → EReal) (ix2 (row t a) (place t x)) := by
  blk_ext [idx t]
/-- A point's block of the second array. -/
theorem blkB (W : (b : Ref sig .tc) → Buf (Elt Ideal) ((c : Thread nD τ).loc b)) (b : Fin 1024) (x : Fin 128) :
    (((cfg0.win 1).blk t).view.read (Elt Ideal) (W (Pipeline.arrRef spec0 1)) : S1024x128.Idx → EReal) (ix2 b x)
    = (W main_v0 : S1024x128.Idx → EReal) (ix2 (col t b) (place t x)) := by
  blk_ext [idx t]
/-- A point's block of what the product is added to. -/
theorem blkC (W : (b : Ref sig .tc) → Buf (Elt Ideal) ((c : Thread nD τ).loc b)) (a : Fin 1024) (b : Fin 1024) :
    (((cfg0.win 2).blk t).view.read (Elt Ideal) (W (Pipeline.arrRef spec0 2)) : S1024x1024.Idx → EReal) (ix2 a b)
    = (W main_arg2 : S8192x1024.Idx → EReal) (ix2 (row t a) (col t b)) := by
  blk_ext [idx t]
/-- A point's block of the result. -/
theorem blkO (G : Buf (Elt Ideal) ((c : Thread nD τ).loc (Pipeline.arrRef spec0 3))) (a : Fin 1024) (b : Fin 1024) :
    (((cfg0.win 3).blk t).view.read (Elt Ideal) G : S1024x1024.Idx → EReal) (ix2 a b)
    = (G : S8192x1024.Idx → EReal) (ix2 (row t a) (col t b)) := by
  blk_ext [idx t]
end

/-- One step: the block of products is added to what is held. -/
theorem step_apply (acc : Vec Ideal S1024x1024 .f32) (x0 : Vec Ideal S1024x128 .f32) (x1 : Vec Ideal S1024x128 .bf16)
    (a : Fin 1024) (b : Fin 1024) :
    k0_pay1 acc x0 x1 (ix2 a b) = acc (ix2 a b) + ∑ x : Fin 128, (x0 (ix2 a x) : EReal) * x1 (ix2 b x) := by
  pointwise [k0_pay1]

variable (m : (ℓ : Loc nD τ sig) → Buf (Elt Ideal) ℓ) (c : Dev nD)

/-- The first argument. -/
abbrev A : S8192x128.Idx → EReal := m ((c : Thread nD τ).loc main_arg0)
/-- The second argument. -/
abbrev B : S1024x128.Idx → EReal := m ((c : Thread nD τ).loc main_arg1)
/-- The third argument. -/
abbrev C : S8192x1024.Idx → EReal := m ((c : Thread nD τ).loc main_arg2)
/-- What the kernel is given for the first argument is the argument. -/
theorem V_A : (V m c main_arg0 : S8192x128.Idx → EReal) = A m c := by
  exact V_main_arg0 m c
/-- What the kernel is given for the second argument is the argument. -/
theorem V_B : (V m c main_v0 : S1024x128.Idx → EReal) = B m c := by
  show StableHlo.after hostOps0 (fun b => m (c, b)) (Proc.tc.devRef main_v0) = _
  entry_read
  rfl

/-- The sum the result holds at row `p` and column `q`. -/
def total (p : Fin 8192) (q : Fin 1024) : EReal :=
  C m c (ix2 p q) + ∑ x : Fin 128, A m c (ix2 p x) * B m c (ix2 q x)

/-- The terms of the sum at row `p` and column `q`. -/
def term (p : Fin 8192) (q : Fin 1024) (x : ℕ) : EReal :=
  if h : x < 128 then A m c (ix2 p ⟨x, h⟩) * B m c (ix2 q ⟨x, h⟩) else 0

/-- The first block of point `t`. -/
abbrev blockA (t : Fin cfg0.N) : S1024x128.Idx → EReal := iblk m c 0 t
/-- The second block of point `t`. -/
abbrev blockB (t : Fin cfg0.N) : S1024x128.Idx → EReal := iblk m c 1 t

/-- What a point adds: its block of the terms. -/
theorem point (t : Fin cfg0.N) (a : Fin 1024) (b : Fin 1024) (p : Fin 8192) (q : Fin 1024) (j : ℕ)
    (hp : p.val = 1024 * (t.val / 1) + a.val) (hq : q.val = 1024 * (t.val / 1 % 1) + b.val) (hj : t.val % 1 = j) :
    ∑ x : Fin 128, blockA m c t (ix2 a x) * blockB m c t (ix2 b x) = ∑ x : Fin 128, term m c p q (128 * j + x.val) := by
  subst hj
  obtain rfl : p = row t a := Fin.ext hp
  obtain rfl : q = col t b := Fin.ext hq
  refine Finset.sum_congr rfl fun x _ => ?_
  have hx : 128 * (t.val % 1) + x.val < 128 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- What a point's block is added to. -/
theorem pointC (t : Fin cfg0.N) (a : Fin 1024) (b : Fin 1024) (p : Fin 8192) (q : Fin 1024)
    (hp : p.val = 1024 * (t.val / 1) + a.val) (hq : q.val = 1024 * (t.val / 1 % 1) + b.val) :
    (iblk m c 2 t : S1024x1024.Idx → EReal) (ix2 a b) = C m c (ix2 p q) := by
  obtain rfl : p = row t a := Fin.ext hp
  obtain rfl : q = col t b := Fin.ext hq
  have e := blkC c t (V m c) a b
  rw [V_main_arg2 m c] at e
  exact e

/-- The array of the sums. -/
def sums : S8192x1024.Idx → EReal := fun i => total m c (i 0) (i 1)

/-- The kernel's array holds the sums. -/
theorem final : (dats m 0 c).arrAt 3 cfg0.N = sums m c := by
  refine (dats m 0 c).arrAt_eq_of_covers 3 (sums m c) (by decide +kernel) fun t _ y => ?_
  blk_simp
  rw [after0_3]
  unfold outsAt0
  frame_out
  obtain ⟨a, b, rfl⟩ : ∃ (a : Fin 1024) (b : Fin 1024), y = ix2 a b := ⟨y 0, y 1, eq_ix2 y⟩
  refine (step_apply _ _ _ a b).trans (Eq.trans ?_ (blkO c t (sums m c) a b).symm)
  show _ = total m c (row t a) (col t b)
  have hs := point m c t a b (row t a) (col t b) 0 rfl rfl (Nat.mod_one _)
  simp only [Nat.mul_zero, Nat.zero_add] at hs
  refine (congrArg₂ (fun u v : EReal => u + v) (pointC m c t a b (row t a) (col t b) rfl rfl) hs).trans ?_
  rw [total]
  exact congrArg (fun u : EReal => C m c (ix2 (row t a) (col t b)) + u) (Finset.sum_congr rfl fun x _ => dif_pos x.isLt)

/-- So at row `p` and column `q`. -/
theorem value (p : Fin 8192) (q : Fin 1024) : ((dats m 0 c).arrAt 3 cfg0.N : S8192x1024.Idx → EReal) (ix2 p q) = total m c p q :=
  congrFun (final m c) (ix2 p q)

/-- The reference's array holds the sums. -/
theorem ref (x0 : FVec Ideal S8192x128 .f32) (x1 : FVec Ideal S1024x128 .f32) (x2 : FVec Ideal S8192x1024 .f32) (p : Fin 8192) (q : Fin 1024) :
    (Cert.LogitsDxReferenceIdeal.Read.val_main_v3 (F := Ideal) x0 x1 x2 : S8192x1024.Idx → EReal) (ix2 p q)
      = (x2 (ix2 p q) : EReal) + ∑ x : Fin 128, (x0 (ix2 p x) : EReal) * x1 (ix2 q x) := by
  pointwise [Cert.LogitsDxReferenceIdeal.Read.val_main_v3, Cert.LogitsDxReferenceIdeal.Read.val_main_v2]

/-- The idealized kernel and the idealized reference end with the same array. -/
theorem algebraic : Cert.algebraic_LogitsDxIdeal_LogitsDxReferenceIdeal := by
  intro m g m' g' _ hagree
  refine ⟨fun c => (dats m 0 c).arrAt 3 cfg0.N, run_blocks m g, ?_⟩
  refine (θ_run _ _ _).mono (fun r h c => ?_) (Cert.LogitsDxReferenceIdeal.Value.run m' g')
  obtain ⟨a0, a1, a2⟩ := hagree c
  obtain ⟨h0, h1⟩ := h c
  refine ⟨h0.trans ?_, h1⟩
  rw [Cert.LogitsDxReferenceIdeal.Read.val_main_v3_eq, a0, a1, a2]
  funext i
  obtain ⟨p, q, rfl⟩ : ∃ (p : Fin 8192) (q : Fin 1024), i = ix2 p q := ⟨i 0, i 1, eq_ix2 i⟩
  exact (ref _ _ _ p q).trans (value m c p q).symm

/-- The idealized reference ends, its arguments as they were; it declares no semaphore. -/
theorem frame_reference : Cert.quiescent_LogitsDxReferenceIdeal := fun m ρ _ =>
  (θ_run _ _ _).mono (fun r h => ⟨fun c => (h c).2, sem_eq_zero_of_no_sems (by decide) r.2⟩)
    (Cert.LogitsDxReferenceIdeal.Value.run m ρ)

end Cert.LogitsDxSum
end
-- ==== Proof.LogitsDwSum.lean ====
module
public import proofs.«01_k».proof.Proof.Gen.LogitsDwIdeal.Value
public import proofs.«01_k».proof.Proof.Gen.LogitsDwReferenceIdeal.Run
public import proofs.«01_k».proof.Proof.Gen.LogitsDwReferenceIdeal.Read
public import proofs.«01_k».proof.Proof.Products
public import proofs.«01_k».proof.Defs
public import Idealize.ShloMosaic.Lib.Pipeline.ValueKit.Point
public import Idealize.ShloMosaic.Lib.Quiescent
@[expose] public section
set_option maxRecDepth 16384

/-! The gradient of the weights of the input projection's columns of logits. -/

noncomputable section
namespace Cert.LogitsDwSum
open Idealize.ShloMosaic Idealize.ShloMosaic.TcCoe Idealize.ShloMosaic.Tactic
open Cert.LogitsDwIdeal Cert.LogitsDwIdeal.Gen Cert.LogitsDwIdeal.Value

/-- The blocks each point reads and the block it writes. -/
theorem idx : ∀ t : Fin cfg0.N, win0_0.index t = ![t.val % 8, t.val / 8] ∧ win0_1.index t = ![t.val % 8, t.val / 8 % 1]
    ∧ win0_2.index t = ![t.val / 8, t.val / 8 % 1] :=
  (by decide +kernel : ∀ t : Fin grid0.N, _)

section
variable (c : Dev nD) (t : Fin cfg0.N)
/-- The row of the product that row `a` of a point's block is. -/
abbrev row (a : Fin 1024) : Fin 1024 := ⟨1024 * (t.val / 8) + a.val, by have := a.isLt; have : t.val < 8 := lt_of_lt_of_eq t.isLt N_0; omega⟩
/-- The column of the product that column `b` of a point's block is. -/
abbrev col (b : Fin 128) : Fin 128 := ⟨128 * (t.val / 8 % 1) + b.val, by have := b.isLt; omega⟩
/-- The place of the sum that place `x` of a point's block is. -/
abbrev place (x : Fin 1024) : Fin 8192 := ⟨1024 * (t.val % 8) + x.val, by have := x.isLt; omega⟩
/-- A point's block of the first array. -/
theorem blkA (W : (b : Ref sig .tc) → Buf (Elt Ideal) ((c : Thread nD τ).loc b)) (a : Fin 1024) (x : Fin 1024) :
    (((cfg0.win 0).blk t).view.read (Elt Ideal) (W (Pipeline.arrRef spec0 0)) : S1024x1024.Idx → EReal) (ix2 x a)
    = (W main_v0 : S8192x1024.Idx → EReal) (ix2 (place t x) (row t a)) := by
  blk_ext [idx t]
/-- A point's block of the second array. -/
theorem blkB (W : (b : Ref sig .tc) → Buf (Elt Ideal) ((c : Thread nD τ).loc b)) (b : Fin 128) (x : Fin 1024) :
    (((cfg0.win 1).blk t).view.read (Elt Ideal) (W (Pipeline.arrRef spec0 1)) : S1024x128.Idx → EReal) (ix2 x b)
    = (W main_arg1 : S8192x128.Idx → EReal) (ix2 (place t x) (col t b)) := by
  blk_ext [idx t]
end

/-- One step: the block of products is added to what is held. -/
theorem step_apply (acc : Vec Ideal S1024x128 .f32) (x0 : Vec Ideal S1024x1024 .bf16) (x1 : Vec Ideal S1024x128 .f32)
    (a : Fin 1024) (b : Fin 128) :
    k0_pay2 acc x0 x1 (ix2 a b) = acc (ix2 a b) + ∑ x : Fin 1024, (x0 (ix2 x a) : EReal) * x1 (ix2 x b) := by
  pointwise [k0_pay2]
/-- The block a run begins with is zero. -/
theorem zero_apply (a : Fin 1024) (b : Fin 128) : (k0_pay1 (F := Ideal) : S1024x128.Idx → EReal) (ix2 a b) = 0 := by
  pointwise [k0_pay1]

variable (m : (ℓ : Loc nD τ sig) → Buf (Elt Ideal) ℓ) (c : Dev nD)

/-- The first argument. -/
abbrev A : S8192x1024.Idx → EReal := m ((c : Thread nD τ).loc main_arg0)
/-- The second argument. -/
abbrev B : S8192x128.Idx → EReal := m ((c : Thread nD τ).loc main_arg1)
/-- What the kernel is given for the first argument is the argument. -/
theorem V_A : (V m c main_v0 : S8192x1024.Idx → EReal) = A m c := by
  show StableHlo.after hostOps0 (fun b => m (c, b)) (Proc.tc.devRef main_v0) = _
  entry_read
  rfl
/-- What the kernel is given for the second argument is the argument. -/
theorem V_B : (V m c main_arg1 : S8192x128.Idx → EReal) = B m c := by
  exact V_main_arg1 m c

/-- The sum the result holds at row `p` and column `q`. -/
def total (p : Fin 1024) (q : Fin 128) : EReal :=
  ∑ x : Fin 8192, A m c (ix2 x p) * B m c (ix2 x q)

/-- The terms of the sum at row `p` and column `q`. -/
def term (p : Fin 1024) (q : Fin 128) (x : ℕ) : EReal :=
  if h : x < 8192 then A m c (ix2 ⟨x, h⟩ p) * B m c (ix2 ⟨x, h⟩ q) else 0

/-- The first block of point `t`. -/
abbrev blockA (t : Fin cfg0.N) : S1024x1024.Idx → EReal := iblk m c 0 t
/-- The second block of point `t`. -/
abbrev blockB (t : Fin cfg0.N) : S1024x128.Idx → EReal := iblk m c 1 t

/-- What a point adds: its block of the terms. -/
theorem point (t : Fin cfg0.N) (a : Fin 1024) (b : Fin 128) (p : Fin 1024) (q : Fin 128) (j : ℕ)
    (hp : p.val = 1024 * (t.val / 8) + a.val) (hq : q.val = 128 * (t.val / 8 % 1) + b.val) (hj : t.val % 8 = j) :
    ∑ x : Fin 1024, blockA m c t (ix2 x a) * blockB m c t (ix2 x b) = ∑ x : Fin 1024, term m c p q (1024 * j + x.val) := by
  subst hj
  obtain rfl : p = row t a := Fin.ext hp
  obtain rfl : q = col t b := Fin.ext hq
  refine Finset.sum_congr rfl fun x _ => ?_
  have hx : 1024 * (t.val % 8) + x.val < 8192 := (place t x).isLt
  rw [term, dif_pos hx]
  have e0 := blkA c t (V m c) a x
  have e1 := blkB c t (V m c) b x
  rw [V_A m c] at e0
  rw [V_B m c] at e1
  exact congrArg₂ (fun u v : EReal => u * v) e0 e1

/-- The kernel's array holds the sums. -/
theorem value (p : Fin 1024) (q : Fin 128) : (G2 m c : S1024x128.Idx → EReal) (ix2 p q) = total m c p q := by
  have hp := p.isLt
  have hq := q.isLt
  have hr : run2Of (ix2 p q) = 1 * (p.val / 1024) + q.val / 128 := by
    show 1 * (p.val / 1024 - 0) + 1 * (q.val / 128 - 0) = _
    omega
  have hl : loc2Of (ix2 p q) = ix2 ⟨p.val % 1024, Nat.mod_lt _ (by decide)⟩ ⟨q.val % 128, Nat.mod_lt _ (by decide)⟩ := by
    funext a; match a with
    | ⟨0, _⟩ => rfl
    | ⟨1, _⟩ => rfl
  have hN : cfg0.N = 8 := N_0
  have hlt : 8 * (1 * (p.val / 1024) + q.val / 128) + 7 < cfg0.N := by omega
  have hG : (G2 m c : S1024x128.Idx → EReal) (ix2 p q) = Pipeline.accAt (reset2 m c) (step2 m c) (8 * (1 * (p.val / 1024) + q.val / 128)) 7 hlt
      (ix2 ⟨p.val % 1024, Nat.mod_lt _ (by decide)⟩ ⟨q.val % 128, Nat.mod_lt _ (by decide)⟩) := by
    unfold G2
    rw [dif_pos (by rw [hr]; exact hlt)]
    rw [hl]
    have gen : ∀ (r : ℕ) (h : 8 * r + 7 < cfg0.N) (i), r = 1 * (p.val / 1024) + q.val / 128 →
        Pipeline.accAt (reset2 m c) (step2 m c) (8 * r) 7 h i
          = Pipeline.accAt (reset2 m c) (step2 m c) (8 * (1 * (p.val / 1024) + q.val / 128)) 7 hlt i := by
      rintro r h i rfl; rfl
    exact gen _ _ _ hr
  rw [hG]
  refine (Cert.Products.acc_sum (reset2 m c) (step2 m c) _ 1024 7 8192 (by decide) (term m c p q) 0 _ ?_ ?_ hlt).trans ?_
  · intro h
    refine (step_apply _ _ _ _ _).trans ?_
    rw [zero_apply]
    refine congrArg (fun u : EReal => 0 + u) ?_
    refine (point m c ⟨_, h⟩ ⟨p.val % 1024, Nat.mod_lt _ (by decide)⟩ ⟨q.val % 128, Nat.mod_lt _ (by decide)⟩ p q 0 (by dsimp only; omega) (by dsimp only; omega) (by dsimp only; omega)).trans ?_
    simp only [Nat.mul_zero, Nat.zero_add]
  · intro j h acc hj
    refine (step_apply _ _ _ _ _).trans ?_
    exact congrArg (fun u : EReal => acc _ + u) (point m c ⟨_, h⟩ ⟨p.val % 1024, Nat.mod_lt _ (by decide)⟩ ⟨q.val % 128, Nat.mod_lt _ (by decide)⟩ p q (j + 1) (by dsimp only; omega) (by dsimp only; omega) (by dsimp only; omega))
  · rw [total, zero_add]
    exact Finset.sum_congr rfl fun x _ => dif_pos x.isLt

/-- The reference's array holds the sums. -/
theorem ref (x0 : FVec Ideal S8192x1024 .f32) (x1 : FVec Ideal S8192x128 .f32) (p : Fin 1024) (q : Fin 128) :
    (Cert.LogitsDwReferenceIdeal.Read.val_main_v3 (F := Ideal) x0 x1 : S1024x128.Idx → EReal) (ix2 p q)
      = ∑ x : Fin 8192, (x0 (ix2 x p) : EReal) * x1 (ix2 x q) := by
  refine Eq.trans (b := ∑ x : Fin 8192, (x1 (ix2 x q) : EReal) * x0 (ix2 x p)) ?_ (Finset.sum_congr rfl fun x _ => mul_comm _ _)
  pointwise [Cert.LogitsDwReferenceIdeal.Read.val_main_v3, Cert.LogitsDwReferenceIdeal.Read.val_main_v2]

/-- The idealized kernel and the idealized reference end with the same array. -/
theorem algebraic : Cert.algebraic_LogitsDwIdeal_LogitsDwReferenceIdeal := by
  intro m g m' g' _ hagree
  refine ⟨G2 m, run m g, ?_⟩
  refine (θ_run _ _ _).mono (fun r h c => ?_) (Cert.LogitsDwReferenceIdeal.Value.run m' g')
  obtain ⟨a0, a1⟩ := hagree c
  obtain ⟨h0, h1⟩ := h c
  refine ⟨h0.trans ?_, h1⟩
  rw [Cert.LogitsDwReferenceIdeal.Read.val_main_v3_eq, a0, a1]
  funext i
  obtain ⟨p, q, rfl⟩ : ∃ (p : Fin 1024) (q : Fin 128), i = ix2 p q := ⟨i 0, i 1, eq_ix2 i⟩
  exact (ref _ _ p q).trans (value m c p q).symm

/-- The idealized reference ends, its arguments as they were; it declares no semaphore. -/
theorem frame_reference : Cert.quiescent_LogitsDwReferenceIdeal := fun m ρ _ =>
  (θ_run _ _ _).mono (fun r h => ⟨fun c => (h c).2, sem_eq_zero_of_no_sems (by decide) r.2⟩)
    (Cert.LogitsDwReferenceIdeal.Value.run m ρ)

end Cert.LogitsDwSum
end
-- ==== Proof.FoxMath.lean ====
module
public import Idealize.ShloMosaic.Lib.Pointwise
public import Mathlib.Analysis.SpecialFunctions.Log.Basic

@[expose] public section

/-! The forgetting attention of one head over the reals: scores, softmax weights, output and the five gradients, as
functions of row and column numbers. Nothing here speaks of a program. -/

noncomputable section
namespace Cert.Fox

open Finset

/-- The scale of the scores: the float nearest to 1/√128. -/
def scl : ℝ := 11863283 / 134217728

/-- One head's arguments: queries, keys, values and the gradient of the output by row and column, and the cumulated log
    gates by row. -/
structure Head where
  q : ℕ → ℕ → ℝ
  k : ℕ → ℕ → ℝ
  v : ℕ → ℕ → ℝ
  g : ℕ → ℕ → ℝ
  c : ℕ → ℝ

namespace Head
variable (H : Head)

/-- The score of row `t` with column `s`. -/
def score (t s : ℕ) : ℝ := (∑ d : Fin 128, H.q t d * H.k s d) * scl + (H.c t - H.c s)
/-- The unnormalised softmax weight, zero above the diagonal. -/
def w (t s : ℕ) : ℝ := if s ≤ t then Real.exp (H.score t s) else 0
/-- A row's sum of unnormalised weights. -/
def Z (t : ℕ) : ℝ := ∑ s ∈ range 8192, H.w t s
/-- A row's log-sum. -/
def lse (t : ℕ) : ℝ := Real.log (H.Z t)
/-- The softmax weight, from the row's log-sum. -/
def P (t s : ℕ) : ℝ := if s ≤ t then Real.exp (H.score t s - H.lse t) else 0
/-- The output. -/
def o (t d : ℕ) : ℝ := ∑ s ∈ range 8192, H.P t s * H.v s d
/-- A row's inner product of the output with its gradient. -/
def dl (t : ℕ) : ℝ := ∑ d : Fin 128, H.g t d * H.o t d
/-- The gradient of a softmax weight. -/
def dP (t s : ℕ) : ℝ := ∑ d : Fin 128, H.g t d * H.v s d
/-- The gradient of a score. -/
def ds (t s : ℕ) : ℝ := H.P t s * (H.dP t s - H.dl t)
/-- The gradient of the queries summed over the first `n` columns. -/
def dq (n t d : ℕ) : ℝ := (∑ s ∈ range n, H.ds t s * H.k s d) * scl
/-- The gradient of the row gates summed over the first `n` columns. -/
def dcq (n t : ℕ) : ℝ := ∑ s ∈ range n, H.ds t s
/-- The gradient of the keys summed over the first `n` rows. -/
def dk (n s d : ℕ) : ℝ := (∑ t ∈ range n, H.ds t s * H.q t d) * scl
/-- The gradient of the values summed over the first `n` rows. -/
def dv (n s d : ℕ) : ℝ := ∑ t ∈ range n, H.P t s * H.g t d
/-- The gradient of the column gates summed over the first `n` rows. -/
def dck (n s : ℕ) : ℝ := -∑ t ∈ range n, H.ds t s

/-- A sum over one block more. -/
theorem sum_block (f : ℕ → ℝ) (j : ℕ) :
    ∑ s ∈ range (512 * (j + 1)), f s = ∑ s ∈ range (512 * j), f s + ∑ b : Fin 512, f (512 * j + b) := by
  rw [Nat.mul_succ, Finset.sum_range_add, Finset.sum_range fun x => f (512 * j + x)]

/-- One block of columns more in the gradients of the queries. -/
theorem dq_block (j t d : ℕ) : H.dq (512 * (j + 1)) t d
    = H.dq (512 * j) t d + (∑ b : Fin 512, H.ds t (512 * j + b) * H.k (512 * j + b) d) * scl := by
  unfold dq; rw [sum_block (fun s => H.ds t s * H.k s d)]; ring
/-- One block of columns more in the gradients of the row gates. -/
theorem dcq_block (j t : ℕ) : H.dcq (512 * (j + 1)) t
    = H.dcq (512 * j) t + ∑ b : Fin 512, H.ds t (512 * j + b) := sum_block _ _
/-- One block of rows more in the gradients of the keys. -/
theorem dk_block (i s d : ℕ) : H.dk (512 * (i + 1)) s d
    = H.dk (512 * i) s d + (∑ a : Fin 512, H.ds (512 * i + a) s * H.q (512 * i + a) d) * scl := by
  unfold dk; rw [sum_block (fun t => H.ds t s * H.q t d)]; ring
/-- One block of rows more in the gradients of the values. -/
theorem dv_block (i s d : ℕ) : H.dv (512 * (i + 1)) s d
    = H.dv (512 * i) s d + ∑ a : Fin 512, H.P (512 * i + a) s * H.g (512 * i + a) d :=
  sum_block (fun t => H.P t s * H.g t d) _
/-- One block of rows more in the gradients of the column gates. -/
theorem dck_block (i s : ℕ) : H.dck (512 * (i + 1)) s
    = H.dck (512 * i) s + -∑ a : Fin 512, H.ds (512 * i + a) s := by
  unfold dck; rw [sum_block (fun t => H.ds t s)]; ring

/-- Above the diagonal a weight is zero. -/
theorem P_above {t s : ℕ} (h : t < s) : H.P t s = 0 := if_neg (by omega)
/-- Above the diagonal a score's gradient is zero. -/
theorem ds_above {t s : ℕ} (h : t < s) : H.ds t s = 0 := by simp [ds, H.P_above h]

/-- A block of rows adds nothing to the gradients of columns after it. -/
theorem dk_above {i s : ℕ} (d : ℕ) (h : 512 * (i + 1) ≤ s) : H.dk (512 * (i + 1)) s d = H.dk (512 * i) s d := by
  rw [dk_block, Finset.sum_eq_zero, zero_mul, add_zero]
  intro a _; rw [H.ds_above (by have := a.isLt; omega), zero_mul]
/-- The same for the gradients of the values. -/
theorem dv_above {i s : ℕ} (d : ℕ) (h : 512 * (i + 1) ≤ s) : H.dv (512 * (i + 1)) s d = H.dv (512 * i) s d := by
  rw [dv_block, Finset.sum_eq_zero, add_zero]
  intro a _; rw [H.P_above (by have := a.isLt; omega), zero_mul]
/-- The same for the gradients of the column gates. -/
theorem dck_above {i s : ℕ} (h : 512 * (i + 1) ≤ s) : H.dck (512 * (i + 1)) s = H.dck (512 * i) s := by
  rw [dck_block, Finset.sum_eq_zero, neg_zero, add_zero]
  intro a _; rw [H.ds_above (by have := a.isLt; omega)]

/-- Columns above the diagonal add nothing to a row's gradients. -/
theorem sum_below {n t : ℕ} (f : ℕ → ℝ) (hn : t < n) (hN : n ≤ 8192) (hf : ∀ s, t < s → f s = 0) :
    ∑ s ∈ range 8192, f s = ∑ s ∈ range n, f s := by
  refine (Finset.sum_subset (by intro x; simp only [mem_range]; omega) ?_).symm
  intro x _ hx; exact hf x (by simp only [mem_range] at hx; omega)
/-- The gradients of the queries need only the columns up to the diagonal. -/
theorem dq_below {n t : ℕ} (d : ℕ) (hn : t < n) (hN : n ≤ 8192) : H.dq n t d = H.dq 8192 t d := by
  unfold dq; rw [sum_below (fun s => H.ds t s * H.k s d) hn hN fun s hs => by rw [H.ds_above hs, zero_mul]]
/-- The same for the gradients of the row gates. -/
theorem dcq_below {n t : ℕ} (hn : t < n) (hN : n ≤ 8192) : H.dcq n t = H.dcq 8192 t := by
  unfold dcq; rw [sum_below (fun s => H.ds t s) hn hN fun s hs => H.ds_above hs]

/-- A weight is not negative. -/
theorem w_nonneg (t s : ℕ) : 0 ≤ H.w t s := by unfold w; split <;> positivity
/-- A row's sum of weights is positive: the diagonal's weight is. -/
theorem Z_pos {t : ℕ} (ht : t < 8192) : 0 < H.Z t := by
  refine Finset.sum_pos' (fun s _ => H.w_nonneg t s) ⟨t, mem_range.2 ht, ?_⟩
  rw [w, if_pos le_rfl]; positivity
/-- The weight from the log-sum is the weight divided by the row's sum. -/
theorem P_eq {t : ℕ} (ht : t < 8192) (s : ℕ) : H.P t s = H.w t s / H.Z t := by
  unfold P w; split
  · rw [Real.exp_sub, lse, Real.exp_log (H.Z_pos ht)]
  · simp
/-- The row's inner product is the weighted sum of the weights' gradients. -/
theorem dl_eq (t : ℕ) : H.dl t = ∑ s ∈ range 8192, H.P t s * H.dP t s := by
  simp only [dl, o, dP, Finset.mul_sum]
  rw [Finset.sum_comm]
  exact Finset.sum_congr rfl fun s _ => Finset.sum_congr rfl fun d _ => by ring

end Head

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Fox
end
-- ==== Proof.FwdRow.lean ====
module
public import proofs.«01_k».proof.Proof.FoxMath
public import Idealize.ShloMosaic.Lib.Pipeline.ValueKit

@[expose] public section

/-! One row of the forward pass, block of columns by block of columns: its running maximum, its running sum of
exponentials and its running output, both taken relative to the running maximum. -/

noncomputable section
namespace Cert.Fox

open Finset Idealize.ShloMosaic

/-- What row `t` has after its first `n` columns: nothing when `n` is zero; otherwise some number `M` as its maximum, and
    the sums of the weights and of the weighted values over `exp M`. -/
def Part (H : Head) (t n : ℕ) (m l : EReal) (acc : Fin 128 → EReal) : Prop :=
  (n = 0 ∧ m = ⊥ ∧ l = 0 ∧ ∀ d, acc d = 0) ∨
  ∃ M : ℝ, m = (M : EReal) ∧ l = (((∑ s ∈ range n, H.w t s) * Real.exp (-M) : ℝ) : EReal)
    ∧ ∀ d, acc d = (((∑ s ∈ range n, H.w t s * H.v s d) * Real.exp (-M) : ℝ) : EReal)

/-- The largest of numbers and minus infinities, the first a number, is a number. -/
theorem max_row (f : Fin 512 → EReal) (r : ℝ) (h0 : f 0 = (r : EReal)) (hf : ∀ b, f b < ⊤) :
    ∃ M : ℝ, Finset.univ.fold max (⊥ : EReal) f = (M : EReal) := by
  have ht : Finset.univ.fold max (⊥ : EReal) f < ⊤ := by
    rw [Finset.fold_max_lt]
    exact ⟨bot_lt_top, fun s _ => hf s⟩
  have hb : ⊥ < Finset.univ.fold max (⊥ : EReal) f := by
    rw [Finset.lt_fold_max]
    exact Or.inr ⟨0, Finset.mem_univ _, by rw [h0]; exact EReal.bot_lt_coe _⟩
  exact ⟨_, (EReal.coe_toReal ht.ne hb.ne').symm⟩

/-- A block's exponentials are its weights over the exponential of the new maximum. -/
theorem exp_row {H : Head} {t s : ℕ} {x : EReal} (hx : x = if s ≤ t then ((H.score t s : ℝ) : EReal) else ⊥) (M : ℝ) :
    Ideal.exp (x - (M : EReal)) = ((H.w t s * Real.exp (-M) : ℝ) : EReal) := by
  rw [hx, Head.w]
  split
  · rw [← EReal.coe_sub, Ideal.exp_coe, ← Real.exp_add, sub_eq_add_neg]
  · rw [EReal.bot_sub, Ideal.exp_bot, zero_mul, EReal.coe_zero]

/-- Rescaling a sum from one maximum to another, and adding a block's. -/
theorem rescale (M N A B : ℝ) :
    ((Real.exp (M - N) : ℝ) : EReal) * ((A * Real.exp (-M) : ℝ) : EReal) + ((B * Real.exp (-N) : ℝ) : EReal)
      = (((A + B) * Real.exp (-N) : ℝ) : EReal) := by
  rw [← EReal.coe_mul, ← EReal.coe_add]
  refine congrArg Real.toEReal ?_
  rw [Real.exp_sub, Real.exp_neg, Real.exp_neg]
  have h1 := Real.exp_pos M
  have h2 := Real.exp_pos N
  field_simp

/-- One block more. -/
theorem Part.step {H : Head} {t j : ℕ} {m l : EReal} {acc : Fin 128 → EReal} (h : Part H t (512 * j) m l acc)
    (ht : 512 * j ≤ t) (x : Fin 512 → EReal)
    (hx : ∀ b : Fin 512, x b = if 512 * j + b.val ≤ t then ((H.score t (512 * j + b) : ℝ) : EReal) else ⊥)
    (m' : EReal) (hm : m' = max m (Finset.univ.fold max (⊥ : EReal) x)) :
    Part H t (512 * (j + 1)) m' (Ideal.exp (m - m') * l + ∑ b : Fin 512, Ideal.exp (x b - m'))
      (fun d => Ideal.exp (m - m') * acc d
        + ∑ b : Fin 512, Ideal.exp (x b - m') * ((H.v (512 * j + b) d : ℝ) : EReal)) := by
  obtain ⟨X, hX⟩ := max_row x (H.score t (512 * j)) ((hx 0).trans (if_pos ht)) fun b => by
    rw [hx]; split
    · exact EReal.coe_lt_top _
    · exact bot_lt_top
  rw [hX] at hm
  have key : ∀ N : ℝ, (∑ b : Fin 512, Ideal.exp (x b - (N : EReal))
        = (((∑ b : Fin 512, H.w t (512 * j + b)) * Real.exp (-N) : ℝ) : EReal))
      ∧ ∀ d, ∑ b : Fin 512, Ideal.exp (x b - (N : EReal)) * ((H.v (512 * j + b) d : ℝ) : EReal)
        = (((∑ b : Fin 512, H.w t (512 * j + b) * H.v (512 * j + b) d) * Real.exp (-N) : ℝ) : EReal) := by
    intro N
    constructor
    · rw [Finset.sum_mul, coe_sum]
      exact Finset.sum_congr rfl fun b _ => exp_row (hx b) N
    · intro d
      rw [Finset.sum_mul, coe_sum]
      refine Finset.sum_congr rfl fun b _ => ?_
      rw [exp_row (hx b) N, ← EReal.coe_mul]
      exact congrArg Real.toEReal (by ring)
  rcases h with ⟨hn, rfl, rfl, ha⟩ | ⟨M, rfl, rfl, ha⟩
  · have hj : j = 0 := by omega
    subst hj
    rw [max_eq_right bot_le] at hm
    subst hm
    refine Or.inr ⟨X, rfl, ?_, fun d => ?_⟩
    · rw [(key X).1, mul_zero, zero_add, Head.sum_block]
      simp
    · dsimp only
      rw [(key X).2 d, ha d, mul_zero, zero_add, Head.sum_block (fun s => H.w t s * H.v s d)]
      simp
  · obtain ⟨N, hN⟩ : ∃ N : ℝ, m' = (N : EReal) := ⟨max M X, by rw [hm]; exact (EReal.coe_strictMono.monotone.map_max).symm⟩
    clear hm
    subst hN
    refine Or.inr ⟨N, rfl, ?_, fun d => ?_⟩
    · rw [(key N).1, ← EReal.coe_sub, Ideal.exp_coe, rescale, Head.sum_block]
    · dsimp only
      rw [(key N).2 d, ha d, ← EReal.coe_sub, Ideal.exp_coe, rescale, Head.sum_block (fun s => H.w t s * H.v s d)]

/-- Once a row's visible columns are done, the sum is over all columns. -/
theorem Part.whole {H : Head} {t n : ℕ} {m l : EReal} {acc : Fin 128 → EReal} (h : Part H t n m l acc)
    (ht : t < n) (hn : n ≤ 8192) :
    ∃ M : ℝ, m = (M : EReal) ∧ l = ((H.Z t * Real.exp (-M) : ℝ) : EReal)
      ∧ ∀ d, acc d = (((∑ s ∈ range 8192, H.w t s * H.v s d) * Real.exp (-M) : ℝ) : EReal) := by
  have hw : ∀ s, t < s → H.w t s = 0 := fun s hs => if_neg (by omega)
  rcases h with ⟨h0, _⟩ | ⟨M, hm, hl, ha⟩
  · omega
  · refine ⟨M, hm, ?_, fun d => ?_⟩
    · rw [hl, Head.Z, Head.sum_below (fun s => H.w t s) ht hn hw]
    · rw [ha d, Head.sum_below (fun s => H.w t s * H.v s d) ht hn fun s hs => by rw [hw s hs, zero_mul]]

/-- The row's output. -/
theorem Part.out {H : Head} {t n : ℕ} {m l : EReal} {acc : Fin 128 → EReal} (h : Part H t n m l acc)
    (ht : t < n) (hn : n ≤ 8192) (d : Fin 128) : Ideal.div (acc d) l = ((H.o t d : ℝ) : EReal) := by
  obtain ⟨M, -, hl, ha⟩ := h.whole ht hn
  have hZ := H.Z_pos (lt_of_lt_of_le ht hn)
  have hE := Real.exp_pos (-M)
  have ho : H.o t d = (∑ s ∈ range 8192, H.w t s * H.v s d) / H.Z t := by
    rw [Head.o, Finset.sum_div]
    refine Finset.sum_congr rfl fun s _ => ?_
    rw [H.P_eq (lt_of_lt_of_le ht hn)]; ring
  rw [ha d, hl, ho, Ideal.div_coe (by positivity), ← EReal.coe_mul]
  refine congrArg Real.toEReal ?_
  field_simp

/-- The row's log-sum. -/
theorem Part.log {H : Head} {t n : ℕ} {m l : EReal} {acc : Fin 128 → EReal} (h : Part H t n m l acc)
    (ht : t < n) (hn : n ≤ 8192) : m + Ideal.log l = ((H.lse t : ℝ) : EReal) := by
  obtain ⟨M, hm, hl, -⟩ := h.whole ht hn
  have hZ := H.Z_pos (lt_of_lt_of_le ht hn)
  have hE := Real.exp_pos (-M)
  rw [hm, hl, Ideal.log_coe, if_neg (not_le.2 (mul_pos hZ hE)), ← EReal.coe_add, Real.log_mul hZ.ne' hE.ne', Real.log_exp]
  exact congrArg Real.toEReal (by rw [Head.lse]; ring)

end Cert.Fox
end
-- ==== Proof.FoxBlock.lean ====
module
public import proofs.«01_k».proof.Proof.Gen.KernelIdeal.Skeleton
public import proofs.«01_k».proof.Proof.FoxMath
public import Idealize.ShloMosaic.Lib.Pipeline.ValueKit
public import Idealize.ShloMosaic.Lib.WordCmp

@[expose] public section
set_option maxRecDepth 16384

/-! What one block of the backward pass computes, element by element, from operands that are real. `i` numbers the
block of rows, `j` the block of columns. -/

noncomputable section
namespace Cert.Fox

open Idealize.ShloMosaic Idealize.ShloMosaic.TcCoe Idealize.ShloMosaic.Tactic
open Cert.KernelIdeal Cert.KernelIdeal.Gen

/-- The scale's bit pattern denotes the scale. -/
theorem scl_bits : Ideal.ofBits .f32 0x3DB504F3#32 = (scl : EReal) := by
  unfold scl
  simp [Ideal.ofBits, Ideal.ieee]
  norm_num [← EReal.coe_mul]

/-- The word of a row number of the block, as the kernel computes it for the columns. -/
theorem word_row (i : ℕ) (b : Fin 512) :
    IntOp.addi (Scalar.muli (Scalar.addi (Scalar.muli (BitVec.ofNat 32 i) 1#32) 0#32) 512#32) (BitVec.ofNat 32 b.val)
      = BitVec.ofNat 32 (512 * i + b.val) := by
  simp only [IntOp.addi, Scalar.muli, Scalar.addi, IntOp.muli]
  rw [BitVec.mul_one, BitVec.add_zero, mul_comm 512 i, BitVec.ofNat_add, BitVec.ofNat_mul]
/-- The same for the rows. -/
theorem word_row' (i : ℕ) (b : Fin 512) :
    IntOp.addi (Scalar.muli (BitVec.ofNat 32 i) 512#32) (BitVec.ofNat 32 b.val) = BitVec.ofNat 32 (512 * i + b.val) := by
  simp only [IntOp.addi, Scalar.muli, IntOp.muli]
  rw [mul_comm 512 i, BitVec.ofNat_add, BitVec.ofNat_mul]

section
variable (H : Head) (i j : ℕ)
  {v7 v9 : FVec Ideal S512x128 .bf16} {v11 v13 v19 : FVec Ideal S512x1 .f32}
  {v111 v113 : Vec Ideal S512x128 .bf16} {v118 : Vec Ideal S1x1x1x512 .f32}
  (h7 : ∀ (a : Fin 512) (d : Fin 128), v7 (ix2 a d) = ((H.q (512 * i + a) d : ℝ) : EReal))
  (h9 : ∀ (a : Fin 512) (d : Fin 128), v9 (ix2 a d) = ((H.g (512 * i + a) d : ℝ) : EReal))
  (h11 : ∀ a : Fin 512, v11 (ix2 a 0) = ((H.c (512 * i + a) : ℝ) : EReal))
  (h13 : ∀ a : Fin 512, v13 (ix2 a 0) = ((H.lse (512 * i + a) : ℝ) : EReal))
  (h19 : ∀ a : Fin 512, v19 (ix2 a 0) = ((H.dl (512 * i + a) : ℝ) : EReal))
  (h111 : ∀ (b : Fin 512) (d : Fin 128), v111 (ix2 b d) = ((H.k (512 * j + b) d : ℝ) : EReal))
  (h113 : ∀ (b : Fin 512) (d : Fin 128), v113 (ix2 b d) = ((H.v (512 * j + b) d : ℝ) : EReal))
  (h118 : ∀ b : Fin 512, v118 (ix4 0 0 0 b) = ((H.c (512 * j + b) : ℝ) : EReal))

include h7 h11 h13 h111 h118 in
/-- The exponentials of the scores less the log-sums. -/
theorem exp_at (a b : Fin 512) : k0_pay1 (F := Ideal) v7 v11 v13 v111 v118 (ix2 a b)
    = ((Real.exp (H.score (512 * i + a) (512 * j + b) - H.lse (512 * i + a)) : ℝ) : EReal) := by
  pointwise [k0_pay1, h7, h11, h13, h111, h118, scl_bits]
  simp only [← EReal.coe_mul, ← coe_sum, ← EReal.coe_add, ← EReal.coe_sub, zero_add, Ideal.exp_coe]
  rfl

include h7 h11 h13 h111 h118 in
/-- Below the diagonal blocks they are the softmax weights. -/
theorem p_at (hij : j < i) (a b : Fin 512) : k0_pay1 (F := Ideal) v7 v11 v13 v111 v118 (ix2 a b)
    = ((H.P (512 * i + a) (512 * j + b) : ℝ) : EReal) := by
  rw [exp_at H i j h7 h11 h13 h111 h118, Head.P, if_pos (by omega)]

include h7 h9 h11 h13 h111 h118 in
/-- A block adds its weighted rows of the gradient to the gradients of the values. -/
theorem dv_at (hij : j < i) (o : Vec Ideal S512x128 .f32) (b : Fin 512) (d : Fin 128) :
    k0_pay2 (F := Ideal) v7 v9 v11 v13 v111 v118 o (ix2 b d)
    = o (ix2 b d) + ((∑ a : Fin 512, H.P (512 * i + a) (512 * j + b) * H.g (512 * i + a) d : ℝ) : EReal) := by
  have hp := p_at H i j h7 h11 h13 h111 h118 hij
  pointwise [k0_pay2, hp, h9]
  simp only [← EReal.coe_mul, ← coe_sum, zero_add]

include h7 h9 h11 h13 h19 h111 h113 h118 in
/-- The gradients of the scores. -/
theorem ds_at (hij : j < i) (a b : Fin 512) : k0_pay3 (F := Ideal) v7 v9 v11 v13 v19 v111 v113 v118 (ix2 a b)
    = ((H.ds (512 * i + a) (512 * j + b) : ℝ) : EReal) := by
  have hp := p_at H i j h7 h11 h13 h111 h118 hij
  pointwise [k0_pay3, hp, h9, h113, h19]
  simp only [← EReal.coe_mul, ← coe_sum, zero_add, ← EReal.coe_sub]
  rfl

include h7 h9 h11 h13 h19 h111 h113 h118 in
/-- A block adds its rows of queries, weighted by the scores' gradients, to the gradients of the keys. -/
theorem dk_at (hij : j < i) (o : Vec Ideal S512x128 .f32) (b : Fin 512) (d : Fin 128) :
    k0_pay4 (F := Ideal) v7 v9 v11 v13 v19 v111 v113 v118 o (ix2 b d)
    = o (ix2 b d) + (((∑ a : Fin 512, H.ds (512 * i + a) (512 * j + b) * H.q (512 * i + a) d) * scl : ℝ) : EReal) := by
  have hs := ds_at H i j h7 h9 h11 h13 h19 h111 h113 h118 hij
  pointwise [k0_pay4, hs, h7, scl_bits]
  simp only [← EReal.coe_mul, ← coe_sum, zero_add]
end

section
variable (H : Head) (i j : ℕ) {v138 : FVec Ideal S512x512 .f32} {v111 : Vec Ideal S512x128 .bf16}
  (hs : ∀ a b : Fin 512, v138 (ix2 a b) = ((H.ds (512 * i + a) (512 * j + b) : ℝ) : EReal))
  (h111 : ∀ (b : Fin 512) (d : Fin 128), v111 (ix2 b d) = ((H.k (512 * j + b) d : ℝ) : EReal))

include hs in
/-- A block takes its columns' sums of the scores' gradients off the gradients of the column gates. -/
theorem dck_at (o : Vec Ideal S1x1x1x512 .f32) (b : Fin 512) : k0_pay21 (F := Ideal) v138 o (ix4 0 0 0 b)
    = o (ix4 0 0 0 b) + ((-∑ a : Fin 512, H.ds (512 * i + a) (512 * j + b) : ℝ) : EReal) := by
  pointwise [k0_pay21, hs]
  rw [← coe_sum, ← EReal.coe_zero, ← EReal.coe_sub, zero_sub]

include hs h111 in
/-- A block adds its keys, weighted by the scores' gradients, to the gradients of the queries. -/
theorem dq_at (o : FVec Ideal S512x128 .f32) (a : Fin 512) (d : Fin 128) : k0_pay22 (F := Ideal) o v111 v138 (ix2 a d)
    = o (ix2 a d) + (((∑ b : Fin 512, H.ds (512 * i + a) (512 * j + b) * H.k (512 * j + b) d) * scl : ℝ) : EReal) := by
  pointwise [k0_pay22, hs, h111, scl_bits]
  simp only [← EReal.coe_mul, ← coe_sum, zero_add]

include hs in
/-- A block adds its rows' sums of the scores' gradients to the gradients of the row gates. -/
theorem dcq_at (o : FVec Ideal S512x1 .f32) (a : Fin 512) : k0_pay23 (F := Ideal) o v138 (ix2 a 0)
    = o (ix2 a 0) + ((∑ b : Fin 512, H.ds (512 * i + a) (512 * j + b) : ℝ) : EReal) := by
  pointwise [k0_pay23, hs]
  simp only [← coe_sum]
end

/-! The diagonal block. -/
section
variable (H : Head) (i : ℕ) (hi : i < 16)
  {v7 v9 : FVec Ideal S512x128 .bf16} {v11 v13 v19 : FVec Ideal S512x1 .f32}
  {v35 v37 : Vec Ideal S512x128 .bf16} {v42 : Vec Ideal S1x1x1x512 .f32}
  (h7 : ∀ (a : Fin 512) (d : Fin 128), v7 (ix2 a d) = ((H.q (512 * i + a) d : ℝ) : EReal))
  (h9 : ∀ (a : Fin 512) (d : Fin 128), v9 (ix2 a d) = ((H.g (512 * i + a) d : ℝ) : EReal))
  (h11 : ∀ a : Fin 512, v11 (ix2 a 0) = ((H.c (512 * i + a) : ℝ) : EReal))
  (h13 : ∀ a : Fin 512, v13 (ix2 a 0) = ((H.lse (512 * i + a) : ℝ) : EReal))
  (h19 : ∀ a : Fin 512, v19 (ix2 a 0) = ((H.dl (512 * i + a) : ℝ) : EReal))
  (h35 : ∀ (b : Fin 512) (d : Fin 128), v35 (ix2 b d) = ((H.k (512 * i + b) d : ℝ) : EReal))
  (h37 : ∀ (b : Fin 512) (d : Fin 128), v37 (ix2 b d) = ((H.v (512 * i + b) d : ℝ) : EReal))
  (h42 : ∀ b : Fin 512, v42 (ix4 0 0 0 b) = ((H.c (512 * i + b) : ℝ) : EReal))

include hi h7 h11 h13 h35 h42 in
/-- The masked exponentials are the softmax weights. -/
theorem pd_at (a b : Fin 512) : k0_pay27 (F := Ideal) (BitVec.ofNat 32 i) v7 v11 v13 v35 v42 (ix2 a b)
    = ((H.P (512 * i + a) (512 * i + b) : ℝ) : EReal) := by
  pointwise [k0_pay27, h7, h11, h13, h35, h42, scl_bits]
  simp only [← EReal.coe_mul, ← coe_sum, ← EReal.coe_add, ← EReal.coe_sub, zero_add, Ideal.exp_coe]
  have e1 : IntOp.addi (Scalar.muli (Scalar.addi (Scalar.muli (BitVec.ofNat 32 i) 1#32) 0#32) 512#32) (BitVec.ofNat 32 b.val)
      = BitVec.ofNat 32 (512 * i + b.val) := word_row i b
  have e2 : IntOp.addi (Scalar.muli (BitVec.ofNat 32 i) 512#32) (BitVec.ofNat 32 a.val) = BitVec.ofNat 32 (512 * i + a.val) :=
    word_row' i a
  rw [e1, e2]
  have hb := b.isLt
  have ha := a.isLt
  simp (disch := omega) only [hlo_ix]
  unfold Head.P Head.score
  split <;> rfl

include hi h7 h9 h11 h13 h35 h42 in
/-- The diagonal block adds its weighted rows of the gradient to the gradients of the values. -/
theorem dvd_at (o : Vec Ideal S512x128 .f32) (b : Fin 512) (d : Fin 128) :
    k0_pay28 (F := Ideal) (BitVec.ofNat 32 i) v7 v9 v11 v13 v35 v42 o (ix2 b d)
    = o (ix2 b d) + ((∑ a : Fin 512, H.P (512 * i + a) (512 * i + b) * H.g (512 * i + a) d : ℝ) : EReal) := by
  have hp := pd_at H i hi h7 h11 h13 h35 h42
  pointwise [k0_pay28, hp, h9]
  simp only [← EReal.coe_mul, ← coe_sum, zero_add]

include h9 h37 in
/-- The gradients of the diagonal block's softmax weights. -/
theorem dP_at (a b : Fin 512) : k0_pay29 (F := Ideal) v9 v37 (ix2 a b)
    = ((H.dP (512 * i + a) (512 * i + b) : ℝ) : EReal) := by
  pointwise [k0_pay29, h9, h37]
  simp only [← EReal.coe_mul, ← coe_sum, zero_add]
  rfl

include h19 in
/-- The rows' inner products, spread over the diagonal block. -/
theorem dl_at (a b : Fin 512) : k0_pay30 (F := Ideal) v19 (ix2 a b) = ((H.dl (512 * i + a) : ℝ) : EReal) := by
  pointwise [k0_pay30, h19]
end

section
variable (H : Head) (i : ℕ) {v61 v70 v71 : FVec Ideal S512x512 .f32} {v7 : FVec Ideal S512x128 .bf16}
  {v35 : Vec Ideal S512x128 .bf16}
  (h61 : ∀ a b : Fin 512, v61 (ix2 a b) = ((H.P (512 * i + a) (512 * i + b) : ℝ) : EReal))
  (h70 : ∀ a b : Fin 512, v70 (ix2 a b) = ((H.dP (512 * i + a) (512 * i + b) : ℝ) : EReal))
  (h71 : ∀ a b : Fin 512, v71 (ix2 a b) = ((H.dl (512 * i + a) : ℝ) : EReal))
  (h7 : ∀ (a : Fin 512) (d : Fin 128), v7 (ix2 a d) = ((H.q (512 * i + a) d : ℝ) : EReal))
  (h35 : ∀ (b : Fin 512) (d : Fin 128), v35 (ix2 b d) = ((H.k (512 * i + b) d : ℝ) : EReal))

include h61 h70 h71 in
/-- The gradients of the diagonal block's scores. -/
theorem dsd_at (a b : Fin 512) : k0_pay31 (F := Ideal) v61 v70 v71 (ix2 a b)
    = ((H.ds (512 * i + a) (512 * i + b) : ℝ) : EReal) := by
  pointwise [k0_pay31, h61, h70, h71]
  simp only [← EReal.coe_mul, ← EReal.coe_sub]
  rfl

include h61 h70 h71 h7 in
/-- The diagonal block adds its share to the gradients of the keys. -/
theorem dkd_at (o : Vec Ideal S512x128 .f32) (b : Fin 512) (d : Fin 128) :
    k0_pay32 (F := Ideal) v7 v61 v70 v71 o (ix2 b d)
    = o (ix2 b d) + (((∑ a : Fin 512, H.ds (512 * i + a) (512 * i + b) * H.q (512 * i + a) d) * scl : ℝ) : EReal) := by
  have hs := dsd_at H i h61 h70 h71
  pointwise [k0_pay32, hs, h7, scl_bits]
  simp only [← EReal.coe_mul, ← coe_sum, zero_add]

include h61 h70 h71 in
/-- The diagonal block adds its share to the gradients of the column gates. -/
theorem dckd_at (o : Vec Ideal S1x1x1x512 .f32) (b : Fin 512) : k0_pay33 (F := Ideal) v61 v70 v71 o (ix4 0 0 0 b)
    = o (ix4 0 0 0 b) + ((-∑ a : Fin 512, H.ds (512 * i + a) (512 * i + b) : ℝ) : EReal) := by
  have hs := dsd_at H i h61 h70 h71
  pointwise [k0_pay33, hs]
  rw [← coe_sum, ← EReal.coe_zero, ← EReal.coe_sub, zero_sub]

include h61 h70 h71 h35 in
/-- The diagonal block adds its share to the gradients of the queries. -/
theorem dqd_at (o : FVec Ideal S512x128 .f32) (a : Fin 512) (d : Fin 128) :
    k0_pay34 (F := Ideal) o v35 v61 v70 v71 (ix2 a d)
    = o (ix2 a d) + (((∑ b : Fin 512, H.ds (512 * i + a) (512 * i + b) * H.k (512 * i + b) d) * scl : ℝ) : EReal) := by
  have hs := dsd_at H i h61 h70 h71
  pointwise [k0_pay34, hs, h35, scl_bits]
  simp only [← EReal.coe_mul, ← coe_sum, zero_add]

include h61 h70 h71 in
/-- The diagonal block adds its share to the gradients of the row gates. -/
theorem dcqd_at (o : FVec Ideal S512x1 .f32) (a : Fin 512) : k0_pay35 (F := Ideal) o v61 v70 v71 (ix3 0 a 0)
    = o (ix2 a 0) + ((∑ b : Fin 512, H.ds (512 * i + a) (512 * i + b) : ℝ) : EReal) := by
  have hs := dsd_at H i h61 h70 h71
  pointwise [k0_pay35, hs]
  simp only [← coe_sum]
end

/-- A row's inner product of the gradient and the output. -/
theorem dlp_at (H : Head) (i : ℕ) {v14 v15 : Vec Ideal S512x128 .f32}
    (h14 : ∀ (a : Fin 512) (d : Fin 128), v14 (ix2 a d) = ((H.g (512 * i + a) d : ℝ) : EReal))
    (h15 : ∀ (a : Fin 512) (d : Fin 128), v15 (ix2 a d) = ((H.o (512 * i + a) d : ℝ) : EReal)) (a : Fin 512) :
    k0_pay18 (F := Ideal) v14 v15 (ix2 a 0) = ((H.dl (512 * i + a) : ℝ) : EReal) := by
  pointwise [k0_pay18, h14, h15]
  simp only [← EReal.coe_mul, ← coe_sum]
  rfl

/-- The queries as the kernel narrows them are the queries. -/
theorem cast14 (x : Vec Ideal S512x128 .f32) (a : Fin 512) (d : Fin 128) : k0_pay14 (F := Ideal) x (ix2 a d) = x (ix2 a d) := by
  pointwise [k0_pay14]
/-- The gradient's rows as the kernel narrows them are those rows. -/
theorem cast15 (x : Vec Ideal S512x128 .f32) (a : Fin 512) (d : Fin 128) : k0_pay15 (F := Ideal) x (ix2 a d) = x (ix2 a d) := by
  pointwise [k0_pay15]
/-- The gates read as a column. -/
theorem cast16 (x : Vec Ideal S1x512x1 .f32) (a : Fin 512) : k0_pay16 (F := Ideal) x (ix2 a 0) = x (ix3 0 a 0) := by
  pointwise [k0_pay16]
/-- The log-sums read as a column. -/
theorem cast17 (x : Vec Ideal S1x512x1 .f32) (a : Fin 512) : k0_pay17 (F := Ideal) x (ix2 a 0) = x (ix3 0 a 0) := by
  pointwise [k0_pay17]
/-- The kept copy of the keys is the keys. -/
theorem cast9 (x : Vec Ideal S8192x128 .f32) (s : Fin 8192) (d : Fin 128) : k0_pay9 (F := Ideal) x (ix2 s d) = x (ix2 s d) := by
  pointwise [k0_pay9]
/-- The kept copy of the values is the values. -/
theorem cast10 (x : Vec Ideal S8192x128 .f32) (s : Fin 8192) (d : Fin 128) : k0_pay10 (F := Ideal) x (ix2 s d) = x (ix2 s d) := by
  pointwise [k0_pay10]
/-- The gradients of the keys are cleared to zero. -/
theorem zero11 (s : Fin 8192) (d : Fin 128) : k0_pay11 (F := Ideal) (ix2 s d) = (0 : EReal) := by pointwise [k0_pay11]
/-- The gradients of the values are cleared to zero. -/
theorem zero12 (s : Fin 8192) (d : Fin 128) : k0_pay12 (F := Ideal) (ix2 s d) = (0 : EReal) := by pointwise [k0_pay12]
/-- The gradients of the column gates are cleared to zero. -/
theorem zero13 (j : Fin 16) (b : Fin 512) : k0_pay13 (F := Ideal) (ix4 0 j 0 b) = (0 : EReal) := by pointwise [k0_pay13]
/-- The gradients of the queries start at zero. -/
theorem zero19 (a : Fin 512) (d : Fin 128) : k0_pay19 (F := Ideal) (ix2 a d) = (0 : EReal) := by pointwise [k0_pay19]
/-- The gradients of the row gates start at zero. -/
theorem zero20 (a : Fin 512) : k0_pay20 (F := Ideal) (ix2 a 0) = (0 : EReal) := by pointwise [k0_pay20]

end Cert.Fox
end
-- ==== Proof.FwdBlock.lean ====
module
public import proofs.«01_k».proof.Proof.Gen.FoxFwIdeal.Skeleton
public import proofs.«01_k».proof.Proof.FwdRow
public import proofs.«01_k».proof.Proof.FoxBlock
public import Idealize.ShloMosaic.Lib.Pipeline.ValueKit
public import Idealize.ShloMosaic.Lib.WordCmp

@[expose] public section
set_option maxRecDepth 16384

/-! What one block of the forward pass computes, element by element, from operands that are real. `i` numbers the
block of rows, `j` the block of columns. -/

noncomputable section
namespace Cert.FoxFwd

open Idealize.ShloMosaic Idealize.ShloMosaic.TcCoe Idealize.ShloMosaic.Tactic
open Cert.FoxFwIdeal Cert.FoxFwIdeal.Gen
open Cert.Fox (Head Part scl scl_bits word_row word_row' coe_sum)

/-- The mask denotes minus infinity. -/
theorem mask_bot : (Named.named κ "mask" 0xF149F2CA#32 : Ideal .f32) = (⊥ : EReal) :=
  IdealRules.named_const.ideal_named_scalar _ _ _ _ rfl

/-- The pattern a row's maximum starts from denotes minus infinity. -/
theorem neg_inf : Ideal.ofBits .f32 0xFF800000#32 = (⊥ : EReal) := by
  simp [Ideal.ofBits, Ideal.ieee]

section
variable (H : Head) (i j : ℕ)
  {v3 : Vec Ideal S512x128 .f32} {v5 : Vec Ideal S1x512x1 .f32} {v77 v105 : Vec Ideal S512x128 .bf16}
  {v82 : Vec Ideal S1x1x1x512 .f32} {m l : FVec Ideal S512x1 .f32} {acc : FVec Ideal S512x128 .f32}
  (h3 : ∀ (a : Fin 512) (d : Fin 128), v3 (ix2 a d) = ((H.q (512 * i + a) d : ℝ) : EReal))
  (h5 : ∀ a : Fin 512, v5 (ix3 0 a 0) = ((H.c (512 * i + a) : ℝ) : EReal))
  (h77 : ∀ (b : Fin 512) (d : Fin 128), v77 (ix2 b d) = ((H.k (512 * j + b) d : ℝ) : EReal))
  (h82 : ∀ b : Fin 512, v82 (ix4 0 0 0 b) = ((H.c (512 * j + b) : ℝ) : EReal))
  (h105 : ∀ (b : Fin 512) (d : Fin 128), v105 (ix2 b d) = ((H.v (512 * j + b) d : ℝ) : EReal))
  (hp : ∀ a : Fin 512, Part H (512 * i + a) (512 * j) (m (ix2 a 0)) (l (ix2 a 0)) fun d => acc (ix2 a d))

include h3 h5 h77 h82 in
/-- The scores of a block. -/
theorem score_at (a b : Fin 512) : k0_pay15 (F := Ideal) v3 v5 v77 v82 (ix2 a b)
    = ((H.score (512 * i + a) (512 * j + b) : ℝ) : EReal) := by
  pointwise [k0_pay15, k0_pay10, k0_pay11, h3, h5, h77, h82, scl_bits]
  simp only [← EReal.coe_mul, ← coe_sum, ← EReal.coe_add, ← EReal.coe_sub, zero_add]
  rfl

/-- The new maximum of a row. -/
theorem max_at (a : Fin 512) : k0_pay16 (F := Ideal) v3 v5 m v77 v82 (ix2 a 0)
    = max (m (ix2 a 0)) (Finset.univ.fold max (⊥ : EReal) fun b : Fin 512 => k0_pay15 (F := Ideal) v3 v5 v77 v82 (ix2 a b)) := by
  pointwise [k0_pay16, neg_inf]

/-- The new sum of a row. -/
theorem sum_at (a : Fin 512) : k0_pay19 (F := Ideal) v3 v5 m l v77 v82 (ix2 a 0)
    = Ideal.exp (m (ix2 a 0) - k0_pay16 (F := Ideal) v3 v5 m v77 v82 (ix2 a 0)) * l (ix2 a 0)
      + ∑ b : Fin 512, Ideal.exp (k0_pay15 (F := Ideal) v3 v5 v77 v82 (ix2 a b) - k0_pay16 (F := Ideal) v3 v5 m v77 v82 (ix2 a 0)) := by
  pointwise [k0_pay19, k0_pay17, k0_pay18]

include h105 in
/-- The new weighted sum of a row. -/
theorem acc_at (a : Fin 512) (d : Fin 128) : k0_pay20 (F := Ideal) v3 v5 m acc v77 v82 v105 (ix2 a d)
    = Ideal.exp (m (ix2 a 0) - k0_pay16 (F := Ideal) v3 v5 m v77 v82 (ix2 a 0)) * acc (ix2 a d)
      + ∑ b : Fin 512, Ideal.exp (k0_pay15 (F := Ideal) v3 v5 v77 v82 (ix2 a b) - k0_pay16 (F := Ideal) v3 v5 m v77 v82 (ix2 a 0))
          * ((H.v (512 * j + b) d : ℝ) : EReal) := by
  pointwise [k0_pay20, k0_pay17, k0_pay18, h105]

include h3 h5 h77 h82 h105 hp in
/-- A block below the diagonal extends every row by its columns. -/
theorem part_block (hij : j < i) (a : Fin 512) :
    Part H (512 * i + a) (512 * (j + 1)) (k0_pay16 (F := Ideal) v3 v5 m v77 v82 (ix2 a 0))
      (k0_pay19 (F := Ideal) v3 v5 m l v77 v82 (ix2 a 0)) fun d => k0_pay20 (F := Ideal) v3 v5 m acc v77 v82 v105 (ix2 a d) := by
  have hs := (hp a).step (by omega) (fun b => k0_pay15 (F := Ideal) v3 v5 v77 v82 (ix2 a b))
    (fun b => by rw [if_pos (by omega)]; exact score_at H i j h3 h5 h77 h82 a b) _ (max_at a)
  rw [sum_at]
  have e : (fun d => k0_pay20 (F := Ideal) v3 v5 m acc v77 v82 v105 (ix2 a d)) = _ :=
    funext fun d => acc_at H j h105 a d
  rw [e]
  exact hs
end

section
variable (H : Head) (i : ℕ) (hi : i < 16)
  {v3 : Vec Ideal S512x128 .f32} {v5 : Vec Ideal S1x512x1 .f32} {v23 v62 : Vec Ideal S512x128 .bf16}
  {v28 : Vec Ideal S1x1x1x512 .f32} {m l : FVec Ideal S512x1 .f32} {acc : FVec Ideal S512x128 .f32}
  (h3 : ∀ (a : Fin 512) (d : Fin 128), v3 (ix2 a d) = ((H.q (512 * i + a) d : ℝ) : EReal))
  (h5 : ∀ a : Fin 512, v5 (ix3 0 a 0) = ((H.c (512 * i + a) : ℝ) : EReal))
  (h23 : ∀ (b : Fin 512) (d : Fin 128), v23 (ix2 b d) = ((H.k (512 * i + b) d : ℝ) : EReal))
  (h28 : ∀ b : Fin 512, v28 (ix4 0 0 0 b) = ((H.c (512 * i + b) : ℝ) : EReal))
  (h62 : ∀ (b : Fin 512) (d : Fin 128), v62 (ix2 b d) = ((H.v (512 * i + b) d : ℝ) : EReal))
  (hp : ∀ a : Fin 512, Part H (512 * i + a) (512 * i) (m (ix2 a 0)) (l (ix2 a 0)) fun d => acc (ix2 a d))

/-- The word of the diagonal block's number. -/
abbrev dw (i : ℕ) : BitVec 32 := Scalar.addi (Scalar.muli (BitVec.ofNat 32 i) 1#32) 0#32

include hi h3 h5 h23 h28 in
/-- The masked scores of the diagonal block. -/
theorem masked_at (a b : Fin 512) :
    k0_pay1 (F := Ideal) (BitVec.ofNat 32 i) (dw i) (k0_pay27 v3 v23) (k0_pay28 v5 v28) (ix2 a b)
    = if 512 * i + b.val ≤ 512 * i + a.val then ((H.score (512 * i + a) (512 * i + b) : ℝ) : EReal) else ⊥ := by
  pointwise [k0_pay1, k0_pay27, k0_pay28, k0_pay10, k0_pay11, h3, h5, h23, h28, scl_bits]
  simp only [← EReal.coe_mul, ← coe_sum, ← EReal.coe_add, ← EReal.coe_sub, zero_add]
  have e1 : IntOp.addi (Scalar.muli (Scalar.addi (Scalar.muli (BitVec.ofNat 32 i) 1#32) 0#32) 512#32) (BitVec.ofNat 32 b.val)
      = BitVec.ofNat 32 (512 * i + b.val) := word_row i b
  have e2 : IntOp.addi (Scalar.muli (BitVec.ofNat 32 i) 512#32) (BitVec.ofNat 32 a.val) = BitVec.ofNat 32 (512 * i + a.val) :=
    word_row' i a
  rw [e1, e2, mask_bot]
  have hb := b.isLt
  have ha := a.isLt
  simp (disch := omega) only [hlo_ix]
  unfold Head.score
  split <;> rfl

variable (A w : BitVec 32) (s g : FVec Ideal S512x512 .f32)

/-- The last maximum of a row. -/
theorem dmax_at (a : Fin 512) : k0_pay2 (F := Ideal) A m w s g (ix2 a 0)
    = max (m (ix2 a 0)) (Finset.univ.fold max (⊥ : EReal) fun b : Fin 512 => k0_pay1 (F := Ideal) A w s g (ix2 a b)) := by
  pointwise [k0_pay2, neg_inf]

/-- The last sum of a row. -/
theorem dsum_at (a : Fin 512) : k0_pay5 (F := Ideal) A m l w s g (ix2 a 0)
    = Ideal.exp (m (ix2 a 0) - k0_pay2 (F := Ideal) A m w s g (ix2 a 0)) * l (ix2 a 0)
      + ∑ b : Fin 512, Ideal.exp (k0_pay1 (F := Ideal) A w s g (ix2 a b) - k0_pay2 (F := Ideal) A m w s g (ix2 a 0)) := by
  pointwise [k0_pay5, k0_pay3, k0_pay4]

include h62 in
/-- The output of a row before it is read as a number: the last weighted sum over the last sum. -/
theorem dout_at (a : Fin 512) (d : Fin 128) : k0_pay6 (F := Ideal) A m l acc w s g v62 (ix2 a d)
    = Ideal.div (Ideal.exp (m (ix2 a 0) - k0_pay2 (F := Ideal) A m w s g (ix2 a 0)) * acc (ix2 a d)
      + ∑ b : Fin 512, Ideal.exp (k0_pay1 (F := Ideal) A w s g (ix2 a b) - k0_pay2 (F := Ideal) A m w s g (ix2 a 0))
          * ((H.v (512 * i + b) d : ℝ) : EReal)) (k0_pay5 (F := Ideal) A m l w s g (ix2 a 0)) := by
  pointwise [k0_pay6, k0_pay3, k0_pay4, h62]

/-- The log-sum of a row before it is read as a number. -/
theorem dlse_at (a : Fin 512) : k0_pay7 (F := Ideal) A m l w s g (ix3 0 a 0)
    = k0_pay2 (F := Ideal) A m w s g (ix2 a 0) + Ideal.log (k0_pay5 (F := Ideal) A m l w s g (ix2 a 0)) := by
  pointwise [k0_pay7]

include hi h3 h5 h23 h28 hp in
/-- The diagonal block completes every row. -/
theorem part_diag (a : Fin 512) :
    Part H (512 * i + a) (512 * (i + 1))
      (k0_pay2 (F := Ideal) (BitVec.ofNat 32 i) m (dw i) (k0_pay27 v3 v23) (k0_pay28 v5 v28) (ix2 a 0))
      (k0_pay5 (F := Ideal) (BitVec.ofNat 32 i) m l (dw i) (k0_pay27 v3 v23) (k0_pay28 v5 v28) (ix2 a 0))
      fun d => Ideal.exp (m (ix2 a 0)
          - k0_pay2 (F := Ideal) (BitVec.ofNat 32 i) m (dw i) (k0_pay27 v3 v23) (k0_pay28 v5 v28) (ix2 a 0)) * acc (ix2 a d)
        + ∑ b : Fin 512, Ideal.exp (k0_pay1 (F := Ideal) (BitVec.ofNat 32 i) (dw i) (k0_pay27 v3 v23) (k0_pay28 v5 v28) (ix2 a b)
            - k0_pay2 (F := Ideal) (BitVec.ofNat 32 i) m (dw i) (k0_pay27 v3 v23) (k0_pay28 v5 v28) (ix2 a 0))
          * ((H.v (512 * i + b) d : ℝ) : EReal) := by
  have hs := (hp a).step (by omega) (fun b => k0_pay1 (F := Ideal) (BitVec.ofNat 32 i) (dw i) (k0_pay27 v3 v23) (k0_pay28 v5 v28) (ix2 a b))
    (fun b => masked_at H i hi h3 h5 h23 h28 a b) _ (dmax_at _ _ _ _ a)
  rw [dsum_at]
  exact hs

include hi h3 h5 h23 h28 h62 hp in
/-- The outputs the block writes. -/
theorem out_at (a : Fin 512) (d : Fin 128) :
    k0_pay6 (F := Ideal) (BitVec.ofNat 32 i) m l acc (dw i) (k0_pay27 v3 v23) (k0_pay28 v5 v28) v62 (ix2 a d)
    = ((H.o (512 * i + a) d : ℝ) : EReal) := by
  rw [dout_at H i h62]
  exact (part_diag H i hi h3 h5 h23 h28 hp a).out (by omega) (by omega) d

include hi h3 h5 h23 h28 hp in
/-- The log-sums the block writes. -/
theorem lse_at (a : Fin 512) :
    k0_pay7 (F := Ideal) (BitVec.ofNat 32 i) m l (dw i) (k0_pay27 v3 v23) (k0_pay28 v5 v28) (ix3 0 a 0)
    = ((H.lse (512 * i + a) : ℝ) : EReal) := by
  rw [dlse_at]
  exact (part_diag H i hi h3 h5 h23 h28 hp a).log (by omega) (by omega)
end

/-- Before the first block of columns nothing is summed. -/
theorem part_start (H : Head) (t : ℕ) (a : Fin 512) : Part H t (512 * 0) (k0_pay12 (F := Ideal) (ix2 a 0))
    (k0_pay13 (F := Ideal) (ix2 a 0)) fun d => k0_pay14 (F := Ideal) (ix2 a d) := by
  refine Or.inl ⟨rfl, ?_, ?_, fun d => ?_⟩
  · pointwise [k0_pay12]
    exact mask_bot
  · pointwise [k0_pay13]
  · pointwise [k0_pay14]

end Cert.FoxFwd
end
-- ==== Proof.FoxBuf.lean ====
module
public import proofs.«01_k».proof.Proof.Gen.KernelIdeal.Skeleton
public import proofs.«01_k».proof.Proof.FoxMath
public import Idealize.ShloMosaic.Lib.Pipeline.ValueKit
public import Idealize.ShloMosaic.Lib.WritesUnit
public import Idealize.ShloMosaic.Lib.VecWindow

@[expose] public section
set_option maxRecDepth 16384

/-! What the buffers of the backward pass hold, said as functions of row and column numbers, and how a load of a block
and a store of a block read in those words. -/

noncomputable section
namespace Cert.Fox

open Idealize.ShloMosaic Idealize.ShloMosaic.TcCoe Idealize.ShloMosaic.Tactic
open Cert.KernelIdeal Cert.KernelIdeal.Gen

/-- A block of 512 rows holds rows `512 * i …` of `f`. -/
def IsRows (f : ℕ → ℕ → ℝ) (i : ℕ) (v : S512x128.Idx → EReal) : Prop :=
  ∀ (a : Fin 512) (d : Fin 128), v (ix2 a d) = ((f (512 * i + a) d : ℝ) : EReal)
/-- A buffer of all rows holds `f`. -/
def IsAll (f : ℕ → ℕ → ℝ) (v : S8192x128.Idx → EReal) : Prop :=
  ∀ (s : Fin 8192) (d : Fin 128), v (ix2 s d) = ((f s d : ℝ) : EReal)
/-- A column of 512 numbers holds numbers `512 * i …` of `f`. -/
def IsCol (f : ℕ → ℝ) (i : ℕ) (v : S1x512x1.Idx → EReal) : Prop :=
  ∀ a : Fin 512, v (ix3 0 a 0) = ((f (512 * i + a) : ℝ) : EReal)
/-- A buffer of 16 lines of 512 numbers holds `f`. -/
def IsLines (f : ℕ → ℝ) (v : S1x16x1x512.Idx → EReal) : Prop :=
  ∀ (j : Fin 16) (b : Fin 512), v (ix4 0 j 0 b) = ((f (512 * j + b) : ℝ) : EReal)

section
variable {e : EltTy} (v : View sig .tc .vmem S8192x128 e) (f : v.ty.Contents (Elt Ideal))
  {off : Fin 2 → ℕ} (inb : ∀ a : Fin 2, off a + (![512, 128] : Fin 2 → ℕ) a ≤ S8192x128.size a)

/-- A load of 512 rows reads those rows. -/
theorem load_rows {n : ℕ} (hn : n < 16) (hoff : off = ![512 * n, 0]) (b : Fin 512) (d : Fin 128) :
    (v.readAt (Elt Ideal) (Rect.unit (s := S8192x128) off ![512, 128] inb).toLoadRect f : S512x128.Idx → Elt Ideal e) (ix2 b d)
      = v.read (Elt Ideal) f (ix2 ⟨512 * n + b, by have := b.isLt; omega⟩ d) := by
  subst hoff
  rw [View.readAt_apply]
  refine congrArg (v.read (Elt Ideal) f) (funext fun a => Fin.ext ?_)
  match a with
  | 0 => show 512 * n + 1 * b.val = 512 * n + b.val; omega
  | 1 => show 0 + 1 * d.val = d.val; omega

/-- A store of 512 rows leaves the others. -/
theorem store_rows {n : ℕ} (hn : n < 16) (hoff : off = ![512 * n, 0])
    (w : (Rect.unit (s := S8192x128) off ![512, 128] inb).shape.Idx → Elt Ideal e)
    (L : List (View.Piece (Elt Ideal) S8192x128 e)) (s : Fin 8192) (d : Fin 128) :
    v.read (Elt Ideal) (v.writes (Elt Ideal) f ((⟨Rect.unit off ![512, 128] inb, w⟩ : View.Piece (Elt Ideal) S8192x128 e) :: L)) (ix2 s d)
      = if h : 512 * n ≤ s.val ∧ s.val < 512 * n + 512 then w (ix2 (⟨s.val - 512 * n, by omega⟩ : Fin 512) d)
        else v.read (Elt Ideal) (v.writes (Elt Ideal) f L) (ix2 s d) := by
  split
  · rename_i h
    refine View.read_writes_cons_rows_of_mem v f inb w L _ _ hoff ?_ ?_
    · show s.val = 512 * n + (s.val - 512 * n); omega
    · rfl
  · rename_i h
    refine View.read_writes_cons_rows_of_not_mem v f inb w L _ hoff (W := 512) rfl ?_
    show s.val < 512 * n ∨ 512 * n + 512 ≤ s.val; omega
end

section
variable (v : View sig .tc .vmem S1x16x1x512 .f32) (f : v.ty.Contents (Elt Ideal))
  {off : Fin 4 → ℕ} (inb : ∀ a : Fin 4, off a + (![1, 1, 1, 512] : Fin 4 → ℕ) a ≤ S1x16x1x512.size a)

/-- A load of one line reads that line. -/
theorem load_line {n : ℕ} (hn : n < 16) (hoff : off = ![0, n, 0, 0]) (b : Fin 512) :
    (v.readAt (Elt Ideal) (Rect.unit (s := S1x16x1x512) off ![1, 1, 1, 512] inb).toLoadRect f : S1x1x1x512.Idx → Elt Ideal .f32)
        (ix4 0 0 0 b)
      = v.read (Elt Ideal) f (ix4 0 (⟨n, hn⟩ : Fin 16) 0 b) := by
  subst hoff
  rw [View.readAt_apply]
  refine congrArg (v.read (Elt Ideal) f) (funext fun a => Fin.ext ?_)
  match a with
  | 0 => rfl
  | 1 => show n + 1 * 0 = n; omega
  | 2 => rfl
  | 3 => show 0 + 1 * b.val = b.val; omega

/-- A store of one line leaves the others. -/
theorem store_line {n : ℕ} (hoff : off = ![0, n, 0, 0])
    (w : (Rect.unit (s := S1x16x1x512) off ![1, 1, 1, 512] inb).shape.Idx → Elt Ideal .f32)
    (L : List (View.Piece (Elt Ideal) S1x16x1x512 .f32)) (j : Fin 16) (b : Fin 512) :
    v.read (Elt Ideal) (v.writes (Elt Ideal) f ((⟨Rect.unit off ![1, 1, 1, 512] inb, w⟩ : View.Piece (Elt Ideal) S1x16x1x512 .f32) :: L)) (ix4 0 j 0 b)
      = if j.val = n then w (ix4 (0 : Fin 1) (0 : Fin 1) (0 : Fin 1) b)
        else v.read (Elt Ideal) (v.writes (Elt Ideal) f L) (ix4 0 j 0 b) := by
  split
  · rename_i h
    refine View.read_writes_cons_unit_of_mem v f inb w L _ _ hoff fun a => ?_
    match a with
    | 0 => rfl
    | 1 => show j.val = n + 0; omega
    | 2 => rfl
    | 3 => show b.val = 0 + b.val; omega
  · rename_i h
    refine View.read_writes_cons_unit_of_not_mem v f inb w L _ hoff (1 : Fin 4) ?_
    show j.val < n ∨ n + 1 ≤ j.val; omega
end

section
variable (v : View sig .tc .vmem S8192x128 .f32) (g : v.ty.Contents (Elt Ideal))
  {off : Fin 2 → ℕ} (inb : ∀ a : Fin 2, off a + (![512, 128] : Fin 2 → ℕ) a ≤ S8192x128.size a)

/-- A store of a block of rows, in the words of `IsAll`. -/
theorem put_rows {f f' : ℕ → ℕ → ℝ} {n : ℕ} (hn : n < 16) (hoff : off = ![512 * n, 0])
    (w : (Rect.unit (s := S8192x128) off ![512, 128] inb).shape.Idx → Elt Ideal .f32)
    (L : List (View.Piece (Elt Ideal) S8192x128 .f32)) (hL : IsAll f' (v.read (Elt Ideal) (v.writes (Elt Ideal) g L)))
    (hw : ∀ (b : Fin 512) (d : Fin 128), (show EReal from w (ix2 b d)) = ((f (512 * n + b) d : ℝ) : EReal))
    (hf : ∀ s d, (s < 512 * n ∨ 512 * (n + 1) ≤ s) → f s d = f' s d) :
    IsAll f (v.read (Elt Ideal) (v.writes (Elt Ideal) g
      ((⟨Rect.unit off ![512, 128] inb, w⟩ : View.Piece (Elt Ideal) S8192x128 .f32) :: L))) := by
  intro s d
  refine (store_rows v g inb hn hoff w L s d).trans ?_
  split
  · rename_i h
    refine (hw _ d).trans ?_
    show ((f (512 * n + (s.val - 512 * n)) d : ℝ) : EReal) = _
    rw [Nat.add_sub_cancel' h.1]
  · rename_i h
    rw [hf s d (by omega)]; exact hL s d
end

section
variable (v : View sig .tc .vmem S1x16x1x512 .f32) (g : v.ty.Contents (Elt Ideal))
  {off : Fin 4 → ℕ} (inb : ∀ a : Fin 4, off a + (![1, 1, 1, 512] : Fin 4 → ℕ) a ≤ S1x16x1x512.size a)

/-- A store of one line, in the words of `IsLines`. -/
theorem put_line {f f' : ℕ → ℝ} {n : ℕ} (hoff : off = ![0, n, 0, 0])
    (w : (Rect.unit (s := S1x16x1x512) off ![1, 1, 1, 512] inb).shape.Idx → Elt Ideal .f32)
    (L : List (View.Piece (Elt Ideal) S1x16x1x512 .f32)) (hL : IsLines f' (v.read (Elt Ideal) (v.writes (Elt Ideal) g L)))
    (hw : ∀ b : Fin 512, (show EReal from w (ix4 (0 : Fin 1) (0 : Fin 1) (0 : Fin 1) b)) = ((f (512 * n + b) : ℝ) : EReal))
    (hf : ∀ s, (s < 512 * n ∨ 512 * (n + 1) ≤ s) → f s = f' s) :
    IsLines f (v.read (Elt Ideal) (v.writes (Elt Ideal) g
      ((⟨Rect.unit off ![1, 1, 1, 512] inb, w⟩ : View.Piece (Elt Ideal) S1x16x1x512 .f32) :: L))) := by
  intro j b
  refine (store_line v g inb hoff w L j b).trans ?_
  split
  · rename_i h
    rw [h]; exact hw b
  · rename_i h
    have := b.isLt
    rw [hf (512 * j + b) (by omega)]; exact hL j b
end

end Cert.Fox
end
-- ==== Proof.FwdLoop.lean ====
module
public import proofs.«01_k».proof.Proof.Gen.FoxFwIdeal.Loops
public import proofs.«01_k».proof.Proof.FwdBlock
public import proofs.«01_k».proof.Proof.FoxBuf

@[expose] public section
set_option maxRecDepth 16384

/-! The forward kernel's loop over the blocks of columns below the diagonal, and the diagonal block that completes the
rows. -/

noncomputable section
namespace Cert.FoxFwd

open Idealize.ShloMosaic Idealize.ShloMosaic.TcCoe Idealize.ShloMosaic.Tactic
open Cert.FoxFwIdeal Cert.FoxFwIdeal.Gen
open Cert.Fox (Head Part IsRows IsAll IsCol IsLines)

/-- A load of 512 rows reads those rows. -/
theorem load_rows {e : EltTy} (v : View sig .tc .vmem S8192x128 e) (f : v.ty.Contents (Elt Ideal))
    {off : Fin 2 → ℕ} (inb : ∀ a : Fin 2, off a + (![512, 128] : Fin 2 → ℕ) a ≤ S8192x128.size a)
    {n : ℕ} (hn : n < 16) (hoff : off = ![512 * n, 0]) (b : Fin 512) (d : Fin 128) :
    (v.readAt (Elt Ideal) (Rect.unit (s := S8192x128) off ![512, 128] inb).toLoadRect f : S512x128.Idx → Elt Ideal e) (ix2 b d)
      = v.read (Elt Ideal) f (ix2 ⟨512 * n + b, by have := b.isLt; omega⟩ d) := by
  subst hoff
  rw [View.readAt_apply]
  refine congrArg (v.read (Elt Ideal) f) (funext fun a => Fin.ext ?_)
  match a with
  | 0 => show 512 * n + 1 * b.val = 512 * n + b.val; omega
  | 1 => show 0 + 1 * d.val = d.val; omega

/-- A load of one line reads that line. -/
theorem load_line (v : View sig .tc .vmem S1x16x1x512 .f32) (f : v.ty.Contents (Elt Ideal))
    {off : Fin 4 → ℕ} (inb : ∀ a : Fin 4, off a + (![1, 1, 1, 512] : Fin 4 → ℕ) a ≤ S1x16x1x512.size a)
    {n : ℕ} (hn : n < 16) (hoff : off = ![0, n, 0, 0]) (b : Fin 512) :
    (v.readAt (Elt Ideal) (Rect.unit (s := S1x16x1x512) off ![1, 1, 1, 512] inb).toLoadRect f : S1x1x1x512.Idx → Elt Ideal .f32)
        (ix4 0 0 0 b)
      = v.read (Elt Ideal) f (ix4 0 (⟨n, hn⟩ : Fin 16) 0 b) := by
  subst hoff
  rw [View.readAt_apply]
  refine congrArg (v.read (Elt Ideal) f) (funext fun a => Fin.ext ?_)
  match a with
  | 0 => rfl
  | 1 => show n + 1 * 0 = n; omega
  | 2 => rfl
  | 3 => show 0 + 1 * b.val = b.val; omega

/-- What a grid point of block `I` of rows reads: its rows of the queries and gates, and all gates, keys and values of the
    head. -/
structure Ops (H : Head) (I : ℕ) (v3 : S512x128.Idx → EReal) (v5 : S1x512x1.Idx → EReal)
    (r6 : S1x16x1x512.Idx → EReal) (r9 r10 : S8192x128.Idx → EReal) : Prop where
  q : IsRows H.q I v3
  c : IsCol H.c I v5
  cs : IsLines H.c r6
  k : IsAll H.k r9
  v : IsAll H.v r10

/-- The rows of block `I` when their first `n` blocks of columns are done. -/
def Rows (H : Head) (I n : ℕ) (s : FVec Ideal S512x1 .f32 × FVec Ideal S512x1 .f32 × FVec Ideal S512x128 .f32) : Prop :=
  ∀ a : Fin 512, Part H (512 * I + a) (512 * n) (s.1 (ix2 a 0)) (s.2.1 (ix2 a 0)) fun d => s.2.2 (ix2 a d)

/-- The loop runs once for each block of columns below the diagonal. -/
theorem trips1 (i : grid0.Coords) : (k0_t1_loop i).trips = (i 1).val := by
  have h : ∀ n : Fin 16, Scf.trips 0#32 (Scalar.addi 0#32 (Scalar.muli (Scalar.divsi (Scalar.subi
      (Scalar.muli (BitVec.ofNat 32 n.val) 1#32) 0#32) 1#32) 1#32)) 1#32 = n.val := by decide +kernel
  exact h (i 1)

/-- The rows a trip works on. -/
theorem off1 (i : grid0.Coords) (k : Fin (k0_t1_loop i).trips) : k0_off1 i k = ![512 * k.val, 0] := by
  have h : ∀ n : Fin 16, (Scalar.indexCast (Scalar.muli (Scf.iv 0#32 1#32 n.val) 512#32) : Index).toNat = 512 * n.val := by
    decide +kernel
  have hk : k.val < 16 := lt_of_lt_of_le k.isLt (by rw [trips1]; exact (i 1).isLt.le)
  have e := h ⟨k.val, hk⟩
  funext a
  match a with
  | 0 => exact e
  | 1 => rfl

/-- The line a trip works on. -/
theorem off2 (i : grid0.Coords) (k : Fin (k0_t1_loop i).trips) : k0_off2 i k = ![0, k.val, 0, 0] := by
  have h : ∀ n : Fin 16, (Scalar.indexCast (Scf.iv 0#32 1#32 n.val) : Index).toNat = n.val := by decide +kernel
  have hk : k.val < 16 := lt_of_lt_of_le k.isLt (by rw [trips1]; exact (i 1).isLt.le)
  have e := h ⟨k.val, hk⟩
  funext a
  match a with
  | 0 => rfl
  | 1 => exact e
  | 2 => rfl
  | 3 => rfl

/-- The rows of the diagonal block. -/
theorem off5 (i : grid0.Coords) : k0_off5 i = ![512 * (i 1).val, 0] := by
  have h : ∀ n : Fin 16, (Scalar.indexCast (Scalar.muli (Scalar.addi (Scalar.muli (BitVec.ofNat 32 n.val) 1#32) 0#32) 512#32)
      : Index).toNat = 512 * n.val := by decide +kernel
  funext a
  match a with
  | 0 => exact h (i 1)
  | 1 => rfl

/-- The line of the diagonal block. -/
theorem off6 (i : grid0.Coords) : k0_off6 i = ![0, (i 1).val, 0, 0] := by
  have h : ∀ n : Fin 16, (Scalar.indexCast (Scalar.addi (Scalar.muli (BitVec.ofNat 32 n.val) 1#32) 0#32)
      : Index).toNat = n.val := by decide +kernel
  funext a
  match a with
  | 0 => rfl
  | 1 => exact h (i 1)
  | 2 => rfl
  | 3 => rfl

/-- The remainder of the loop has no trips. -/
theorem trips2 (i : grid0.Coords) : (k0_t2_loop i).trips = 0 := by
  have h : ∀ n : Fin 16, Scf.trips (Scalar.addi 0#32 (Scalar.muli (Scalar.divsi (Scalar.subi
      (Scalar.muli (BitVec.ofNat 32 n.val) 1#32) 0#32) 1#32) 1#32))
      (Scalar.addi 0#32 (Scalar.subi (Scalar.muli (BitVec.ofNat 32 n.val) 1#32) 0#32)) 1#32 = 0 := by decide +kernel
  exact h (i 1)

variable (H : Head) (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S1x512x1 .f32) (harg5 : arg5.IsWhole)
  (arg6 : Memref sig .tc .vmem S1x16x1x512 .f32) (harg6 : arg6.IsWhole)
  (arg7 : Memref sig .tc .vmem S512x128 .f32) (harg7 : arg7.IsWhole)
  (arg8 : Memref sig .tc .vmem S1x512x1 .f32) (harg8 : arg8.IsWhole)
  (arg9 : Memref sig .tc .vmem S8192x128 .bf16) (harg9 : arg9.IsWhole)
  (arg10 : Memref sig .tc .vmem S8192x128 .bf16) (harg10 : arg10.IsWhole)
  (v3 : Vec Ideal S512x128 .f32) (v5 : Vec Ideal S1x512x1 .f32)
  (X6 : BufTy.Contents (Elt Ideal) arg6.view.ty) (X9 : BufTy.Contents (Elt Ideal) arg9.view.ty)
  (X10 : BufTy.Contents (Elt Ideal) arg10.view.ty)

/-- One trip adds its block of columns to every row. -/
theorem trip_step (k : Fin (k0_t1_loop i).trips) (acc : FVec Ideal S512x1 .f32 × FVec Ideal S512x1 .f32 × FVec Ideal S512x128 .f32)
    (hO : Ops H (i 1).val v3 v5 (arg6.view.read (Elt Ideal) X6) (arg9.view.read (Elt Ideal) X9) (arg10.view.read (Elt Ideal) X10))
    (hA : Rows H (i 1).val k.val acc) :
    Rows H (i 1).val (k.val + 1) (tripR_k0_t1 (F := Ideal) 𝒱 c bd i
      arg2 harg2 arg3 harg3 arg4 harg4 arg5 harg5 arg6 harg6 arg7 harg7 arg8 harg8 arg9 harg9 arg10 harg10
      v3 v5 X6 X9 X10 k acc) := by
  have hki : k.val < (i 1).val := lt_of_lt_of_eq k.isLt (trips1 i)
  have hk : k.val < 16 := lt_trans hki (i 1).isLt
  have inb1 : ∀ a, k0_off1 i k a + (![512, 128] : Fin 2 → ℕ) a ≤ S8192x128.size a := by
    rw [off1]
    exact Fin.forall_fin_two.mpr ⟨by show 512 * k.val + 512 ≤ 8192; omega, le_of_eq rfl⟩
  have inb2 : ∀ a, k0_off2 i k a + (![1, 1, 1, 512] : Fin 4 → ℕ) a ≤ S1x16x1x512.size a := by
    rw [off2]
    intro a
    match a with
    | 0 => exact le_of_eq rfl
    | 1 => show k.val + 1 ≤ 16; omega
    | 2 => exact le_of_eq rfl
    | 3 => exact le_of_eq rfl
  have h77 : ∀ (b : Fin 512) (d : Fin 128), (arg9.view.readAt (Elt Ideal) (Rect.unit (s := S8192x128) (k0_off1 i k) ![512, 128]
      inb1).toLoadRect X9 : S512x128.Idx → EReal) (ix2 b d) = ((H.k (512 * k.val + b) d : ℝ) : EReal) :=
    fun b d => (load_rows arg9.view X9 _ hk (off1 i k) b d).trans (hO.k _ d)
  have h105 : ∀ (b : Fin 512) (d : Fin 128), (arg10.view.readAt (Elt Ideal) (Rect.unit (s := S8192x128) (k0_off1 i k) ![512, 128]
      inb1).toLoadRect X10 : S512x128.Idx → EReal) (ix2 b d) = ((H.v (512 * k.val + b) d : ℝ) : EReal) :=
    fun b d => (load_rows arg10.view X10 _ hk (off1 i k) b d).trans (hO.v _ d)
  have h82 : ∀ b : Fin 512, (arg6.view.readAt (Elt Ideal) (Rect.unit (s := S1x16x1x512) (k0_off2 i k) ![1, 1, 1, 512]
      inb2).toLoadRect X6 : S1x1x1x512.Idx → EReal) (ix4 0 0 0 b) = ((H.c (512 * k.val + b) : ℝ) : EReal) :=
    fun b => (load_line arg6.view X6 _ hk (off2 i k) b).trans (hO.cs _ b)
  intro a
  unfold tripR_k0_t1 trip_k0_t1
  exact part_block H (i 1).val k.val hO.q hO.c h77 h82 h105 hA hki a

/-- The loop's invariant. -/
theorem loop_rows (init : FVec Ideal S512x1 .f32 × FVec Ideal S512x1 .f32 × FVec Ideal S512x128 .f32)
    (hO : Ops H (i 1).val v3 v5 (arg6.view.read (Elt Ideal) X6) (arg9.view.read (Elt Ideal) X9) (arg10.view.read (Elt Ideal) X10))
    (h0 : Rows H (i 1).val 0 init) : ∀ n : ℕ, n ≤ (k0_t1_loop i).trips →
    Rows H (i 1).val n (st_k0_t1 (F := Ideal) 𝒱 c bd i
      arg2 harg2 arg3 harg3 arg4 harg4 arg5 harg5 arg6 harg6 arg7 harg7 arg8 harg8 arg9 harg9 arg10 harg10
      v3 v5 X6 X9 X10 init n) := by
  intro n
  induction n with
  | zero => intro _; exact h0
  | succ n ih =>
    intro hn
    have hs := st_k0_t1_succ (F := Ideal) 𝒱 c bd i
      arg2 harg2 arg3 harg3 arg4 harg4 arg5 harg5 arg6 harg6 arg7 harg7 arg8 harg8 arg9 harg9 arg10 harg10
      v3 v5 X6 X9 X10 init ⟨n, hn⟩
    rw [show n + 1 = (⟨n, hn⟩ : Fin (k0_t1_loop i).trips).val + 1 from rfl, hs]
    exact trip_step H 𝒱 c bd i
      arg2 harg2 arg3 harg3 arg4 harg4 arg5 harg5 arg6 harg6 arg7 harg7 arg8 harg8 arg9 harg9 arg10 harg10
      v3 v5 X6 X9 X10 ⟨n, hn⟩ _ hO (ih (Nat.le_of_succ_le hn))

/-- What a grid point of block `I` of rows leaves: the outputs and the log-sums of its rows. -/
structure Done (H : Head) (I : ℕ) (o5 : S512x128.Idx → EReal) (o6 : S1x512x1.Idx → EReal) : Prop where
  o : IsRows H.o I o5
  lse : IsCol H.lse I o6

/-- After the diagonal block the point's rows are complete. -/
theorem diag_done (inb5 : ∀ a, k0_off5 i a + (![512, 128] : Fin 2 → ℕ) a ≤ S8192x128.size a)
    (inb6 : ∀ a, k0_off6 i a + (![1, 1, 1, 512] : Fin 4 → ℕ) a ≤ S1x16x1x512.size a)
    (s : FVec Ideal S512x1 .f32 × FVec Ideal S512x1 .f32 × FVec Ideal S512x128 .f32)
    (hO : Ops H (i 1).val v3 v5 (arg6.view.read (Elt Ideal) X6) (arg9.view.read (Elt Ideal) X9) (arg10.view.read (Elt Ideal) X10))
    (hA : Rows H (i 1).val (i 1).val s) :
    Done H (i 1).val
      (k0_pay6 (BitVec.ofNat 32 (i 1).val) s.1 s.2.1 s.2.2 (dw (i 1).val)
        (k0_pay27 v3 (arg9.view.readAt (Elt Ideal) (Rect.unit (s := S8192x128) (k0_off5 i) ![512, 128] inb5).toLoadRect X9))
        (k0_pay28 v5 (arg6.view.readAt (Elt Ideal) (Rect.unit (s := S1x16x1x512) (k0_off6 i) ![1, 1, 1, 512] inb6).toLoadRect X6))
        (arg10.view.readAt (Elt Ideal) (Rect.unit (s := S8192x128) (k0_off5 i) ![512, 128] inb5).toLoadRect X10))
      (k0_pay7 (BitVec.ofNat 32 (i 1).val) s.1 s.2.1 (dw (i 1).val)
        (k0_pay27 v3 (arg9.view.readAt (Elt Ideal) (Rect.unit (s := S8192x128) (k0_off5 i) ![512, 128] inb5).toLoadRect X9))
        (k0_pay28 v5 (arg6.view.readAt (Elt Ideal) (Rect.unit (s := S1x16x1x512) (k0_off6 i) ![1, 1, 1, 512] inb6).toLoadRect X6))) := by
  have hi : (i 1).val < 16 := (i 1).isLt
  have h23 : ∀ (b : Fin 512) (d : Fin 128), (arg9.view.readAt (Elt Ideal) (Rect.unit (s := S8192x128) (k0_off5 i) ![512, 128]
      inb5).toLoadRect X9 : S512x128.Idx → EReal) (ix2 b d) = ((H.k (512 * (i 1).val + b) d : ℝ) : EReal) :=
    fun b d => (load_rows arg9.view X9 _ hi (off5 i) b d).trans (hO.k _ d)
  have h62 : ∀ (b : Fin 512) (d : Fin 128), (arg10.view.readAt (Elt Ideal) (Rect.unit (s := S8192x128) (k0_off5 i) ![512, 128]
      inb5).toLoadRect X10 : S512x128.Idx → EReal) (ix2 b d) = ((H.v (512 * (i 1).val + b) d : ℝ) : EReal) :=
    fun b d => (load_rows arg10.view X10 _ hi (off5 i) b d).trans (hO.v _ d)
  have h28 : ∀ b : Fin 512, (arg6.view.readAt (Elt Ideal) (Rect.unit (s := S1x16x1x512) (k0_off6 i) ![1, 1, 1, 512]
      inb6).toLoadRect X6 : S1x1x1x512.Idx → EReal) (ix4 0 0 0 b) = ((H.c (512 * (i 1).val + b) : ℝ) : EReal) :=
    fun b => (load_line arg6.view X6 _ hi (off6 i) b).trans (hO.cs _ b)
  exact ⟨fun a d => out_at H (i 1).val hi hO.q hO.c h23 h28 h62 hA a d,
    fun a => lse_at H (i 1).val hi hO.q hO.c h23 h28 hA a⟩

end Cert.FoxFwd
end
-- ==== Proof.FwdPoint.lean ====
module
public import proofs.«01_k».proof.Proof.Gen.FoxFwIdeal.Frame
public import proofs.«01_k».proof.Proof.FwdLoop
@[expose] public section
set_option maxRecDepth 16384

/-! What one grid point of the forward pass leaves in the blocks of the results: the loop and the diagonal block
together. -/

noncomputable section
namespace Cert.FoxFwd
open Idealize.ShloMosaic Idealize.ShloMosaic.TcCoe Idealize.ShloMosaic.Tactic
open Cert.FoxFwIdeal Cert.FoxFwIdeal.Gen
open Cert.Fox (Head Part IsRows IsAll IsCol IsLines)

/-- A load of a whole block of rows reads the block. -/
theorem read_all2 {e : EltTy} (m : Memref sig .tc .vmem S512x128 e) (h : m.IsWhole) (x : Vec Ideal S512x128 e) (inb) :
    m.view.readAt (Elt Ideal) (Rect.unit (s := S512x128) ![0, 0] S512x128.size inb).toLoadRect (h.unread x) = x :=
  (View.readAt_full m.view _ inb).trans (h.read_unread x)
/-- A load of a whole buffer of rows reads the buffer. -/
theorem read_all2' {e : EltTy} (m : Memref sig .tc .vmem S8192x128 e) (h : m.IsWhole) (x : Vec Ideal S8192x128 e) (inb) :
    m.view.readAt (Elt Ideal) (Rect.unit (s := S8192x128) ![0, 0] S8192x128.size inb).toLoadRect (h.unread x) = x :=
  (View.readAt_full m.view _ inb).trans (h.read_unread x)
/-- A load of a whole column reads the column. -/
theorem read_all3 {e : EltTy} (m : Memref sig .tc .vmem S1x512x1 e) (h : m.IsWhole) (x : Vec Ideal S1x512x1 e) (inb) :
    m.view.readAt (Elt Ideal) (Rect.unit (s := S1x512x1) ![0, 0, 0] S1x512x1.size inb).toLoadRect (h.unread x) = x :=
  (View.readAt_full m.view _ inb).trans (h.read_unread x)

/-- The copy of the keys has their elements. -/
theorem cast8 (x : Vec Ideal S8192x128 .f32) (s : Fin 8192) (d : Fin 128) : k0_pay8 (F := Ideal) x (ix2 s d) = x (ix2 s d) := by
  pointwise [k0_pay8]
/-- The copy of the values has their elements. -/
theorem cast9 (x : Vec Ideal S8192x128 .f32) (s : Fin 8192) (d : Fin 128) : k0_pay9 (F := Ideal) x (ix2 s d) = x (ix2 s d) := by
  pointwise [k0_pay9]

/-- Before the loop no row has anything. -/
theorem rows_zero (H : Head) (I : ℕ) : Rows H I 0 (k0_pay12, k0_pay13, k0_pay14) :=
  fun a => part_start H (512 * I + a) a

/-- The same with the number of blocks named otherwise. -/
theorem Rows.cast {H : Head} {I n n' : ℕ} {s} (h : Rows H I n s) (e : n = n') : Rows H I n' s := e ▸ h

variable (H : Head) (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S1x512x1 .f32) (harg5 : arg5.IsWhole)
  (arg6 : Memref sig .tc .vmem S1x16x1x512 .f32) (harg6 : arg6.IsWhole)
  (arg7 : Memref sig .tc .vmem S512x128 .f32) (harg7 : arg7.IsWhole)
  (arg8 : Memref sig .tc .vmem S1x512x1 .f32) (harg8 : arg8.IsWhole)
  (arg9 : Memref sig .tc .vmem S8192x128 .bf16) (harg9 : arg9.IsWhole)
  (arg10 : Memref sig .tc .vmem S8192x128 .bf16) (harg10 : arg10.IsWhole)
  (x0 : Vec Ideal S512x128 .f32) (x1 x2 : Vec Ideal S8192x128 .f32) (x3 : Vec Ideal S1x512x1 .f32)
  (x4 : Vec Ideal S1x16x1x512 .f32) (xs0 xs1 : Vec Ideal S8192x128 .bf16)

/-- A point that is not the first of its head completes its rows from the copies the first kept. -/
theorem point_B (hc0 : ¬cond0_0 i) (hO : Ops H (i 1).val x0 x3 x4 xs0 xs1) :
    Done H (i 1).val
      (out0_B_5 (F := Ideal) c i
      arg2 harg2 arg3 harg3 arg4 harg4 arg5 harg5 arg6 harg6 arg7 harg7 arg8 harg8 arg9 harg9 arg10 harg10 hc0 x0 x1 x2 x3 x4 xs0 xs1)
      (out0_B_6 (F := Ideal) c i
      arg2 harg2 arg3 harg3 arg4 harg4 arg5 harg5 arg6 harg6 arg7 harg7 arg8 harg8 arg9 harg9 arg10 harg10 hc0 x0 x1 x2 x3 x4 xs0 xs1) := by
  have hT : Scf.trips (k0_t2_loop i).lb (k0_t2_loop i).ub (k0_t2_loop i).st = 0 := trips2 i
  unfold out0_B_5 out0_B_6 kernelRun0_B
  dsimp only
  repeat (first | unfold kernelRun0_B.sl.r | unfold kernelRun0_B.sl.r_1 | unfold kernelRun0_B.sl.r_2 | unfold kernelRun0_B.sl.r_3 | unfold kernelRun0_B.sl.r_4 | unfold kernelRun0_B.sl.r_5 | unfold kernelRun0_B.sl.r_6 | unfold kernelRun0_B.sl.r_7 | unfold kernelRun0_B.sl.r_8)
  rw [hT]
  rw [read_all2 arg2 harg2 x0, read_all3 arg5 harg5 x3]
  have hO' : Ops H (i 1).val x0 x3 (arg6.view.read (Elt Ideal) (harg6.unread x4))
      (arg9.view.read (Elt Ideal) (harg9.unread xs0)) (arg10.view.read (Elt Ideal) (harg10.unread xs1)) := by
    rw [harg6.read_unread, harg9.read_unread, harg10.read_unread]; exact hO
  have hA := (loop_rows H Variants.none c none i
      arg2 harg2 arg3 harg3 arg4 harg4 arg5 harg5 arg6 harg6 arg7 harg7 arg8 harg8 arg9 harg9 arg10 harg10
      x0 x3 (harg6.unread x4) (harg9.unread xs0) (harg10.unread xs1) (k0_pay12, k0_pay13, k0_pay14) hO' (rows_zero H _) _ le_rfl).cast (trips1 i)
  have hD := diag_done H i arg6 arg9 arg10 x0 x3 (harg6.unread x4) (harg9.unread xs0) (harg10.unread xs1)
      (k0_off5_inb i) (k0_off6_inb i) _ hO' hA
  exact ⟨fun a d => (congrFun (View.read_writes_full (s := S512x128) VO0_5 _ _ _ []) (ix2 a d)).trans (hD.o a d),
    fun a => (congrFun (View.read_writes_full (s := S1x512x1) VO0_6 _ _ _ []) (ix3 0 a 0)).trans (hD.lse a)⟩

set_option maxHeartbeats 4000000 in
/-- The first point of a head copies the keys and values and completes its rows from the copies. -/
theorem point_A (hc0 : cond0_0 i) (hO : Ops H (i 1).val x0 x3 x4 x1 x2) :
    Done H (i 1).val
      (out0_A_5 (F := Ideal) c i
      arg2 harg2 arg3 harg3 arg4 harg4 arg5 harg5 arg6 harg6 arg7 harg7 arg8 harg8 arg9 harg9 arg10 harg10 hc0 x0 x1 x2 x3 x4)
      (out0_A_6 (F := Ideal) c i
      arg2 harg2 arg3 harg3 arg4 harg4 arg5 harg5 arg6 harg6 arg7 harg7 arg8 harg8 arg9 harg9 arg10 harg10 hc0 x0 x1 x2 x3 x4) := by
  have hT : Scf.trips (k0_t2_loop i).lb (k0_t2_loop i).ub (k0_t2_loop i).st = 0 := trips2 i
  have hs0 : kernelRun0_A.sl.HS0_1 (F := Ideal) c arg3 harg3 x1 = [⟨Rect.unit ![0, 0] S8192x128.size inb_S8192x128_S8192x128_0_0,
      k0_pay8 x1⟩] := by
    unfold kernelRun0_A.sl.HS0_1
    rw [read_all2' arg3 harg3 x1]
  have hs1 : kernelRun0_A.sl.HS1_1 (F := Ideal) c arg4 harg4 x2 = [⟨Rect.unit ![0, 0] S8192x128.size inb_S8192x128_S8192x128_0_0,
      k0_pay9 x2⟩] := by
    unfold kernelRun0_A.sl.HS1_1
    rw [read_all2' arg4 harg4 x2]
  unfold out0_A_5 out0_A_6 kernelRun0_A
  dsimp only
  repeat (first | unfold kernelRun0_A.sl.r | unfold kernelRun0_A.sl.r_1 | unfold kernelRun0_A.sl.r_2 | unfold kernelRun0_A.sl.r_3 | unfold kernelRun0_A.sl.r_4 | unfold kernelRun0_A.sl.r_5 | unfold kernelRun0_A.sl.r_6 | unfold kernelRun0_A.sl.r_7 | unfold kernelRun0_A.sl.r_8 | unfold kernelRun0_A.sl.v19 | unfold kernelRun0_A.sl.v62)
  rw [hT]
  rw [read_all2 arg2 harg2 x0, read_all3 arg5 harg5 x3, hs0, hs1]
  have hO' : Ops H (i 1).val x0 x3 (arg6.view.read (Elt Ideal) (harg6.unread x4))
      (arg9.view.read (Elt Ideal) (arg9.view.writes (Elt Ideal) arg9.view.junk
        [(⟨Rect.unit ![0, 0] S8192x128.size inb_S8192x128_S8192x128_0_0, k0_pay8 x1⟩ : View.Piece (Elt Ideal) S8192x128 .bf16)]))
      (arg10.view.read (Elt Ideal) (arg10.view.writes (Elt Ideal) arg10.view.junk
        [(⟨Rect.unit ![0, 0] S8192x128.size inb_S8192x128_S8192x128_0_0, k0_pay9 x2⟩ : View.Piece (Elt Ideal) S8192x128 .bf16)])) := by
    rw [harg6.read_unread, View.read_writes_full, View.read_writes_full]
    exact ⟨hO.q, hO.c, hO.cs, fun s d => (cast8 x1 s d).trans (hO.k s d), fun s d => (cast9 x2 s d).trans (hO.v s d)⟩
  have hA := (loop_rows H Variants.none c none i
      arg2 harg2 arg3 harg3 arg4 harg4 arg5 harg5 arg6 harg6 arg7 harg7 arg8 harg8 arg9 harg9 arg10 harg10
      x0 x3 (harg6.unread x4) _ _ (k0_pay12, k0_pay13, k0_pay14) hO' (rows_zero H _) _ le_rfl).cast (trips1 i)
  have hD := diag_done H i arg6 arg9 arg10 x0 x3 (harg6.unread x4) _ _
      (k0_off5_inb i) (k0_off6_inb i) _ hO' hA
  exact ⟨fun a d => (congrFun (View.read_writes_full (s := S512x128) VO0_5 _ _ _ []) (ix2 a d)).trans (hD.o a d),
    fun a => (congrFun (View.read_writes_full (s := S1x512x1) VO0_6 _ _ _ []) (ix3 0 a 0)).trans (hD.lse a)⟩

/-- The first point of a head keeps a copy of the head's keys. -/
theorem keep_k (hc0 : cond0_0 i) : sout0_A_0 (F := Ideal) c i
      arg2 harg2 arg3 harg3 arg4 harg4 arg5 harg5 arg6 harg6 arg7 harg7 arg8 harg8 arg9 harg9 arg10 harg10 hc0 x0 x1 x2 x3 x4 = k0_pay8 (F := Ideal) x1 := by
  unfold sout0_A_0 kernelRun0_A
  dsimp only
  unfold kernelRun0_A.sl.HS0_1
  rw [View.read_writes_full (s := S8192x128), read_all2' arg3 harg3 x1]

/-- The first point of a head keeps a copy of the head's values. -/
theorem keep_v (hc0 : cond0_0 i) : sout0_A_1 (F := Ideal) c i
      arg2 harg2 arg3 harg3 arg4 harg4 arg5 harg5 arg6 harg6 arg7 harg7 arg8 harg8 arg9 harg9 arg10 harg10 hc0 x0 x1 x2 x3 x4 = k0_pay9 (F := Ideal) x2 := by
  unfold sout0_A_1 kernelRun0_A
  dsimp only
  unfold kernelRun0_A.sl.HS1_1
  rw [View.read_writes_full (s := S8192x128), read_all2' arg4 harg4 x2]

end Cert.FoxFwd
end
-- ==== Proof.FwdFold.lean ====
module
public import proofs.«01_k».proof.Proof.Gen.FoxFwIdeal.Value
public import proofs.«01_k».proof.Proof.FwdPoint
public import Idealize.ShloMosaic.Lib.Pipeline.ValueKit.Point
@[expose] public section
set_option maxRecDepth 16384

/-! The forward pass's grid: the points of one head, in the order of their blocks of rows, leave the head's outputs and
log-sums. -/

noncomputable section
namespace Cert.FoxFwd
open Idealize.ShloMosaic Idealize.ShloMosaic.TcCoe Idealize.ShloMosaic.Tactic
open Cert.FoxFwIdeal Cert.FoxFwIdeal.Gen Cert.FoxFwIdeal.Value
open Cert.Fox (Head Part IsRows IsAll IsCol IsLines)

/-- The blocks each point reads. -/
theorem idx : ∀ t : Fin cfg0.N, (win0_0.index t = ![t.val % 16, t.val / 16] ∧ win0_1.index t = ![0, t.val / 16]
      ∧ win0_2.index t = ![0, t.val / 16]) ∧ (win0_3.index t = ![t.val / 16, t.val % 16, 0]
      ∧ win0_4.index t = ![t.val / 16, 0, 0, 0]) :=
  (by decide +kernel : ∀ t : Fin grid0.N, _)
/-- A point's block of rows. -/
theorem coords : ∀ t : Fin cfg0.N, (grid0.coords t 1).val = t.val % 16 := (by decide +kernel : ∀ t : Fin grid0.N, _)

/-- Row `a` of the block of rows of point `t`. -/
abbrev row (t : Fin cfg0.N) (a : Fin 512) : Fin 8192 := ⟨512 * (t.val % 16) + a.val, by have := a.isLt; omega⟩
/-- The head of point `t`. -/
abbrev head (t : Fin cfg0.N) : Fin 4 := ⟨t.val / 16, by have : t.val < 64 := lt_of_lt_of_eq t.isLt N_0; omega⟩
/-- Where entry `d` of head `h` lies in a row of the arrays. -/
abbrev lane (h : Fin 4) (d : Fin 128) : Fin 512 := ⟨128 * h.val + d.val, by have := h.isLt; have := d.isLt; omega⟩

section
variable (c : Dev nD) (t : Fin cfg0.N)
/-- A point's block of the queries, read from the array. -/
theorem blk0 (W : (b : Ref sig .tc) → Buf (Elt Ideal) ((c : Thread nD τ).loc b)) (a : Fin 512) (d : Fin 128) :
    (((cfg0.win 0).blk t).view.read (Elt Ideal) (W (Pipeline.arrRef spec0 0)) : S512x128.Idx → EReal) (ix2 a d)
    = (W main_arg0 : S8192x512.Idx → EReal) (ix2 (row t a) (lane (head t) d)) := by
  blk_ext [idx t]
/-- A point's keys, read from the array. -/
theorem blk1 (W : (b : Ref sig .tc) → Buf (Elt Ideal) ((c : Thread nD τ).loc b)) (s : Fin 8192) (d : Fin 128) :
    (((cfg0.win 1).blk t).view.read (Elt Ideal) (W (Pipeline.arrRef spec0 1)) : S8192x128.Idx → EReal) (ix2 s d)
    = (W main_arg1 : S8192x512.Idx → EReal) (ix2 s (lane (head t) d)) := by
  blk_ext [idx t]
/-- A point's values, read from the array. -/
theorem blk2 (W : (b : Ref sig .tc) → Buf (Elt Ideal) ((c : Thread nD τ).loc b)) (s : Fin 8192) (d : Fin 128) :
    (((cfg0.win 2).blk t).view.read (Elt Ideal) (W (Pipeline.arrRef spec0 2)) : S8192x128.Idx → EReal) (ix2 s d)
    = (W main_arg2 : S8192x512.Idx → EReal) (ix2 s (lane (head t) d)) := by
  blk_ext [idx t]
/-- A point's column of gates, read from the array. -/
theorem blk3 (W : (b : Ref sig .tc) → Buf (Elt Ideal) ((c : Thread nD τ).loc b)) (a : Fin 512) :
    (((cfg0.win 3).blk t).view.read (Elt Ideal) (W (Pipeline.arrRef spec0 3)) : S1x512x1.Idx → EReal) (ix3 0 a 0)
    = (W main_v0 : S4x8192x1.Idx → EReal) (ix3 (head t) (row t a) 0) := by
  blk_ext [idx t]
/-- A point's lines of gates, read from the array. -/
theorem blk4 (W : (b : Ref sig .tc) → Buf (Elt Ideal) ((c : Thread nD τ).loc b)) (j : Fin 16) (b : Fin 512) :
    (((cfg0.win 4).blk t).view.read (Elt Ideal) (W (Pipeline.arrRef spec0 4)) : S1x16x1x512.Idx → EReal) (ix4 0 j 0 b)
    = (W main_v1 : S4x16x1x512.Idx → EReal) (ix4 (head t) j 0 b) := by
  blk_ext [idx t]
end

variable (m : (ℓ : Loc nD τ sig) → Buf (Elt Ideal) ℓ) (c : Dev nD)

/-- The arrays the call is given hold, for every head, the real numbers the head is made of. -/
structure Reads (Hd : Fin 4 → Head) : Prop where
  q : ∀ (h : Fin 4) (s : Fin 8192) (d : Fin 128),
    (V m c main_arg0 : S8192x512.Idx → EReal) (ix2 s (lane h d)) = (((Hd h).q s d : ℝ) : EReal)
  k : ∀ (h : Fin 4) (s : Fin 8192) (d : Fin 128),
    (V m c main_arg1 : S8192x512.Idx → EReal) (ix2 s (lane h d)) = (((Hd h).k s d : ℝ) : EReal)
  v : ∀ (h : Fin 4) (s : Fin 8192) (d : Fin 128),
    (V m c main_arg2 : S8192x512.Idx → EReal) (ix2 s (lane h d)) = (((Hd h).v s d : ℝ) : EReal)
  cr : ∀ (h : Fin 4) (s : Fin 8192), (V m c main_v0 : S4x8192x1.Idx → EReal) (ix3 h s 0) = (((Hd h).c s : ℝ) : EReal)
  cs : ∀ (h : Fin 4) (j : Fin 16) (b : Fin 512),
    (V m c main_v1 : S4x16x1x512.Idx → EReal) (ix4 h j 0 b) = (((Hd h).c (512 * j + b) : ℝ) : EReal)

variable {Hd : Fin 4 → Head} (hR : Reads m c Hd)
include hR

/-- So every point reads its rows and its head. -/
theorem ops (t : Fin cfg0.N) : Ops (Hd (head t)) (grid0.coords t 1).val (iblk m c 0 t) (iblk m c 3 t)
    (iblk m c 4 t) (iblk m c 1 t) (iblk m c 2 t) := by
  generalize hI : (grid0.coords t 1).val = I
  rw [coords t] at hI
  subst hI
  exact ⟨fun a d => (blk0 c t (V m c) a d).trans (hR.q _ _ d),
    fun a => (blk3 c t (V m c) a).trans (hR.cr _ _),
    fun j b => (blk4 c t (V m c) j b).trans (hR.cs _ j b), fun s d => (blk1 c t (V m c) s d).trans (hR.k _ s d),
    fun s d => (blk2 c t (V m c) s d).trans (hR.v _ s d)⟩

omit hR in
/-- What is held after a point: its results, and the head's keys and values in the point's own memory. -/
structure Inv (H : Head) (I : ℕ) (o : Vec Ideal S512x128 .f32 × Vec Ideal S1x512x1 .f32 × Vec Ideal S8192x128 .bf16
    × Vec Ideal S8192x128 .bf16) : Prop where
  done : Done H I o.1 o.2.1
  k : IsAll H.k o.2.2.1
  v : IsAll H.v o.2.2.2

omit hR in
/-- The same with the block of rows named otherwise. -/
theorem Inv.cast {H : Head} {I I' : ℕ} {o} (h : Inv H I o) (e : I = I') : Inv H I' o := e ▸ h

/-- A head's first point, whatever the head before left. -/
theorem inv_A (t : Fin cfg0.N) (h0 : t.val % 16 = 0) (acc) : Inv (Hd (head t)) (t.val % 16) (stAt0 m c t.val t.isLt acc) := by
  refine Inv.cast (I := (grid0.coords t 1).val) ?_ (coords t)
  rw [stAt0_A m c t acc h0]
  refine ⟨?_, ?_, ?_⟩ <;> dsimp only
  · exact point_A _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (iblk m c 3 t) (iblk m c 4 t) ((hcond0_0 t).mpr h0) (ops m c hR t)
  · intro s d
    refine (congrFun (keep_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (iblk m c 3 t) (iblk m c 4 t) ((hcond0_0 t).mpr h0)) (ix2 s d)).trans ?_
    exact (cast8 _ s d).trans ((ops m c hR t).k s d)
  · intro s d
    refine (congrFun (keep_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (iblk m c 3 t) (iblk m c 4 t) ((hcond0_0 t).mpr h0)) (ix2 s d)).trans ?_
    exact (cast9 _ s d).trans ((ops m c hR t).v s d)

set_option maxHeartbeats 2000000 in
/-- A later point of a head, from what the point before left. -/
theorem inv_B (t : Fin cfg0.N) (h0 : ¬t.val % 16 = 0) (acc) (hacc : Inv (Hd (head t)) (t.val % 16 - 1) acc) :
    Inv (Hd (head t)) (t.val % 16) (stAt0 m c t.val t.isLt acc) := by
  have hO := ops m c hR t
  refine Inv.cast (I := (grid0.coords t 1).val) ?_ (coords t)
  rw [stAt0_B m c t acc h0]
  refine ⟨?_, ?_, ?_⟩ <;> dsimp only
  · exact point_B _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (iblk m c 3 t) (iblk m c 4 t) acc.2.2.1 acc.2.2.2 (fun h => h0 ((hcond0_0 t).mp h))
      ⟨hO.q, hO.c, hO.cs, hacc.k, hacc.v⟩
  · exact hacc.k
  · exact hacc.v

/-- What is held after each point. -/
theorem inv : ∀ (n : ℕ) (hn : 0 + n < cfg0.N), Inv (Hd (head ⟨n, by omega⟩)) (n % 16)
    (Pipeline.accAt (fun n h => stAt0 m c n h junk0) (stAt0 m c) 0 n hn) := by
  intro n
  induction n with
  | zero => intro hn; exact inv_A m c hR ⟨0, hn⟩ (Nat.zero_mod _) _
  | succ n ih =>
    intro hn
    have key : ∀ (n' : ℕ) (hn' : n' < cfg0.N), n' = n + 1 → Inv (Hd (head ⟨n + 1, by omega⟩)) ((n + 1) % 16)
        (stAt0 m c n' hn' (Pipeline.accAt (fun n h => stAt0 m c n h junk0) (stAt0 m c) 0 n (Nat.lt_of_succ_lt hn))) := by
      rintro n' hn' rfl
      by_cases h0 : (n + 1) % 16 = 0
      · exact inv_A m c hR ⟨n + 1, hn'⟩ h0 _
      · refine inv_B m c hR ⟨n + 1, hn'⟩ h0 _ ?_
        have hi := ih (Nat.lt_of_succ_lt hn)
        have e1 : (n + 1) % 16 - 1 = n % 16 := by omega
        have e2 : head ⟨n + 1, hn'⟩ = head ⟨n, by omega⟩ := Fin.ext (by show (n + 1) / 16 = n / 16; omega)
        rw [e2]
        show Inv _ ((n + 1) % 16 - 1) _
        rw [e1]; exact hi
    exact key _ hn (Nat.zero_add _)

/-- What is held after point `n`, with the head and the block of rows named. -/
theorem inv_at (n : ℕ) (hn : 0 + n < cfg0.N) (h : Fin 4) (I : ℕ) (e1 : n / 16 = h.val) (e2 : n % 16 = I) :
    Inv (Hd h) I (Pipeline.accAt (fun n h => stAt0 m c n h junk0) (stAt0 m c) 0 n hn) := by
  have e : head ⟨n, by omega⟩ = h := Fin.ext e1
  have hi := inv m c hR n hn
  rw [e] at hi
  exact hi.cast e2

/-- The output. -/
theorem out_o (h : Fin 4) (s : Fin 8192) (d : Fin 128) :
    (G5 m c : S8192x512.Idx → EReal) (ix2 s (lane h d)) = (((Hd h).o s d : ℝ) : EReal) := by
  have hs := s.isLt; have hh := h.isLt; have hd := d.isLt
  have hp : pt5Of (ix2 s (lane h d)) = s.val / 512 + 16 * h.val := by
    show 1 * (s.val / 512 - 0) + 16 * ((128 * h.val + d.val) / 128 - 0) = _; omega
  have hN : cfg0.N = 64 := N_0
  have hlt : pt5Of (ix2 s (lane h d)) < cfg0.N := by rw [hp]; omega
  unfold G5
  rw [dif_pos hlt]
  have hl : loc5Of (ix2 s (lane h d)) = ix2 (⟨s.val % 512, by omega⟩ : Fin 512) d := by
    funext a
    match a with
    | 0 => rfl
    | 1 => exact Fin.ext (by show (128 * h.val + d.val) % 128 = d.val; omega)
  rw [hl]
  refine ((inv_at m c hR _ (by omega) h (s.val / 512) (by rw [hp]; omega) (by rw [hp]; omega)).done.o _ d).trans ?_
  have : 512 * (s.val / 512) + s.val % 512 = s.val := by omega
  dsimp only
  rw [this]

/-- The log-sums. -/
theorem out_lse (h : Fin 4) (s : Fin 8192) :
    (G6 m c : S4x8192x1.Idx → EReal) (ix3 h s 0) = (((Hd h).lse s : ℝ) : EReal) := by
  have hs := s.isLt; have hh := h.isLt
  have hp : pt6Of (ix3 h s (0 : Fin 1)) = 16 * h.val + s.val / 512 := by
    show 16 * (h.val / 1 - 0) + 1 * (s.val / 512 - 0) + 1 * (0 / 1 - 0) = _; omega
  have hN : cfg0.N = 64 := N_0
  have hlt : pt6Of (ix3 h s (0 : Fin 1)) < cfg0.N := by rw [hp]; omega
  unfold G6
  rw [dif_pos hlt]
  have hl : loc6Of (ix3 h s (0 : Fin 1)) = ix3 0 (⟨s.val % 512, by omega⟩ : Fin 512) 0 := by
    funext a
    match a with
    | 0 => exact Fin.ext (by show h.val % 1 = 0; omega)
    | 1 => rfl
    | 2 => rfl
  rw [hl]
  refine ((inv_at m c hR _ (by omega) h (s.val / 512) (by rw [hp]; omega) (by rw [hp]; omega)).done.lse _).trans ?_
  have : 512 * (s.val / 512) + s.val % 512 = s.val := by omega
  dsimp only
  rw [this]

end Cert.FoxFwd
end
-- ==== Proof.FoxLoop.lean ====
module
public import proofs.«01_k».proof.Proof.Gen.KernelIdeal.Loops
public import proofs.«01_k».proof.Proof.FoxBlock
public import proofs.«01_k».proof.Proof.FoxBuf

@[expose] public section
set_option maxRecDepth 16384

/-! The kernel's loop over the blocks of columns below the diagonal: what it has accumulated before each trip. -/

noncomputable section
namespace Cert.Fox

open Idealize.ShloMosaic Idealize.ShloMosaic.TcCoe Idealize.ShloMosaic.Tactic
open Cert.KernelIdeal Cert.KernelIdeal.Gen

/-- What a grid point of block `I` of rows reads: its rows of the queries, the gates, the log-sums, the gradient and the
    output, and all gates, keys and values of the head. -/
structure Ops (H : Head) (I : ℕ) (v6 v8 : S512x128.Idx → EReal) (v10 v12 : S1x512x1.Idx → EReal)
    (v14 v15 : S512x128.Idx → EReal) (r6 : S1x16x1x512.Idx → EReal) (r15 r16 : S8192x128.Idx → EReal) : Prop where
  q : IsRows H.q I v6
  g : IsRows H.g I v8
  c : IsCol H.c I v10
  lse : IsCol H.lse I v12
  g' : IsRows H.g I v14
  o : IsRows H.o I v15
  cs : IsLines H.c r6
  k : IsAll H.k r15
  v : IsAll H.v r16

/-- What has been accumulated when the first `n` blocks of columns of block `I` of rows are done. -/
structure Acc (H : Head) (I n : ℕ) (dq : S512x128.Idx → EReal) (dcq : S512x1.Idx → EReal)
    (r11 r12 : S8192x128.Idx → EReal) (r14 : S1x16x1x512.Idx → EReal) : Prop where
  dq : ∀ (a : Fin 512) (d : Fin 128), dq (ix2 a d) = ((H.dq (512 * n) (512 * I + a) d : ℝ) : EReal)
  dcq : ∀ a : Fin 512, dcq (ix2 a 0) = ((H.dcq (512 * n) (512 * I + a) : ℝ) : EReal)
  dk : IsAll (fun s d => H.dk (if s < 512 * n then 512 * (I + 1) else 512 * I) s d) r11
  dv : IsAll (fun s d => H.dv (if s < 512 * n then 512 * (I + 1) else 512 * I) s d) r12
  dck : IsLines (fun s => H.dck (if s < 512 * n then 512 * (I + 1) else 512 * I) s) r14

/-- The loop runs once for each block of columns below the diagonal. -/
theorem trips1 (i : grid0.Coords) : (k0_t1_loop i).trips = (i 1).val := by
  have h : ∀ n : Fin 16, Scf.trips 0#32 (Scalar.addi 0#32 (Scalar.muli (Scalar.divsi (Scalar.subi
      (Scalar.muli (BitVec.ofNat 32 n.val) 1#32) 0#32) 1#32) 1#32)) 1#32 = n.val := by decide +kernel
  exact h (i 1)

/-- The rows a trip works on. -/
theorem off1 (i : grid0.Coords) (k : Fin (k0_t1_loop i).trips) : k0_off1 i k = ![512 * k.val, 0] := by
  have h : ∀ n : Fin 16, (Scalar.indexCast (Scalar.muli (Scf.iv 0#32 1#32 n.val) 512#32) : Index).toNat = 512 * n.val := by
    decide +kernel
  have hk : k.val < 16 := lt_of_lt_of_le k.isLt (by rw [trips1]; exact (i 1).isLt.le)
  have e := h ⟨k.val, hk⟩
  funext a
  match a with
  | 0 => exact e
  | 1 => rfl

/-- The line a trip works on. -/
theorem off2 (i : grid0.Coords) (k : Fin (k0_t1_loop i).trips) : k0_off2 i k = ![0, k.val, 0, 0] := by
  have h : ∀ n : Fin 16, (Scalar.indexCast (Scf.iv 0#32 1#32 n.val) : Index).toNat = n.val := by decide +kernel
  have hk : k.val < 16 := lt_of_lt_of_le k.isLt (by rw [trips1]; exact (i 1).isLt.le)
  have e := h ⟨k.val, hk⟩
  funext a
  match a with
  | 0 => rfl
  | 1 => exact e
  | 2 => rfl
  | 3 => rfl

variable (H : Head) (𝒱 : Variants) (c : Dev nD) (bd : Option 𝒱.V) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S1x512x1 .f32) (harg5 : arg5.IsWhole)
  (arg6 : Memref sig .tc .vmem S1x16x1x512 .f32) (harg6 : arg6.IsWhole)
  (arg7 : Memref sig .tc .vmem S512x128 .f32) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S8192x128 .f32) (harg11 : arg11.IsWhole)
  (arg12 : Memref sig .tc .vmem S8192x128 .f32) (harg12 : arg12.IsWhole)
  (arg13 : Memref sig .tc .vmem S1x512x1 .f32) (harg13 : arg13.IsWhole)
  (arg14 : Memref sig .tc .vmem S1x16x1x512 .f32) (harg14 : arg14.IsWhole)
  (arg15 : Memref sig .tc .vmem S8192x128 .bf16) (harg15 : arg15.IsWhole)
  (arg16 : Memref sig .tc .vmem S8192x128 .bf16) (harg16 : arg16.IsWhole)
  (v6 v8 : Vec Ideal S512x128 .f32) (v10 v12 : Vec Ideal S1x512x1 .f32) (v14 v15 : Vec Ideal S512x128 .f32)
  (X6 : BufTy.Contents (Elt Ideal) arg6.view.ty) (X15 : BufTy.Contents (Elt Ideal) arg15.view.ty)
  (X16 : BufTy.Contents (Elt Ideal) arg16.view.ty)

section
variable (k : Fin (k0_t1_loop i).trips) (acc : FVec Ideal S512x128 .f32 × FVec Ideal S512x1 .f32)
  (f11 : BufTy.Contents (Elt Ideal) arg11.view.ty) (f12 : BufTy.Contents (Elt Ideal) arg12.view.ty)
  (f14 : BufTy.Contents (Elt Ideal) arg14.view.ty)

/-- One trip adds its block. The lists `L11`, `L12`, `L14` are what the earlier trips stored. -/
theorem trip_step (L11 L12 : List (View.Piece (Elt Ideal) S8192x128 .f32)) (L14 : List (View.Piece (Elt Ideal) S1x16x1x512 .f32))
    (hO : Ops H (i 1).val v6 v8 v10 v12 v14 v15 (arg6.view.read (Elt Ideal) X6) (arg15.view.read (Elt Ideal) X15)
      (arg16.view.read (Elt Ideal) X16))
    (hA : Acc H (i 1).val k.val acc.1 acc.2 (arg11.view.read (Elt Ideal) (arg11.view.writes (Elt Ideal) f11 L11))
      (arg12.view.read (Elt Ideal) (arg12.view.writes (Elt Ideal) f12 L12))
      (arg14.view.read (Elt Ideal) (arg14.view.writes (Elt Ideal) f14 L14))) :
    Acc H (i 1).val (k.val + 1)
      (tripR_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 k acc (arg11.view.writes (Elt Ideal) f11 L11) (arg12.view.writes (Elt Ideal) f12 L12) (arg14.view.writes (Elt Ideal) f14 L14)).1
      (tripR_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 k acc (arg11.view.writes (Elt Ideal) f11 L11) (arg12.view.writes (Elt Ideal) f12 L12) (arg14.view.writes (Elt Ideal) f14 L14)).2
      (arg11.view.read (Elt Ideal) (arg11.view.writes (Elt Ideal) f11 ((tripL_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 k acc (arg11.view.writes (Elt Ideal) f11 L11) (arg12.view.writes (Elt Ideal) f12 L12) (arg14.view.writes (Elt Ideal) f14 L14)).1 ++ L11)))
      (arg12.view.read (Elt Ideal) (arg12.view.writes (Elt Ideal) f12 ((tripL_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 k acc (arg11.view.writes (Elt Ideal) f11 L11) (arg12.view.writes (Elt Ideal) f12 L12) (arg14.view.writes (Elt Ideal) f14 L14)).2.1 ++ L12)))
      (arg14.view.read (Elt Ideal) (arg14.view.writes (Elt Ideal) f14 ((tripL_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 k acc (arg11.view.writes (Elt Ideal) f11 L11) (arg12.view.writes (Elt Ideal) f12 L12) (arg14.view.writes (Elt Ideal) f14 L14)).2.2 ++ L14))) := by
  have hki : k.val < (i 1).val := lt_of_lt_of_eq k.isLt (trips1 i)
  have hk : k.val < 16 := lt_trans hki (i 1).isLt
  have inb1 : ∀ a, k0_off1 i k a + (![512, 128] : Fin 2 → ℕ) a ≤ S8192x128.size a := by
    rw [off1]
    exact Fin.forall_fin_two.mpr ⟨by show 512 * k.val + 512 ≤ 8192; omega, le_of_eq rfl⟩
  have inb2 : ∀ a, k0_off2 i k a + (![1, 1, 1, 512] : Fin 4 → ℕ) a ≤ S1x16x1x512.size a := by
    rw [off2]
    intro a
    match a with
    | 0 => exact le_of_eq rfl
    | 1 => show k.val + 1 ≤ 16; omega
    | 2 => exact le_of_eq rfl
    | 3 => exact le_of_eq rfl
  have h7 : ∀ (a : Fin 512) (d : Fin 128), k0_pay14 v6 (ix2 a d) = ((H.q (512 * (i 1).val + a) d : ℝ) : EReal) :=
    fun a d => (cast14 v6 a d).trans (hO.q a d)
  have h9 : ∀ (a : Fin 512) (d : Fin 128), k0_pay15 v8 (ix2 a d) = ((H.g (512 * (i 1).val + a) d : ℝ) : EReal) :=
    fun a d => (cast15 v8 a d).trans (hO.g a d)
  have h11 : ∀ a : Fin 512, k0_pay16 v10 (ix2 a 0) = ((H.c (512 * (i 1).val + a) : ℝ) : EReal) :=
    fun a => (cast16 v10 a).trans (hO.c a)
  have h13 : ∀ a : Fin 512, k0_pay17 v12 (ix2 a 0) = ((H.lse (512 * (i 1).val + a) : ℝ) : EReal) :=
    fun a => (cast17 v12 a).trans (hO.lse a)
  have h19 := dlp_at H (i 1).val hO.g' hO.o
  have h111 : ∀ (b : Fin 512) (d : Fin 128), (arg15.view.readAt (Elt Ideal) (Rect.unit (s := S8192x128) (k0_off1 i k) ![512, 128]
      inb1).toLoadRect X15 : S512x128.Idx → EReal) (ix2 b d) = ((H.k (512 * k.val + b) d : ℝ) : EReal) :=
    fun b d => (load_rows arg15.view X15 _ hk (off1 i k) b d).trans (hO.k _ d)
  have h113 : ∀ (b : Fin 512) (d : Fin 128), (arg16.view.readAt (Elt Ideal) (Rect.unit (s := S8192x128) (k0_off1 i k) ![512, 128]
      inb1).toLoadRect X16 : S512x128.Idx → EReal) (ix2 b d) = ((H.v (512 * k.val + b) d : ℝ) : EReal) :=
    fun b d => (load_rows arg16.view X16 _ hk (off1 i k) b d).trans (hO.v _ d)
  have h118 : ∀ b : Fin 512, (arg6.view.readAt (Elt Ideal) (Rect.unit (s := S1x16x1x512) (k0_off2 i k) ![1, 1, 1, 512]
      inb2).toLoadRect X6 : S1x1x1x512.Idx → EReal) (ix4 0 0 0 b) = ((H.c (512 * k.val + b) : ℝ) : EReal) :=
    fun b => (load_line arg6.view X6 _ hk (off2 i k) b).trans (hO.cs _ b)
  have hs := ds_at H (i 1).val k.val h7 h9 h11 h13 h19 h111 h113 h118 hki
  unfold tripR_k0_t1 tripL_k0_t1 trip_k0_t1
  dsimp only
  unfold trip_k0_t1.sl.r trip_k0_t1.sl.r_1
  refine ⟨fun a d => ?_, fun a => ?_, ?_, ?_, ?_⟩
  · refine (dq_at H (i 1).val k.val hs h111 _ a d).trans ?_
    rw [hA.dq a d, Head.dq_block, EReal.coe_add]
  · refine (dcq_at H (i 1).val k.val hs _ a).trans ?_
    rw [hA.dcq a, Head.dcq_block, EReal.coe_add]
  · refine put_rows arg11.view f11 _ hk (off1 i k) _ L11 hA.dk (fun b d => ?_) (fun s d hs => ?_)
    · refine (dk_at H (i 1).val k.val h7 h9 h11 h13 h19 h111 h113 h118 hki _ b d).trans ?_
      have hb := b.isLt
      refine (congrArg (· + _) ((load_rows arg11.view _ _ hk (off1 i k) b d).trans (hA.dk _ d))).trans ?_
      rw [← EReal.coe_add]
      dsimp only
      rw [if_neg (by omega), if_pos (by omega), ← Head.dk_block]
    · dsimp only
      rcases hs with h | h
      · rw [if_pos (by omega), if_pos (by omega)]
      · rw [if_neg (by omega), if_neg (by omega)]
  · refine put_rows arg12.view f12 _ hk (off1 i k) _ L12 hA.dv (fun b d => ?_) (fun s d hs => ?_)
    · refine (dv_at H (i 1).val k.val h7 h9 h11 h13 h111 h118 hki _ b d).trans ?_
      have hb := b.isLt
      refine (congrArg (· + _) ((load_rows arg12.view _ _ hk (off1 i k) b d).trans (hA.dv _ d))).trans ?_
      rw [← EReal.coe_add]
      dsimp only
      rw [if_neg (by omega), if_pos (by omega), ← Head.dv_block]
    · dsimp only
      rcases hs with h | h
      · rw [if_pos (by omega), if_pos (by omega)]
      · rw [if_neg (by omega), if_neg (by omega)]
  · refine put_line arg14.view f14 _ (off2 i k) _ L14 hA.dck (fun b => ?_) (fun s hs => ?_)
    · refine (dck_at H (i 1).val k.val hs _ b).trans ?_
      have hb := b.isLt
      refine (congrArg (· + _) ((load_line arg14.view _ _ hk (off2 i k) b).trans (hA.dck _ b))).trans ?_
      rw [← EReal.coe_add]
      dsimp only
      rw [if_neg (by omega), if_pos (by omega), ← Head.dck_block]
    · dsimp only
      rcases hs with h | h
      · rw [if_pos (by omega), if_pos (by omega)]
      · rw [if_neg (by omega), if_neg (by omega)]
end

variable (G11 : BufTy.Contents (Elt Ideal) arg11.view.ty) (G12 : BufTy.Contents (Elt Ideal) arg12.view.ty)
  (G14 : BufTy.Contents (Elt Ideal) arg14.view.ty) (init : FVec Ideal S512x128 .f32 × FVec Ideal S512x1 .f32)

/-- The loop's invariant. -/
theorem loop_acc
    (hO : Ops H (i 1).val v6 v8 v10 v12 v14 v15 (arg6.view.read (Elt Ideal) X6) (arg15.view.read (Elt Ideal) X15)
      (arg16.view.read (Elt Ideal) X16))
    (h0 : Acc H (i 1).val 0 init.1 init.2 (arg11.view.read (Elt Ideal) G11) (arg12.view.read (Elt Ideal) G12)
      (arg14.view.read (Elt Ideal) G14)) : ∀ n : ℕ, n ≤ (k0_t1_loop i).trips →
    Acc H (i 1).val n
      (st_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init n).1.1
      (st_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init n).1.2
      (arg11.view.read (Elt Ideal) (arg11.view.writes (Elt Ideal) G11 (st_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init n).2.1))
      (arg12.view.read (Elt Ideal) (arg12.view.writes (Elt Ideal) G12 (st_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init n).2.2.1))
      (arg14.view.read (Elt Ideal) (arg14.view.writes (Elt Ideal) G14 (st_k0_t1 (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init n).2.2.2)) := by
  intro n
  induction n with
  | zero => intro _; exact h0
  | succ n ih =>
    intro hn
    have hs := st_k0_t1_succ (F := Ideal) 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 G11 G12 G14 init ⟨n, hn⟩
    rw [show n + 1 = (⟨n, hn⟩ : Fin (k0_t1_loop i).trips).val + 1 from rfl, hs]
    exact trip_step H 𝒱 c bd i
      arg2 harg2 arg3 harg3 arg4 harg4 arg5 harg5 arg6 harg6 arg7 harg7 arg8 harg8 arg9 harg9 arg10 harg10 arg11 harg11
      arg12 harg12 arg13 harg13 arg14 harg14 arg15 harg15 arg16 harg16
      v6 v8 v10 v12 v14 v15 X6 X15 X16 ⟨n, hn⟩ _ G11 G12 G14 _ _ _ hO (ih (Nat.le_of_succ_le hn))

end Cert.Fox
end
-- ==== Proof.FoxDiag.lean ====
module
public import proofs.«01_k».proof.Proof.FoxLoop

@[expose] public section
set_option maxRecDepth 16384

/-! The diagonal block of a grid point, which follows the loop: it completes the block of rows. -/

noncomputable section
namespace Cert.Fox

open Idealize.ShloMosaic Idealize.ShloMosaic.TcCoe Idealize.ShloMosaic.Tactic
open Cert.KernelIdeal Cert.KernelIdeal.Gen

/-- The rows of the diagonal block. -/
theorem off5 (i : grid0.Coords) : k0_off5 i = ![512 * (i 1).val, 0] := by
  have h : ∀ n : Fin 16, (Scalar.indexCast (Scalar.muli (Scalar.addi (Scalar.muli (BitVec.ofNat 32 n.val) 1#32) 0#32) 512#32)
      : Index).toNat = 512 * n.val := by decide +kernel
  funext a
  match a with
  | 0 => exact h (i 1)
  | 1 => rfl

/-- The line of the diagonal block. -/
theorem off6 (i : grid0.Coords) : k0_off6 i = ![0, (i 1).val, 0, 0] := by
  have h : ∀ n : Fin 16, (Scalar.indexCast (Scalar.addi (Scalar.muli (BitVec.ofNat 32 n.val) 1#32) 0#32)
      : Index).toNat = n.val := by decide +kernel
  funext a
  match a with
  | 0 => rfl
  | 1 => exact h (i 1)
  | 2 => rfl
  | 3 => rfl

/-- The remainder of the loop has no trips. -/
theorem trips2 (i : grid0.Coords) : (k0_t2_loop i).trips = 0 := by
  have h : ∀ n : Fin 16, Scf.trips (Scalar.addi 0#32 (Scalar.muli (Scalar.divsi (Scalar.subi
      (Scalar.muli (BitVec.ofNat 32 n.val) 1#32) 0#32) 1#32) 1#32))
      (Scalar.addi 0#32 (Scalar.subi (Scalar.muli (BitVec.ofNat 32 n.val) 1#32) 0#32)) 1#32 = 0 := by decide +kernel
  exact h (i 1)

/-- What a grid point of block `I` of rows leaves: its rows of the gradients of queries and row gates are final, and the
    gradients of keys, values and column gates hold the contributions of the rows so far. -/
structure Done (H : Head) (I : ℕ) (o8 : S512x128.Idx → EReal) (o9 o10 : S8192x128.Idx → EReal)
    (o11 : S1x512x1.Idx → EReal) (o12 : S1x16x1x512.Idx → EReal) : Prop where
  dq : IsRows (fun t d => H.dq 8192 t d) I o8
  dk : IsAll (fun s d => H.dk (512 * (I + 1)) s d) o9
  dv : IsAll (fun s d => H.dv (512 * (I + 1)) s d) o10
  dcq : IsCol (fun t => H.dcq 8192 t) I o11
  dck : IsLines (fun s => H.dck (512 * (I + 1)) s) o12

/-- The same with the number of blocks named otherwise. -/
theorem Acc.cast {H : Head} {I n n' : ℕ} {dq dcq r11 r12 r14} (h : Acc H I n dq dcq r11 r12 r14) (e : n = n') :
    Acc H I n' dq dcq r11 r12 r14 := e ▸ h

variable (H : Head) (i : grid0.Coords)
  (arg6 : Memref sig .tc .vmem S1x16x1x512 .f32) (arg11 arg12 : Memref sig .tc .vmem S8192x128 .f32)
  (arg14 : Memref sig .tc .vmem S1x16x1x512 .f32) (arg15 arg16 : Memref sig .tc .vmem S8192x128 .bf16)
  (v6 v8 : Vec Ideal S512x128 .f32) (v10 v12 : Vec Ideal S1x512x1 .f32) (v14 v15 : Vec Ideal S512x128 .f32)
  (X6 : BufTy.Contents (Elt Ideal) arg6.view.ty) (X15 : BufTy.Contents (Elt Ideal) arg15.view.ty)
  (X16 : BufTy.Contents (Elt Ideal) arg16.view.ty)
  (inb5 : ∀ a, k0_off5 i a + (![512, 128] : Fin 2 → ℕ) a ≤ S8192x128.size a)
  (inb6 : ∀ a, k0_off6 i a + (![1, 1, 1, 512] : Fin 4 → ℕ) a ≤ S1x16x1x512.size a)
  (f11 : BufTy.Contents (Elt Ideal) arg11.view.ty) (f12 : BufTy.Contents (Elt Ideal) arg12.view.ty)
  (f14 : BufTy.Contents (Elt Ideal) arg14.view.ty)

/-- The keys of the diagonal block. -/
def kd : Vec Ideal S512x128 .bf16 :=
  arg15.view.readAt (Elt Ideal) (Rect.unit (s := S8192x128) (k0_off5 i) ![512, 128] inb5).toLoadRect X15
/-- The values of the diagonal block. -/
def vd : Vec Ideal S512x128 .bf16 :=
  arg16.view.readAt (Elt Ideal) (Rect.unit (s := S8192x128) (k0_off5 i) ![512, 128] inb5).toLoadRect X16
/-- The gates of the diagonal block's columns. -/
def cd : Vec Ideal S1x1x1x512 .f32 :=
  arg6.view.readAt (Elt Ideal) (Rect.unit (s := S1x16x1x512) (k0_off6 i) ![1, 1, 1, 512] inb6).toLoadRect X6
/-- The probabilities of the diagonal block. -/
def pd : FVec Ideal S512x512 .f32 :=
  k0_pay27 (BitVec.ofNat 32 (i 1).val) (k0_pay14 v6) (k0_pay16 v10) (k0_pay17 v12) (kd i arg15 X15 inb5) (cd i arg6 X6 inb6)

/-- After the diagonal block the point's rows are complete. -/
theorem diag_done (L11 L12 : List (View.Piece (Elt Ideal) S8192x128 .f32)) (L14 : List (View.Piece (Elt Ideal) S1x16x1x512 .f32))
    (dq : FVec Ideal S512x128 .f32) (dcq : FVec Ideal S512x1 .f32)
    (hO : Ops H (i 1).val v6 v8 v10 v12 v14 v15 (arg6.view.read (Elt Ideal) X6) (arg15.view.read (Elt Ideal) X15)
      (arg16.view.read (Elt Ideal) X16))
    (hA : Acc H (i 1).val (i 1).val dq dcq (arg11.view.read (Elt Ideal) (arg11.view.writes (Elt Ideal) f11 L11))
      (arg12.view.read (Elt Ideal) (arg12.view.writes (Elt Ideal) f12 L12))
      (arg14.view.read (Elt Ideal) (arg14.view.writes (Elt Ideal) f14 L14))) :
    Done H (i 1).val
      (k0_pay34 dq (kd i arg15 X15 inb5) (pd i arg6 arg15 v6 v10 v12 X6 X15 inb5 inb6)
        (k0_pay29 (k0_pay15 v8) (vd i arg16 X16 inb5)) (k0_pay30 (k0_pay18 v14 v15)))
      (arg11.view.read (Elt Ideal) (arg11.view.writes (Elt Ideal) f11
        ((⟨Rect.unit (k0_off5 i) ![512, 128] inb5, k0_pay32 (k0_pay14 v6) (pd i arg6 arg15 v6 v10 v12 X6 X15 inb5 inb6)
          (k0_pay29 (k0_pay15 v8) (vd i arg16 X16 inb5)) (k0_pay30 (k0_pay18 v14 v15))
          (arg11.view.readAt (Elt Ideal) (Rect.unit (s := S8192x128) (k0_off5 i) ![512, 128] inb5).toLoadRect
            (arg11.view.writes (Elt Ideal) f11 L11))⟩ : View.Piece (Elt Ideal) S8192x128 .f32) :: L11)))
      (arg12.view.read (Elt Ideal) (arg12.view.writes (Elt Ideal) f12
        ((⟨Rect.unit (k0_off5 i) ![512, 128] inb5, k0_pay28 (BitVec.ofNat 32 (i 1).val) (k0_pay14 v6) (k0_pay15 v8) (k0_pay16 v10)
          (k0_pay17 v12) (kd i arg15 X15 inb5) (cd i arg6 X6 inb6)
          (arg12.view.readAt (Elt Ideal) (Rect.unit (s := S8192x128) (k0_off5 i) ![512, 128] inb5).toLoadRect
            (arg12.view.writes (Elt Ideal) f12 L12))⟩ : View.Piece (Elt Ideal) S8192x128 .f32) :: L12)))
      (k0_pay35 dcq (pd i arg6 arg15 v6 v10 v12 X6 X15 inb5 inb6)
        (k0_pay29 (k0_pay15 v8) (vd i arg16 X16 inb5)) (k0_pay30 (k0_pay18 v14 v15)))
      (arg14.view.read (Elt Ideal) (arg14.view.writes (Elt Ideal) f14
        ((⟨Rect.unit (k0_off6 i) ![1, 1, 1, 512] inb6, k0_pay33 (pd i arg6 arg15 v6 v10 v12 X6 X15 inb5 inb6)
          (k0_pay29 (k0_pay15 v8) (vd i arg16 X16 inb5)) (k0_pay30 (k0_pay18 v14 v15))
          (arg14.view.readAt (Elt Ideal) (Rect.unit (s := S1x16x1x512) (k0_off6 i) ![1, 1, 1, 512] inb6).toLoadRect
            (arg14.view.writes (Elt Ideal) f14 L14))⟩ : View.Piece (Elt Ideal) S1x16x1x512 .f32) :: L14))) := by
  have hi : (i 1).val < 16 := (i 1).isLt
  have h7 : ∀ (a : Fin 512) (d : Fin 128), k0_pay14 v6 (ix2 a d) = ((H.q (512 * (i 1).val + a) d : ℝ) : EReal) :=
    fun a d => (cast14 v6 a d).trans (hO.q a d)
  have h9 : ∀ (a : Fin 512) (d : Fin 128), k0_pay15 v8 (ix2 a d) = ((H.g (512 * (i 1).val + a) d : ℝ) : EReal) :=
    fun a d => (cast15 v8 a d).trans (hO.g a d)
  have h11 : ∀ a : Fin 512, k0_pay16 v10 (ix2 a 0) = ((H.c (512 * (i 1).val + a) : ℝ) : EReal) :=
    fun a => (cast16 v10 a).trans (hO.c a)
  have h13 : ∀ a : Fin 512, k0_pay17 v12 (ix2 a 0) = ((H.lse (512 * (i 1).val + a) : ℝ) : EReal) :=
    fun a => (cast17 v12 a).trans (hO.lse a)
  have h19 := dlp_at H (i 1).val hO.g' hO.o
  have h35 : ∀ (b : Fin 512) (d : Fin 128), kd i arg15 X15 inb5 (ix2 b d) = ((H.k (512 * (i 1).val + b) d : ℝ) : EReal) :=
    fun b d => (load_rows arg15.view X15 _ hi (off5 i) b d).trans (hO.k _ d)
  have h37 : ∀ (b : Fin 512) (d : Fin 128), vd i arg16 X16 inb5 (ix2 b d) = ((H.v (512 * (i 1).val + b) d : ℝ) : EReal) :=
    fun b d => (load_rows arg16.view X16 _ hi (off5 i) b d).trans (hO.v _ d)
  have h42 : ∀ b : Fin 512, cd i arg6 X6 inb6 (ix4 0 0 0 b) = ((H.c (512 * (i 1).val + b) : ℝ) : EReal) :=
    fun b => (load_line arg6.view X6 _ hi (off6 i) b).trans (hO.cs _ b)
  have h61 := pd_at H (i 1).val hi h7 h11 h13 h35 h42
  have h70 := dP_at H (i 1).val h9 h37
  have h71 := dl_at H (i 1).val h19
  refine ⟨fun a d => ?_, ?_, ?_, fun a => ?_, ?_⟩
  · have ha := a.isLt
    refine (dqd_at H (i 1).val h61 h70 h71 h35 _ a d).trans ?_
    rw [hA.dq a d, ← EReal.coe_add, ← Head.dq_block, H.dq_below _ (by omega) (by omega)]
  · refine put_rows arg11.view f11 _ hi (off5 i) _ L11 hA.dk (fun b d => ?_) (fun s d hs => ?_)
    · refine (dkd_at H (i 1).val h61 h70 h71 h7 _ b d).trans ?_
      have hb := b.isLt
      refine (congrArg (· + _) ((load_rows arg11.view _ _ hi (off5 i) b d).trans (hA.dk _ d))).trans ?_
      rw [← EReal.coe_add]
      dsimp only
      rw [if_neg (by omega), ← Head.dk_block]
    · dsimp only
      rcases hs with h | h
      · rw [if_pos (by omega)]
      · rw [if_neg (by omega), H.dk_above d h]
  · refine put_rows arg12.view f12 _ hi (off5 i) _ L12 hA.dv (fun b d => ?_) (fun s d hs => ?_)
    · refine (dvd_at H (i 1).val hi h7 h9 h11 h13 h35 h42 _ b d).trans ?_
      have hb := b.isLt
      refine (congrArg (· + _) ((load_rows arg12.view _ _ hi (off5 i) b d).trans (hA.dv _ d))).trans ?_
      rw [← EReal.coe_add]
      dsimp only
      rw [if_neg (by omega), ← Head.dv_block]
    · dsimp only
      rcases hs with h | h
      · rw [if_pos (by omega)]
      · rw [if_neg (by omega), H.dv_above d h]
  · have ha := a.isLt
    refine (dcqd_at H (i 1).val h61 h70 h71 _ a).trans ?_
    rw [hA.dcq a, ← EReal.coe_add, ← Head.dcq_block, H.dcq_below (by omega) (by omega)]
  · refine put_line arg14.view f14 _ (off6 i) _ L14 hA.dck (fun b => ?_) (fun s hs => ?_)
    · refine (dckd_at H (i 1).val h61 h70 h71 _ b).trans ?_
      have hb := b.isLt
      refine (congrArg (· + _) ((load_line arg14.view _ _ hi (off6 i) b).trans (hA.dck _ b))).trans ?_
      rw [← EReal.coe_add]
      dsimp only
      rw [if_neg (by omega), ← Head.dck_block]
    · dsimp only
      rcases hs with h | h
      · rw [if_pos (by omega)]
      · rw [if_neg (by omega), H.dck_above h]

end Cert.Fox
end
-- ==== Proof.FoxPoint.lean ====
module
public import proofs.«01_k».proof.Proof.Gen.KernelIdeal.Frame
public import proofs.«01_k».proof.Proof.FoxDiag
@[expose] public section
set_option maxRecDepth 16384

/-! What one grid point leaves in the blocks of the results: the loop and the diagonal block together. -/

noncomputable section
namespace Cert.Fox
open Idealize.ShloMosaic Idealize.ShloMosaic.TcCoe Idealize.ShloMosaic.Tactic
open Cert.KernelIdeal Cert.KernelIdeal.Gen

/-- Before the loop a row has nothing, and the column gradients have what the earlier rows left. -/
theorem acc_zero {H : Head} {I : ℕ} {r11 r12 : S8192x128.Idx → EReal} {r14 : S1x16x1x512.Idx → EReal}
    (h11 : IsAll (fun s d => H.dk (512 * I) s d) r11) (h12 : IsAll (fun s d => H.dv (512 * I) s d) r12)
    (h14 : IsLines (fun s => H.dck (512 * I) s) r14) :
    Acc H I 0 (k0_pay19 (F := Ideal)) (k0_pay20 (F := Ideal)) r11 r12 r14 := by
  refine ⟨fun a d => ?_, fun a => ?_, fun s d => ?_, fun s d => ?_, fun j b => ?_⟩
  · refine (zero19 a d).trans ?_
    unfold Head.dq; simp
  · refine (zero20 a).trans ?_
    unfold Head.dcq; simp
  · refine (h11 s d).trans ?_; simp
  · refine (h12 s d).trans ?_; simp
  · refine (h14 j b).trans ?_; simp

/-- A load of a whole block of rows reads the block. -/
theorem read_all2 {e : EltTy} (m : Memref sig .tc .vmem S512x128 e) (h : m.IsWhole) (x : Vec Ideal S512x128 e) (inb) :
    m.view.readAt (Elt Ideal) (Rect.unit (s := S512x128) ![0, 0] S512x128.size inb).toLoadRect (h.unread x) = x :=
  (View.readAt_full m.view _ inb).trans (h.read_unread x)
/-- A load of a whole buffer of rows reads the buffer. -/
theorem read_all2' {e : EltTy} (m : Memref sig .tc .vmem S8192x128 e) (h : m.IsWhole) (x : Vec Ideal S8192x128 e) (inb) :
    m.view.readAt (Elt Ideal) (Rect.unit (s := S8192x128) ![0, 0] S8192x128.size inb).toLoadRect (h.unread x) = x :=
  (View.readAt_full m.view _ inb).trans (h.read_unread x)
/-- A load of a whole column reads the column. -/
theorem read_all3 {e : EltTy} (m : Memref sig .tc .vmem S1x512x1 e) (h : m.IsWhole) (x : Vec Ideal S1x512x1 e) (inb) :
    m.view.readAt (Elt Ideal) (Rect.unit (s := S1x512x1) ![0, 0, 0] S1x512x1.size inb).toLoadRect (h.unread x) = x :=
  (View.readAt_full m.view _ inb).trans (h.read_unread x)

variable (H : Head) (c : Dev nD) (i : grid0.Coords)
  (arg2 : Memref sig .tc .vmem S512x128 .f32) (harg2 : arg2.IsWhole)
  (arg3 : Memref sig .tc .vmem S8192x128 .f32) (harg3 : arg3.IsWhole)
  (arg4 : Memref sig .tc .vmem S8192x128 .f32) (harg4 : arg4.IsWhole)
  (arg5 : Memref sig .tc .vmem S1x512x1 .f32) (harg5 : arg5.IsWhole)
  (arg6 : Memref sig .tc .vmem S1x16x1x512 .f32) (harg6 : arg6.IsWhole)
  (arg7 : Memref sig .tc .vmem S512x128 .f32) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S8192x128 .f32) (harg11 : arg11.IsWhole)
  (arg12 : Memref sig .tc .vmem S8192x128 .f32) (harg12 : arg12.IsWhole)
  (arg13 : Memref sig .tc .vmem S1x512x1 .f32) (harg13 : arg13.IsWhole)
  (arg14 : Memref sig .tc .vmem S1x16x1x512 .f32) (harg14 : arg14.IsWhole)
  (arg15 : Memref sig .tc .vmem S8192x128 .bf16) (harg15 : arg15.IsWhole)
  (arg16 : Memref sig .tc .vmem S8192x128 .bf16) (harg16 : arg16.IsWhole)
  (x0 : Vec Ideal S512x128 .f32) (x1 x2 : Vec Ideal S8192x128 .f32) (x3 : Vec Ideal S1x512x1 .f32)
  (x4 : Vec Ideal S1x16x1x512 .f32) (x5 : Vec Ideal S512x128 .f32) (x6 : Vec Ideal S1x512x1 .f32)
  (x7 : Vec Ideal S512x128 .f32)
  (xo9 xo10 : Vec Ideal S8192x128 .f32) (xo12 : Vec Ideal S1x16x1x512 .f32) (xs0 xs1 : Vec Ideal S8192x128 .bf16)

/-- A point that is not the first of its head adds its rows to what the earlier points left. -/
theorem point_B (hc0 : ¬cond0_0 i) (hc1 : ¬cond0_1 i)
    (hO : Ops H (i 1).val x0 x7 x3 x6 x7 x5 x4 xs0 xs1) (h9 : IsAll (fun s d => H.dk (512 * (i 1).val) s d) xo9)
    (h10 : IsAll (fun s d => H.dv (512 * (i 1).val) s d) xo10) (h12 : IsLines (fun s => H.dck (512 * (i 1).val) s) xo12) :
    Done H (i 1).val
      (out0_B_8 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 xo9 xo10 xo12 xs0 xs1)
      (out0_B_9 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 xo9 xo10 xo12 xs0 xs1)
      (out0_B_10 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 xo9 xo10 xo12 xs0 xs1)
      (out0_B_11 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 xo9 xo10 xo12 xs0 xs1)
      (out0_B_12 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 xo9 xo10 xo12 xs0 xs1) := by
  have hT : Scf.trips (k0_t2_loop i).lb (k0_t2_loop i).ub (k0_t2_loop i).st = 0 := trips2 i
  unfold out0_B_8 out0_B_9 out0_B_10 out0_B_11 out0_B_12 kernelRun0_B
  dsimp only
  repeat (first | unfold kernelRun0_B.sl.r | unfold kernelRun0_B.sl.r_1 | unfold kernelRun0_B.sl.r_2 | unfold kernelRun0_B.sl.r_3 | unfold kernelRun0_B.sl.r_4 | unfold kernelRun0_B.sl.r_5 | unfold kernelRun0_B.sl.r_6 | unfold kernelRun0_B.sl.r_7 | unfold kernelRun0_B.sl.r_8 | unfold kernelRun0_B.sl.r_9 | unfold kernelRun0_B.sl.r_10 | unfold kernelRun0_B.sl.v27 | unfold kernelRun0_B.sl.v63 | unfold kernelRun0_B.sl.v75 | unfold kernelRun0_B.sl.v85)
  rw [hT]
  rw [read_all2 arg2 harg2 x0, read_all2 arg9 harg9 x7, read_all2 arg7 harg7 x5, read_all3 arg5 harg5 x3, read_all3 arg8 harg8 x6]
  have hO' : Ops H (i 1).val x0 x7 x3 x6 x7 x5 (arg6.view.read (Elt Ideal) (harg6.unread x4))
      (arg15.view.read (Elt Ideal) (harg15.unread xs0)) (arg16.view.read (Elt Ideal) (harg16.unread xs1)) := by
    rw [harg6.read_unread, harg15.read_unread, harg16.read_unread]; exact hO
  have hA := (loop_acc H Variants.none c none i
      arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x7 x3 x6 x7 x5 (harg6.unread x4) (harg15.unread xs0) (harg16.unread xs1)
      (harg11.unread xo9) (harg12.unread xo10) (harg14.unread xo12) (k0_pay19, k0_pay20) hO'
      (by rw [harg11.read_unread, harg12.read_unread, harg14.read_unread]; exact acc_zero h9 h10 h12) _ le_rfl).cast (trips1 i)
  have hD := diag_done H i arg6 arg11 arg12 arg14 arg15 arg16 x0 x7 x3 x6 x7 x5 (harg6.unread x4) (harg15.unread xs0)
      (harg16.unread xs1) (k0_off5_inb i) (k0_off6_inb i) _ _ _ _ _ _ _ _ hO' hA
  exact ⟨fun a d => (congrFun (View.read_writes_full (s := S512x128) VO0_8 _ _ _ []) (ix2 a d)).trans (hD.dq a d), hD.dk, hD.dv,
    fun a => (congrFun (View.read_writes_full (s := S1x512x1) VO0_11 _ _ _ []) (ix3 0 a 0)).trans (hD.dcq a), hD.dck⟩

set_option maxHeartbeats 4000000 in
/-- The first point of a head clears the column gradients and then adds its rows. -/
theorem point_A (hc0 : cond0_0 i) (hc1 : cond0_1 i) (hi : (i 1).val = 0)
    (hO : Ops H (i 1).val x0 x7 x3 x6 x7 x5 x4 x1 x2) :
    Done H (i 1).val
      (out0_A_8 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7)
      (out0_A_9 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7)
      (out0_A_10 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7)
      (out0_A_11 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7)
      (out0_A_12 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7) := by
  have hT : Scf.trips (k0_t2_loop i).lb (k0_t2_loop i).ub (k0_t2_loop i).st = 0 := trips2 i
  have hs0 : kernelRun0_A.sl.HS0_1 (F := Ideal) c arg3 harg3 x1 = [⟨Rect.unit ![0, 0] S8192x128.size inb_S8192x128_S8192x128_0_0,
      k0_pay9 x1⟩] := by
    unfold kernelRun0_A.sl.HS0_1
    rw [read_all2' arg3 harg3 x1]
  have hs1 : kernelRun0_A.sl.HS1_1 (F := Ideal) c arg4 harg4 x2 = [⟨Rect.unit ![0, 0] S8192x128.size inb_S8192x128_S8192x128_0_0,
      k0_pay10 x2⟩] := by
    unfold kernelRun0_A.sl.HS1_1
    rw [read_all2' arg4 harg4 x2]
  have e9 : out0_A_9 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7
      = arg11.view.read (Elt Ideal) (arg11.view.writes (Elt Ideal) arg11.view.junk (kernelRun0_A (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7).2.1) :=
    funext fun y => View.read_writes_apply_eq VO0_9 VO0_9.junk arg11.view arg11.view.junk y _ (cover0_A_9 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 y)
  have e10 : out0_A_10 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7
      = arg12.view.read (Elt Ideal) (arg12.view.writes (Elt Ideal) arg12.view.junk (kernelRun0_A (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7).2.2.1) :=
    funext fun y => View.read_writes_apply_eq VO0_10 VO0_10.junk arg12.view arg12.view.junk y _ (cover0_A_10 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 y)
  have e12 : out0_A_12 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7
      = arg14.view.read (Elt Ideal) (arg14.view.writes (Elt Ideal) arg14.view.junk (kernelRun0_A (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7).2.2.2.2.1) :=
    funext fun y => View.read_writes_apply_eq VO0_12 VO0_12.junk arg14.view arg14.view.junk y _ (cover0_A_12 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 y)
  rw [e9, e10, e12]
  unfold out0_A_8 out0_A_11
  clear e9 e10 e12
  unfold kernelRun0_A
  dsimp only
  repeat (first | unfold kernelRun0_A.sl.r | unfold kernelRun0_A.sl.r_1 | unfold kernelRun0_A.sl.r_2 | unfold kernelRun0_A.sl.r_3 | unfold kernelRun0_A.sl.r_4 | unfold kernelRun0_A.sl.r_5 | unfold kernelRun0_A.sl.r_6 | unfold kernelRun0_A.sl.r_7 | unfold kernelRun0_A.sl.r_8 | unfold kernelRun0_A.sl.r_9 | unfold kernelRun0_A.sl.r_10 | unfold kernelRun0_A.sl.v27 | unfold kernelRun0_A.sl.v63 | unfold kernelRun0_A.sl.v75 | unfold kernelRun0_A.sl.v85 | unfold kernelRun0_A.sl.H9_1 | unfold kernelRun0_A.sl.H10_1 | unfold kernelRun0_A.sl.H12_1)
  rw [hT]
  rw [read_all2 arg2 harg2 x0, read_all2 arg9 harg9 x7, read_all2 arg7 harg7 x5, read_all3 arg5 harg5 x3, read_all3 arg8 harg8 x6,
    hs0, hs1]
  have hO' : Ops H (i 1).val x0 x7 x3 x6 x7 x5 (arg6.view.read (Elt Ideal) (harg6.unread x4))
      (arg15.view.read (Elt Ideal) (arg15.view.writes (Elt Ideal) arg15.view.junk
        [(⟨Rect.unit ![0, 0] S8192x128.size inb_S8192x128_S8192x128_0_0, k0_pay9 x1⟩ : View.Piece (Elt Ideal) S8192x128 .bf16)]))
      (arg16.view.read (Elt Ideal) (arg16.view.writes (Elt Ideal) arg16.view.junk
        [(⟨Rect.unit ![0, 0] S8192x128.size inb_S8192x128_S8192x128_0_0, k0_pay10 x2⟩ : View.Piece (Elt Ideal) S8192x128 .bf16)])) := by
    rw [harg6.read_unread, View.read_writes_full, View.read_writes_full]
    exact ⟨hO.q, hO.g, hO.c, hO.lse, hO.g', hO.o, hO.cs, fun s d => (cast9 x1 s d).trans (hO.k s d),
      fun s d => (cast10 x2 s d).trans (hO.v s d)⟩
  have hA := (loop_acc H Variants.none c none i
      arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x7 x3 x6 x7 x5 (harg6.unread x4) _ _
      (arg11.view.writes (Elt Ideal) arg11.view.junk
        [(⟨Rect.unit ![0, 0] S8192x128.size inb_S8192x128_S8192x128_0_0, k0_pay11 (F := Ideal)⟩ : View.Piece (Elt Ideal) S8192x128 .f32)])
      (arg12.view.writes (Elt Ideal) arg12.view.junk
        [(⟨Rect.unit ![0, 0] S8192x128.size inb_S8192x128_S8192x128_0_0, k0_pay12 (F := Ideal)⟩ : View.Piece (Elt Ideal) S8192x128 .f32)])
      (arg14.view.writes (Elt Ideal) arg14.view.junk
        [(⟨Rect.unit ![0, 0, 0, 0] S1x16x1x512.size inb_S1x16x1x512_S1x16x1x512_0_0_0_0, k0_pay13 (F := Ideal)⟩ :
          View.Piece (Elt Ideal) S1x16x1x512 .f32)])
      (k0_pay19, k0_pay20) hO'
      (by
        rw [View.read_writes_full, View.read_writes_full, View.read_writes_full]
        refine acc_zero (fun s d => (zero11 s d).trans ?_) (fun s d => (zero12 s d).trans ?_) (fun j b => (zero13 j b).trans ?_)
        · rw [hi]; unfold Head.dk; simp
        · rw [hi]; unfold Head.dv; simp
        · rw [hi]; unfold Head.dck; simp) _ le_rfl).cast (trips1 i)
  rw [← View.writes_append, ← View.writes_append, ← View.writes_append] at hA
  have hD := diag_done H i arg6 arg11 arg12 arg14 arg15 arg16 x0 x7 x3 x6 x7 x5 (harg6.unread x4) _ _
      (k0_off5_inb i) (k0_off6_inb i) _ _ _ _ _ _ _ _ hO' hA
  exact ⟨fun a d => (congrFun (View.read_writes_full (s := S512x128) VO0_8 _ _ _ []) (ix2 a d)).trans (hD.dq a d), hD.dk, hD.dv,
    fun a => (congrFun (View.read_writes_full (s := S1x512x1) VO0_11 _ _ _ []) (ix3 0 a 0)).trans (hD.dcq a), hD.dck⟩

/-- The first point of a head keeps a copy of the head's keys. -/
theorem keep_k (hc0 : cond0_0 i) (hc1 : cond0_1 i) : sout0_A_0 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 = k0_pay9 (F := Ideal) x1 := by
  unfold sout0_A_0 kernelRun0_A
  dsimp only
  unfold kernelRun0_A.sl.HS0_1
  rw [View.read_writes_full (s := S8192x128), read_all2' arg3 harg3 x1]

/-- The first point of a head keeps a copy of the head's values. -/
theorem keep_v (hc0 : cond0_0 i) (hc1 : cond0_1 i) : sout0_A_1 (F := Ideal) c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 hc1 x0 x1 x2 x3 x4 x5 x6 x7 = k0_pay10 (F := Ideal) x2 := by
  unfold sout0_A_1 kernelRun0_A
  dsimp only
  unfold kernelRun0_A.sl.HS1_1
  rw [View.read_writes_full (s := S8192x128), read_all2' arg4 harg4 x2]

end Cert.Fox
end
-- ==== Proof.FoxFold.lean ====
module
public import proofs.«01_k».proof.Proof.Gen.KernelIdeal.Value
public import proofs.«01_k».proof.Proof.FoxPoint
public import Idealize.ShloMosaic.Lib.Pipeline.ValueKit.Point
@[expose] public section
set_option maxRecDepth 16384

/-! The grid: the points of one head, in the order of their blocks of rows, leave the head's gradients. -/

noncomputable section
namespace Cert.Fox
open Idealize.ShloMosaic Idealize.ShloMosaic.TcCoe Idealize.ShloMosaic.Tactic
open Cert.KernelIdeal Cert.KernelIdeal.Gen Cert.KernelIdeal.Value

/-- The blocks each point reads. -/
theorem idx : ∀ t : Fin cfg0.N, (win0_0.index t = ![t.val % 16, t.val / 16] ∧ win0_1.index t = ![0, t.val / 16]
      ∧ win0_2.index t = ![0, t.val / 16]) ∧ (win0_3.index t = ![t.val / 16, t.val % 16, 0]
      ∧ win0_4.index t = ![t.val / 16, 0, 0, 0]) ∧ (win0_5.index t = ![t.val % 16, t.val / 16]
      ∧ win0_6.index t = ![t.val / 16, t.val % 16, 0] ∧ win0_7.index t = ![t.val % 16, t.val / 16]) :=
  (by decide +kernel : ∀ t : Fin grid0.N, _)
/-- A point's block of rows. -/
theorem coords : ∀ t : Fin cfg0.N, (grid0.coords t 1).val = t.val % 16 := (by decide +kernel : ∀ t : Fin grid0.N, _)

/-- Row `a` of the block of rows of point `t`. -/
abbrev row (t : Fin cfg0.N) (a : Fin 512) : Fin 8192 := ⟨512 * (t.val % 16) + a.val, by have := a.isLt; omega⟩
/-- The head of point `t`. -/
abbrev head (t : Fin cfg0.N) : Fin 4 := ⟨t.val / 16, by have : t.val < 64 := lt_of_lt_of_eq t.isLt N_0; omega⟩
/-- Where entry `d` of head `h` lies in a row of the arrays. -/
abbrev lane (h : Fin 4) (d : Fin 128) : Fin 512 := ⟨128 * h.val + d.val, by have := h.isLt; have := d.isLt; omega⟩

section
variable (c : Dev nD) (t : Fin cfg0.N)
/-- A point's block of the queries, read from the array. -/
theorem blk0 (W : (b : Ref sig .tc) → Buf (Elt Ideal) ((c : Thread nD τ).loc b)) (a : Fin 512) (d : Fin 128) :
    (((cfg0.win 0).blk t).view.read (Elt Ideal) (W (Pipeline.arrRef spec0 0)) : S512x128.Idx → EReal) (ix2 a d)
    = (W main_arg0 : S8192x512.Idx → EReal) (ix2 (row t a) (lane (head t) d)) := by
  blk_ext [idx t]
/-- A point's block of the output, read from the array. -/
theorem blk5 (W : (b : Ref sig .tc) → Buf (Elt Ideal) ((c : Thread nD τ).loc b)) (a : Fin 512) (d : Fin 128) :
    (((cfg0.win 5).blk t).view.read (Elt Ideal) (W (Pipeline.arrRef spec0 5)) : S512x128.Idx → EReal) (ix2 a d)
    = (W main_v36 : S8192x512.Idx → EReal) (ix2 (row t a) (lane (head t) d)) := by
  blk_ext [idx t]
/-- A point's block of the output's gradient, read from the array. -/
theorem blk7 (W : (b : Ref sig .tc) → Buf (Elt Ideal) ((c : Thread nD τ).loc b)) (a : Fin 512) (d : Fin 128) :
    (((cfg0.win 7).blk t).view.read (Elt Ideal) (W (Pipeline.arrRef spec0 7)) : S512x128.Idx → EReal) (ix2 a d)
    = (W main_arg4 : S8192x512.Idx → EReal) (ix2 (row t a) (lane (head t) d)) := by
  blk_ext [idx t]
/-- A point's keys, read from the array. -/
theorem blk1 (W : (b : Ref sig .tc) → Buf (Elt Ideal) ((c : Thread nD τ).loc b)) (s : Fin 8192) (d : Fin 128) :
    (((cfg0.win 1).blk t).view.read (Elt Ideal) (W (Pipeline.arrRef spec0 1)) : S8192x128.Idx → EReal) (ix2 s d)
    = (W main_arg1 : S8192x512.Idx → EReal) (ix2 s (lane (head t) d)) := by
  blk_ext [idx t]
/-- A point's values, read from the array. -/
theorem blk2 (W : (b : Ref sig .tc) → Buf (Elt Ideal) ((c : Thread nD τ).loc b)) (s : Fin 8192) (d : Fin 128) :
    (((cfg0.win 2).blk t).view.read (Elt Ideal) (W (Pipeline.arrRef spec0 2)) : S8192x128.Idx → EReal) (ix2 s d)
    = (W main_arg2 : S8192x512.Idx → EReal) (ix2 s (lane (head t) d)) := by
  blk_ext [idx t]
/-- A point's column of gates, read from the array. -/
theorem blk3 (W : (b : Ref sig .tc) → Buf (Elt Ideal) ((c : Thread nD τ).loc b)) (a : Fin 512) :
    (((cfg0.win 3).blk t).view.read (Elt Ideal) (W (Pipeline.arrRef spec0 3)) : S1x512x1.Idx → EReal) (ix3 0 a 0)
    = (W main_v0 : S4x8192x1.Idx → EReal) (ix3 (head t) (row t a) 0) := by
  blk_ext [idx t]
/-- A point's column of log-sums, read from the array. -/
theorem blk6 (W : (b : Ref sig .tc) → Buf (Elt Ideal) ((c : Thread nD τ).loc b)) (a : Fin 512) :
    (((cfg0.win 6).blk t).view.read (Elt Ideal) (W (Pipeline.arrRef spec0 6)) : S1x512x1.Idx → EReal) (ix3 0 a 0)
    = (W main_v38 : S4x8192x1.Idx → EReal) (ix3 (head t) (row t a) 0) := by
  blk_ext [idx t]
/-- A point's lines of gates, read from the array. -/
theorem blk4 (W : (b : Ref sig .tc) → Buf (Elt Ideal) ((c : Thread nD τ).loc b)) (j : Fin 16) (b : Fin 512) :
    (((cfg0.win 4).blk t).view.read (Elt Ideal) (W (Pipeline.arrRef spec0 4)) : S1x16x1x512.Idx → EReal) (ix4 0 j 0 b)
    = (W main_v1 : S4x16x1x512.Idx → EReal) (ix4 (head t) j 0 b) := by
  blk_ext [idx t]
end

variable (m : (ℓ : Loc nD τ sig) → Buf (Elt Ideal) ℓ) (c : Dev nD)

/-- The arrays the call is given hold, for every head, the real numbers the head is made of. -/
structure Reads (Hd : Fin 4 → Head) : Prop where
  q : ∀ (h : Fin 4) (s : Fin 8192) (d : Fin 128),
    (V m c main_arg0 : S8192x512.Idx → EReal) (ix2 s (lane h d)) = (((Hd h).q s d : ℝ) : EReal)
  k : ∀ (h : Fin 4) (s : Fin 8192) (d : Fin 128),
    (V m c main_arg1 : S8192x512.Idx → EReal) (ix2 s (lane h d)) = (((Hd h).k s d : ℝ) : EReal)
  v : ∀ (h : Fin 4) (s : Fin 8192) (d : Fin 128),
    (V m c main_arg2 : S8192x512.Idx → EReal) (ix2 s (lane h d)) = (((Hd h).v s d : ℝ) : EReal)
  g : ∀ (h : Fin 4) (s : Fin 8192) (d : Fin 128),
    (V m c main_arg4 : S8192x512.Idx → EReal) (ix2 s (lane h d)) = (((Hd h).g s d : ℝ) : EReal)
  cr : ∀ (h : Fin 4) (s : Fin 8192), (V m c main_v0 : S4x8192x1.Idx → EReal) (ix3 h s 0) = (((Hd h).c s : ℝ) : EReal)
  cs : ∀ (h : Fin 4) (j : Fin 16) (b : Fin 512),
    (V m c main_v1 : S4x16x1x512.Idx → EReal) (ix4 h j 0 b) = (((Hd h).c (512 * j + b) : ℝ) : EReal)
  o : ∀ (h : Fin 4) (s : Fin 8192) (d : Fin 128),
    (V m c main_v36 : S8192x512.Idx → EReal) (ix2 s (lane h d)) = (((Hd h).o s d : ℝ) : EReal)
  lse : ∀ (h : Fin 4) (s : Fin 8192), (V m c main_v38 : S4x8192x1.Idx → EReal) (ix3 h s 0) = (((Hd h).lse s : ℝ) : EReal)

variable {Hd : Fin 4 → Head} (hR : Reads m c Hd)
include hR

/-- So every point reads its rows and its head. -/
theorem ops (t : Fin cfg0.N) : Ops (Hd (head t)) (grid0.coords t 1).val (iblk m c 0 t) (iblk m c 7 t) (iblk m c 3 t) (iblk m c 6 t)
    (iblk m c 7 t) (iblk m c 5 t) (iblk m c 4 t) (iblk m c 1 t) (iblk m c 2 t) := by
  generalize hI : (grid0.coords t 1).val = I
  rw [coords t] at hI
  subst hI
  exact ⟨fun a d => (blk0 c t (V m c) a d).trans (hR.q _ _ d), fun a d => (blk7 c t (V m c) a d).trans (hR.g _ _ d),
    fun a => (blk3 c t (V m c) a).trans (hR.cr _ _), fun a => (blk6 c t (V m c) a).trans (hR.lse _ _),
    fun a d => (blk7 c t (V m c) a d).trans (hR.g _ _ d), fun a d => (blk5 c t (V m c) a d).trans (hR.o _ _ d),
    fun j b => (blk4 c t (V m c) j b).trans (hR.cs _ j b), fun s d => (blk1 c t (V m c) s d).trans (hR.k _ s d),
    fun s d => (blk2 c t (V m c) s d).trans (hR.v _ s d)⟩

omit hR in
/-- What is held after a point: its results, and the head's keys and values in the point's own memory. -/
structure Inv (H : Head) (I : ℕ) (o : Vec Ideal S512x128 .f32 × Vec Ideal S8192x128 .f32 × Vec Ideal S8192x128 .f32
    × Vec Ideal S1x512x1 .f32 × Vec Ideal S1x16x1x512 .f32 × Vec Ideal S8192x128 .bf16 × Vec Ideal S8192x128 .bf16) : Prop where
  done : Done H I o.1 o.2.1 o.2.2.1 o.2.2.2.1 o.2.2.2.2.1
  k : IsAll H.k o.2.2.2.2.2.1
  v : IsAll H.v o.2.2.2.2.2.2

omit hR in
/-- The same with the block of rows named otherwise. -/
theorem Inv.cast {H : Head} {I I' : ℕ} {o} (h : Inv H I o) (e : I = I') : Inv H I' o := e ▸ h

/-- A head's first point, whatever the head before left. -/
theorem inv_A (t : Fin cfg0.N) (h0 : t.val % 16 = 0) (acc) : Inv (Hd (head t)) (t.val % 16) (stAt0 m c t.val t.isLt acc) := by
  refine Inv.cast (I := (grid0.coords t 1).val) ?_ (coords t)
  rw [stAt0_A m c t acc h0 h0]
  refine ⟨?_, ?_, ?_⟩ <;> dsimp only
  · exact point_A _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h0) ((coords t).trans h0) (ops m c hR t)
  · intro s d
    refine (congrFun (keep_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) _ _) (ix2 s d)).trans ?_
    exact (cast9 _ s d).trans ((ops m c hR t).k s d)
  · intro s d
    refine (congrFun (keep_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) _ _) (ix2 s d)).trans ?_
    exact (cast10 _ s d).trans ((ops m c hR t).v s d)

set_option maxHeartbeats 2000000 in
/-- A later point of a head, from what the point before left. -/
theorem inv_B (t : Fin cfg0.N) (h0 : ¬t.val % 16 = 0) (acc) (hacc : Inv (Hd (head t)) (t.val % 16 - 1) acc) :
    Inv (Hd (head t)) (t.val % 16) (stAt0 m c t.val t.isLt acc) := by
  have e : t.val % 16 - 1 + 1 = t.val % 16 := by omega
  have h9 := hacc.done.dk
  have h10 := hacc.done.dv
  have h12 := hacc.done.dck
  rw [e, ← coords t] at h9 h10 h12
  have hO := ops m c hR t
  refine Inv.cast (I := (grid0.coords t 1).val) ?_ (coords t)
  rw [stAt0_B m c t acc h0 h0]
  refine ⟨?_, ?_, ?_⟩ <;> dsimp only
  · exact point_B _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.1 acc.2.2.1 acc.2.2.2.2.1 acc.2.2.2.2.2.1 acc.2.2.2.2.2.2
      (fun h => h0 ((hcond0_0 t).mp h)) (fun h => h0 ((hcond0_1 t).mp h))
      ⟨hO.q, hO.g, hO.c, hO.lse, hO.g', hO.o, hO.cs, hacc.k, hacc.v⟩ h9 h10 h12
  · exact hacc.k
  · exact hacc.v

/-- What is held after each point. -/
theorem inv : ∀ (n : ℕ) (hn : 0 + n < cfg0.N), Inv (Hd (head ⟨n, by omega⟩)) (n % 16)
    (Pipeline.accAt (fun n h => stAt0 m c n h junk0) (stAt0 m c) 0 n hn) := by
  intro n
  induction n with
  | zero => intro hn; exact inv_A m c hR ⟨0, hn⟩ (Nat.zero_mod _) _
  | succ n ih =>
    intro hn
    have key : ∀ (n' : ℕ) (hn' : n' < cfg0.N), n' = n + 1 → Inv (Hd (head ⟨n + 1, by omega⟩)) ((n + 1) % 16)
        (stAt0 m c n' hn' (Pipeline.accAt (fun n h => stAt0 m c n h junk0) (stAt0 m c) 0 n (Nat.lt_of_succ_lt hn))) := by
      rintro n' hn' rfl
      by_cases h0 : (n + 1) % 16 = 0
      · exact inv_A m c hR ⟨n + 1, hn'⟩ h0 _
      · refine inv_B m c hR ⟨n + 1, hn'⟩ h0 _ ?_
        have hi := ih (Nat.lt_of_succ_lt hn)
        have e1 : (n + 1) % 16 - 1 = n % 16 := by omega
        have e2 : head ⟨n + 1, hn'⟩ = head ⟨n, by omega⟩ := Fin.ext (by show (n + 1) / 16 = n / 16; omega)
        rw [e2]
        show Inv _ ((n + 1) % 16 - 1) _
        rw [e1]; exact hi
    exact key _ hn (Nat.zero_add _)

end Cert.Fox
end
-- ==== Proof.FoxOut.lean ====
module
public import proofs.«01_k».proof.Proof.FoxFold
@[expose] public section
set_option maxRecDepth 16384

/-! What the arrays of the five results end holding: the gradients of every head. -/

noncomputable section
namespace Cert.Fox
open Idealize.ShloMosaic Idealize.ShloMosaic.TcCoe Idealize.ShloMosaic.Tactic
open Cert.KernelIdeal Cert.KernelIdeal.Gen Cert.KernelIdeal.Value

variable (m : (ℓ : Loc nD τ sig) → Buf (Elt Ideal) ℓ) (c : Dev nD) {Hd : Fin 4 → Head} (hR : Reads m c Hd)
include hR

/-- What is held after point `n`, with the head and the block of rows named. -/
theorem inv_at (n : ℕ) (hn : 0 + n < cfg0.N) (h : Fin 4) (I : ℕ) (e1 : n / 16 = h.val) (e2 : n % 16 = I) :
    Inv (Hd h) I (Pipeline.accAt (fun n h => stAt0 m c n h junk0) (stAt0 m c) 0 n hn) := by
  have e : head ⟨n, by omega⟩ = h := Fin.ext e1
  have hi := inv m c hR n hn
  rw [e] at hi
  exact hi.cast e2

/-- The gradient of the queries. -/
theorem out_dq (h : Fin 4) (s : Fin 8192) (d : Fin 128) :
    (G8 m c : S8192x512.Idx → EReal) (ix2 s (lane h d)) = (((Hd h).dq 8192 s d : ℝ) : EReal) := by
  have hs := s.isLt; have hh := h.isLt; have hd := d.isLt
  have hp : pt8Of (ix2 s (lane h d)) = s.val / 512 + 16 * h.val := by
    show 1 * (s.val / 512 - 0) + 16 * ((128 * h.val + d.val) / 128 - 0) = _; omega
  have hN : cfg0.N = 64 := N_0
  have hlt : pt8Of (ix2 s (lane h d)) < cfg0.N := by rw [hp]; omega
  unfold G8
  rw [dif_pos hlt]
  have hl : loc8Of (ix2 s (lane h d)) = ix2 (⟨s.val % 512, by omega⟩ : Fin 512) d := by
    funext a
    match a with
    | 0 => rfl
    | 1 => exact Fin.ext (by show (128 * h.val + d.val) % 128 = d.val; omega)
  rw [hl]
  refine ((inv_at m c hR _ (by omega) h (s.val / 512) (by rw [hp]; omega) (by rw [hp]; omega)).done.dq _ d).trans ?_
  have : 512 * (s.val / 512) + s.val % 512 = s.val := by omega
  dsimp only
  rw [this]

/-- The gradient of the keys. -/
theorem out_dk (h : Fin 4) (s : Fin 8192) (d : Fin 128) :
    (G9 m c : S8192x512.Idx → EReal) (ix2 s (lane h d)) = (((Hd h).dk 8192 s d : ℝ) : EReal) := by
  have hs := s.isLt; have hh := h.isLt; have hd := d.isLt
  have hp : pt9Of (ix2 s (lane h d)) = 16 * h.val + 15 := by
    show 16 * (4 * (s.val / 8192 - 0) + 1 * ((128 * h.val + d.val) / 128 - 0)) + 15 = _; omega
  have hN : cfg0.N = 64 := N_0
  have hlt : pt9Of (ix2 s (lane h d)) < cfg0.N := by rw [hp]; omega
  unfold G9
  rw [dif_pos hlt]
  have hl : loc9Of (ix2 s (lane h d)) = ix2 s d := by
    funext a
    match a with
    | 0 => exact Fin.ext (by show s.val % 8192 = s.val; omega)
    | 1 => exact Fin.ext (by show (128 * h.val + d.val) % 128 = d.val; omega)
  rw [hl]
  exact (inv_at m c hR _ (by omega) h 15 (by rw [hp]; omega) (by rw [hp]; omega)).done.dk s d

/-- The gradient of the values. -/
theorem out_dv (h : Fin 4) (s : Fin 8192) (d : Fin 128) :
    (G10 m c : S8192x512.Idx → EReal) (ix2 s (lane h d)) = (((Hd h).dv 8192 s d : ℝ) : EReal) := by
  have hs := s.isLt; have hh := h.isLt; have hd := d.isLt
  have hp : pt10Of (ix2 s (lane h d)) = 16 * h.val + 15 := by
    show 16 * (4 * (s.val / 8192 - 0) + 1 * ((128 * h.val + d.val) / 128 - 0)) + 15 = _; omega
  have hN : cfg0.N = 64 := N_0
  have hlt : pt10Of (ix2 s (lane h d)) < cfg0.N := by rw [hp]; omega
  unfold G10
  rw [dif_pos hlt]
  have hl : loc10Of (ix2 s (lane h d)) = ix2 s d := by
    funext a
    match a with
    | 0 => exact Fin.ext (by show s.val % 8192 = s.val; omega)
    | 1 => exact Fin.ext (by show (128 * h.val + d.val) % 128 = d.val; omega)
  rw [hl]
  exact (inv_at m c hR _ (by omega) h 15 (by rw [hp]; omega) (by rw [hp]; omega)).done.dv s d

/-- The gradient of the gates as the rows read them. -/
theorem out_dcq (h : Fin 4) (s : Fin 8192) :
    (G11 m c : S4x8192x1.Idx → EReal) (ix3 h s 0) = (((Hd h).dcq 8192 s : ℝ) : EReal) := by
  have hs := s.isLt; have hh := h.isLt
  have hp : pt11Of (ix3 h s (0 : Fin 1)) = 16 * h.val + s.val / 512 := by
    show 16 * (h.val / 1 - 0) + 1 * (s.val / 512 - 0) + 1 * (0 / 1 - 0) = _; omega
  have hN : cfg0.N = 64 := N_0
  have hlt : pt11Of (ix3 h s (0 : Fin 1)) < cfg0.N := by rw [hp]; omega
  unfold G11
  rw [dif_pos hlt]
  have hl : loc11Of (ix3 h s (0 : Fin 1)) = ix3 0 (⟨s.val % 512, by omega⟩ : Fin 512) 0 := by
    funext a
    match a with
    | 0 => exact Fin.ext (by show h.val % 1 = 0; omega)
    | 1 => rfl
    | 2 => rfl
  rw [hl]
  refine ((inv_at m c hR _ (by omega) h (s.val / 512) (by rw [hp]; omega) (by rw [hp]; omega)).done.dcq _).trans ?_
  have : 512 * (s.val / 512) + s.val % 512 = s.val := by omega
  dsimp only
  rw [this]

/-- The gradient of the gates as the columns read them. -/
theorem out_dck (h : Fin 4) (j : Fin 16) (b : Fin 512) :
    (G12 m c : S4x16x1x512.Idx → EReal) (ix4 h j 0 b) = (((Hd h).dck 8192 (512 * j + b) : ℝ) : EReal) := by
  have hj := j.isLt; have hh := h.isLt; have hb := b.isLt
  have hp : pt12Of (ix4 h j (0 : Fin 1) b) = 16 * h.val + 15 := by
    show 16 * (1 * (h.val / 1 - 0) + 1 * (j.val / 16 - 0) + 1 * (0 / 1 - 0) + 1 * (b.val / 512 - 0)) + 15 = _; omega
  have hN : cfg0.N = 64 := N_0
  have hlt : pt12Of (ix4 h j (0 : Fin 1) b) < cfg0.N := by rw [hp]; omega
  unfold G12
  rw [dif_pos hlt]
  have hl : loc12Of (ix4 h j (0 : Fin 1) b) = ix4 0 j 0 b := by
    funext a
    match a with
    | 0 => exact Fin.ext (by show h.val % 1 = 0; omega)
    | 1 => exact Fin.ext (by show j.val % 16 = j.val; omega)
    | 2 => rfl
    | 3 => exact Fin.ext (by show b.val % 512 = b.val; omega)
  rw [hl]
  exact (inv_at m c hR _ (by omega) h 15 (by rw [hp]; omega) (by rw [hp]; omega)).done.dck j b

end Cert.Fox
end
-- ==== Proof.FoxHost.lean ====
module
public import proofs.«01_k».proof.Proof.FoxOut
public import Idealize.ShloMosaic.Lib.WordCmp
@[expose] public section
set_option maxRecDepth 16384

/-! The host lines before the kernel: the masked scores, the softmax, the output and the log-sums. -/

noncomputable section
namespace Cert.Fox
open Idealize.ShloMosaic Idealize.ShloMosaic.TcCoe Idealize.ShloMosaic.Tactic
open Cert.KernelIdeal Cert.KernelIdeal.Gen

/-- An array of all heads, as numbers by head, row and lane of the head. -/
def IsHeads (f : Fin 4 → ℕ → ℕ → ℝ) (x : S8192x512.Idx → EReal) : Prop :=
  ∀ (h : Fin 4) (s : Fin 8192) (d : Fin 128), x (ix2 s (lane h d)) = ((f h s d : ℝ) : EReal)
/-- An array of one number a row and head. -/
def IsGates (f : Fin 4 → ℕ → ℝ) (x : S4x8192.Idx → EReal) : Prop :=
  ∀ (h : Fin 4) (s : Fin 8192), x (ix2 h s) = ((f h s : ℝ) : EReal)
/-- An array with the heads split off in front. -/
def IsSplit (f : Fin 4 → ℕ → ℕ → ℝ) (x : S4x8192x128.Idx → EReal) : Prop :=
  ∀ (h : Fin 4) (s : Fin 8192) (d : Fin 128), x (ix3 h s d) = ((f h s d : ℝ) : EReal)
/-- A square of numbers for each head. -/
def IsSquare (f : Fin 4 → ℕ → ℕ → ℝ) (x : S4x8192x8192.Idx → EReal) : Prop :=
  ∀ (h : Fin 4) (t s : Fin 8192), x (ix3 h t s) = ((f h t s : ℝ) : EReal)
/-- A square of numbers for each head, minus infinity above the diagonal. -/
def IsMasked (f : Fin 4 → ℕ → ℕ → ℝ) (x : S4x8192x8192.Idx → EReal) : Prop :=
  ∀ (h : Fin 4) (t s : Fin 8192), x (ix3 h t s) = if s.val ≤ t.val then ((f h t s : ℝ) : EReal) else ⊥

/-- The largest of a row that is minus infinity after its diagonal is a number. -/
theorem max_real (t : Fin 8192) (r : Fin 8192 → ℝ) (f : Fin 8192 → EReal)
    (hf : ∀ s, f s = if s.val ≤ t.val then ((r s : ℝ) : EReal) else ⊥) :
    ∃ M : ℝ, Finset.univ.fold max (⊥ : EReal) f = (M : EReal) := by
  have ht : Finset.univ.fold max (⊥ : EReal) f < ⊤ := by
    rw [Finset.fold_max_lt]
    refine ⟨bot_lt_top, fun s _ => ?_⟩
    rw [hf]; split
    · exact EReal.coe_lt_top _
    · exact bot_lt_top
  have hb : ⊥ < Finset.univ.fold max (⊥ : EReal) f := by
    rw [Finset.lt_fold_max]
    refine Or.inr ⟨t, Finset.mem_univ _, ?_⟩
    rw [hf, if_pos le_rfl]; exact EReal.bot_lt_coe _
  exact ⟨_, (EReal.coe_toReal ht.ne hb.ne').symm⟩

/-- The heads split off. -/
def heads (x : FVec Ideal S8192x512 .f32) : FVec Ideal S4x8192x128 .f32 :=
  transpose S4x8192x128 [1, 0, 2] (shapeCast S8192x4x128 x shapeCasts_S8192x512_S8192x4x128) transposes_S8192x4x128_S4x8192x128_1_0_2
/-- The scores. -/
def hScore (q k : FVec Ideal S8192x512 .f32) (g : FVec Ideal S4x8192 .f32) : FVec Ideal S4x8192x8192 .f32 :=
  addf (mulf (Host.dotGeneral dot_S4x8192x128_S4x8192x128_S4x8192x8192_2_2_1_1_0_0 none (heads q) (heads k))
      (broadcastInDim S4x8192x8192 ![] bcast_S_S4x8192x8192 (constant (F := Ideal) S_ .f32 0x3DB504F3#32)))
    (subf (broadcastInDim S4x8192x8192 ![0, 1, 2] bcast_S4x8192x1_S4x8192x8192_0_1_2 (broadcastInDim S4x8192x1 ![0, 1] bcast_S4x8192_S4x8192x1_0_1 g))
      (broadcastInDim S4x8192x8192 ![0, 1, 2] bcast_S4x1x8192_S4x8192x8192_0_1_2 (broadcastInDim S4x1x8192 ![0, 2] bcast_S4x8192_S4x1x8192_0_2 g)))
/-- The scores with minus infinity above the diagonal. -/
def hMasked (x : FVec Ideal S4x8192x8192 .f32) : FVec Ideal S4x8192x8192 .f32 :=
  select (broadcastInDim S4x8192x8192 ![1, 2] bcast_S8192x8192_S4x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    x (broadcastInDim S4x8192x8192 ![] bcast_S_S4x8192x8192 (constant (F := Ideal) S_ .f32 0xFF800000#32))
/-- Each row's largest. -/
def hMax (x : FVec Ideal S4x8192x8192 .f32) : FVec Ideal S4x8192 .f32 :=
  Host.reduce FloatOps.maximumf x (constant (F := Ideal) S_ .f32 0xFF800000#32) reducesTo_S4x8192x8192_S4x8192_d2 h_S_
/-- The same, as a column. -/
def hMaxCol (x : FVec Ideal S4x8192x8192 .f32) : FVec Ideal S4x8192x1 .f32 :=
  broadcastInDim S4x8192x1 ![0, 1] bcast_S4x8192_S4x8192x1_0_1 (hMax x)
/-- The exponentials. -/
def hExp (x : FVec Ideal S4x8192x8192 .f32) : FVec Ideal S4x8192x8192 .f32 :=
  Host.exp (subf x (broadcastInDim S4x8192x8192 ![0, 1, 2] bcast_S4x8192x1_S4x8192x8192_0_1_2 (hMaxCol x)))
/-- Their sums, as a column. -/
def hSum (x : FVec Ideal S4x8192x8192 .f32) : FVec Ideal S4x8192x1 .f32 :=
  broadcastInDim S4x8192x1 ![0, 1] bcast_S4x8192_S4x8192x1_0_1
    (Host.reduceAdd (hExp x) (constant (F := Ideal) S_ .f32 0x00000000#32) reducesTo_S4x8192x8192_S4x8192_d2 h_S_)
/-- The softmax. -/
def hSoft (x : FVec Ideal S4x8192x8192 .f32) : FVec Ideal S4x8192x8192 .f32 :=
  Host.divf (hExp x) (broadcastInDim S4x8192x8192 ![0, 1, 2] bcast_S4x8192x1_S4x8192x8192_0_1_2 (hSum x))
/-- The output. -/
def hOut (p : FVec Ideal S4x8192x8192 .f32) (v : FVec Ideal S8192x512 .f32) : FVec Ideal S8192x512 .f32 :=
  shapeCast S8192x512 (transpose S8192x4x128 [1, 0, 2] (Host.dotGeneral dot_S4x8192x8192_S4x8192x128_S4x8192x128_2_1_1_2_0_0 none p (heads v))
    transposes_S4x8192x128_S8192x4x128_1_0_2) shapeCasts_S8192x4x128_S8192x512
/-- The log-sums. -/
def hLse (x : FVec Ideal S4x8192x8192 .f32) : FVec Ideal S4x8192x1 .f32 :=
  addf (hMaxCol x) (Host.log (hSum x))

/-- Minus infinity's bit pattern. -/
theorem ninf_bits : Ideal.ofBits .f32 0xFF800000#32 = (⊥ : EReal) := by
  simp [Ideal.ofBits, Ideal.ieee]

/-- Splitting the heads off reads the lane of the head. -/
theorem heads_apply (x : FVec Ideal S8192x512 .f32) (h : Fin 4) (s : Fin 8192) (d : Fin 128) :
    heads x (ix3 h s d) = x (ix2 s (lane h d)) := by
  have e : lane h d = ⟨h.val * 128 + d.val, by omega⟩ := Fin.ext (by show 128 * h.val + d.val = h.val * 128 + d.val; omega)
  rw [e]
  unfold heads
  pointwise []

section
variable {Hd : Fin 4 → Head} {q k v : FVec Ideal S8192x512 .f32} {g : FVec Ideal S4x8192 .f32} {x : FVec Ideal S4x8192x8192 .f32}

/-- The scores are the heads' scores. -/
theorem hScore_apply (hq : IsHeads (fun h => (Hd h).q) q) (hk : IsHeads (fun h => (Hd h).k) k) (hg : IsGates (fun h => (Hd h).c) g) :
    IsSquare (fun h => (Hd h).score) (hScore q k g) := by
  intro h t s
  have hq' := fun d => (heads_apply q h t d).trans (hq h t d)
  have hk' := fun d => (heads_apply k h s d).trans (hk h s d)
  have e1 := hg h t
  have e2 := hg h s
  unfold hScore
  pointwise [hq', hk', e1, e2, scl_bits]
  simp only [← EReal.coe_mul, ← coe_sum, ← EReal.coe_add, ← EReal.coe_sub, Head.score]

/-- The mask puts minus infinity above the diagonal. -/
theorem hMasked_apply {f : Fin 4 → ℕ → ℕ → ℝ} (hx : IsSquare f x) : IsMasked f (hMasked x) := by
  intro h t s
  have e := hx h t s
  have ht := t.isLt
  have hs := s.isLt
  unfold hMasked
  pointwise [e, ninf_bits]
  simp (disch := omega) only [hlo_ix]

/-- Each row's largest is a number. -/
theorem hMax_apply {f : Fin 4 → ℕ → ℕ → ℝ} (hx : IsMasked f x) (h : Fin 4) (t : Fin 8192) :
    ∃ M : ℝ, hMax x (ix2 h t) = (M : EReal) := by
  obtain ⟨M, hM⟩ := max_real t (fun s => f h t s) (fun s => x (ix3 h t s)) (fun s => hx h t s)
  refine ⟨M, ?_⟩
  unfold hMax
  pointwise [ninf_bits]
  exact hM

/-- The exponentials are the weights over the exponential of any number taken off the scores. -/
theorem hExp_apply (hx : IsMasked (fun h => (Hd h).score) x) (h : Fin 4) (t s : Fin 8192) {M : ℝ} (hM : hMax x (ix2 h t) = (M : EReal)) :
    hExp x (ix3 h t s) = (((Hd h).w t s * Real.exp (-M) : ℝ) : EReal) := by
  have e := hx h t s
  unfold hExp hMaxCol
  pointwise [e, hM]
  simp only [Head.w]
  split
  · rw [← EReal.coe_sub, Ideal.exp_coe, ← Real.exp_add, sub_eq_add_neg]
  · rw [EReal.bot_sub, Ideal.exp_bot, zero_mul, EReal.coe_zero]

/-- Their sums are the rows' sums over the same. -/
theorem hSum_apply (hx : IsMasked (fun h => (Hd h).score) x) (h : Fin 4) (t : Fin 8192) {M : ℝ} (hM : hMax x (ix2 h t) = (M : EReal)) :
    hSum x (ix3 h t 0) = (((Hd h).Z t * Real.exp (-M) : ℝ) : EReal) := by
  have e := fun s => hExp_apply hx h t s hM
  unfold hSum
  pointwise [e]
  simp only [← coe_sum, zero_add]
  rw [Head.Z, Finset.sum_range, Finset.sum_mul]

/-- The softmax. -/
theorem hSoft_apply (hx : IsMasked (fun h => (Hd h).score) x) : IsSquare (fun h => (Hd h).P) (hSoft x) := by
  intro h t s
  obtain ⟨M, hM⟩ := hMax_apply hx h t
  have e1 := hExp_apply hx h t s hM
  have e2 := hSum_apply hx h t hM
  have hZ := (Hd h).Z_pos t.isLt
  have hE := Real.exp_pos (-M)
  unfold hSoft
  pointwise [e1, e2]
  rw [Head.P_eq _ t.isLt]
  generalize (Hd h).Z t = z at hZ ⊢
  rw [Ideal.div_coe (by positivity), ← EReal.coe_mul]
  refine congrArg Real.toEReal ?_
  field_simp

/-- A number and the logarithm of a sum over its exponential make the logarithm of the sum. -/
theorem log_shift (z M : ℝ) (hz : 0 < z) :
    (M : EReal) + Ideal.log ((z * Real.exp (-M) : ℝ) : EReal) = ((Real.log z : ℝ) : EReal) := by
  have hE := Real.exp_pos (-M)
  rw [Ideal.log_coe, if_neg (not_le.2 (mul_pos hz hE)), ← EReal.coe_add, Real.log_mul hz.ne' hE.ne', Real.log_exp]
  exact congrArg Real.toEReal (by ring)

/-- An element of a column plus the logarithm of a column. -/
theorem addLog_apply (a : FVec Ideal S4x8192 .f32) (b : FVec Ideal S4x8192x1 .f32) (h : Fin 4) (t : Fin 8192) :
    addf (broadcastInDim S4x8192x1 ![0, 1] bcast_S4x8192_S4x8192x1_0_1 a) (Host.log b) (ix3 h t 0)
      = a (ix2 h t) + Ideal.log (b (ix3 h t 0)) := by
  pointwise []

/-- The log-sums. -/
theorem hLse_apply (hx : IsMasked (fun h => (Hd h).score) x) (h : Fin 4) (t : Fin 8192) :
    hLse x (ix3 h t 0) = (((Hd h).lse t : ℝ) : EReal) := by
  obtain ⟨M, hM⟩ := hMax_apply hx h t
  have e2 := hSum_apply hx h t hM
  refine (addLog_apply (hMax x) (hSum x) h t).trans ?_
  rw [e2, hM]
  exact log_shift _ M ((Hd h).Z_pos t.isLt)

/-- The output. -/
theorem hOut_apply {p : FVec Ideal S4x8192x8192 .f32} (hp : IsSquare (fun h => (Hd h).P) p) (hv : IsHeads (fun h => (Hd h).v) v) :
    IsHeads (fun h => (Hd h).o) (hOut p v) := by
  intro h t d
  have e1 := fun s => hp h t s
  have e2 := fun s => (heads_apply v h s d).trans (hv h s d)
  have e : lane h d = ⟨h.val * 128 + d.val, by omega⟩ := Fin.ext (by show 128 * h.val + d.val = h.val * 128 + d.val; omega)
  rw [e]
  unfold hOut
  pointwise [e1, e2]
  simp only [← EReal.coe_mul, ← coe_sum]
  rw [Head.o, Finset.sum_range]

end

section
variable (m : (ℓ : Loc nD τ sig) → Buf (Elt Ideal) ℓ) (c : Dev nD)

/-- The program's arguments. -/
abbrev aq : FVec Ideal S8192x512 .f32 := m ((c : Thread nD τ).loc main_arg0)
/-- The keys. -/
abbrev ak : FVec Ideal S8192x512 .f32 := m ((c : Thread nD τ).loc main_arg1)
/-- The values. -/
abbrev av : FVec Ideal S8192x512 .f32 := m ((c : Thread nD τ).loc main_arg2)
/-- The cumulated log gates. -/
abbrev ac : FVec Ideal S4x8192 .f32 := m ((c : Thread nD τ).loc main_arg3)
/-- The output's gradient. -/
abbrev ag : FVec Ideal S8192x512 .f32 := m ((c : Thread nD τ).loc main_arg4)

/-- The column of gates given to the kernel. -/
theorem V_v0 : V m c main_v0 = broadcastInDim S4x8192x1 ![0, 1] bcast_S4x8192_S4x8192x1_0_1 (ac m c) := by
  show StableHlo.after [hostOps0, hostOps0_1, hostOps0_2].flatten (fun b => m (c, b)) (Proc.tc.devRef main_v0) = _
  simp only [List.flatten_cons, List.flatten_nil, List.append_nil, List.cons_append, List.nil_append]
  entry_read
  rfl
/-- The lines of gates given to the kernel. -/
theorem V_v1 : V m c main_v1 = shapeCast S4x16x1x512 (ac m c) shapeCasts_S4x8192_S4x16x1x512 := by
  show StableHlo.after [hostOps0, hostOps0_1, hostOps0_2].flatten (fun b => m (c, b)) (Proc.tc.devRef main_v1) = _
  simp only [List.flatten_cons, List.flatten_nil, List.append_nil, List.cons_append, List.nil_append]
  entry_read
  rfl
/-- The output given to the kernel. -/
theorem V_v36 : V m c main_v36 = hOut (hSoft (hMasked (hScore (aq m c) (ak m c) (ac m c)))) (av m c) := by
  show StableHlo.after [hostOps0, hostOps0_1, hostOps0_2].flatten (fun b => m (c, b)) (Proc.tc.devRef main_v36) = _
  simp only [List.flatten_cons, List.flatten_nil, List.append_nil, List.cons_append, List.nil_append]
  entry_read
  rfl
/-- The log-sums given to the kernel. -/
theorem V_v38 : V m c main_v38 = hLse (hMasked (hScore (aq m c) (ak m c) (ac m c))) := by
  show StableHlo.after [hostOps0, hostOps0_1, hostOps0_2].flatten (fun b => m (c, b)) (Proc.tc.devRef main_v38) = _
  simp only [List.flatten_cons, List.flatten_nil, List.append_nil, List.cons_append, List.nil_append]
  entry_read
  rfl

/-- What the kernel reads, from the arguments. -/
theorem reads {Hd : Fin 4 → Head} (hq : IsHeads (fun h => (Hd h).q) (aq m c)) (hk : IsHeads (fun h => (Hd h).k) (ak m c))
    (hv : IsHeads (fun h => (Hd h).v) (av m c)) (hc : IsGates (fun h => (Hd h).c) (ac m c)) (hg : IsHeads (fun h => (Hd h).g) (ag m c)) :
    Reads m c Hd where
  q h s d := by rw [V_main_arg0]; exact hq h s d
  k h s d := by rw [V_main_arg1]; exact hk h s d
  v h s d := by rw [V_main_arg2]; exact hv h s d
  g h s d := by rw [V_main_arg4]; exact hg h s d
  cr h s := by
    rw [V_v0]
    have := hc h s
    pointwise [this]
  cs h j b := by
    rw [V_v1]
    have e := hc h ⟨512 * j + b, by omega⟩
    have e' : (⟨512 * j + b, by omega⟩ : Fin 8192) = ⟨j.val * 512 + b.val, by omega⟩ :=
      Fin.ext (by show 512 * j.val + b.val = j.val * 512 + b.val; omega)
    rw [e'] at e
    pointwise [e]
    rw [Nat.mul_comm j.val]
  o h s d := by rw [V_v36]; exact hOut_apply (hSoft_apply (hMasked_apply (hScore_apply hq hk hc))) hv h s d
  lse h s := by rw [V_v38]; exact hLse_apply (hMasked_apply (hScore_apply hq hk hc)) h s

end

end Cert.Fox
end
-- ==== Proof.FoxRef.lean ====
module
public import proofs.«01_k».proof.Proof.FoxHost
public import proofs.«01_k».proof.Proof.Gen.ReferenceIdeal.Run
public import proofs.«01_k».proof.Proof.Gen.ReferenceIdeal.Read
@[expose] public section
set_option maxRecDepth 16384

/-! What the reference computes: the same gradients of every head. -/

noncomputable section
namespace Cert.Fox
open Idealize.ShloMosaic Idealize.ShloMosaic.TcCoe Idealize.ShloMosaic.Tactic
open Cert.ReferenceIdeal Cert.ReferenceIdeal.Gen Cert.ReferenceIdeal.Read

variable {Hd : Fin 4 → Head} {q k v g : FVec Ideal S8192x512 .f32} {c : FVec Ideal S4x8192 .f32}

/-- The reference's masked scores are the host's. -/
theorem r_masked : val_main_v22_0 (F := Ideal) q k c = hMasked (hScore q k c) := rfl
/-- So is each row's largest. -/
theorem r_max0 : val_main_v23 (F := Ideal) q k c = hMax (hMasked (hScore q k c)) := rfl

section
variable (hx : IsMasked (fun h => (Hd h).score) (val_main_v22_0 (F := Ideal) q k c))
  (hk : IsHeads (fun h => (Hd h).k) k) (hv : IsHeads (fun h => (Hd h).v) v) (hg : IsHeads (fun h => (Hd h).g) g)
  (hq : IsHeads (fun h => (Hd h).q) q)
  {M : Fin 4 → Fin 8192 → ℝ} (hM : ∀ h t, val_main_v23 (F := Ideal) q k c (ix2 h t) = (M h t : EReal))

/-- The heads of an argument. -/
theorem r_heads (x : FVec Ideal S8192x512 .f32) {f : Fin 4 → ℕ → ℕ → ℝ} (hf : IsHeads f x) (h : Fin 4) (s : Fin 8192) (d : Fin 128) :
    transpose S4x8192x128 [1, 0, 2] (shapeCast S8192x4x128 x shapeCasts_S8192x512_S8192x4x128) transposes_S8192x4x128_S4x8192x128_1_0_2 (ix3 h s d)
      = ((f h s d : ℝ) : EReal) := (heads_apply x h s d).trans (hf h s d)

/-- The larger of minus infinity and an element is the element. -/
theorem maxBot_apply (y : FVec Ideal S4x8192 .f32) (h : Fin 4) (t : Fin 8192) :
    maximumf (broadcastInDim S4x8192 ![] bcast_S_S4x8192 (constant (F := Ideal) S_ .f32 0xFF800000#32)) y (ix2 h t) = y (ix2 h t) := by
  generalize hz : y (ix2 h t) = z
  pointwise [ninf_bits, hz]
  exact max_eq_right bot_le

include hM in
/-- The number taken off a row's scores. -/
theorem r_max (h : Fin 4) (t : Fin 8192) : val_main_v30 (F := Ideal) q k c (ix2 h t) = (M h t : EReal) := by
  rw [← hM h t]
  exact maxBot_apply (val_main_v23 (F := Ideal) q k c) h t

include hx hM in
/-- The exponentials. -/
theorem r_exp (h : Fin 4) (t s : Fin 8192) :
    val_main_v43 (F := Ideal) q k c (ix3 h t s) = (((Hd h).w t s * Real.exp (-M h t) : ℝ) : EReal) := by
  have e := hx h t s
  have e2 := r_max hM h t
  unfold val_main_v43 val_main_v42 val_main_v41 val_main_v40
  generalize val_main_v30 (F := Ideal) q k c = y at e2 ⊢
  generalize val_main_v22_0 (F := Ideal) q k c = x at e ⊢
  pointwise [e, e2]
  simp only [Head.w]
  split
  · rw [← EReal.coe_sub, Ideal.exp_coe, ← Real.exp_add, sub_eq_add_neg]
  · rw [EReal.bot_sub, Ideal.exp_bot, zero_mul, EReal.coe_zero]

/-- A row's sum over the exponential of the number taken off. -/
def zm (Hd : Fin 4 → Head) (M : Fin 4 → Fin 8192 → ℝ) (h : Fin 4) (t : Fin 8192) : ℝ := (Hd h).Z t * Real.exp (-M h t)
/-- A row sum over a positive exponential is positive. -/
theorem zm_pos (h : Fin 4) (t : Fin 8192) : 0 < zm Hd M h t := mul_pos ((Hd h).Z_pos t.isLt) (Real.exp_pos _)
/-- The weight from sums relative to a maximum. -/
theorem P_zm (h : Fin 4) (t s : Fin 8192) : (Hd h).P t s = (Hd h).w t s * Real.exp (-M h t) * (1 / zm Hd M h t) := by
  have hZ := (Hd h).Z_pos t.isLt
  have hE := Real.exp_pos (-M h t)
  rw [Head.P_eq _ t.isLt, zm]
  generalize (Hd h).Z t = z at hZ ⊢
  field_simp

include hx hM in
/-- The sums. -/
theorem r_sum (h : Fin 4) (t : Fin 8192) : val_main_v44 (F := Ideal) q k c (ix2 h t) = ((zm Hd M h t : ℝ) : EReal) := by
  have e := fun s => r_exp hx hM h t s
  unfold val_main_v44 val_main_cst_9
  generalize val_main_v43 (F := Ideal) q k c = y at e ⊢
  pointwise [e]
  simp only [← coe_sum]
  rw [zm, Head.Z, Finset.sum_range, Finset.sum_mul]

include hx hM in
/-- The softmax. -/
theorem r_soft (h : Fin 4) (t s : Fin 8192) : val_main_v47 (F := Ideal) q k c (ix3 h t s) = (((Hd h).P t s : ℝ) : EReal) := by
  have e1 := r_exp hx hM h t s
  have e2 := r_sum hx hM h t
  unfold val_main_v47 val_main_v46 val_main_v45
  generalize val_main_v43 (F := Ideal) q k c = y at e1 ⊢
  generalize val_main_v44 (F := Ideal) q k c = z at e2 ⊢
  pointwise [e1, e2]
  rw [Ideal.div_coe (zm_pos h t).ne', ← EReal.coe_mul, P_zm (M := M)]

include hx hM in
/-- One over a sum's square. -/
theorem r_inv (h : Fin 4) (t : Fin 8192) :
    val_main_v50 (F := Ideal) q k c (ix3 h t 0) = ((1 / (zm Hd M h t * zm Hd M h t) : ℝ) : EReal) := by
  have e2 := r_sum hx hM h t
  unfold val_main_v50 val_main_v49 val_main_v48 val_main_v45 val_main_cst_10
  generalize val_main_v44 (F := Ideal) q k c = z at e2 ⊢
  have hz := zm_pos (Hd := Hd) (M := M) h t
  pointwise [e2]
  rw [← EReal.coe_mul, Ideal.div_coe (mul_pos hz hz).ne', one_mul]

include hg hv in
/-- The gradients of the softmax. -/
theorem r_dP (h : Fin 4) (t s : Fin 8192) : val_main_v58 (F := Ideal) v g (ix3 h t s) = (((Hd h).dP t s : ℝ) : EReal) := by
  have e1 := fun d => r_heads g hg h t d
  have e2 := fun d => r_heads v hv h s d
  unfold val_main_v58 val_main_v55 val_main_v54 val_main_v5 val_main_v4
  generalize transpose S4x8192x128 [1, 0, 2] (shapeCast S8192x4x128 g shapeCasts_S8192x512_S8192x4x128) transposes_S8192x4x128_S4x8192x128_1_0_2 = a at e1 ⊢
  generalize transpose S4x8192x128 [1, 0, 2] (shapeCast S8192x4x128 v shapeCasts_S8192x512_S8192x4x128) transposes_S8192x4x128_S4x8192x128_1_0_2 = b at e2 ⊢
  pointwise [e1, e2]
  simp only [← EReal.coe_mul, ← coe_sum, Head.dP]

include hx hM hg hv in
/-- A row's weighted sum of them, over the row's sum. -/
theorem r_dl (h : Fin 4) (t : Fin 8192) :
    val_main_v62 (F := Ideal) q k v c g (ix2 h t) = (((Hd h).dl t * (1 / zm Hd M h t) : ℝ) : EReal) := by
  have e1 := fun s => r_exp hx hM h t s
  have e2 := r_inv hx hM h t
  have e3 := fun s => r_dP hv hg h t s
  unfold val_main_v62 val_main_v61 val_main_v60 val_main_v59 val_main_cst_11
  generalize val_main_v43 (F := Ideal) q k c = y at e1 ⊢
  generalize val_main_v50 (F := Ideal) q k c = z at e2 ⊢
  generalize val_main_v58 (F := Ideal) v g = u at e3 ⊢
  pointwise [e1, e2, e3]
  simp only [← EReal.coe_mul, ← coe_sum]
  rw [Head.dl_eq, Finset.sum_range, Finset.sum_mul]
  refine congrArg Real.toEReal (Finset.sum_congr rfl fun s _ => ?_)
  rw [P_zm (M := M)]
  have hz := zm_pos (Hd := Hd) (M := M) h t
  generalize zm Hd M h t = z at hz ⊢
  field_simp

include hx hM hg hv in
/-- Its negative, summed over one column. -/
theorem r_neg (h : Fin 4) (t : Fin 8192) :
    val_main_v67 (F := Ideal) q k v c g (ix2 h t) = ((-((Hd h).dl t * (1 / zm Hd M h t)) : ℝ) : EReal) := by
  have e1 := r_dl hx hv hg hM h t
  unfold val_main_v67 val_main_v64 val_main_v63 val_main_cst_12
  generalize val_main_v62 (F := Ideal) q k v c g = y at e1 ⊢
  pointwise [e1]
  simp

include hx hM hg hv in
/-- The gradients of the scores. -/
theorem r_ds (h : Fin 4) (t s : Fin 8192) : val_main_v71 (F := Ideal) q k v c g (ix3 h t s) = (((Hd h).ds t s : ℝ) : EReal) := by
  have e1 := r_exp hx hM h t s
  have e2 := r_sum hx hM h t
  have e3 := r_dP hv hg h t s
  have e4 := r_neg hx hv hg hM h t
  have ht := t.isLt
  have hs := s.isLt
  unfold val_main_v71 val_main_v70 val_main_v69 val_main_v68 val_main_v66 val_main_v65 val_main_v45
  unfold val_main_v22_1 val_main_v21 val_main_v20 val_main_v19 val_main_v18 val_main_v17 val_main_v16 val_main_v15 val_main_call1_v0 val_main_call1_cst
  generalize val_main_v43 (F := Ideal) q k c = y at e1 ⊢
  generalize val_main_v44 (F := Ideal) q k c = z at e2 ⊢
  generalize val_main_v58 (F := Ideal) v g = u at e3 ⊢
  generalize val_main_v67 (F := Ideal) q k v c g = r at e4 ⊢
  pointwise [e1, e2, e3, e4]
  simp (disch := omega) only [hlo_ix]
  have hz := zm_pos (Hd := Hd) (M := M) h t
  split
  · rw [Ideal.div_coe hz.ne', ← EReal.coe_mul, ← EReal.coe_add, ← EReal.coe_mul, Head.ds, P_zm (M := M)]
    refine congrArg Real.toEReal ?_
    ring
  · rw [(Hd h).ds_above (by omega)]
    rfl

include hx hM hg hv in
/-- The gradient of the row gates. -/
theorem r_dcq (h : Fin 4) (t : Fin 8192) : val_main_v89 (F := Ideal) q k v c g (ix3 h t 0) = (((Hd h).dcq 8192 t : ℝ) : EReal) := by
  have e := fun s => r_ds hx hv hg hM h t s
  unfold val_main_v89 val_main_v78 val_main_v73 val_main_v72 val_main_cst_13 val_main_cst_16
  generalize val_main_v71 (F := Ideal) q k v c g = y at e ⊢
  pointwise [e]
  simp only [← coe_sum]
  rw [Head.dcq, Finset.sum_range]
  simp

include hx hM hg hv in
/-- The gradient of the column gates. -/
theorem r_dck (h : Fin 4) (j : Fin 16) (b : Fin 512) :
    val_main_v90 (F := Ideal) q k v c g (ix4 h j 0 b) = (((Hd h).dck 8192 (512 * j + b) : ℝ) : EReal) := by
  have e := fun t => r_ds hx hv hg hM h t ⟨512 * j + b, by omega⟩
  have e' : (⟨512 * j + b, by omega⟩ : Fin 8192) = ⟨j.val * 512 + b.val, by omega⟩ :=
    Fin.ext (by show 512 * j.val + b.val = j.val * 512 + b.val; omega)
  rw [e'] at e
  unfold val_main_v90 val_main_v77 val_main_v76 val_main_v75 val_main_v74 val_main_cst_14 val_main_cst_15
  generalize val_main_v71 (F := Ideal) q k v c g = y at e ⊢
  pointwise [e]
  simp only [← EReal.coe_neg, ← coe_sum]
  rw [Head.dck, Finset.sum_range, Nat.mul_comm 512]
  simp

include hx hM hg in
/-- The gradient of the values. -/
theorem r_dv (h : Fin 4) (s : Fin 8192) (d : Fin 128) :
    val_main_v84 (F := Ideal) q k c g (ix2 s (lane h d)) = (((Hd h).dv 8192 s d : ℝ) : EReal) := by
  have e1 := fun t => r_heads g hg h t d
  have e2 := fun t => r_soft hx hM h t s
  have el : lane h d = ⟨h.val * 128 + d.val, by omega⟩ := Fin.ext (by show 128 * h.val + d.val = h.val * 128 + d.val; omega)
  rw [el]
  unfold val_main_v84 val_main_v83 val_main_v57 val_main_v56 val_main_v55 val_main_v54
  generalize transpose S4x8192x128 [1, 0, 2] (shapeCast S8192x4x128 g shapeCasts_S8192x512_S8192x4x128) transposes_S8192x4x128_S4x8192x128_1_0_2 = a at e1 ⊢
  generalize val_main_v47 (F := Ideal) q k c = y at e2 ⊢
  pointwise [e1, e2]
  simp only [← EReal.coe_mul, ← coe_sum]
  rw [Head.dv, Finset.sum_range]
  exact congrArg Real.toEReal (Finset.sum_congr rfl fun t _ => mul_comm _ _)

include hx hM hg hv hk in
/-- The gradient of the queries. -/
theorem r_dq (h : Fin 4) (t : Fin 8192) (d : Fin 128) :
    val_main_v88 (F := Ideal) q k v c g (ix2 t (lane h d)) = (((Hd h).dq 8192 t d : ℝ) : EReal) := by
  have e1 := fun s => r_heads k hk h s d
  have e2 := fun s => r_ds hx hv hg hM h t s
  have el : lane h d = ⟨h.val * 128 + d.val, by omega⟩ := Fin.ext (by show 128 * h.val + d.val = h.val * 128 + d.val; omega)
  rw [el]
  unfold val_main_v88 val_main_v87 val_main_v82 val_main_v80 val_main_v79 val_main_cst_17 val_main_v3 val_main_v2
  generalize transpose S4x8192x128 [1, 0, 2] (shapeCast S8192x4x128 k shapeCasts_S8192x512_S8192x4x128) transposes_S8192x4x128_S4x8192x128_1_0_2 = a at e1 ⊢
  generalize val_main_v71 (F := Ideal) q k v c g = y at e2 ⊢
  pointwise [e1, e2, scl_bits]
  simp only [← EReal.coe_mul, ← coe_sum]
  rw [Head.dq, Finset.sum_range, Finset.sum_mul]
  exact congrArg Real.toEReal (Finset.sum_congr rfl fun t _ => by ring)

include hx hM hg hv hq in
/-- The gradient of the keys. -/
theorem r_dk (h : Fin 4) (s : Fin 8192) (d : Fin 128) :
    val_main_v86 (F := Ideal) q k v c g (ix2 s (lane h d)) = (((Hd h).dk 8192 s d : ℝ) : EReal) := by
  have e1 := fun t => r_heads q hq h t d
  have e2 := fun t => r_ds hx hv hg hM h t s
  have el : lane h d = ⟨h.val * 128 + d.val, by omega⟩ := Fin.ext (by show 128 * h.val + d.val = h.val * 128 + d.val; omega)
  rw [el]
  unfold val_main_v86 val_main_v85 val_main_v81 val_main_v80 val_main_v79 val_main_cst_17 val_main_v1 val_main_v0
  generalize transpose S4x8192x128 [1, 0, 2] (shapeCast S8192x4x128 q shapeCasts_S8192x512_S8192x4x128) transposes_S8192x4x128_S4x8192x128_1_0_2 = a at e1 ⊢
  generalize val_main_v71 (F := Ideal) q k v c g = y at e2 ⊢
  pointwise [e1, e2, scl_bits]
  simp only [← EReal.coe_mul, ← coe_sum]
  rw [Head.dk, Finset.sum_range, Finset.sum_mul]
  exact congrArg Real.toEReal (Finset.sum_congr rfl fun t _ => by ring)
end

end Cert.Fox
end
-- ==== Proof.FoxClaim.lean ====
module
public import proofs.«01_k».proof.Proof.FoxRef
public import proofs.«01_k».proof.Pre_finite
@[expose] public section
set_option maxRecDepth 16384

/-! From arguments that are numbers: the kernel's five arrays are the reference's. -/

noncomputable section
namespace Cert.Fox
open Idealize.ShloMosaic Idealize.ShloMosaic.TcCoe Idealize.ShloMosaic.Tactic
open Cert.KernelIdeal Cert.KernelIdeal.Gen Cert.KernelIdeal.Value

/-- The side conditions of the precondition's operations. -/
theorem pre_facts : Cert.Pre_finite.Facts := ⟨by decide, by decide⟩

/-- A value under infinity in absolute value is a number. -/
theorem real_of_abs {z : EReal} (h : BitVec.ofBool (decide (max z (-z) < Ideal.ofBits .f32 0x7F800000#32)) = 1#1) : z = ((z.toReal : ℝ) : EReal) := by
  have hb : Ideal.ofBits .f32 0x7F800000#32 = (⊤ : EReal) := by simp [Ideal.ofBits, Ideal.ieee]
  rw [hb] at h
  have hlt : max z (-z) < ⊤ := by
    by_contra hc
    simp [hc] at h
  obtain ⟨h1, h2⟩ := max_lt_iff.1 hlt
  refine (EReal.coe_toReal h1.ne ?_).symm
  rintro rfl
  exact absurd h2 (by simp)

/-- An argument all of whose elements lie under infinity in absolute value has numbers for elements. -/
theorem real_rows (hb : S_.BroadcastsInDim S8192x512 (![] : Fin 0 → Fin S8192x512.rank)) (x : FVec Ideal S8192x512 .f32)
    (h : cmpf .olt (Host.absf x) (broadcastInDim S8192x512 ![] hb (constant (F := Ideal) S_ .f32 0x7F800000#32)) = fun _ => 1#1)
    (s : Fin 8192) (l : Fin 512) : x (ix2 s l) = (((x (ix2 s l)).toReal : ℝ) : EReal) := by
  have e := congrFun h (ix2 s l)
  generalize hz : x (ix2 s l) = z at e ⊢
  revert e
  pointwise [hz]
  exact real_of_abs
/-- The same for the gates. -/
theorem real_gates (hb : S_.BroadcastsInDim S4x8192 (![] : Fin 0 → Fin S4x8192.rank)) (x : FVec Ideal S4x8192 .f32)
    (h : cmpf .olt (Host.absf x) (broadcastInDim S4x8192 ![] hb (constant (F := Ideal) S_ .f32 0x7F800000#32)) = fun _ => 1#1)
    (s : Fin 4) (l : Fin 8192) : x (ix2 s l) = (((x (ix2 s l)).toReal : ℝ) : EReal) := by
  have e := congrFun h (ix2 s l)
  generalize hz : x (ix2 s l) = z at e ⊢
  revert e
  pointwise [hz]
  exact real_of_abs

/-- The numbers of an argument, by head, row and lane. -/
def nums (x : FVec Ideal S8192x512 .f32) (h : Fin 4) (s d : ℕ) : ℝ :=
  if hs : s < 8192 ∧ d < 128 then EReal.toReal (x (ix2 ⟨s, hs.1⟩ (lane h ⟨d, hs.2⟩))) else 0
/-- The numbers of the gates, by head and row. -/
def gates (x : FVec Ideal S4x8192 .f32) (h : Fin 4) (s : ℕ) : ℝ :=
  if hs : s < 8192 then EReal.toReal (x (ix2 h ⟨s, hs⟩)) else 0

/-- An argument whose elements are numbers holds its numbers. -/
theorem nums_is {x : FVec Ideal S8192x512 .f32} (hx : ∀ (s : Fin 8192) (l : Fin 512), x (ix2 s l) = (((x (ix2 s l)).toReal : ℝ) : EReal)) :
    IsHeads (nums x) x := by
  intro h s d
  rw [nums, dif_pos ⟨s.isLt, d.isLt⟩]
  exact hx s (lane h d)
/-- Gates that are numbers hold their numbers. -/
theorem gates_is {x : FVec Ideal S4x8192 .f32} (hx : ∀ (s : Fin 4) (l : Fin 8192), x (ix2 s l) = (((x (ix2 s l)).toReal : ℝ) : EReal)) :
    IsGates (gates x) x := by
  intro h s
  rw [gates, dif_pos s.isLt]
  exact hx h s

/-- Arrays of all heads agree when they agree at every head, row and lane. -/
theorem ext_heads {x y : S8192x512.Idx → EReal} (e : ∀ (h : Fin 4) (s : Fin 8192) (d : Fin 128), x (ix2 s (lane h d)) = y (ix2 s (lane h d))) : x = y := by
  funext i
  have h1 : (i 1).val < 512 := (i 1).isLt
  have hi : i = ix2 (i 0 : Fin 8192) (lane ⟨(i 1).val / 128, by omega⟩ ⟨(i 1).val % 128, by omega⟩) := by
    funext a
    match a with
    | 0 => rfl
    | 1 => exact Fin.ext (by show (i 1).val = 128 * ((i 1).val / 128) + (i 1).val % 128; omega)
  rw [hi]
  exact e _ _ _
/-- Columns of all heads agree when they agree at every head and row. -/
theorem ext_col {x y : S4x8192x1.Idx → EReal} (e : ∀ (h : Fin 4) (s : Fin 8192), x (ix3 h s 0) = y (ix3 h s 0)) : x = y := by
  funext i
  have hi : i = ix3 (i 0 : Fin 4) (i 1 : Fin 8192) (0 : Fin 1) := by
    funext a
    match a with
    | 0 => rfl
    | 1 => rfl
    | 2 => exact Fin.ext (by have : (i 2).val < 1 := (i 2).isLt; show (i 2).val = 0; omega)
  rw [hi]
  exact e _ _
/-- Lines of all heads agree when they agree at every head, line and place. -/
theorem ext_lines {x y : S4x16x1x512.Idx → EReal} (e : ∀ (h : Fin 4) (j : Fin 16) (b : Fin 512), x (ix4 h j 0 b) = y (ix4 h j 0 b)) : x = y := by
  funext i
  have hi : i = ix4 (i 0 : Fin 4) (i 1 : Fin 16) (0 : Fin 1) (i 3 : Fin 512) := by
    funext a
    match a with
    | 0 => rfl
    | 1 => rfl
    | 2 => exact Fin.ext (by have : (i 2).val < 1 := (i 2).isLt; show (i 2).val = 0; omega)
    | 3 => rfl
  rw [hi]
  exact e _ _ _

open Cert.ReferenceIdeal.Read in
/-- The five results of the two programs are the same arrays. -/
theorem agree (m : (ℓ : Loc nD τ sig) → Buf (Elt Ideal) ℓ) (c : Dev nD)
    {Hd : Fin 4 → Head} (hq : IsHeads (fun h => (Hd h).q) (aq m c)) (hk : IsHeads (fun h => (Hd h).k) (ak m c))
    (hv : IsHeads (fun h => (Hd h).v) (av m c)) (hc : IsGates (fun h => (Hd h).c) (ac m c)) (hg : IsHeads (fun h => (Hd h).g) (ag m c)) :
    G8 m c = val_main_v88 (F := Ideal) (aq m c) (ak m c) (av m c) (ac m c) (ag m c)
    ∧ G9 m c = val_main_v86 (F := Ideal) (aq m c) (ak m c) (av m c) (ac m c) (ag m c)
    ∧ G10 m c = val_main_v84 (F := Ideal) (aq m c) (ak m c) (ac m c) (ag m c)
    ∧ G11 m c = val_main_v89 (F := Ideal) (aq m c) (ak m c) (av m c) (ac m c) (ag m c)
    ∧ G12 m c = val_main_v90 (F := Ideal) (aq m c) (ak m c) (av m c) (ac m c) (ag m c) := by
  have hR := reads m c hq hk hv hc hg
  have hx0 := hMasked_apply (hScore_apply hq hk hc)
  choose M hM0 using fun (h : Fin 4) (t : Fin 8192) => hMax_apply hx0 h t
  have hx : IsMasked (fun h => (Hd h).score) (val_main_v22_0 (F := Ideal) (aq m c) (ak m c) (ac m c)) := by
    rw [r_masked]; exact hx0
  have hM : ∀ h t, val_main_v23 (F := Ideal) (aq m c) (ak m c) (ac m c) (ix2 h t) = (M h t : EReal) := by
    rw [r_max0]; exact hM0
  exact ⟨ext_heads fun h s d => (out_dq m c hR h s d).trans (r_dq hx hk hv hg hM h s d).symm,
    ext_heads fun h s d => (out_dk m c hR h s d).trans (r_dk hx hv hg hq hM h s d).symm,
    ext_heads fun h s d => (out_dv m c hR h s d).trans (r_dv hx hg hM h s d).symm,
    ext_col fun h s => (out_dcq m c hR h s).trans (r_dcq hx hv hg hM h s).symm,
    ext_lines fun h j b => (out_dck m c hR h j b).trans (r_dck hx hv hg hM h j b).symm⟩

end Cert.Fox
end
-- ==== Proof.FoxFwSum.lean ====
module
public import proofs.«01_k».proof.Defs
public import proofs.«01_k».proof.Proof.Gen.FoxFwReferenceIdeal.Run
public import proofs.«01_k».proof.Proof.Gen.FoxFwReferenceIdeal.Read
public import proofs.«01_k».proof.Proof.FwdFold
public import proofs.«01_k».proof.Proof.FoxClaim
@[expose] public section
set_option maxRecDepth 16384

/-! The forward pass: from arguments that are numbers, the kernel's two arrays are the reference's. -/

noncomputable section
namespace Cert.FoxFwSum
open Idealize.ShloMosaic Idealize.ShloMosaic.TcCoe Idealize.ShloMosaic.Tactic
open Cert.FoxFwIdeal Cert.FoxFwIdeal.Gen Cert.FoxFwIdeal.Value Cert.FoxFwd
open Cert.Fox (Head IsHeads IsGates hScore hMasked hSoft hOut hLse hScore_apply hMasked_apply hSoft_apply hOut_apply hLse_apply
  nums gates nums_is gates_is real_rows real_gates ext_heads ext_col)

/-- The side conditions of the precondition's operations. -/
theorem pre_facts : Cert.Pre_finite_fwd.Facts := ⟨by decide, by decide⟩

variable (m : (ℓ : Loc nD τ sig) → Buf (Elt Ideal) ℓ) (c : Dev nD)

/-- The queries. -/
abbrev aq : FVec Ideal S8192x512 .f32 := m ((c : Thread nD τ).loc main_arg0)
/-- The keys. -/
abbrev ak : FVec Ideal S8192x512 .f32 := m ((c : Thread nD τ).loc main_arg1)
/-- The values. -/
abbrev av : FVec Ideal S8192x512 .f32 := m ((c : Thread nD τ).loc main_arg2)
/-- The cumulated log gates. -/
abbrev ac : FVec Ideal S4x8192 .f32 := m ((c : Thread nD τ).loc main_arg3)

/-- The column of gates given to the kernel. -/
theorem V_v0 : V m c main_v0 = broadcastInDim S4x8192x1 ![0, 1] bcast_S4x8192_S4x8192x1_0_1 (ac m c) := by
  show StableHlo.after hostOps0 (fun b => m (c, b)) (Proc.tc.devRef main_v0) = _
  entry_read
  rfl
/-- The lines of gates given to the kernel. -/
theorem V_v1 : V m c main_v1 = shapeCast S4x16x1x512 (ac m c) shapeCasts_S4x8192_S4x16x1x512 := by
  show StableHlo.after hostOps0 (fun b => m (c, b)) (Proc.tc.devRef main_v1) = _
  entry_read
  rfl

/-- What the kernel reads, from the arguments. -/
theorem reads {Hd : Fin 4 → Head} (hq : IsHeads (fun h => (Hd h).q) (aq m c)) (hk : IsHeads (fun h => (Hd h).k) (ak m c))
    (hv : IsHeads (fun h => (Hd h).v) (av m c)) (hc : IsGates (fun h => (Hd h).c) (ac m c)) :
    Reads m c Hd where
  q h s d := by rw [V_main_arg0]; exact hq h s d
  k h s d := by rw [V_main_arg1]; exact hk h s d
  v h s d := by rw [V_main_arg2]; exact hv h s d
  cr h s := by
    rw [V_v0]
    have := hc h s
    pointwise [this]
  cs h j b := by
    rw [V_v1]
    have e := hc h ⟨512 * j + b, by omega⟩
    have e' : (⟨512 * j + b, by omega⟩ : Fin 8192) = ⟨j.val * 512 + b.val, by omega⟩ :=
      Fin.ext (by show 512 * j.val + b.val = j.val * 512 + b.val; omega)
    rw [e'] at e
    pointwise [e]
    rw [Nat.mul_comm j.val]

open Cert.FoxFwReferenceIdeal.Read in
/-- The reference's output is the plain one. -/
theorem r_o (q k v : FVec Ideal S8192x512 .f32) (g : FVec Ideal S4x8192 .f32) :
    val_main_v34 (F := Ideal) q k v g = hOut (hSoft (hMasked (hScore q k g))) v := rfl
open Cert.FoxFwReferenceIdeal.Read in
/-- The reference's log-sums are the plain ones. -/
theorem r_lse (q k : FVec Ideal S8192x512 .f32) (g : FVec Ideal S4x8192 .f32) :
    val_main_v36 (F := Ideal) q k g = hLse (hMasked (hScore q k g)) := rfl

open Cert.FoxFwReferenceIdeal.Read in
/-- The two results of the two programs are the same arrays. -/
theorem agree {Hd : Fin 4 → Head} (hq : IsHeads (fun h => (Hd h).q) (aq m c)) (hk : IsHeads (fun h => (Hd h).k) (ak m c))
    (hv : IsHeads (fun h => (Hd h).v) (av m c)) (hc : IsGates (fun h => (Hd h).c) (ac m c)) :
    G5 m c = val_main_v34 (F := Ideal) (aq m c) (ak m c) (av m c) (ac m c)
    ∧ G6 m c = val_main_v36 (F := Ideal) (aq m c) (ak m c) (ac m c) := by
  have hR := reads m c hq hk hv hc
  have hx := hMasked_apply (hScore_apply hq hk hc)
  rw [r_o, r_lse]
  exact ⟨ext_heads fun h s d => (out_o m c hR h s d).trans (hOut_apply (hSoft_apply hx) hv h s d).symm,
    ext_col fun h s => (out_lse m c hR h s).trans (hLse_apply hx h s).symm⟩

/-- The idealized kernel and the idealized reference end with the same results. -/
theorem algebraic [Cert.Pre_finite_fwd.Facts] : Cert.algebraic_FoxFwIdeal_FoxFwReferenceIdeal_pre_finite_fwd := by
  intro m g m' g' hpre hagree
  have key : ∀ c : Dev Cert.FoxFwIdeal.nD, _ := fun c => agree m c
    (Hd := fun h => ⟨nums (aq m c) h, nums (ak m c) h, nums (av m c) h, fun _ _ => 0, gates (ac m c) h⟩)
    (nums_is (real_rows _ _ (hpre c).1)) (nums_is (real_rows _ _ (hpre c).2.1))
    (nums_is (real_rows _ _ (hpre c).2.2.1)) (gates_is (real_gates _ _ (hpre c).2.2.2))
  refine ⟨G5 m, G6 m, Cert.FoxFwIdeal.Value.run m g, ?_⟩
  refine (θ_run _ _ _).mono (fun r h c => ?_) (Cert.FoxFwReferenceIdeal.Value.run m' g')
  obtain ⟨a0, a1, a2, a3⟩ := hagree c
  obtain ⟨h0, h1, h2⟩ := h c
  obtain ⟨k0, k1⟩ := key c
  refine ⟨h0.trans ?_, h1.trans ?_, h2⟩
  · rw [Cert.FoxFwReferenceIdeal.Read.val_main_v34_eq, a0, a1, a2, a3]; exact k0.symm
  · rw [Cert.FoxFwReferenceIdeal.Read.val_main_v36_eq, a0, a1, a3]; exact k1.symm

/-- The idealized reference ends, its arguments as they were; it declares no semaphore. -/
theorem frame_reference : Cert.quiescent_FoxFwReferenceIdeal := fun m ρ _ =>
  (θ_run _ _ _).mono (fun r h => ⟨fun c => (h c).2.2, sem_eq_zero_of_no_sems (by decide) r.2⟩)
    (Cert.FoxFwReferenceIdeal.Value.run m ρ)

end Cert.FoxFwSum
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.UpFw.Frame
public import proofs.«01_k».proof.Proof.Gen.UpFwIdeal.Value
public import proofs.«01_k».proof.Proof.Gen.UpFwReferenceIdeal.Run
public import proofs.«01_k».proof.Proof.Gen.UpFwReferenceIdeal.Read
public import proofs.«01_k».proof.Proof.UpFwSum
public import proofs.«01_k».proof.Proof.Gen.UpDx.Frame
public import proofs.«01_k».proof.Proof.Gen.UpDxIdeal.Value
public import proofs.«01_k».proof.Proof.Gen.UpDxReferenceIdeal.Run
public import proofs.«01_k».proof.Proof.Gen.UpDxReferenceIdeal.Read
public import proofs.«01_k».proof.Proof.UpDxSum
public import proofs.«01_k».proof.Proof.Gen.UpDw.Frame
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.UpDwSum
public import proofs.«01_k».proof.Proof.Gen.DownFw.Frame
public import proofs.«01_k».proof.Proof.Gen.DownFwIdeal.Value
public import proofs.«01_k».proof.Proof.Gen.DownFwReferenceIdeal.Run
public import proofs.«01_k».proof.Proof.Gen.DownFwReferenceIdeal.Read
public import proofs.«01_k».proof.Proof.DownFwSum
public import proofs.«01_k».proof.Proof.Gen.DownDx.Frame
public import proofs.«01_k».proof.Proof.Gen.DownDxIdeal.Value
public import proofs.«01_k».proof.Proof.Gen.DownDxReferenceIdeal.Run
public import proofs.«01_k».proof.Proof.Gen.DownDxReferenceIdeal.Read
public import proofs.«01_k».proof.Proof.DownDxSum
public import proofs.«01_k».proof.Proof.Gen.DownDw.Frame
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.DownDwSum
public import proofs.«01_k».proof.Proof.Gen.OutFw.Frame
public import proofs.«01_k».proof.Proof.Gen.OutFwIdeal.Value
public import proofs.«01_k».proof.Proof.Gen.OutFwReferenceIdeal.Run
public import proofs.«01_k».proof.Proof.Gen.OutFwReferenceIdeal.Read
public import proofs.«01_k».proof.Proof.OutFwSum
public import proofs.«01_k».proof.Proof.Gen.OutDx.Frame
public import proofs.«01_k».proof.Proof.Gen.OutDxIdeal.Value
public import proofs.«01_k».proof.Proof.Gen.OutDxReferenceIdeal.Run
public import proofs.«01_k».proof.Proof.Gen.OutDxReferenceIdeal.Read
public import proofs.«01_k».proof.Proof.OutDxSum
public import proofs.«01_k».proof.Proof.Gen.OutDw.Frame
public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Proof.OutDwSum
public import proofs.«01_k».proof.Proof.Gen.BranchFw.Frame
public import proofs.«01_k».proof.Proof.Gen.BranchFwIdeal.Value
public import proofs.«01_k».proof.Proof.Gen.BranchFwReferenceIdeal.Run
public import proofs.«01_k».proof.Proof.Gen.BranchFwReferenceIdeal.Read
public import proofs.«01_k».proof.Proof.BranchFwSum
public import proofs.«01_k».proof.Proof.Gen.BranchDx.Frame
public import proofs.«01_k».proof.Proof.Gen.BranchDxIdeal.Value
public import proofs.«01_k».proof.Proof.Gen.BranchDxReferenceIdeal.Run
public import proofs.«01_k».proof.Proof.Gen.BranchDxReferenceIdeal.Read
public import proofs.«01_k».proof.Proof.BranchDxSum
public import proofs.«01_k».proof.Proof.Gen.BranchDw.Frame
public import proofs.«01_k».proof.Proof.Gen.BranchDwIdeal.Value
public import proofs.«01_k».proof.Proof.Gen.BranchDwReferenceIdeal.Run
public import proofs.«01_k».proof.Proof.Gen.BranchDwReferenceIdeal.Read
public import proofs.«01_k».proof.Proof.BranchDwSum
public import proofs.«01_k».proof.Proof.Gen.MemFw.Frame
public import proofs.«01_k».proof.Proof.Gen.MemFwIdeal.Value
public import proofs.«01_k».proof.Proof.Gen.MemFwReferenceIdeal.Run
public import proofs.«01_k».proof.Proof.Gen.MemFwReferenceIdeal.Read
public import proofs.«01_k».proof.Proof.MemFwSum
public import proofs.«01_k».proof.Proof.Gen.QueryFw.Frame
public import proofs.«01_k».proof.Proof.Gen.QueryFwIdeal.Value
public import proofs.«01_k».proof.Proof.Gen.QueryFwReferenceIdeal.Run
public import proofs.«01_k».proof.Proof.Gen.QueryFwReferenceIdeal.Read
public import proofs.«01_k».proof.Proof.QueryFwSum
public import proofs.«01_k».proof.Proof.Gen.QueryDx.Frame
public import proofs.«01_k».proof.Proof.Gen.QueryDxIdeal.Value
public import proofs.«01_k».proof.Proof.Gen.QueryDxReferenceIdeal.Run
public import proofs.«01_k».proof.Proof.Gen.QueryDxReferenceIdeal.Read
public import proofs.«01_k».proof.Proof.QueryDxSum
public import proofs.«01_k».proof.Proof.Gen.QueryDw.Frame
public import proofs.«01_k».proof.Proof.Gen.QueryDwIdeal.Value
public import proofs.«01_k».proof.Proof.Gen.QueryDwReferenceIdeal.Run
public import proofs.«01_k».proof.Proof.Gen.QueryDwReferenceIdeal.Read
public import proofs.«01_k».proof.Proof.QueryDwSum
public import proofs.«01_k».proof.Proof.Gen.BankFw.Frame
public import proofs.«01_k».proof.Proof.Gen.BankFwIdeal.Value
public import proofs.«01_k».proof.Proof.Gen.BankFwReferenceIdeal.Run
public import proofs.«01_k».proof.Proof.Gen.BankFwReferenceIdeal.Read
public import proofs.«01_k».proof.Proof.BankFwSum
public import proofs.«01_k».proof.Proof.Gen.BankDx.Frame
public import proofs.«01_k».proof.Proof.Gen.BankDxIdeal.Value
public import proofs.«01_k».proof.Proof.Gen.BankDxReferenceIdeal.Run
public import proofs.«01_k».proof.Proof.Gen.BankDxReferenceIdeal.Read
public import proofs.«01_k».proof.Proof.BankDxSum
public import proofs.«01_k».proof.Proof.Gen.BankDw.Frame
public import proofs.«01_k».proof.Proof.Gen.BankDwIdeal.Value
public import proofs.«01_k».proof.Proof.Gen.BankDwReferenceIdeal.Run
public import proofs.«01_k».proof.Proof.Gen.BankDwReferenceIdeal.Read
public import proofs.«01_k».proof.Proof.BankDwSum
public import proofs.«01_k».proof.Proof.Gen.GatesFw.Frame
public import proofs.«01_k».proof.Proof.Gen.GatesFwIdeal.Value
public import proofs.«01_k».proof.Proof.Gen.GatesFwReferenceIdeal.Run
public import proofs.«01_k».proof.Proof.Gen.GatesFwReferenceIdeal.Read
public import proofs.«01_k».proof.Proof.GatesFwSum
public import proofs.«01_k».proof.Proof.Gen.GatesDx.Frame
public import proofs.«01_k».proof.Proof.Gen.GatesDxIdeal.Value
public import proofs.«01_k».proof.Proof.Gen.GatesDxReferenceIdeal.Run
public import proofs.«01_k».proof.Proof.Gen.GatesDxReferenceIdeal.Read
public import proofs.«01_k».proof.Proof.GatesDxSum
public import proofs.«01_k».proof.Proof.Gen.GatesDw.Frame
public import proofs.«01_k».proof.Proof.Gen.GatesDwIdeal.Value
public import proofs.«01_k».proof.Proof.Gen.GatesDwReferenceIdeal.Run
public import proofs.«01_k».proof.Proof.Gen.GatesDwReferenceIdeal.Read
public import proofs.«01_k».proof.Proof.GatesDwSum
public import proofs.«01_k».proof.Proof.Gen.ConvFw.Frame
public import proofs.«01_k».proof.Proof.Gen.ConvFwIdeal.Value
public import proofs.«01_k».proof.Proof.Gen.ConvFwReferenceIdeal.Run
public import proofs.«01_k».proof.Proof.Gen.ConvFwReferenceIdeal.Read
public import proofs.«01_k».proof.Proof.ConvFwSum
public import proofs.«01_k».proof.Proof.Gen.ConvDx.Frame
public import proofs.«01_k».proof.Proof.Gen.ConvDxIdeal.Value
public import proofs.«01_k».proof.Proof.Gen.ConvDxReferenceIdeal.Run
public import proofs.«01_k».proof.Proof.Gen.ConvDxReferenceIdeal.Read
public import proofs.«01_k».proof.Proof.ConvDxSum
public import proofs.«01_k».proof.Proof.Gen.ConvDw.Frame
public import proofs.«01_k».proof.Proof.Gen.ConvDwIdeal.Value
public import proofs.«01_k».proof.Proof.Gen.ConvDwReferenceIdeal.Run
public import proofs.«01_k».proof.Proof.Gen.ConvDwReferenceIdeal.Read
public import proofs.«01_k».proof.Proof.ConvDwSum
public import proofs.«01_k».proof.Proof.Gen.PartFw.Frame
public import proofs.«01_k».proof.Proof.Gen.PartFwIdeal.Value
public import proofs.«01_k».proof.Proof.Gen.PartFwReferenceIdeal.Run
public import proofs.«01_k».proof.Proof.Gen.PartFwReferenceIdeal.Read
public import proofs.«01_k».proof.Proof.PartFwSum
public import proofs.«01_k».proof.Proof.Gen.PartDx.Frame
public import proofs.«01_k».proof.Proof.Gen.PartDxIdeal.Value
public import proofs.«01_k».proof.Proof.Gen.PartDxReferenceIdeal.Run
public import proofs.«01_k».proof.Proof.Gen.PartDxReferenceIdeal.Read
public import proofs.«01_k».proof.Proof.PartDxSum
public import proofs.«01_k».proof.Proof.Gen.PartDw.Frame
public import proofs.«01_k».proof.Proof.Gen.PartDwIdeal.Value
public import proofs.«01_k».proof.Proof.Gen.PartDwReferenceIdeal.Run
public import proofs.«01_k».proof.Proof.Gen.PartDwReferenceIdeal.Read
public import proofs.«01_k».proof.Proof.PartDwSum
public import proofs.«01_k».proof.Proof.Gen.LogitsFw.Frame
public import proofs.«01_k».proof.Proof.Gen.LogitsFwIdeal.Value
public import proofs.«01_k».proof.Proof.Gen.LogitsFwReferenceIdeal.Run
public import proofs.«01_k».proof.Proof.Gen.LogitsFwReferenceIdeal.Read
public import proofs.«01_k».proof.Proof.LogitsFwSum
public import proofs.«01_k».proof.Proof.Gen.LogitsDx.Frame
public import proofs.«01_k».proof.Proof.Gen.LogitsDxIdeal.Value
public import proofs.«01_k».proof.Proof.Gen.LogitsDxReferenceIdeal.Run
public import proofs.«01_k».proof.Proof.Gen.LogitsDxReferenceIdeal.Read
public import proofs.«01_k».proof.Proof.LogitsDxSum
public import proofs.«01_k».proof.Proof.Gen.LogitsDw.Frame
public import proofs.«01_k».proof.Proof.Gen.LogitsDwIdeal.Value
public import proofs.«01_k».proof.Proof.Gen.LogitsDwReferenceIdeal.Run
public import proofs.«01_k».proof.Proof.Gen.LogitsDwReferenceIdeal.Read
public import proofs.«01_k».proof.Proof.LogitsDwSum
public import proofs.«01_k».proof.Proof.Gen.FoxFw.Frame
public import proofs.«01_k».proof.Proof.Gen.FoxFwIdeal.Value
public import proofs.«01_k».proof.Proof.Gen.FoxFwReferenceIdeal.Run
public import proofs.«01_k».proof.Proof.Gen.FoxFwReferenceIdeal.Read
public import proofs.«01_k».proof.Proof.FoxFwSum
public import proofs.«01_k».proof.Proof.FoxClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized kernel and the idealized reference end with the same five arrays, on arguments that are numbers. -/
theorem algebraic [Cert.Pre_finite.Facts] : Cert.algebraic_KernelIdeal_ReferenceIdeal_pre_finite := by
  intro m g m' g' hpre hagree
  have key : ∀ c : Dev Cert.KernelIdeal.nD, _ := fun c => Cert.Fox.agree m c
    (Hd := fun h => ⟨Cert.Fox.nums (Cert.Fox.aq m c) h, Cert.Fox.nums (Cert.Fox.ak m c) h, Cert.Fox.nums (Cert.Fox.av m c) h,
      Cert.Fox.nums (Cert.Fox.ag m c) h, Cert.Fox.gates (Cert.Fox.ac m c) h⟩)
    (Cert.Fox.nums_is (Cert.Fox.real_rows _ _ (hpre c).1)) (Cert.Fox.nums_is (Cert.Fox.real_rows _ _ (hpre c).2.1))
    (Cert.Fox.nums_is (Cert.Fox.real_rows _ _ (hpre c).2.2.1)) (Cert.Fox.gates_is (Cert.Fox.real_gates _ _ (hpre c).2.2.2.1))
    (Cert.Fox.nums_is (Cert.Fox.real_rows _ _ (hpre c).2.2.2.2))
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run m g, ?_⟩
  refine (θ_run _ _ _).mono (fun r h c => ?_) (Cert.ReferenceIdeal.Value.run m' g')
  obtain ⟨a0, a1, a2, a3, a4⟩ := hagree c
  obtain ⟨h0, h1, h2, h3, h4, h5⟩ := h c
  obtain ⟨k0, k1, k2, k3, k4⟩ := key c
  refine ⟨h0.trans ?_, h1.trans ?_, h2.trans ?_, h3.trans ?_, h4.trans ?_, h5⟩
  · rw [Cert.ReferenceIdeal.Read.val_main_v88_eq, a0, a1, a2, a3, a4]; exact k0.symm
  · rw [Cert.ReferenceIdeal.Read.val_main_v86_eq, a0, a1, a2, a3, a4]; exact k1.symm
  · rw [Cert.ReferenceIdeal.Read.val_main_v84_eq, a0, a1, a3, a4]; exact k2.symm
  · rw [Cert.ReferenceIdeal.Read.val_main_v89_eq, a0, a1, a2, a3, a4]; exact k3.symm
  · rw [Cert.ReferenceIdeal.Read.val_main_v90_eq, a0, a1, a2, a3, a4]; exact k4.symm

/-- The idealized reference ends, its arguments as they were; it declares no semaphore. -/
theorem frame_reference : Cert.quiescent_ReferenceIdeal := fun m ρ _ =>
  (θ_run _ _ _).mono (fun r h => ⟨fun c => (h c).2.2.2.2.2, sem_eq_zero_of_no_sems (by decide) r.2⟩)
    (Cert.ReferenceIdeal.Value.run m ρ)

/-- The certificate: every claim of every call. -/
theorem claim : Cert.Claim := ⟨Cert.Kernel.Gen.facts, Cert.KernelIdeal.Gen.facts, Cert.ReferenceIdeal.Gen.facts, Cert.UpFw.Gen.facts, Cert.UpFwIdeal.Gen.facts,
  Cert.UpFwReferenceIdeal.Gen.facts, Cert.UpDx.Gen.facts, Cert.UpDxIdeal.Gen.facts, Cert.UpDxReferenceIdeal.Gen.facts,
  Cert.UpDw.Gen.facts, Cert.UpDwIdeal.Gen.facts, Cert.UpDwReferenceIdeal.Gen.facts, Cert.DownFw.Gen.facts,
  Cert.DownFwIdeal.Gen.facts, Cert.DownFwReferenceIdeal.Gen.facts, Cert.DownDx.Gen.facts, Cert.DownDxIdeal.Gen.facts,
  Cert.DownDxReferenceIdeal.Gen.facts, Cert.DownDw.Gen.facts, Cert.DownDwIdeal.Gen.facts, Cert.DownDwReferenceIdeal.Gen.facts,
  Cert.OutFw.Gen.facts, Cert.OutFwIdeal.Gen.facts, Cert.OutFwReferenceIdeal.Gen.facts, Cert.OutDx.Gen.facts,
  Cert.OutDxIdeal.Gen.facts, Cert.OutDxReferenceIdeal.Gen.facts, Cert.OutDw.Gen.facts, Cert.OutDwIdeal.Gen.facts,
  Cert.OutDwReferenceIdeal.Gen.facts, Cert.BranchFw.Gen.facts, Cert.BranchFwIdeal.Gen.facts, Cert.BranchFwReferenceIdeal.Gen.facts,
  Cert.BranchDx.Gen.facts, Cert.BranchDxIdeal.Gen.facts, Cert.BranchDxReferenceIdeal.Gen.facts, Cert.BranchDw.Gen.facts,
  Cert.BranchDwIdeal.Gen.facts, Cert.BranchDwReferenceIdeal.Gen.facts, Cert.MemFw.Gen.facts, Cert.MemFwIdeal.Gen.facts,
  Cert.MemFwReferenceIdeal.Gen.facts, Cert.QueryFw.Gen.facts, Cert.QueryFwIdeal.Gen.facts, Cert.QueryFwReferenceIdeal.Gen.facts,
  Cert.QueryDx.Gen.facts, Cert.QueryDxIdeal.Gen.facts, Cert.QueryDxReferenceIdeal.Gen.facts, Cert.QueryDw.Gen.facts,
  Cert.QueryDwIdeal.Gen.facts, Cert.QueryDwReferenceIdeal.Gen.facts, Cert.BankFw.Gen.facts, Cert.BankFwIdeal.Gen.facts,
  Cert.BankFwReferenceIdeal.Gen.facts, Cert.BankDx.Gen.facts, Cert.BankDxIdeal.Gen.facts, Cert.BankDxReferenceIdeal.Gen.facts,
  Cert.BankDw.Gen.facts, Cert.BankDwIdeal.Gen.facts, Cert.BankDwReferenceIdeal.Gen.facts, Cert.GatesFw.Gen.facts,
  Cert.GatesFwIdeal.Gen.facts, Cert.GatesFwReferenceIdeal.Gen.facts, Cert.GatesDx.Gen.facts, Cert.GatesDxIdeal.Gen.facts,
  Cert.GatesDxReferenceIdeal.Gen.facts, Cert.GatesDw.Gen.facts, Cert.GatesDwIdeal.Gen.facts, Cert.GatesDwReferenceIdeal.Gen.facts,
  Cert.ConvFw.Gen.facts, Cert.ConvFwIdeal.Gen.facts, Cert.ConvFwReferenceIdeal.Gen.facts, Cert.ConvDx.Gen.facts,
  Cert.ConvDxIdeal.Gen.facts, Cert.ConvDxReferenceIdeal.Gen.facts, Cert.ConvDw.Gen.facts, Cert.ConvDwIdeal.Gen.facts,
  Cert.ConvDwReferenceIdeal.Gen.facts, Cert.PartFw.Gen.facts, Cert.PartFwIdeal.Gen.facts, Cert.PartFwReferenceIdeal.Gen.facts,
  Cert.PartDx.Gen.facts, Cert.PartDxIdeal.Gen.facts, Cert.PartDxReferenceIdeal.Gen.facts, Cert.PartDw.Gen.facts,
  Cert.PartDwIdeal.Gen.facts, Cert.PartDwReferenceIdeal.Gen.facts, Cert.LogitsFw.Gen.facts, Cert.LogitsFwIdeal.Gen.facts,
  Cert.LogitsFwReferenceIdeal.Gen.facts, Cert.LogitsDx.Gen.facts, Cert.LogitsDxIdeal.Gen.facts,
  Cert.LogitsDxReferenceIdeal.Gen.facts, Cert.LogitsDw.Gen.facts, Cert.LogitsDwIdeal.Gen.facts,
  Cert.LogitsDwReferenceIdeal.Gen.facts, Cert.FoxFw.Gen.facts, Cert.FoxFwIdeal.Gen.facts, Cert.FoxFwReferenceIdeal.Gen.facts,
  Cert.Fox.pre_facts, Cert.FoxFwSum.pre_facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.UpFw.Gen.frame m ρ, fun m ρ _ => Cert.UpFwIdeal.Gen.frame m ρ, Cert.UpFwSum.frame_reference,
  fun m ρ _ => Cert.UpDx.Gen.frame m ρ, fun m ρ _ => Cert.UpDxIdeal.Gen.frame m ρ, Cert.UpDxSum.frame_reference,
  fun m ρ _ => Cert.UpDw.Gen.frame m ρ, fun m ρ _ => Cert.UpDwIdeal.Gen.frame m ρ, Cert.UpDwSum.frame_reference,
  fun m ρ _ => Cert.DownFw.Gen.frame m ρ, fun m ρ _ => Cert.DownFwIdeal.Gen.frame m ρ, Cert.DownFwSum.frame_reference,
  fun m ρ _ => Cert.DownDx.Gen.frame m ρ, fun m ρ _ => Cert.DownDxIdeal.Gen.frame m ρ, Cert.DownDxSum.frame_reference,
  fun m ρ _ => Cert.DownDw.Gen.frame m ρ, fun m ρ _ => Cert.DownDwIdeal.Gen.frame m ρ, Cert.DownDwSum.frame_reference,
  fun m ρ _ => Cert.OutFw.Gen.frame m ρ, fun m ρ _ => Cert.OutFwIdeal.Gen.frame m ρ, Cert.OutFwSum.frame_reference,
  fun m ρ _ => Cert.OutDx.Gen.frame m ρ, fun m ρ _ => Cert.OutDxIdeal.Gen.frame m ρ, Cert.OutDxSum.frame_reference,
  fun m ρ _ => Cert.OutDw.Gen.frame m ρ, fun m ρ _ => Cert.OutDwIdeal.Gen.frame m ρ, Cert.OutDwSum.frame_reference,
  fun m ρ _ => Cert.BranchFw.Gen.frame m ρ, fun m ρ _ => Cert.BranchFwIdeal.Gen.frame m ρ, Cert.BranchFwSum.frame_reference,
  fun m ρ _ => Cert.BranchDx.Gen.frame m ρ, fun m ρ _ => Cert.BranchDxIdeal.Gen.frame m ρ, Cert.BranchDxSum.frame_reference,
  fun m ρ _ => Cert.BranchDw.Gen.frame m ρ, fun m ρ _ => Cert.BranchDwIdeal.Gen.frame m ρ, Cert.BranchDwSum.frame_reference,
  fun m ρ _ => Cert.MemFw.Gen.frame m ρ, fun m ρ _ => Cert.MemFwIdeal.Gen.frame m ρ, Cert.MemFwSum.frame_reference,
  fun m ρ _ => Cert.QueryFw.Gen.frame m ρ, fun m ρ _ => Cert.QueryFwIdeal.Gen.frame m ρ, Cert.QueryFwSum.frame_reference,
  fun m ρ _ => Cert.QueryDx.Gen.frame m ρ, fun m ρ _ => Cert.QueryDxIdeal.Gen.frame m ρ, Cert.QueryDxSum.frame_reference,
  fun m ρ _ => Cert.QueryDw.Gen.frame m ρ, fun m ρ _ => Cert.QueryDwIdeal.Gen.frame m ρ, Cert.QueryDwSum.frame_reference,
  fun m ρ _ => Cert.BankFw.Gen.frame m ρ, fun m ρ _ => Cert.BankFwIdeal.Gen.frame m ρ, Cert.BankFwSum.frame_reference,
  fun m ρ _ => Cert.BankDx.Gen.frame m ρ, fun m ρ _ => Cert.BankDxIdeal.Gen.frame m ρ, Cert.BankDxSum.frame_reference,
  fun m ρ _ => Cert.BankDw.Gen.frame m ρ, fun m ρ _ => Cert.BankDwIdeal.Gen.frame m ρ, Cert.BankDwSum.frame_reference,
  fun m ρ _ => Cert.GatesFw.Gen.frame m ρ, fun m ρ _ => Cert.GatesFwIdeal.Gen.frame m ρ, Cert.GatesFwSum.frame_reference,
  fun m ρ _ => Cert.GatesDx.Gen.frame m ρ, fun m ρ _ => Cert.GatesDxIdeal.Gen.frame m ρ, Cert.GatesDxSum.frame_reference,
  fun m ρ _ => Cert.GatesDw.Gen.frame m ρ, fun m ρ _ => Cert.GatesDwIdeal.Gen.frame m ρ, Cert.GatesDwSum.frame_reference,
  fun m ρ _ => Cert.ConvFw.Gen.frame m ρ, fun m ρ _ => Cert.ConvFwIdeal.Gen.frame m ρ, Cert.ConvFwSum.frame_reference,
  fun m ρ _ => Cert.ConvDx.Gen.frame m ρ, fun m ρ _ => Cert.ConvDxIdeal.Gen.frame m ρ, Cert.ConvDxSum.frame_reference,
  fun m ρ _ => Cert.ConvDw.Gen.frame m ρ, fun m ρ _ => Cert.ConvDwIdeal.Gen.frame m ρ, Cert.ConvDwSum.frame_reference,
  fun m ρ _ => Cert.PartFw.Gen.frame m ρ, fun m ρ _ => Cert.PartFwIdeal.Gen.frame m ρ, Cert.PartFwSum.frame_reference,
  fun m ρ _ => Cert.PartDx.Gen.frame m ρ, fun m ρ _ => Cert.PartDxIdeal.Gen.frame m ρ, Cert.PartDxSum.frame_reference,
  fun m ρ _ => Cert.PartDw.Gen.frame m ρ, fun m ρ _ => Cert.PartDwIdeal.Gen.frame m ρ, Cert.PartDwSum.frame_reference,
  fun m ρ _ => Cert.LogitsFw.Gen.frame m ρ, fun m ρ _ => Cert.LogitsFwIdeal.Gen.frame m ρ, Cert.LogitsFwSum.frame_reference,
  fun m ρ _ => Cert.LogitsDx.Gen.frame m ρ, fun m ρ _ => Cert.LogitsDxIdeal.Gen.frame m ρ, Cert.LogitsDxSum.frame_reference,
  fun m ρ _ => Cert.LogitsDw.Gen.frame m ρ, fun m ρ _ => Cert.LogitsDwIdeal.Gen.frame m ρ, Cert.LogitsDwSum.frame_reference,
  fun m ρ _ => Cert.FoxFw.Gen.frame m ρ, fun m ρ _ => Cert.FoxFwIdeal.Gen.frame m ρ, fun m ρ _ => Cert.FoxFwIdeal.Gen.frame m ρ,
  Cert.FoxFwSum.frame_reference, fun m ρ _ => Cert.FoxFwSum.frame_reference m ρ trivial, trivial, @algebraic Cert.Fox.pre_facts,
  trivial, Cert.UpFwSum.algebraic, trivial, Cert.UpDxSum.algebraic, trivial, Cert.UpDwSum.algebraic, trivial,
  Cert.DownFwSum.algebraic, trivial, Cert.DownDxSum.algebraic, trivial, Cert.DownDwSum.algebraic, trivial, Cert.OutFwSum.algebraic,
  trivial, Cert.OutDxSum.algebraic, trivial, Cert.OutDwSum.algebraic, trivial, Cert.BranchFwSum.algebraic, trivial,
  Cert.BranchDxSum.algebraic, trivial, Cert.BranchDwSum.algebraic, trivial, Cert.MemFwSum.algebraic, trivial,
  Cert.QueryFwSum.algebraic, trivial, Cert.QueryDxSum.algebraic, trivial, Cert.QueryDwSum.algebraic, trivial,
  Cert.BankFwSum.algebraic, trivial, Cert.BankDxSum.algebraic, trivial, Cert.BankDwSum.algebraic, trivial, Cert.GatesFwSum.algebraic,
  trivial, Cert.GatesDxSum.algebraic, trivial, Cert.GatesDwSum.algebraic, trivial, Cert.ConvFwSum.algebraic, trivial,
  Cert.ConvDxSum.algebraic, trivial, Cert.ConvDwSum.algebraic, trivial, Cert.PartFwSum.algebraic, trivial, Cert.PartDxSum.algebraic,
  trivial, Cert.PartDwSum.algebraic, trivial, Cert.LogitsFwSum.algebraic, trivial, Cert.LogitsDxSum.algebraic, trivial,
  Cert.LogitsDwSum.algebraic, IdealRules.named_const.statement Cert.FoxFwIdeal.κ "mask" .f32 0xF149F2CA#32 ⊥ rfl,
  @Cert.FoxFwSum.algebraic Cert.FoxFwSum.pre_facts⟩

end Cert.Proof

end
